-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_RwkvPost (m : (ℓ : Loc Cert.RwkvPost.nD Cert.RwkvPost.τ Cert.RwkvPost.sig) → Buf (Elt Bits) ℓ) : Prop :=
  True

def Pre_RwkvPostIdeal (m : (ℓ : Loc Cert.RwkvPostIdeal.nD Cert.RwkvPostIdeal.τ Cert.RwkvPostIdeal.sig) → Buf (Elt Ideal) ℓ) : Prop :=
  True

def Pre_RwkvPostIdeal_read_out_numbers [hPre_read_out_numbers : Cert.Pre_read_out_numbers.Facts] (m : (ℓ : Loc Cert.RwkvPostIdeal.nD Cert.RwkvPostIdeal.τ Cert.RwkvPostIdeal.sig) → Buf (Elt Ideal) ℓ) : Prop :=
  ∀ c : Dev Cert.RwkvPostIdeal.nD,
    (Cert.Pre_read_out_numbers.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7))).1 = (fun _ => 1#1)
    ∧ (Cert.Pre_read_out_numbers.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7))).2.1 = (fun _ => 1#1)
    ∧ (Cert.Pre_read_out_numbers.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7))).2.2.1 = (fun _ => 1#1)
    ∧ (Cert.Pre_read_out_numbers.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7))).2.2.2 = (fun _ => 1#1)

def Pre_RwkvPostRefIdeal (m : (ℓ : Loc Cert.RwkvPostRefIdeal.nD Cert.RwkvPostRefIdeal.τ Cert.RwkvPostRefIdeal.sig) → Buf (Elt Ideal) ℓ) : Prop :=
  True

def Pre_RwkvPostRefIdeal_read_out_numbers [hPre_read_out_numbers : Cert.Pre_read_out_numbers.Facts] (m : (ℓ : Loc Cert.RwkvPostRefIdeal.nD Cert.RwkvPostRefIdeal.τ Cert.RwkvPostRefIdeal.sig) → Buf (Elt Ideal) ℓ) : Prop :=
  ∀ c : Dev Cert.RwkvPostRefIdeal.nD,
    (Cert.Pre_read_out_numbers.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7))).1 = (fun _ => 1#1)
    ∧ (Cert.Pre_read_out_numbers.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7))).2.1 = (fun _ => 1#1)
    ∧ (Cert.Pre_read_out_numbers.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7))).2.2.1 = (fun _ => 1#1)
    ∧ (Cert.Pre_read_out_numbers.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7))).2.2.2 = (fun _ => 1#1)

def Pre_RwkvPostBwd (m : (ℓ : Loc Cert.RwkvPostBwd.nD Cert.RwkvPostBwd.τ Cert.RwkvPostBwd.sig) → Buf (Elt Bits) ℓ) : Prop :=
  True

def Pre_RwkvPostBwdIdeal (m : (ℓ : Loc Cert.RwkvPostBwdIdeal.nD Cert.RwkvPostBwdIdeal.τ Cert.RwkvPostBwdIdeal.sig) → Buf (Elt Ideal) ℓ) : Prop :=
  True

def Pre_RwkvPostBwdIdeal_read_out_bwd_numbers [hPre_read_out_bwd_numbers : Cert.Pre_read_out_bwd_numbers.Facts] (m : (ℓ : Loc Cert.RwkvPostBwdIdeal.nD Cert.RwkvPostBwdIdeal.τ Cert.RwkvPostBwdIdeal.sig) → Buf (Elt Ideal) ℓ) : Prop :=
  ∀ c : Dev Cert.RwkvPostBwdIdeal.nD,
    (Cert.Pre_read_out_bwd_numbers.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).1 = (fun _ => 1#1)
    ∧ (Cert.Pre_read_out_bwd_numbers.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.1 = (fun _ => 1#1)
    ∧ (Cert.Pre_read_out_bwd_numbers.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.1 = (fun _ => 1#1)
    ∧ (Cert.Pre_read_out_bwd_numbers.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.2.1 = (fun _ => 1#1)
    ∧ (Cert.Pre_read_out_bwd_numbers.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.2.2.1 = (fun _ => 1#1)
    ∧ (Cert.Pre_read_out_bwd_numbers.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.2.2.2.1 = (fun _ => 1#1)
    ∧ (Cert.Pre_read_out_bwd_numbers.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.2.2.2.2.1 = (fun _ => 1#1)
    ∧ (Cert.Pre_read_out_bwd_numbers.fn (F := Ideal) (m ((c.tc : Thread Cert.RwkvPostBwdIdeal.nD Cert.RwkvPostBwdIdeal.τ).loc Cert.RwkvPostBwdIdeal.main_arg0)) (m ((c.tc : Thread Cert.RwkvPostBwdIdeal.nD Cert.RwkvPostBwdIdeal.τ).loc Cert.RwkvPostBwdIdeal.main_arg1)) (m ((c.tc : Thread Cert.RwkvPostBwdIdeal.nD Cert.RwkvPostBwdIdeal.τ).loc Cert.RwkvPostBwdIdeal.main_arg2)) (m ((c.tc : Thread Cert.RwkvPostBwdIdeal.nD Cert.RwkvPostBwdIdeal.τ).loc Cert.RwkvPostBwdIdeal.main_arg3)) (m ((c.tc : Thread Cert.RwkvPostBwdIdeal.nD Cert.RwkvPostBwdIdeal.τ).loc Cert.RwkvPostBwdIdeal.main_arg4)) (m ((c.tc : Thread Cert.RwkvPostBwdIdeal.nD Cert.RwkvPostBwdIdeal.τ).loc Cert.RwkvPostBwdIdeal.main_arg5)) (m ((c.tc : Thread Cert.RwkvPostBwdIdeal.nD Cert.RwkvPostBwdIdeal.τ).loc Cert.RwkvPostBwdIdeal.main_arg6)) (m ((c.tc : Thread Cert.RwkvPostBwdIdeal.nD Cert.RwkvPostBwdIdeal.τ).loc Cert.RwkvPostBwdIdeal.main_arg7)) (m ((c.tc : Thread Cert.RwkvPostBwdIdeal.nD Cert.RwkvPostBwdIdeal.τ).loc Cert.RwkvPostBwdIdeal.main_arg8))).2.2.2.2.2.2.2 = (fun _ => 1#1)

def Pre_RwkvPostBwdRefIdeal (m : (ℓ : Loc Cert.RwkvPostBwdRefIdeal.nD Cert.RwkvPostBwdRefIdeal.τ Cert.RwkvPostBwdRefIdeal.sig) → Buf (Elt Ideal) ℓ) : Prop :=
  True

def Pre_RwkvPostBwdRefIdeal_read_out_bwd_numbers [hPre_read_out_bwd_numbers : Cert.Pre_read_out_bwd_numbers.Facts] (m : (ℓ : Loc Cert.RwkvPostBwdRefIdeal.nD Cert.RwkvPostBwdRefIdeal.τ Cert.RwkvPostBwdRefIdeal.sig) → Buf (Elt Ideal) ℓ) : Prop :=
  ∀ c : Dev Cert.RwkvPostBwdRefIdeal.nD,
    (Cert.Pre_read_out_bwd_numbers.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).1 = (fun _ => 1#1)
    ∧ (Cert.Pre_read_out_bwd_numbers.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.1 = (fun _ => 1#1)
    ∧ (Cert.Pre_read_out_bwd_numbers.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.1 = (fun _ => 1#1)
    ∧ (Cert.Pre_read_out_bwd_numbers.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.2.1 = (fun _ => 1#1)
    ∧ (Cert.Pre_read_out_bwd_numbers.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.2.2.1 = (fun _ => 1#1)
    ∧ (Cert.Pre_read_out_bwd_numbers.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.2.2.2.1 = (fun _ => 1#1)
    ∧ (Cert.Pre_read_out_bwd_numbers.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.2.2.2.2.1 = (fun _ => 1#1)
    ∧ (Cert.Pre_read_out_bwd_numbers.fn (F := Ideal) (m ((c.tc : Thread Cert.RwkvPostBwdRefIdeal.nD Cert.RwkvPostBwdRefIdeal.τ).loc Cert.RwkvPostBwdRefIdeal.main_arg0)) (m ((c.tc : Thread Cert.RwkvPostBwdRefIdeal.nD Cert.RwkvPostBwdRefIdeal.τ).loc Cert.RwkvPostBwdRefIdeal.main_arg1)) (m ((c.tc : Thread Cert.RwkvPostBwdRefIdeal.nD Cert.RwkvPostBwdRefIdeal.τ).loc Cert.RwkvPostBwdRefIdeal.main_arg2)) (m ((c.tc : Thread Cert.RwkvPostBwdRefIdeal.nD Cert.RwkvPostBwdRefIdeal.τ).loc Cert.RwkvPostBwdRefIdeal.main_arg3)) (m ((c.tc : Thread Cert.RwkvPostBwdRefIdeal.nD Cert.RwkvPostBwdRefIdeal.τ).loc Cert.RwkvPostBwdRefIdeal.main_arg4)) (m ((c.tc : Thread Cert.RwkvPostBwdRefIdeal.nD Cert.RwkvPostBwdRefIdeal.τ).loc Cert.RwkvPostBwdRefIdeal.main_arg5)) (m ((c.tc : Thread Cert.RwkvPostBwdRefIdeal.nD Cert.RwkvPostBwdRefIdeal.τ).loc Cert.RwkvPostBwdRefIdeal.main_arg6)) (m ((c.tc : Thread Cert.RwkvPostBwdRefIdeal.nD Cert.RwkvPostBwdRefIdeal.τ).loc Cert.RwkvPostBwdRefIdeal.main_arg7)) (m ((c.tc : Thread Cert.RwkvPostBwdRefIdeal.nD Cert.RwkvPostBwdRefIdeal.τ).loc Cert.RwkvPostBwdRefIdeal.main_arg8))).2.2.2.2.2.2.2 = (fun _ => 1#1)

def Pre_MlpDownDw (m : (ℓ : Loc Cert.MlpDownDw.nD Cert.MlpDownDw.τ Cert.MlpDownDw.sig) → Buf (Elt Bits) ℓ) : Prop :=
  True

def Pre_MlpDownDwIdeal (m : (ℓ : Loc Cert.MlpDownDwIdeal.nD Cert.MlpDownDwIdeal.τ Cert.MlpDownDwIdeal.sig) → Buf (Elt Ideal) ℓ) : Prop :=
  True

def Pre_MlpDownDwRefIdeal (m : (ℓ : Loc Cert.MlpDownDwRefIdeal.nD Cert.MlpDownDwRefIdeal.τ Cert.MlpDownDwRefIdeal.sig) → Buf (Elt Ideal) ℓ) : Prop :=
  True

def Pre_MlpDownDx (m : (ℓ : Loc Cert.MlpDownDx.nD Cert.MlpDownDx.τ Cert.MlpDownDx.sig) → Buf (Elt Bits) ℓ) : Prop :=
  True

def Pre_MlpDownDxIdeal (m : (ℓ : Loc Cert.MlpDownDxIdeal.nD Cert.MlpDownDxIdeal.τ Cert.MlpDownDxIdeal.sig) → Buf (Elt Ideal) ℓ) : Prop :=
  True

def Pre_MlpDownDxRefIdeal (m : (ℓ : Loc Cert.MlpDownDxRefIdeal.nD Cert.MlpDownDxRefIdeal.τ Cert.MlpDownDxRefIdeal.sig) → Buf (Elt Ideal) ℓ) : Prop :=
  True

def Pre_MlpUpDw (m : (ℓ : Loc Cert.MlpUpDw.nD Cert.MlpUpDw.τ Cert.MlpUpDw.sig) → Buf (Elt Bits) ℓ) : Prop :=
  True

def Pre_MlpUpDwIdeal (m : (ℓ : Loc Cert.MlpUpDwIdeal.nD Cert.MlpUpDwIdeal.τ Cert.MlpUpDwIdeal.sig) → Buf (Elt Ideal) ℓ) : Prop :=
  True

def Pre_MlpUpDwRefIdeal (m : (ℓ : Loc Cert.MlpUpDwRefIdeal.nD Cert.MlpUpDwRefIdeal.τ Cert.MlpUpDwRefIdeal.sig) → Buf (Elt Ideal) ℓ) : Prop :=
  True

def Pre_MlpUpDx (m : (ℓ : Loc Cert.MlpUpDx.nD Cert.MlpUpDx.τ Cert.MlpUpDx.sig) → Buf (Elt Bits) ℓ) : Prop :=
  True

def Pre_MlpUpDxIdeal (m : (ℓ : Loc Cert.MlpUpDxIdeal.nD Cert.MlpUpDxIdeal.τ Cert.MlpUpDxIdeal.sig) → Buf (Elt Ideal) ℓ) : Prop :=
  True

def Pre_MlpUpDxRefIdeal (m : (ℓ : Loc Cert.MlpUpDxRefIdeal.nD Cert.MlpUpDxRefIdeal.τ Cert.MlpUpDxRefIdeal.sig) → Buf (Elt Ideal) ℓ) : Prop :=
  True

def Pre_PleGateDx (m : (ℓ : Loc Cert.PleGateDx.nD Cert.PleGateDx.τ Cert.PleGateDx.sig) → Buf (Elt Bits) ℓ) : Prop :=
  True

def Pre_PleGateDxIdeal (m : (ℓ : Loc Cert.PleGateDxIdeal.nD Cert.PleGateDxIdeal.τ Cert.PleGateDxIdeal.sig) → Buf (Elt Ideal) ℓ) : Prop :=
  True

def Pre_PleGateDxRefIdeal (m : (ℓ : Loc Cert.PleGateDxRefIdeal.nD Cert.PleGateDxRefIdeal.τ Cert.PleGateDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_PleGateDw (m : (ℓ : Loc Cert.PleGateDw.nD Cert.PleGateDw.τ Cert.PleGateDw.sig) → Buf (Elt Bits) ℓ) : Prop :=
  True

def Pre_PleGateDwIdeal (m : (ℓ : Loc Cert.PleGateDwIdeal.nD Cert.PleGateDwIdeal.τ Cert.PleGateDwIdeal.sig) → Buf (Elt Ideal) ℓ) : Prop :=
  True

def Pre_PleGateDwRefIdeal (m : (ℓ : Loc Cert.PleGateDwRefIdeal.nD Cert.PleGateDwRefIdeal.τ Cert.PleGateDwRefIdeal.sig) → Buf (Elt Ideal) ℓ) : Prop :=
  True

def Pre_PleProjDw (m : (ℓ : Loc Cert.PleProjDw.nD Cert.PleProjDw.τ Cert.PleProjDw.sig) → Buf (Elt Bits) ℓ) : Prop :=
  True

def Pre_PleProjDwIdeal (m : (ℓ : Loc Cert.PleProjDwIdeal.nD Cert.PleProjDwIdeal.τ Cert.PleProjDwIdeal.sig) → Buf (Elt Ideal) ℓ) : Prop :=
  True

def Pre_PleProjDwRefIdeal (m : (ℓ : Loc Cert.PleProjDwRefIdeal.nD Cert.PleProjDwRefIdeal.τ Cert.PleProjDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_AdamUp [hPre_device : Cert.Pre_device.Facts] (m : (ℓ : Loc Cert.AdamUp.nD Cert.AdamUp.τ Cert.AdamUp.sig) → Buf (Elt Bits) ℓ) : Prop :=
  ∀ c : Dev Cert.AdamUp.nD,
    (Cert.Pre_device.fn (F := Bits) (m ((c.tc : Thread Cert.AdamUp.nD Cert.AdamUp.τ).loc Cert.AdamUp.main_arg0)) (m ((c.tc : Thread Cert.AdamUp.nD Cert.AdamUp.τ).loc Cert.AdamUp.main_arg1)) (m ((c.tc : Thread Cert.AdamUp.nD Cert.AdamUp.τ).loc Cert.AdamUp.main_arg2)) (m ((c.tc : Thread Cert.AdamUp.nD Cert.AdamUp.τ).loc Cert.AdamUp.main_arg3)) (m ((c.tc : Thread Cert.AdamUp.nD Cert.AdamUp.τ).loc Cert.AdamUp.main_arg4)) (m ((c.tc : Thread Cert.AdamUp.nD Cert.AdamUp.τ).loc Cert.AdamUp.main_arg5))) = (fun _ => 1#1)

def Pre_AdamUpIdeal [hPre_device : Cert.Pre_device.Facts] (m : (ℓ : Loc Cert.AdamUpIdeal.nD Cert.AdamUpIdeal.τ Cert.AdamUpIdeal.sig) → Buf (Elt Ideal) ℓ) : Prop :=
  ∀ c : Dev Cert.AdamUpIdeal.nD,
    (Cert.Pre_device.fn (F := Ideal) (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)) (m ((c.tc : Thread Cert.AdamUpIdeal.nD Cert.AdamUpIdeal.τ).loc Cert.AdamUpIdeal.main_arg4)) (m ((c.tc : Thread Cert.AdamUpIdeal.nD Cert.AdamUpIdeal.τ).loc Cert.AdamUpIdeal.main_arg5))) = (fun _ => 1#1)

def Pre_AdamUpRefIdeal (m : (ℓ : Loc Cert.AdamUpRefIdeal.nD Cert.AdamUpRefIdeal.τ Cert.AdamUpRefIdeal.sig) → Buf (Elt Ideal) ℓ) : Prop :=
  True

def Pre_AdamUpRefIdeal_device [hPre_device : Cert.Pre_device.Facts] (m : (ℓ : Loc Cert.AdamUpRefIdeal.nD Cert.AdamUpRefIdeal.τ Cert.AdamUpRefIdeal.sig) → Buf (Elt Ideal) ℓ) : Prop :=
  ∀ c : Dev Cert.AdamUpRefIdeal.nD,
    (Cert.Pre_device.fn (F := Ideal) (m ((c.tc : Thread Cert.AdamUpRefIdeal.nD Cert.AdamUpRefIdeal.τ).loc Cert.AdamUpRefIdeal.main_arg0)) (m ((c.tc : Thread Cert.AdamUpRefIdeal.nD Cert.AdamUpRefIdeal.τ).loc Cert.AdamUpRefIdeal.main_arg1)) (m ((c.tc : Thread Cert.AdamUpRefIdeal.nD Cert.AdamUpRefIdeal.τ).loc Cert.AdamUpRefIdeal.main_arg2)) (m ((c.tc : Thread Cert.AdamUpRefIdeal.nD Cert.AdamUpRefIdeal.τ).loc Cert.AdamUpRefIdeal.main_arg3)) (m ((c.tc : Thread Cert.AdamUpRefIdeal.nD Cert.AdamUpRefIdeal.τ).loc Cert.AdamUpRefIdeal.main_arg4)) (m ((c.tc : Thread Cert.AdamUpRefIdeal.nD Cert.AdamUpRefIdeal.τ).loc Cert.AdamUpRefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_RwkvPost [hRwkvPost : Cert.RwkvPost.Facts] : Prop :=
  ∀ (m : (ℓ : Loc Cert.RwkvPost.nD Cert.RwkvPost.τ Cert.RwkvPost.sig) → Buf (Elt Bits) ℓ) (g : Dev Cert.RwkvPost.nD → PrngReg), Pre_RwkvPost m →
    θ_run (Cert.RwkvPost.defs (F := Bits)) (onTc (τ := Cert.RwkvPost.τ) (Cert.RwkvPost.main (F := Bits))) ⟨m, fun _ => 0, g⟩ (fun r => (∀ c : Dev Cert.RwkvPost.nD,
      r.2.mem ((c.tc : Thread Cert.RwkvPost.nD Cert.RwkvPost.τ).loc Cert.RwkvPost.main_arg0) = m ((c.tc : Thread Cert.RwkvPost.nD Cert.RwkvPost.τ).loc Cert.RwkvPost.main_arg0)
      ∧ r.2.mem ((c.tc : Thread Cert.RwkvPost.nD Cert.RwkvPost.τ).loc Cert.RwkvPost.main_arg1) = m ((c.tc : Thread Cert.RwkvPost.nD Cert.RwkvPost.τ).loc Cert.RwkvPost.main_arg1)
      ∧ r.2.mem ((c.tc : Thread Cert.RwkvPost.nD Cert.RwkvPost.τ).loc Cert.RwkvPost.main_arg2) = m ((c.tc : Thread Cert.RwkvPost.nD Cert.RwkvPost.τ).loc Cert.RwkvPost.main_arg2)
      ∧ r.2.mem ((c.tc : Thread Cert.RwkvPost.nD Cert.RwkvPost.τ).loc Cert.RwkvPost.main_arg3) = m ((c.tc : Thread Cert.RwkvPost.nD Cert.RwkvPost.τ).loc Cert.RwkvPost.main_arg3)
      ∧ r.2.mem ((c.tc : Thread Cert.RwkvPost.nD Cert.RwkvPost.τ).loc Cert.RwkvPost.main_arg4) = m ((c.tc : Thread Cert.RwkvPost.nD Cert.RwkvPost.τ).loc Cert.RwkvPost.main_arg4)
      ∧ r.2.mem ((c.tc : Thread Cert.RwkvPost.nD Cert.RwkvPost.τ).loc Cert.RwkvPost.main_arg5) = m ((c.tc : Thread Cert.RwkvPost.nD Cert.RwkvPost.τ).loc Cert.RwkvPost.main_arg5)
      ∧ r.2.mem ((c.tc : Thread Cert.RwkvPost.nD Cert.RwkvPost.τ).loc Cert.RwkvPost.main_arg6) = m ((c.tc : Thread Cert.RwkvPost.nD Cert.RwkvPost.τ).loc Cert.RwkvPost.main_arg6)
      ∧ r.2.mem ((c.tc : Thread Cert.RwkvPost.nD Cert.RwkvPost.τ).loc Cert.RwkvPost.main_arg7) = m ((c.tc : Thread Cert.RwkvPost.nD Cert.RwkvPost.τ).loc Cert.RwkvPost.main_arg7))
      ∧ r.2.sem = fun _ => 0)

def quiescent_RwkvPostIdeal [hRwkvPostIdeal : Cert.RwkvPostIdeal.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg), Pre_RwkvPostIdeal m →
    θ_run (Cert.RwkvPostIdeal.defs (F := Ideal)) (onTc (τ := Cert.RwkvPostIdeal.τ) (Cert.RwkvPostIdeal.main (F := Ideal))) ⟨m, fun _ => 0, g⟩ (fun r => (∀ c : Dev Cert.RwkvPostIdeal.nD,
      r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
      ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
      ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
      ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
      ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4)
      ∧ r.2.mem ((c.tc : Thread Cert.RwkvPostIdeal.nD Cert.RwkvPostIdeal.τ).loc Cert.RwkvPostIdeal.main_arg5) = m ((c.tc : Thread Cert.RwkvPostIdeal.nD Cert.RwkvPostIdeal.τ).loc Cert.RwkvPostIdeal.main_arg5)
      ∧ r.2.mem ((c.tc : Thread Cert.RwkvPostIdeal.nD Cert.RwkvPostIdeal.τ).loc Cert.RwkvPostIdeal.main_arg6) = m ((c.tc : Thread Cert.RwkvPostIdeal.nD Cert.RwkvPostIdeal.τ).loc Cert.RwkvPostIdeal.main_arg6)
      ∧ r.2.mem ((c.tc : Thread Cert.RwkvPostIdeal.nD Cert.RwkvPostIdeal.τ).loc Cert.RwkvPostIdeal.main_arg7) = m ((c.tc : Thread Cert.RwkvPostIdeal.nD Cert.RwkvPostIdeal.τ).loc Cert.RwkvPostIdeal.main_arg7))
      ∧ r.2.sem = fun _ => 0)

def quiescent_RwkvPostIdeal_pre_read_out_numbers [hRwkvPostIdeal : Cert.RwkvPostIdeal.Facts] [hPre_read_out_numbers : Cert.Pre_read_out_numbers.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg), Pre_RwkvPostIdeal_read_out_numbers m →
    θ_run (Cert.RwkvPostIdeal.defs (F := Ideal)) (onTc (τ := Cert.RwkvPostIdeal.τ) (Cert.RwkvPostIdeal.main (F := Ideal))) ⟨m, fun _ => 0, g⟩ (fun r => (∀ c : Dev Cert.RwkvPostIdeal.nD,
      r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
      ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
      ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
      ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
      ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4)
      ∧ r.2.mem ((c.tc : Thread Cert.RwkvPostIdeal.nD Cert.RwkvPostIdeal.τ).loc Cert.RwkvPostIdeal.main_arg5) = m ((c.tc : Thread Cert.RwkvPostIdeal.nD Cert.RwkvPostIdeal.τ).loc Cert.RwkvPostIdeal.main_arg5)
      ∧ r.2.mem ((c.tc : Thread Cert.RwkvPostIdeal.nD Cert.RwkvPostIdeal.τ).loc Cert.RwkvPostIdeal.main_arg6) = m ((c.tc : Thread Cert.RwkvPostIdeal.nD Cert.RwkvPostIdeal.τ).loc Cert.RwkvPostIdeal.main_arg6)
      ∧ r.2.mem ((c.tc : Thread Cert.RwkvPostIdeal.nD Cert.RwkvPostIdeal.τ).loc Cert.RwkvPostIdeal.main_arg7) = m ((c.tc : Thread Cert.RwkvPostIdeal.nD Cert.RwkvPostIdeal.τ).loc Cert.RwkvPostIdeal.main_arg7))
      ∧ r.2.sem = fun _ => 0)

def quiescent_RwkvPostRefIdeal [hRwkvPostRefIdeal : Cert.RwkvPostRefIdeal.Facts] : Prop :=
  ∀ (m : (ℓ : Loc Cert.RwkvPostRefIdeal.nD Cert.RwkvPostRefIdeal.τ Cert.RwkvPostRefIdeal.sig) → Buf (Elt Ideal) ℓ) (g : Dev Cert.RwkvPostRefIdeal.nD → PrngReg), Pre_RwkvPostRefIdeal m →
    θ_run (Cert.RwkvPostRefIdeal.defs (F := Ideal)) (onTc (τ := Cert.RwkvPostRefIdeal.τ) (Cert.RwkvPostRefIdeal.main (F := Ideal))) ⟨m, fun _ => 0, g⟩ (fun r => (∀ c : Dev Cert.RwkvPostRefIdeal.nD,
      r.2.mem ((c.tc : Thread Cert.RwkvPostRefIdeal.nD Cert.RwkvPostRefIdeal.τ).loc Cert.RwkvPostRefIdeal.main_arg0) = m ((c.tc : Thread Cert.RwkvPostRefIdeal.nD Cert.RwkvPostRefIdeal.τ).loc Cert.RwkvPostRefIdeal.main_arg0)
      ∧ r.2.mem ((c.tc : Thread Cert.RwkvPostRefIdeal.nD Cert.RwkvPostRefIdeal.τ).loc Cert.RwkvPostRefIdeal.main_arg1) = m ((c.tc : Thread Cert.RwkvPostRefIdeal.nD Cert.RwkvPostRefIdeal.τ).loc Cert.RwkvPostRefIdeal.main_arg1)
      ∧ r.2.mem ((c.tc : Thread Cert.RwkvPostRefIdeal.nD Cert.RwkvPostRefIdeal.τ).loc Cert.RwkvPostRefIdeal.main_arg2) = m ((c.tc : Thread Cert.RwkvPostRefIdeal.nD Cert.RwkvPostRefIdeal.τ).loc Cert.RwkvPostRefIdeal.main_arg2)
      ∧ r.2.mem ((c.tc : Thread Cert.RwkvPostRefIdeal.nD Cert.RwkvPostRefIdeal.τ).loc Cert.RwkvPostRefIdeal.main_arg3) = m ((c.tc : Thread Cert.RwkvPostRefIdeal.nD Cert.RwkvPostRefIdeal.τ).loc Cert.RwkvPostRefIdeal.main_arg3)
      ∧ r.2.mem ((c.tc : Thread Cert.RwkvPostRefIdeal.nD Cert.RwkvPostRefIdeal.τ).loc Cert.RwkvPostRefIdeal.main_arg4) = m ((c.tc : Thread Cert.RwkvPostRefIdeal.nD Cert.RwkvPostRefIdeal.τ).loc Cert.RwkvPostRefIdeal.main_arg4)
      ∧ r.2.mem ((c.tc : Thread Cert.RwkvPostRefIdeal.nD Cert.RwkvPostRefIdeal.τ).loc Cert.RwkvPostRefIdeal.main_arg5) = m ((c.tc : Thread Cert.RwkvPostRefIdeal.nD Cert.RwkvPostRefIdeal.τ).loc Cert.RwkvPostRefIdeal.main_arg5)
      ∧ r.2.mem ((c.tc : Thread Cert.RwkvPostRefIdeal.nD Cert.RwkvPostRefIdeal.τ).loc Cert.RwkvPostRefIdeal.main_arg6) = m ((c.tc : Thread Cert.RwkvPostRefIdeal.nD Cert.RwkvPostRefIdeal.τ).loc Cert.RwkvPostRefIdeal.main_arg6)
      ∧ r.2.mem ((c.tc : Thread Cert.RwkvPostRefIdeal.nD Cert.RwkvPostRefIdeal.τ).loc Cert.RwkvPostRefIdeal.main_arg7) = m ((c.tc : Thread Cert.RwkvPostRefIdeal.nD Cert.RwkvPostRefIdeal.τ).loc Cert.RwkvPostRefIdeal.main_arg7))
      ∧ r.2.sem = fun _ => 0)

def quiescent_RwkvPostRefIdeal_pre_read_out_numbers [hRwkvPostRefIdeal : Cert.RwkvPostRefIdeal.Facts] [hPre_read_out_numbers : Cert.Pre_read_out_numbers.Facts] : Prop :=
  ∀ (m : (ℓ : Loc Cert.RwkvPostRefIdeal.nD Cert.RwkvPostRefIdeal.τ Cert.RwkvPostRefIdeal.sig) → Buf (Elt Ideal) ℓ) (g : Dev Cert.RwkvPostRefIdeal.nD → PrngReg), Pre_RwkvPostRefIdeal_read_out_numbers m →
    θ_run (Cert.RwkvPostRefIdeal.defs (F := Ideal)) (onTc (τ := Cert.RwkvPostRefIdeal.τ) (Cert.RwkvPostRefIdeal.main (F := Ideal))) ⟨m, fun _ => 0, g⟩ (fun r => (∀ c : Dev Cert.RwkvPostRefIdeal.nD,
      r.2.mem ((c.tc : Thread Cert.RwkvPostRefIdeal.nD Cert.RwkvPostRefIdeal.τ).loc Cert.RwkvPostRefIdeal.main_arg0) = m ((c.tc : Thread Cert.RwkvPostRefIdeal.nD Cert.RwkvPostRefIdeal.τ).loc Cert.RwkvPostRefIdeal.main_arg0)
      ∧ r.2.mem ((c.tc : Thread Cert.RwkvPostRefIdeal.nD Cert.RwkvPostRefIdeal.τ).loc Cert.RwkvPostRefIdeal.main_arg1) = m ((c.tc : Thread Cert.RwkvPostRefIdeal.nD Cert.RwkvPostRefIdeal.τ).loc Cert.RwkvPostRefIdeal.main_arg1)
      ∧ r.2.mem ((c.tc : Thread Cert.RwkvPostRefIdeal.nD Cert.RwkvPostRefIdeal.τ).loc Cert.RwkvPostRefIdeal.main_arg2) = m ((c.tc : Thread Cert.RwkvPostRefIdeal.nD Cert.RwkvPostRefIdeal.τ).loc Cert.RwkvPostRefIdeal.main_arg2)
      ∧ r.2.mem ((c.tc : Thread Cert.RwkvPostRefIdeal.nD Cert.RwkvPostRefIdeal.τ).loc Cert.RwkvPostRefIdeal.main_arg3) = m ((c.tc : Thread Cert.RwkvPostRefIdeal.nD Cert.RwkvPostRefIdeal.τ).loc Cert.RwkvPostRefIdeal.main_arg3)
      ∧ r.2.mem ((c.tc : Thread Cert.RwkvPostRefIdeal.nD Cert.RwkvPostRefIdeal.τ).loc Cert.RwkvPostRefIdeal.main_arg4) = m ((c.tc : Thread Cert.RwkvPostRefIdeal.nD Cert.RwkvPostRefIdeal.τ).loc Cert.RwkvPostRefIdeal.main_arg4)
      ∧ r.2.mem ((c.tc : Thread Cert.RwkvPostRefIdeal.nD Cert.RwkvPostRefIdeal.τ).loc Cert.RwkvPostRefIdeal.main_arg5) = m ((c.tc : Thread Cert.RwkvPostRefIdeal.nD Cert.RwkvPostRefIdeal.τ).loc Cert.RwkvPostRefIdeal.main_arg5)
      ∧ r.2.mem ((c.tc : Thread Cert.RwkvPostRefIdeal.nD Cert.RwkvPostRefIdeal.τ).loc Cert.RwkvPostRefIdeal.main_arg6) = m ((c.tc : Thread Cert.RwkvPostRefIdeal.nD Cert.RwkvPostRefIdeal.τ).loc Cert.RwkvPostRefIdeal.main_arg6)
      ∧ r.2.mem ((c.tc : Thread Cert.RwkvPostRefIdeal.nD Cert.RwkvPostRefIdeal.τ).loc Cert.RwkvPostRefIdeal.main_arg7) = m ((c.tc : Thread Cert.RwkvPostRefIdeal.nD Cert.RwkvPostRefIdeal.τ).loc Cert.RwkvPostRefIdeal.main_arg7))
      ∧ r.2.sem = fun _ => 0)

def quiescent_RwkvPostBwd [hRwkvPostBwd : Cert.RwkvPostBwd.Facts] : Prop :=
  ∀ (m : (ℓ : Loc Cert.RwkvPostBwd.nD Cert.RwkvPostBwd.τ Cert.RwkvPostBwd.sig) → Buf (Elt Bits) ℓ) (g : Dev Cert.RwkvPostBwd.nD → PrngReg), Pre_RwkvPostBwd m →
    θ_run (Cert.RwkvPostBwd.defs (F := Bits)) (onTc (τ := Cert.RwkvPostBwd.τ) (Cert.RwkvPostBwd.main (F := Bits))) ⟨m, fun _ => 0, g⟩ (fun r => (∀ c : Dev Cert.RwkvPostBwd.nD,
      r.2.mem ((c.tc : Thread Cert.RwkvPostBwd.nD Cert.RwkvPostBwd.τ).loc Cert.RwkvPostBwd.main_arg0) = m ((c.tc : Thread Cert.RwkvPostBwd.nD Cert.RwkvPostBwd.τ).loc Cert.RwkvPostBwd.main_arg0)
      ∧ r.2.mem ((c.tc : Thread Cert.RwkvPostBwd.nD Cert.RwkvPostBwd.τ).loc Cert.RwkvPostBwd.main_arg1) = m ((c.tc : Thread Cert.RwkvPostBwd.nD Cert.RwkvPostBwd.τ).loc Cert.RwkvPostBwd.main_arg1)
      ∧ r.2.mem ((c.tc : Thread Cert.RwkvPostBwd.nD Cert.RwkvPostBwd.τ).loc Cert.RwkvPostBwd.main_arg2) = m ((c.tc : Thread Cert.RwkvPostBwd.nD Cert.RwkvPostBwd.τ).loc Cert.RwkvPostBwd.main_arg2)
      ∧ r.2.mem ((c.tc : Thread Cert.RwkvPostBwd.nD Cert.RwkvPostBwd.τ).loc Cert.RwkvPostBwd.main_arg3) = m ((c.tc : Thread Cert.RwkvPostBwd.nD Cert.RwkvPostBwd.τ).loc Cert.RwkvPostBwd.main_arg3)
      ∧ r.2.mem ((c.tc : Thread Cert.RwkvPostBwd.nD Cert.RwkvPostBwd.τ).loc Cert.RwkvPostBwd.main_arg4) = m ((c.tc : Thread Cert.RwkvPostBwd.nD Cert.RwkvPostBwd.τ).loc Cert.RwkvPostBwd.main_arg4)
      ∧ r.2.mem ((c.tc : Thread Cert.RwkvPostBwd.nD Cert.RwkvPostBwd.τ).loc Cert.RwkvPostBwd.main_arg5) = m ((c.tc : Thread Cert.RwkvPostBwd.nD Cert.RwkvPostBwd.τ).loc Cert.RwkvPostBwd.main_arg5)
      ∧ r.2.mem ((c.tc : Thread Cert.RwkvPostBwd.nD Cert.RwkvPostBwd.τ).loc Cert.RwkvPostBwd.main_arg6) = m ((c.tc : Thread Cert.RwkvPostBwd.nD Cert.RwkvPostBwd.τ).loc Cert.RwkvPostBwd.main_arg6)
      ∧ r.2.mem ((c.tc : Thread Cert.RwkvPostBwd.nD Cert.RwkvPostBwd.τ).loc Cert.RwkvPostBwd.main_arg7) = m ((c.tc : Thread Cert.RwkvPostBwd.nD Cert.RwkvPostBwd.τ).loc Cert.RwkvPostBwd.main_arg7)
      ∧ r.2.mem ((c.tc : Thread Cert.RwkvPostBwd.nD Cert.RwkvPostBwd.τ).loc Cert.RwkvPostBwd.main_arg8) = m ((c.tc : Thread Cert.RwkvPostBwd.nD Cert.RwkvPostBwd.τ).loc Cert.RwkvPostBwd.main_arg8))
      ∧ r.2.sem = fun _ => 0)

def quiescent_RwkvPostBwdIdeal [hRwkvPostBwdIdeal : Cert.RwkvPostBwdIdeal.Facts] : Prop :=
  ∀ (m : (ℓ : Loc Cert.RwkvPostBwdIdeal.nD Cert.RwkvPostBwdIdeal.τ Cert.RwkvPostBwdIdeal.sig) → Buf (Elt Ideal) ℓ) (g : Dev Cert.RwkvPostBwdIdeal.nD → PrngReg), Pre_RwkvPostBwdIdeal m →
    θ_run (Cert.RwkvPostBwdIdeal.defs (F := Ideal)) (onTc (τ := Cert.RwkvPostBwdIdeal.τ) (Cert.RwkvPostBwdIdeal.main (F := Ideal))) ⟨m, fun _ => 0, g⟩ (fun r => (∀ c : Dev Cert.RwkvPostBwdIdeal.nD,
      r.2.mem ((c.tc : Thread Cert.RwkvPostBwdIdeal.nD Cert.RwkvPostBwdIdeal.τ).loc Cert.RwkvPostBwdIdeal.main_arg0) = m ((c.tc : Thread Cert.RwkvPostBwdIdeal.nD Cert.RwkvPostBwdIdeal.τ).loc Cert.RwkvPostBwdIdeal.main_arg0)
      ∧ r.2.mem ((c.tc : Thread Cert.RwkvPostBwdIdeal.nD Cert.RwkvPostBwdIdeal.τ).loc Cert.RwkvPostBwdIdeal.main_arg1) = m ((c.tc : Thread Cert.RwkvPostBwdIdeal.nD Cert.RwkvPostBwdIdeal.τ).loc Cert.RwkvPostBwdIdeal.main_arg1)
      ∧ r.2.mem ((c.tc : Thread Cert.RwkvPostBwdIdeal.nD Cert.RwkvPostBwdIdeal.τ).loc Cert.RwkvPostBwdIdeal.main_arg2) = m ((c.tc : Thread Cert.RwkvPostBwdIdeal.nD Cert.RwkvPostBwdIdeal.τ).loc Cert.RwkvPostBwdIdeal.main_arg2)
      ∧ r.2.mem ((c.tc : Thread Cert.RwkvPostBwdIdeal.nD Cert.RwkvPostBwdIdeal.τ).loc Cert.RwkvPostBwdIdeal.main_arg3) = m ((c.tc : Thread Cert.RwkvPostBwdIdeal.nD Cert.RwkvPostBwdIdeal.τ).loc Cert.RwkvPostBwdIdeal.main_arg3)
      ∧ r.2.mem ((c.tc : Thread Cert.RwkvPostBwdIdeal.nD Cert.RwkvPostBwdIdeal.τ).loc Cert.RwkvPostBwdIdeal.main_arg4) = m ((c.tc : Thread Cert.RwkvPostBwdIdeal.nD Cert.RwkvPostBwdIdeal.τ).loc Cert.RwkvPostBwdIdeal.main_arg4)
      ∧ r.2.mem ((c.tc : Thread Cert.RwkvPostBwdIdeal.nD Cert.RwkvPostBwdIdeal.τ).loc Cert.RwkvPostBwdIdeal.main_arg5) = m ((c.tc : Thread Cert.RwkvPostBwdIdeal.nD Cert.RwkvPostBwdIdeal.τ).loc Cert.RwkvPostBwdIdeal.main_arg5)
      ∧ r.2.mem ((c.tc : Thread Cert.RwkvPostBwdIdeal.nD Cert.RwkvPostBwdIdeal.τ).loc Cert.RwkvPostBwdIdeal.main_arg6) = m ((c.tc : Thread Cert.RwkvPostBwdIdeal.nD Cert.RwkvPostBwdIdeal.τ).loc Cert.RwkvPostBwdIdeal.main_arg6)
      ∧ r.2.mem ((c.tc : Thread Cert.RwkvPostBwdIdeal.nD Cert.RwkvPostBwdIdeal.τ).loc Cert.RwkvPostBwdIdeal.main_arg7) = m ((c.tc : Thread Cert.RwkvPostBwdIdeal.nD Cert.RwkvPostBwdIdeal.τ).loc Cert.RwkvPostBwdIdeal.main_arg7)
      ∧ r.2.mem ((c.tc : Thread Cert.RwkvPostBwdIdeal.nD Cert.RwkvPostBwdIdeal.τ).loc Cert.RwkvPostBwdIdeal.main_arg8) = m ((c.tc : Thread Cert.RwkvPostBwdIdeal.nD Cert.RwkvPostBwdIdeal.τ).loc Cert.RwkvPostBwdIdeal.main_arg8))
      ∧ r.2.sem = fun _ => 0)

def quiescent_RwkvPostBwdIdeal_pre_read_out_bwd_numbers [hRwkvPostBwdIdeal : Cert.RwkvPostBwdIdeal.Facts] [hPre_read_out_bwd_numbers : Cert.Pre_read_out_bwd_numbers.Facts] : Prop :=
  ∀ (m : (ℓ : Loc Cert.RwkvPostBwdIdeal.nD Cert.RwkvPostBwdIdeal.τ Cert.RwkvPostBwdIdeal.sig) → Buf (Elt Ideal) ℓ) (g : Dev Cert.RwkvPostBwdIdeal.nD → PrngReg), Pre_RwkvPostBwdIdeal_read_out_bwd_numbers m →
    θ_run (Cert.RwkvPostBwdIdeal.defs (F := Ideal)) (onTc (τ := Cert.RwkvPostBwdIdeal.τ) (Cert.RwkvPostBwdIdeal.main (F := Ideal))) ⟨m, fun _ => 0, g⟩ (fun r => (∀ c : Dev Cert.RwkvPostBwdIdeal.nD,
      r.2.mem ((c.tc : Thread Cert.RwkvPostBwdIdeal.nD Cert.RwkvPostBwdIdeal.τ).loc Cert.RwkvPostBwdIdeal.main_arg0) = m ((c.tc : Thread Cert.RwkvPostBwdIdeal.nD Cert.RwkvPostBwdIdeal.τ).loc Cert.RwkvPostBwdIdeal.main_arg0)
      ∧ r.2.mem ((c.tc : Thread Cert.RwkvPostBwdIdeal.nD Cert.RwkvPostBwdIdeal.τ).loc Cert.RwkvPostBwdIdeal.main_arg1) = m ((c.tc : Thread Cert.RwkvPostBwdIdeal.nD Cert.RwkvPostBwdIdeal.τ).loc Cert.RwkvPostBwdIdeal.main_arg1)
      ∧ r.2.mem ((c.tc : Thread Cert.RwkvPostBwdIdeal.nD Cert.RwkvPostBwdIdeal.τ).loc Cert.RwkvPostBwdIdeal.main_arg2) = m ((c.tc : Thread Cert.RwkvPostBwdIdeal.nD Cert.RwkvPostBwdIdeal.τ).loc Cert.RwkvPostBwdIdeal.main_arg2)
      ∧ r.2.mem ((c.tc : Thread Cert.RwkvPostBwdIdeal.nD Cert.RwkvPostBwdIdeal.τ).loc Cert.RwkvPostBwdIdeal.main_arg3) = m ((c.tc : Thread Cert.RwkvPostBwdIdeal.nD Cert.RwkvPostBwdIdeal.τ).loc Cert.RwkvPostBwdIdeal.main_arg3)
      ∧ r.2.mem ((c.tc : Thread Cert.RwkvPostBwdIdeal.nD Cert.RwkvPostBwdIdeal.τ).loc Cert.RwkvPostBwdIdeal.main_arg4) = m ((c.tc : Thread Cert.RwkvPostBwdIdeal.nD Cert.RwkvPostBwdIdeal.τ).loc Cert.RwkvPostBwdIdeal.main_arg4)
      ∧ r.2.mem ((c.tc : Thread Cert.RwkvPostBwdIdeal.nD Cert.RwkvPostBwdIdeal.τ).loc Cert.RwkvPostBwdIdeal.main_arg5) = m ((c.tc : Thread Cert.RwkvPostBwdIdeal.nD Cert.RwkvPostBwdIdeal.τ).loc Cert.RwkvPostBwdIdeal.main_arg5)
      ∧ r.2.mem ((c.tc : Thread Cert.RwkvPostBwdIdeal.nD Cert.RwkvPostBwdIdeal.τ).loc Cert.RwkvPostBwdIdeal.main_arg6) = m ((c.tc : Thread Cert.RwkvPostBwdIdeal.nD Cert.RwkvPostBwdIdeal.τ).loc Cert.RwkvPostBwdIdeal.main_arg6)
      ∧ r.2.mem ((c.tc : Thread Cert.RwkvPostBwdIdeal.nD Cert.RwkvPostBwdIdeal.τ).loc Cert.RwkvPostBwdIdeal.main_arg7) = m ((c.tc : Thread Cert.RwkvPostBwdIdeal.nD Cert.RwkvPostBwdIdeal.τ).loc Cert.RwkvPostBwdIdeal.main_arg7)
      ∧ r.2.mem ((c.tc : Thread Cert.RwkvPostBwdIdeal.nD Cert.RwkvPostBwdIdeal.τ).loc Cert.RwkvPostBwdIdeal.main_arg8) = m ((c.tc : Thread Cert.RwkvPostBwdIdeal.nD Cert.RwkvPostBwdIdeal.τ).loc Cert.RwkvPostBwdIdeal.main_arg8))
      ∧ r.2.sem = fun _ => 0)

def quiescent_RwkvPostBwdRefIdeal [hRwkvPostBwdRefIdeal : Cert.RwkvPostBwdRefIdeal.Facts] : Prop :=
  ∀ (m : (ℓ : Loc Cert.RwkvPostBwdRefIdeal.nD Cert.RwkvPostBwdRefIdeal.τ Cert.RwkvPostBwdRefIdeal.sig) → Buf (Elt Ideal) ℓ) (g : Dev Cert.RwkvPostBwdRefIdeal.nD → PrngReg), Pre_RwkvPostBwdRefIdeal m →
    θ_run (Cert.RwkvPostBwdRefIdeal.defs (F := Ideal)) (onTc (τ := Cert.RwkvPostBwdRefIdeal.τ) (Cert.RwkvPostBwdRefIdeal.main (F := Ideal))) ⟨m, fun _ => 0, g⟩ (fun r => (∀ c : Dev Cert.RwkvPostBwdRefIdeal.nD,
      r.2.mem ((c.tc : Thread Cert.RwkvPostBwdRefIdeal.nD Cert.RwkvPostBwdRefIdeal.τ).loc Cert.RwkvPostBwdRefIdeal.main_arg0) = m ((c.tc : Thread Cert.RwkvPostBwdRefIdeal.nD Cert.RwkvPostBwdRefIdeal.τ).loc Cert.RwkvPostBwdRefIdeal.main_arg0)
      ∧ r.2.mem ((c.tc : Thread Cert.RwkvPostBwdRefIdeal.nD Cert.RwkvPostBwdRefIdeal.τ).loc Cert.RwkvPostBwdRefIdeal.main_arg1) = m ((c.tc : Thread Cert.RwkvPostBwdRefIdeal.nD Cert.RwkvPostBwdRefIdeal.τ).loc Cert.RwkvPostBwdRefIdeal.main_arg1)
      ∧ r.2.mem ((c.tc : Thread Cert.RwkvPostBwdRefIdeal.nD Cert.RwkvPostBwdRefIdeal.τ).loc Cert.RwkvPostBwdRefIdeal.main_arg2) = m ((c.tc : Thread Cert.RwkvPostBwdRefIdeal.nD Cert.RwkvPostBwdRefIdeal.τ).loc Cert.RwkvPostBwdRefIdeal.main_arg2)
      ∧ r.2.mem ((c.tc : Thread Cert.RwkvPostBwdRefIdeal.nD Cert.RwkvPostBwdRefIdeal.τ).loc Cert.RwkvPostBwdRefIdeal.main_arg3) = m ((c.tc : Thread Cert.RwkvPostBwdRefIdeal.nD Cert.RwkvPostBwdRefIdeal.τ).loc Cert.RwkvPostBwdRefIdeal.main_arg3)
      ∧ r.2.mem ((c.tc : Thread Cert.RwkvPostBwdRefIdeal.nD Cert.RwkvPostBwdRefIdeal.τ).loc Cert.RwkvPostBwdRefIdeal.main_arg4) = m ((c.tc : Thread Cert.RwkvPostBwdRefIdeal.nD Cert.RwkvPostBwdRefIdeal.τ).loc Cert.RwkvPostBwdRefIdeal.main_arg4)
      ∧ r.2.mem ((c.tc : Thread Cert.RwkvPostBwdRefIdeal.nD Cert.RwkvPostBwdRefIdeal.τ).loc Cert.RwkvPostBwdRefIdeal.main_arg5) = m ((c.tc : Thread Cert.RwkvPostBwdRefIdeal.nD Cert.RwkvPostBwdRefIdeal.τ).loc Cert.RwkvPostBwdRefIdeal.main_arg5)
      ∧ r.2.mem ((c.tc : Thread Cert.RwkvPostBwdRefIdeal.nD Cert.RwkvPostBwdRefIdeal.τ).loc Cert.RwkvPostBwdRefIdeal.main_arg6) = m ((c.tc : Thread Cert.RwkvPostBwdRefIdeal.nD Cert.RwkvPostBwdRefIdeal.τ).loc Cert.RwkvPostBwdRefIdeal.main_arg6)
      ∧ r.2.mem ((c.tc : Thread Cert.RwkvPostBwdRefIdeal.nD Cert.RwkvPostBwdRefIdeal.τ).loc Cert.RwkvPostBwdRefIdeal.main_arg7) = m ((c.tc : Thread Cert.RwkvPostBwdRefIdeal.nD Cert.RwkvPostBwdRefIdeal.τ).loc Cert.RwkvPostBwdRefIdeal.main_arg7)
      ∧ r.2.mem ((c.tc : Thread Cert.RwkvPostBwdRefIdeal.nD Cert.RwkvPostBwdRefIdeal.τ).loc Cert.RwkvPostBwdRefIdeal.main_arg8) = m ((c.tc : Thread Cert.RwkvPostBwdRefIdeal.nD Cert.RwkvPostBwdRefIdeal.τ).loc Cert.RwkvPostBwdRefIdeal.main_arg8))
      ∧ r.2.sem = fun _ => 0)

def quiescent_RwkvPostBwdRefIdeal_pre_read_out_bwd_numbers [hRwkvPostBwdRefIdeal : Cert.RwkvPostBwdRefIdeal.Facts] [hPre_read_out_bwd_numbers : Cert.Pre_read_out_bwd_numbers.Facts] : Prop :=
  ∀ (m : (ℓ : Loc Cert.RwkvPostBwdRefIdeal.nD Cert.RwkvPostBwdRefIdeal.τ Cert.RwkvPostBwdRefIdeal.sig) → Buf (Elt Ideal) ℓ) (g : Dev Cert.RwkvPostBwdRefIdeal.nD → PrngReg), Pre_RwkvPostBwdRefIdeal_read_out_bwd_numbers m →
    θ_run (Cert.RwkvPostBwdRefIdeal.defs (F := Ideal)) (onTc (τ := Cert.RwkvPostBwdRefIdeal.τ) (Cert.RwkvPostBwdRefIdeal.main (F := Ideal))) ⟨m, fun _ => 0, g⟩ (fun r => (∀ c : Dev Cert.RwkvPostBwdRefIdeal.nD,
      r.2.mem ((c.tc : Thread Cert.RwkvPostBwdRefIdeal.nD Cert.RwkvPostBwdRefIdeal.τ).loc Cert.RwkvPostBwdRefIdeal.main_arg0) = m ((c.tc : Thread Cert.RwkvPostBwdRefIdeal.nD Cert.RwkvPostBwdRefIdeal.τ).loc Cert.RwkvPostBwdRefIdeal.main_arg0)
      ∧ r.2.mem ((c.tc : Thread Cert.RwkvPostBwdRefIdeal.nD Cert.RwkvPostBwdRefIdeal.τ).loc Cert.RwkvPostBwdRefIdeal.main_arg1) = m ((c.tc : Thread Cert.RwkvPostBwdRefIdeal.nD Cert.RwkvPostBwdRefIdeal.τ).loc Cert.RwkvPostBwdRefIdeal.main_arg1)
      ∧ r.2.mem ((c.tc : Thread Cert.RwkvPostBwdRefIdeal.nD Cert.RwkvPostBwdRefIdeal.τ).loc Cert.RwkvPostBwdRefIdeal.main_arg2) = m ((c.tc : Thread Cert.RwkvPostBwdRefIdeal.nD Cert.RwkvPostBwdRefIdeal.τ).loc Cert.RwkvPostBwdRefIdeal.main_arg2)
      ∧ r.2.mem ((c.tc : Thread Cert.RwkvPostBwdRefIdeal.nD Cert.RwkvPostBwdRefIdeal.τ).loc Cert.RwkvPostBwdRefIdeal.main_arg3) = m ((c.tc : Thread Cert.RwkvPostBwdRefIdeal.nD Cert.RwkvPostBwdRefIdeal.τ).loc Cert.RwkvPostBwdRefIdeal.main_arg3)
      ∧ r.2.mem ((c.tc : Thread Cert.RwkvPostBwdRefIdeal.nD Cert.RwkvPostBwdRefIdeal.τ).loc Cert.RwkvPostBwdRefIdeal.main_arg4) = m ((c.tc : Thread Cert.RwkvPostBwdRefIdeal.nD Cert.RwkvPostBwdRefIdeal.τ).loc Cert.RwkvPostBwdRefIdeal.main_arg4)
      ∧ r.2.mem ((c.tc : Thread Cert.RwkvPostBwdRefIdeal.nD Cert.RwkvPostBwdRefIdeal.τ).loc Cert.RwkvPostBwdRefIdeal.main_arg5) = m ((c.tc : Thread Cert.RwkvPostBwdRefIdeal.nD Cert.RwkvPostBwdRefIdeal.τ).loc Cert.RwkvPostBwdRefIdeal.main_arg5)
      ∧ r.2.mem ((c.tc : Thread Cert.RwkvPostBwdRefIdeal.nD Cert.RwkvPostBwdRefIdeal.τ).loc Cert.RwkvPostBwdRefIdeal.main_arg6) = m ((c.tc : Thread Cert.RwkvPostBwdRefIdeal.nD Cert.RwkvPostBwdRefIdeal.τ).loc Cert.RwkvPostBwdRefIdeal.main_arg6)
      ∧ r.2.mem ((c.tc : Thread Cert.RwkvPostBwdRefIdeal.nD Cert.RwkvPostBwdRefIdeal.τ).loc Cert.RwkvPostBwdRefIdeal.main_arg7) = m ((c.tc : Thread Cert.RwkvPostBwdRefIdeal.nD Cert.RwkvPostBwdRefIdeal.τ).loc Cert.RwkvPostBwdRefIdeal.main_arg7)
      ∧ r.2.mem ((c.tc : Thread Cert.RwkvPostBwdRefIdeal.nD Cert.RwkvPostBwdRefIdeal.τ).loc Cert.RwkvPostBwdRefIdeal.main_arg8) = m ((c.tc : Thread Cert.RwkvPostBwdRefIdeal.nD Cert.RwkvPostBwdRefIdeal.τ).loc Cert.RwkvPostBwdRefIdeal.main_arg8))
      ∧ r.2.sem = fun _ => 0)

def quiescent_MlpDownDw [hMlpDownDw : Cert.MlpDownDw.Facts] : Prop :=
  ∀ (m : (ℓ : Loc Cert.MlpDownDw.nD Cert.MlpDownDw.τ Cert.MlpDownDw.sig) → Buf (Elt Bits) ℓ) (g : Dev Cert.MlpDownDw.nD → PrngReg), Pre_MlpDownDw m →
    θ_run (Cert.MlpDownDw.defs (F := Bits)) (onTc (τ := Cert.MlpDownDw.τ) (Cert.MlpDownDw.main (F := Bits))) ⟨m, fun _ => 0, g⟩ (fun r => (∀ c : Dev Cert.MlpDownDw.nD,
      r.2.mem ((c.tc : Thread Cert.MlpDownDw.nD Cert.MlpDownDw.τ).loc Cert.MlpDownDw.main_arg0) = m ((c.tc : Thread Cert.MlpDownDw.nD Cert.MlpDownDw.τ).loc Cert.MlpDownDw.main_arg0)
      ∧ r.2.mem ((c.tc : Thread Cert.MlpDownDw.nD Cert.MlpDownDw.τ).loc Cert.MlpDownDw.main_arg1) = m ((c.tc : Thread Cert.MlpDownDw.nD Cert.MlpDownDw.τ).loc Cert.MlpDownDw.main_arg1)
      ∧ r.2.mem ((c.tc : Thread Cert.MlpDownDw.nD Cert.MlpDownDw.τ).loc Cert.MlpDownDw.main_arg2) = m ((c.tc : Thread Cert.MlpDownDw.nD Cert.MlpDownDw.τ).loc Cert.MlpDownDw.main_arg2))
      ∧ r.2.sem = fun _ => 0)

def quiescent_MlpDownDwIdeal [hMlpDownDwIdeal : Cert.MlpDownDwIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg), Pre_MlpDownDwIdeal m →
    θ_run (Cert.MlpDownDwIdeal.defs (F := Ideal)) (onTc (τ := Cert.MlpDownDwIdeal.τ) (Cert.MlpDownDwIdeal.main (F := Ideal))) ⟨m, fun _ => 0, g⟩ (fun r => (∀ c : Dev Cert.MlpDownDwIdeal.nD,
      r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
      ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1)
      ∧ r.2.mem ((c.tc : Thread Cert.MlpDownDwIdeal.nD Cert.MlpDownDwIdeal.τ).loc Cert.MlpDownDwIdeal.main_arg2) = m ((c.tc : Thread Cert.MlpDownDwIdeal.nD Cert.MlpDownDwIdeal.τ).loc Cert.MlpDownDwIdeal.main_arg2))
      ∧ r.2.sem = fun _ => 0)

def quiescent_MlpDownDwRefIdeal [hMlpDownDwRefIdeal : Cert.MlpDownDwRefIdeal.Facts] : Prop :=
  ∀ (m : (ℓ : Loc Cert.MlpDownDwRefIdeal.nD Cert.MlpDownDwRefIdeal.τ Cert.MlpDownDwRefIdeal.sig) → Buf (Elt Ideal) ℓ) (g : Dev Cert.MlpDownDwRefIdeal.nD → PrngReg), Pre_MlpDownDwRefIdeal m →
    θ_run (Cert.MlpDownDwRefIdeal.defs (F := Ideal)) (onTc (τ := Cert.MlpDownDwRefIdeal.τ) (Cert.MlpDownDwRefIdeal.main (F := Ideal))) ⟨m, fun _ => 0, g⟩ (fun r => (∀ c : Dev Cert.MlpDownDwRefIdeal.nD,
      r.2.mem ((c.tc : Thread Cert.MlpDownDwRefIdeal.nD Cert.MlpDownDwRefIdeal.τ).loc Cert.MlpDownDwRefIdeal.main_arg0) = m ((c.tc : Thread Cert.MlpDownDwRefIdeal.nD Cert.MlpDownDwRefIdeal.τ).loc Cert.MlpDownDwRefIdeal.main_arg0)
      ∧ r.2.mem ((c.tc : Thread Cert.MlpDownDwRefIdeal.nD Cert.MlpDownDwRefIdeal.τ).loc Cert.MlpDownDwRefIdeal.main_arg1) = m ((c.tc : Thread Cert.MlpDownDwRefIdeal.nD Cert.MlpDownDwRefIdeal.τ).loc Cert.MlpDownDwRefIdeal.main_arg1)
      ∧ r.2.mem ((c.tc : Thread Cert.MlpDownDwRefIdeal.nD Cert.MlpDownDwRefIdeal.τ).loc Cert.MlpDownDwRefIdeal.main_arg2) = m ((c.tc : Thread Cert.MlpDownDwRefIdeal.nD Cert.MlpDownDwRefIdeal.τ).loc Cert.MlpDownDwRefIdeal.main_arg2))
      ∧ r.2.sem = fun _ => 0)

def quiescent_MlpDownDx [hMlpDownDx : Cert.MlpDownDx.Facts] : Prop :=
  ∀ (m : (ℓ : Loc Cert.MlpDownDx.nD Cert.MlpDownDx.τ Cert.MlpDownDx.sig) → Buf (Elt Bits) ℓ) (g : Dev Cert.MlpDownDx.nD → PrngReg), Pre_MlpDownDx m →
    θ_run (Cert.MlpDownDx.defs (F := Bits)) (onTc (τ := Cert.MlpDownDx.τ) (Cert.MlpDownDx.main (F := Bits))) ⟨m, fun _ => 0, g⟩ (fun r => (∀ c : Dev Cert.MlpDownDx.nD,
      r.2.mem ((c.tc : Thread Cert.MlpDownDx.nD Cert.MlpDownDx.τ).loc Cert.MlpDownDx.main_arg0) = m ((c.tc : Thread Cert.MlpDownDx.nD Cert.MlpDownDx.τ).loc Cert.MlpDownDx.main_arg0)
      ∧ r.2.mem ((c.tc : Thread Cert.MlpDownDx.nD Cert.MlpDownDx.τ).loc Cert.MlpDownDx.main_arg1) = m ((c.tc : Thread Cert.MlpDownDx.nD Cert.MlpDownDx.τ).loc Cert.MlpDownDx.main_arg1)
      ∧ r.2.mem ((c.tc : Thread Cert.MlpDownDx.nD Cert.MlpDownDx.τ).loc Cert.MlpDownDx.main_arg2) = m ((c.tc : Thread Cert.MlpDownDx.nD Cert.MlpDownDx.τ).loc Cert.MlpDownDx.main_arg2))
      ∧ r.2.sem = fun _ => 0)

def quiescent_MlpDownDxIdeal [hMlpDownDxIdeal : Cert.MlpDownDxIdeal.Facts] : Prop :=
  ∀ (m : (ℓ : Loc Cert.MlpDownDxIdeal.nD Cert.MlpDownDxIdeal.τ Cert.MlpDownDxIdeal.sig) → Buf (Elt Ideal) ℓ) (g : Dev Cert.MlpDownDxIdeal.nD → PrngReg), Pre_MlpDownDxIdeal m →
    θ_run (Cert.MlpDownDxIdeal.defs (F := Ideal)) (onTc (τ := Cert.MlpDownDxIdeal.τ) (Cert.MlpDownDxIdeal.main (F := Ideal))) ⟨m, fun _ => 0, g⟩ (fun r => (∀ c : Dev Cert.MlpDownDxIdeal.nD,
      r.2.mem ((c.tc : Thread Cert.MlpDownDxIdeal.nD Cert.MlpDownDxIdeal.τ).loc Cert.MlpDownDxIdeal.main_arg0) = m ((c.tc : Thread Cert.MlpDownDxIdeal.nD Cert.MlpDownDxIdeal.τ).loc Cert.MlpDownDxIdeal.main_arg0)
      ∧ r.2.mem ((c.tc : Thread Cert.MlpDownDxIdeal.nD Cert.MlpDownDxIdeal.τ).loc Cert.MlpDownDxIdeal.main_arg1) = m ((c.tc : Thread Cert.MlpDownDxIdeal.nD Cert.MlpDownDxIdeal.τ).loc Cert.MlpDownDxIdeal.main_arg1)
      ∧ r.2.mem ((c.tc : Thread Cert.MlpDownDxIdeal.nD Cert.MlpDownDxIdeal.τ).loc Cert.MlpDownDxIdeal.main_arg2) = m ((c.tc : Thread Cert.MlpDownDxIdeal.nD Cert.MlpDownDxIdeal.τ).loc Cert.MlpDownDxIdeal.main_arg2))
      ∧ r.2.sem = fun _ => 0)

def quiescent_MlpDownDxRefIdeal [hMlpDownDxRefIdeal : Cert.MlpDownDxRefIdeal.Facts] : Prop :=
  ∀ (m : (ℓ : Loc Cert.MlpDownDxRefIdeal.nD Cert.MlpDownDxRefIdeal.τ Cert.MlpDownDxRefIdeal.sig) → Buf (Elt Ideal) ℓ) (g : Dev Cert.MlpDownDxRefIdeal.nD → PrngReg), Pre_MlpDownDxRefIdeal m →
    θ_run (Cert.MlpDownDxRefIdeal.defs (F := Ideal)) (onTc (τ := Cert.MlpDownDxRefIdeal.τ) (Cert.MlpDownDxRefIdeal.main (F := Ideal))) ⟨m, fun _ => 0, g⟩ (fun r => (∀ c : Dev Cert.MlpDownDxRefIdeal.nD,
      r.2.mem ((c.tc : Thread Cert.MlpDownDxRefIdeal.nD Cert.MlpDownDxRefIdeal.τ).loc Cert.MlpDownDxRefIdeal.main_arg0) = m ((c.tc : Thread Cert.MlpDownDxRefIdeal.nD Cert.MlpDownDxRefIdeal.τ).loc Cert.MlpDownDxRefIdeal.main_arg0)
      ∧ r.2.mem ((c.tc : Thread Cert.MlpDownDxRefIdeal.nD Cert.MlpDownDxRefIdeal.τ).loc Cert.MlpDownDxRefIdeal.main_arg1) = m ((c.tc : Thread Cert.MlpDownDxRefIdeal.nD Cert.MlpDownDxRefIdeal.τ).loc Cert.MlpDownDxRefIdeal.main_arg1)
      ∧ r.2.mem ((c.tc : Thread Cert.MlpDownDxRefIdeal.nD Cert.MlpDownDxRefIdeal.τ).loc Cert.MlpDownDxRefIdeal.main_arg2) = m ((c.tc : Thread Cert.MlpDownDxRefIdeal.nD Cert.MlpDownDxRefIdeal.τ).loc Cert.MlpDownDxRefIdeal.main_arg2))
      ∧ r.2.sem = fun _ => 0)

def quiescent_MlpUpDw [hMlpUpDw : Cert.MlpUpDw.Facts] : Prop :=
  ∀ (m : (ℓ : Loc Cert.MlpUpDw.nD Cert.MlpUpDw.τ Cert.MlpUpDw.sig) → Buf (Elt Bits) ℓ) (g : Dev Cert.MlpUpDw.nD → PrngReg), Pre_MlpUpDw m →
    θ_run (Cert.MlpUpDw.defs (F := Bits)) (onTc (τ := Cert.MlpUpDw.τ) (Cert.MlpUpDw.main (F := Bits))) ⟨m, fun _ => 0, g⟩ (fun r => (∀ c : Dev Cert.MlpUpDw.nD,
      r.2.mem ((c.tc : Thread Cert.MlpUpDw.nD Cert.MlpUpDw.τ).loc Cert.MlpUpDw.main_arg0) = m ((c.tc : Thread Cert.MlpUpDw.nD Cert.MlpUpDw.τ).loc Cert.MlpUpDw.main_arg0)
      ∧ r.2.mem ((c.tc : Thread Cert.MlpUpDw.nD Cert.MlpUpDw.τ).loc Cert.MlpUpDw.main_arg1) = m ((c.tc : Thread Cert.MlpUpDw.nD Cert.MlpUpDw.τ).loc Cert.MlpUpDw.main_arg1)
      ∧ r.2.mem ((c.tc : Thread Cert.MlpUpDw.nD Cert.MlpUpDw.τ).loc Cert.MlpUpDw.main_arg2) = m ((c.tc : Thread Cert.MlpUpDw.nD Cert.MlpUpDw.τ).loc Cert.MlpUpDw.main_arg2))
      ∧ r.2.sem = fun _ => 0)

def quiescent_MlpUpDwIdeal [hMlpUpDwIdeal : Cert.MlpUpDwIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg), Pre_MlpUpDwIdeal m →
    θ_run (Cert.MlpUpDwIdeal.defs (F := Ideal)) (onTc (τ := Cert.MlpUpDwIdeal.τ) (Cert.MlpUpDwIdeal.main (F := Ideal))) ⟨m, fun _ => 0, g⟩ (fun r => (∀ c : Dev Cert.MlpUpDwIdeal.nD,
      r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
      ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1)
      ∧ r.2.mem ((c.tc : Thread Cert.MlpUpDwIdeal.nD Cert.MlpUpDwIdeal.τ).loc Cert.MlpUpDwIdeal.main_arg2) = m ((c.tc : Thread Cert.MlpUpDwIdeal.nD Cert.MlpUpDwIdeal.τ).loc Cert.MlpUpDwIdeal.main_arg2))
      ∧ r.2.sem = fun _ => 0)

def quiescent_MlpUpDwRefIdeal [hMlpUpDwRefIdeal : Cert.MlpUpDwRefIdeal.Facts] : Prop :=
  ∀ (m : (ℓ : Loc Cert.MlpUpDwRefIdeal.nD Cert.MlpUpDwRefIdeal.τ Cert.MlpUpDwRefIdeal.sig) → Buf (Elt Ideal) ℓ) (g : Dev Cert.MlpUpDwRefIdeal.nD → PrngReg), Pre_MlpUpDwRefIdeal m →
    θ_run (Cert.MlpUpDwRefIdeal.defs (F := Ideal)) (onTc (τ := Cert.MlpUpDwRefIdeal.τ) (Cert.MlpUpDwRefIdeal.main (F := Ideal))) ⟨m, fun _ => 0, g⟩ (fun r => (∀ c : Dev Cert.MlpUpDwRefIdeal.nD,
      r.2.mem ((c.tc : Thread Cert.MlpUpDwRefIdeal.nD Cert.MlpUpDwRefIdeal.τ).loc Cert.MlpUpDwRefIdeal.main_arg0) = m ((c.tc : Thread Cert.MlpUpDwRefIdeal.nD Cert.MlpUpDwRefIdeal.τ).loc Cert.MlpUpDwRefIdeal.main_arg0)
      ∧ r.2.mem ((c.tc : Thread Cert.MlpUpDwRefIdeal.nD Cert.MlpUpDwRefIdeal.τ).loc Cert.MlpUpDwRefIdeal.main_arg1) = m ((c.tc : Thread Cert.MlpUpDwRefIdeal.nD Cert.MlpUpDwRefIdeal.τ).loc Cert.MlpUpDwRefIdeal.main_arg1)
      ∧ r.2.mem ((c.tc : Thread Cert.MlpUpDwRefIdeal.nD Cert.MlpUpDwRefIdeal.τ).loc Cert.MlpUpDwRefIdeal.main_arg2) = m ((c.tc : Thread Cert.MlpUpDwRefIdeal.nD Cert.MlpUpDwRefIdeal.τ).loc Cert.MlpUpDwRefIdeal.main_arg2))
      ∧ r.2.sem = fun _ => 0)

def quiescent_MlpUpDx [hMlpUpDx : Cert.MlpUpDx.Facts] : Prop :=
  ∀ (m : (ℓ : Loc Cert.MlpUpDx.nD Cert.MlpUpDx.τ Cert.MlpUpDx.sig) → Buf (Elt Bits) ℓ) (g : Dev Cert.MlpUpDx.nD → PrngReg), Pre_MlpUpDx m →
    θ_run (Cert.MlpUpDx.defs (F := Bits)) (onTc (τ := Cert.MlpUpDx.τ) (Cert.MlpUpDx.main (F := Bits))) ⟨m, fun _ => 0, g⟩ (fun r => (∀ c : Dev Cert.MlpUpDx.nD,
      r.2.mem ((c.tc : Thread Cert.MlpUpDx.nD Cert.MlpUpDx.τ).loc Cert.MlpUpDx.main_arg0) = m ((c.tc : Thread Cert.MlpUpDx.nD Cert.MlpUpDx.τ).loc Cert.MlpUpDx.main_arg0)
      ∧ r.2.mem ((c.tc : Thread Cert.MlpUpDx.nD Cert.MlpUpDx.τ).loc Cert.MlpUpDx.main_arg1) = m ((c.tc : Thread Cert.MlpUpDx.nD Cert.MlpUpDx.τ).loc Cert.MlpUpDx.main_arg1)
      ∧ r.2.mem ((c.tc : Thread Cert.MlpUpDx.nD Cert.MlpUpDx.τ).loc Cert.MlpUpDx.main_arg2) = m ((c.tc : Thread Cert.MlpUpDx.nD Cert.MlpUpDx.τ).loc Cert.MlpUpDx.main_arg2)
      ∧ r.2.mem ((c.tc : Thread Cert.MlpUpDx.nD Cert.MlpUpDx.τ).loc Cert.MlpUpDx.main_arg3) = m ((c.tc : Thread Cert.MlpUpDx.nD Cert.MlpUpDx.τ).loc Cert.MlpUpDx.main_arg3)
      ∧ r.2.mem ((c.tc : Thread Cert.MlpUpDx.nD Cert.MlpUpDx.τ).loc Cert.MlpUpDx.main_arg4) = m ((c.tc : Thread Cert.MlpUpDx.nD Cert.MlpUpDx.τ).loc Cert.MlpUpDx.main_arg4))
      ∧ r.2.sem = fun _ => 0)

def quiescent_MlpUpDxIdeal [hMlpUpDxIdeal : Cert.MlpUpDxIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg), Pre_MlpUpDxIdeal m →
    θ_run (Cert.MlpUpDxIdeal.defs (F := Ideal)) (onTc (τ := Cert.MlpUpDxIdeal.τ) (Cert.MlpUpDxIdeal.main (F := Ideal))) ⟨m, fun _ => 0, g⟩ (fun r => (∀ c : Dev Cert.MlpUpDxIdeal.nD,
      r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
      ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1)
      ∧ r.2.mem ((c.tc : Thread Cert.MlpUpDxIdeal.nD Cert.MlpUpDxIdeal.τ).loc Cert.MlpUpDxIdeal.main_arg2) = m ((c.tc : Thread Cert.MlpUpDxIdeal.nD Cert.MlpUpDxIdeal.τ).loc Cert.MlpUpDxIdeal.main_arg2)
      ∧ r.2.mem ((c.tc : Thread Cert.MlpUpDxIdeal.nD Cert.MlpUpDxIdeal.τ).loc Cert.MlpUpDxIdeal.main_arg3) = m ((c.tc : Thread Cert.MlpUpDxIdeal.nD Cert.MlpUpDxIdeal.τ).loc Cert.MlpUpDxIdeal.main_arg3)
      ∧ r.2.mem ((c.tc : Thread Cert.MlpUpDxIdeal.nD Cert.MlpUpDxIdeal.τ).loc Cert.MlpUpDxIdeal.main_arg4) = m ((c.tc : Thread Cert.MlpUpDxIdeal.nD Cert.MlpUpDxIdeal.τ).loc Cert.MlpUpDxIdeal.main_arg4))
      ∧ r.2.sem = fun _ => 0)

def quiescent_MlpUpDxRefIdeal [hMlpUpDxRefIdeal : Cert.MlpUpDxRefIdeal.Facts] : Prop :=
  ∀ (m : (ℓ : Loc Cert.MlpUpDxRefIdeal.nD Cert.MlpUpDxRefIdeal.τ Cert.MlpUpDxRefIdeal.sig) → Buf (Elt Ideal) ℓ) (g : Dev Cert.MlpUpDxRefIdeal.nD → PrngReg), Pre_MlpUpDxRefIdeal m →
    θ_run (Cert.MlpUpDxRefIdeal.defs (F := Ideal)) (onTc (τ := Cert.MlpUpDxRefIdeal.τ) (Cert.MlpUpDxRefIdeal.main (F := Ideal))) ⟨m, fun _ => 0, g⟩ (fun r => (∀ c : Dev Cert.MlpUpDxRefIdeal.nD,
      r.2.mem ((c.tc : Thread Cert.MlpUpDxRefIdeal.nD Cert.MlpUpDxRefIdeal.τ).loc Cert.MlpUpDxRefIdeal.main_arg0) = m ((c.tc : Thread Cert.MlpUpDxRefIdeal.nD Cert.MlpUpDxRefIdeal.τ).loc Cert.MlpUpDxRefIdeal.main_arg0)
      ∧ r.2.mem ((c.tc : Thread Cert.MlpUpDxRefIdeal.nD Cert.MlpUpDxRefIdeal.τ).loc Cert.MlpUpDxRefIdeal.main_arg1) = m ((c.tc : Thread Cert.MlpUpDxRefIdeal.nD Cert.MlpUpDxRefIdeal.τ).loc Cert.MlpUpDxRefIdeal.main_arg1)
      ∧ r.2.mem ((c.tc : Thread Cert.MlpUpDxRefIdeal.nD Cert.MlpUpDxRefIdeal.τ).loc Cert.MlpUpDxRefIdeal.main_arg2) = m ((c.tc : Thread Cert.MlpUpDxRefIdeal.nD Cert.MlpUpDxRefIdeal.τ).loc Cert.MlpUpDxRefIdeal.main_arg2)
      ∧ r.2.mem ((c.tc : Thread Cert.MlpUpDxRefIdeal.nD Cert.MlpUpDxRefIdeal.τ).loc Cert.MlpUpDxRefIdeal.main_arg3) = m ((c.tc : Thread Cert.MlpUpDxRefIdeal.nD Cert.MlpUpDxRefIdeal.τ).loc Cert.MlpUpDxRefIdeal.main_arg3)
      ∧ r.2.mem ((c.tc : Thread Cert.MlpUpDxRefIdeal.nD Cert.MlpUpDxRefIdeal.τ).loc Cert.MlpUpDxRefIdeal.main_arg4) = m ((c.tc : Thread Cert.MlpUpDxRefIdeal.nD Cert.MlpUpDxRefIdeal.τ).loc Cert.MlpUpDxRefIdeal.main_arg4))
      ∧ r.2.sem = fun _ => 0)

def quiescent_PleGateDx [hPleGateDx : Cert.PleGateDx.Facts] : Prop :=
  ∀ (m : (ℓ : Loc Cert.PleGateDx.nD Cert.PleGateDx.τ Cert.PleGateDx.sig) → Buf (Elt Bits) ℓ) (g : Dev Cert.PleGateDx.nD → PrngReg), Pre_PleGateDx m →
    θ_run (Cert.PleGateDx.defs (F := Bits)) (onTc (τ := Cert.PleGateDx.τ) (Cert.PleGateDx.main (F := Bits))) ⟨m, fun _ => 0, g⟩ (fun r => (∀ c : Dev Cert.PleGateDx.nD,
      r.2.mem ((c.tc : Thread Cert.PleGateDx.nD Cert.PleGateDx.τ).loc Cert.PleGateDx.main_arg0) = m ((c.tc : Thread Cert.PleGateDx.nD Cert.PleGateDx.τ).loc Cert.PleGateDx.main_arg0)
      ∧ r.2.mem ((c.tc : Thread Cert.PleGateDx.nD Cert.PleGateDx.τ).loc Cert.PleGateDx.main_arg1) = m ((c.tc : Thread Cert.PleGateDx.nD Cert.PleGateDx.τ).loc Cert.PleGateDx.main_arg1)
      ∧ r.2.mem ((c.tc : Thread Cert.PleGateDx.nD Cert.PleGateDx.τ).loc Cert.PleGateDx.main_arg2) = m ((c.tc : Thread Cert.PleGateDx.nD Cert.PleGateDx.τ).loc Cert.PleGateDx.main_arg2)
      ∧ r.2.mem ((c.tc : Thread Cert.PleGateDx.nD Cert.PleGateDx.τ).loc Cert.PleGateDx.main_arg3) = m ((c.tc : Thread Cert.PleGateDx.nD Cert.PleGateDx.τ).loc Cert.PleGateDx.main_arg3)
      ∧ r.2.mem ((c.tc : Thread Cert.PleGateDx.nD Cert.PleGateDx.τ).loc Cert.PleGateDx.main_arg4) = m ((c.tc : Thread Cert.PleGateDx.nD Cert.PleGateDx.τ).loc Cert.PleGateDx.main_arg4))
      ∧ r.2.sem = fun _ => 0)

def quiescent_PleGateDxIdeal [hPleGateDxIdeal : Cert.PleGateDxIdeal.Facts] : Prop :=
  ∀ (m : (ℓ : Loc Cert.PleGateDxIdeal.nD Cert.PleGateDxIdeal.τ Cert.PleGateDxIdeal.sig) → Buf (Elt Ideal) ℓ) (g : Dev Cert.PleGateDxIdeal.nD → PrngReg), Pre_PleGateDxIdeal m →
    θ_run (Cert.PleGateDxIdeal.defs (F := Ideal)) (onTc (τ := Cert.PleGateDxIdeal.τ) (Cert.PleGateDxIdeal.main (F := Ideal))) ⟨m, fun _ => 0, g⟩ (fun r => (∀ c : Dev Cert.PleGateDxIdeal.nD,
      r.2.mem ((c.tc : Thread Cert.PleGateDxIdeal.nD Cert.PleGateDxIdeal.τ).loc Cert.PleGateDxIdeal.main_arg0) = m ((c.tc : Thread Cert.PleGateDxIdeal.nD Cert.PleGateDxIdeal.τ).loc Cert.PleGateDxIdeal.main_arg0)
      ∧ r.2.mem ((c.tc : Thread Cert.PleGateDxIdeal.nD Cert.PleGateDxIdeal.τ).loc Cert.PleGateDxIdeal.main_arg1) = m ((c.tc : Thread Cert.PleGateDxIdeal.nD Cert.PleGateDxIdeal.τ).loc Cert.PleGateDxIdeal.main_arg1)
      ∧ r.2.mem ((c.tc : Thread Cert.PleGateDxIdeal.nD Cert.PleGateDxIdeal.τ).loc Cert.PleGateDxIdeal.main_arg2) = m ((c.tc : Thread Cert.PleGateDxIdeal.nD Cert.PleGateDxIdeal.τ).loc Cert.PleGateDxIdeal.main_arg2)
      ∧ r.2.mem ((c.tc : Thread Cert.PleGateDxIdeal.nD Cert.PleGateDxIdeal.τ).loc Cert.PleGateDxIdeal.main_arg3) = m ((c.tc : Thread Cert.PleGateDxIdeal.nD Cert.PleGateDxIdeal.τ).loc Cert.PleGateDxIdeal.main_arg3)
      ∧ r.2.mem ((c.tc : Thread Cert.PleGateDxIdeal.nD Cert.PleGateDxIdeal.τ).loc Cert.PleGateDxIdeal.main_arg4) = m ((c.tc : Thread Cert.PleGateDxIdeal.nD Cert.PleGateDxIdeal.τ).loc Cert.PleGateDxIdeal.main_arg4))
      ∧ r.2.sem = fun _ => 0)

def quiescent_PleGateDxRefIdeal [hPleGateDxRefIdeal : Cert.PleGateDxRefIdeal.Facts] : Prop :=
  ∀ (m : (ℓ : Loc Cert.PleGateDxRefIdeal.nD Cert.PleGateDxRefIdeal.τ Cert.PleGateDxRefIdeal.sig) → Buf (Elt Ideal) ℓ) (g : Dev Cert.PleGateDxRefIdeal.nD → PrngReg), Pre_PleGateDxRefIdeal m →
    θ_run (Cert.PleGateDxRefIdeal.defs (F := Ideal)) (onTc (τ := Cert.PleGateDxRefIdeal.τ) (Cert.PleGateDxRefIdeal.main (F := Ideal))) ⟨m, fun _ => 0, g⟩ (fun r => (∀ c : Dev Cert.PleGateDxRefIdeal.nD,
      r.2.mem ((c.tc : Thread Cert.PleGateDxRefIdeal.nD Cert.PleGateDxRefIdeal.τ).loc Cert.PleGateDxRefIdeal.main_arg0) = m ((c.tc : Thread Cert.PleGateDxRefIdeal.nD Cert.PleGateDxRefIdeal.τ).loc Cert.PleGateDxRefIdeal.main_arg0)
      ∧ r.2.mem ((c.tc : Thread Cert.PleGateDxRefIdeal.nD Cert.PleGateDxRefIdeal.τ).loc Cert.PleGateDxRefIdeal.main_arg1) = m ((c.tc : Thread Cert.PleGateDxRefIdeal.nD Cert.PleGateDxRefIdeal.τ).loc Cert.PleGateDxRefIdeal.main_arg1)
      ∧ r.2.mem ((c.tc : Thread Cert.PleGateDxRefIdeal.nD Cert.PleGateDxRefIdeal.τ).loc Cert.PleGateDxRefIdeal.main_arg2) = m ((c.tc : Thread Cert.PleGateDxRefIdeal.nD Cert.PleGateDxRefIdeal.τ).loc Cert.PleGateDxRefIdeal.main_arg2)
      ∧ r.2.mem ((c.tc : Thread Cert.PleGateDxRefIdeal.nD Cert.PleGateDxRefIdeal.τ).loc Cert.PleGateDxRefIdeal.main_arg3) = m ((c.tc : Thread Cert.PleGateDxRefIdeal.nD Cert.PleGateDxRefIdeal.τ).loc Cert.PleGateDxRefIdeal.main_arg3)
      ∧ r.2.mem ((c.tc : Thread Cert.PleGateDxRefIdeal.nD Cert.PleGateDxRefIdeal.τ).loc Cert.PleGateDxRefIdeal.main_arg4) = m ((c.tc : Thread Cert.PleGateDxRefIdeal.nD Cert.PleGateDxRefIdeal.τ).loc Cert.PleGateDxRefIdeal.main_arg4))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_PleGateDw [hPleGateDw : Cert.PleGateDw.Facts] : Prop :=
  ∀ (m : (ℓ : Loc Cert.PleGateDw.nD Cert.PleGateDw.τ Cert.PleGateDw.sig) → Buf (Elt Bits) ℓ) (g : Dev Cert.PleGateDw.nD → PrngReg), Pre_PleGateDw m →
    θ_run (Cert.PleGateDw.defs (F := Bits)) (onTc (τ := Cert.PleGateDw.τ) (Cert.PleGateDw.main (F := Bits))) ⟨m, fun _ => 0, g⟩ (fun r => (∀ c : Dev Cert.PleGateDw.nD,
      r.2.mem ((c.tc : Thread Cert.PleGateDw.nD Cert.PleGateDw.τ).loc Cert.PleGateDw.main_arg0) = m ((c.tc : Thread Cert.PleGateDw.nD Cert.PleGateDw.τ).loc Cert.PleGateDw.main_arg0)
      ∧ r.2.mem ((c.tc : Thread Cert.PleGateDw.nD Cert.PleGateDw.τ).loc Cert.PleGateDw.main_arg1) = m ((c.tc : Thread Cert.PleGateDw.nD Cert.PleGateDw.τ).loc Cert.PleGateDw.main_arg1)
      ∧ r.2.mem ((c.tc : Thread Cert.PleGateDw.nD Cert.PleGateDw.τ).loc Cert.PleGateDw.main_arg2) = m ((c.tc : Thread Cert.PleGateDw.nD Cert.PleGateDw.τ).loc Cert.PleGateDw.main_arg2))
      ∧ r.2.sem = fun _ => 0)

def quiescent_PleGateDwIdeal [hPleGateDwIdeal : Cert.PleGateDwIdeal.Facts] : Prop :=
  ∀ (m : (ℓ : Loc Cert.PleGateDwIdeal.nD Cert.PleGateDwIdeal.τ Cert.PleGateDwIdeal.sig) → Buf (Elt Ideal) ℓ) (g : Dev Cert.PleGateDwIdeal.nD → PrngReg), Pre_PleGateDwIdeal m →
    θ_run (Cert.PleGateDwIdeal.defs (F := Ideal)) (onTc (τ := Cert.PleGateDwIdeal.τ) (Cert.PleGateDwIdeal.main (F := Ideal))) ⟨m, fun _ => 0, g⟩ (fun r => (∀ c : Dev Cert.PleGateDwIdeal.nD,
      r.2.mem ((c.tc : Thread Cert.PleGateDwIdeal.nD Cert.PleGateDwIdeal.τ).loc Cert.PleGateDwIdeal.main_arg0) = m ((c.tc : Thread Cert.PleGateDwIdeal.nD Cert.PleGateDwIdeal.τ).loc Cert.PleGateDwIdeal.main_arg0)
      ∧ r.2.mem ((c.tc : Thread Cert.PleGateDwIdeal.nD Cert.PleGateDwIdeal.τ).loc Cert.PleGateDwIdeal.main_arg1) = m ((c.tc : Thread Cert.PleGateDwIdeal.nD Cert.PleGateDwIdeal.τ).loc Cert.PleGateDwIdeal.main_arg1)
      ∧ r.2.mem ((c.tc : Thread Cert.PleGateDwIdeal.nD Cert.PleGateDwIdeal.τ).loc Cert.PleGateDwIdeal.main_arg2) = m ((c.tc : Thread Cert.PleGateDwIdeal.nD Cert.PleGateDwIdeal.τ).loc Cert.PleGateDwIdeal.main_arg2))
      ∧ r.2.sem = fun _ => 0)

def quiescent_PleGateDwRefIdeal [hPleGateDwRefIdeal : Cert.PleGateDwRefIdeal.Facts] : Prop :=
  ∀ (m : (ℓ : Loc Cert.PleGateDwRefIdeal.nD Cert.PleGateDwRefIdeal.τ Cert.PleGateDwRefIdeal.sig) → Buf (Elt Ideal) ℓ) (g : Dev Cert.PleGateDwRefIdeal.nD → PrngReg), Pre_PleGateDwRefIdeal m →
    θ_run (Cert.PleGateDwRefIdeal.defs (F := Ideal)) (onTc (τ := Cert.PleGateDwRefIdeal.τ) (Cert.PleGateDwRefIdeal.main (F := Ideal))) ⟨m, fun _ => 0, g⟩ (fun r => (∀ c : Dev Cert.PleGateDwRefIdeal.nD,
      r.2.mem ((c.tc : Thread Cert.PleGateDwRefIdeal.nD Cert.PleGateDwRefIdeal.τ).loc Cert.PleGateDwRefIdeal.main_arg0) = m ((c.tc : Thread Cert.PleGateDwRefIdeal.nD Cert.PleGateDwRefIdeal.τ).loc Cert.PleGateDwRefIdeal.main_arg0)
      ∧ r.2.mem ((c.tc : Thread Cert.PleGateDwRefIdeal.nD Cert.PleGateDwRefIdeal.τ).loc Cert.PleGateDwRefIdeal.main_arg1) = m ((c.tc : Thread Cert.PleGateDwRefIdeal.nD Cert.PleGateDwRefIdeal.τ).loc Cert.PleGateDwRefIdeal.main_arg1)
      ∧ r.2.mem ((c.tc : Thread Cert.PleGateDwRefIdeal.nD Cert.PleGateDwRefIdeal.τ).loc Cert.PleGateDwRefIdeal.main_arg2) = m ((c.tc : Thread Cert.PleGateDwRefIdeal.nD Cert.PleGateDwRefIdeal.τ).loc Cert.PleGateDwRefIdeal.main_arg2))
      ∧ r.2.sem = fun _ => 0)

def quiescent_PleProjDw [hPleProjDw : Cert.PleProjDw.Facts] : Prop :=
  ∀ (m : (ℓ : Loc Cert.PleProjDw.nD Cert.PleProjDw.τ Cert.PleProjDw.sig) → Buf (Elt Bits) ℓ) (g : Dev Cert.PleProjDw.nD → PrngReg), Pre_PleProjDw m →
    θ_run (Cert.PleProjDw.defs (F := Bits)) (onTc (τ := Cert.PleProjDw.τ) (Cert.PleProjDw.main (F := Bits))) ⟨m, fun _ => 0, g⟩ (fun r => (∀ c : Dev Cert.PleProjDw.nD,
      r.2.mem ((c.tc : Thread Cert.PleProjDw.nD Cert.PleProjDw.τ).loc Cert.PleProjDw.main_arg0) = m ((c.tc : Thread Cert.PleProjDw.nD Cert.PleProjDw.τ).loc Cert.PleProjDw.main_arg0)
      ∧ r.2.mem ((c.tc : Thread Cert.PleProjDw.nD Cert.PleProjDw.τ).loc Cert.PleProjDw.main_arg1) = m ((c.tc : Thread Cert.PleProjDw.nD Cert.PleProjDw.τ).loc Cert.PleProjDw.main_arg1)
      ∧ r.2.mem ((c.tc : Thread Cert.PleProjDw.nD Cert.PleProjDw.τ).loc Cert.PleProjDw.main_arg2) = m ((c.tc : Thread Cert.PleProjDw.nD Cert.PleProjDw.τ).loc Cert.PleProjDw.main_arg2))
      ∧ r.2.sem = fun _ => 0)

def quiescent_PleProjDwIdeal [hPleProjDwIdeal : Cert.PleProjDwIdeal.Facts] : Prop :=
  ∀ (m : (ℓ : Loc Cert.PleProjDwIdeal.nD Cert.PleProjDwIdeal.τ Cert.PleProjDwIdeal.sig) → Buf (Elt Ideal) ℓ) (g : Dev Cert.PleProjDwIdeal.nD → PrngReg), Pre_PleProjDwIdeal m →
    θ_run (Cert.PleProjDwIdeal.defs (F := Ideal)) (onTc (τ := Cert.PleProjDwIdeal.τ) (Cert.PleProjDwIdeal.main (F := Ideal))) ⟨m, fun _ => 0, g⟩ (fun r => (∀ c : Dev Cert.PleProjDwIdeal.nD,
      r.2.mem ((c.tc : Thread Cert.PleProjDwIdeal.nD Cert.PleProjDwIdeal.τ).loc Cert.PleProjDwIdeal.main_arg0) = m ((c.tc : Thread Cert.PleProjDwIdeal.nD Cert.PleProjDwIdeal.τ).loc Cert.PleProjDwIdeal.main_arg0)
      ∧ r.2.mem ((c.tc : Thread Cert.PleProjDwIdeal.nD Cert.PleProjDwIdeal.τ).loc Cert.PleProjDwIdeal.main_arg1) = m ((c.tc : Thread Cert.PleProjDwIdeal.nD Cert.PleProjDwIdeal.τ).loc Cert.PleProjDwIdeal.main_arg1)
      ∧ r.2.mem ((c.tc : Thread Cert.PleProjDwIdeal.nD Cert.PleProjDwIdeal.τ).loc Cert.PleProjDwIdeal.main_arg2) = m ((c.tc : Thread Cert.PleProjDwIdeal.nD Cert.PleProjDwIdeal.τ).loc Cert.PleProjDwIdeal.main_arg2))
      ∧ r.2.sem = fun _ => 0)

def quiescent_PleProjDwRefIdeal [hPleProjDwRefIdeal : Cert.PleProjDwRefIdeal.Facts] : Prop :=
  ∀ (m : (ℓ : Loc Cert.PleProjDwRefIdeal.nD Cert.PleProjDwRefIdeal.τ Cert.PleProjDwRefIdeal.sig) → Buf (Elt Ideal) ℓ) (g : Dev Cert.PleProjDwRefIdeal.nD → PrngReg), Pre_PleProjDwRefIdeal m →
    θ_run (Cert.PleProjDwRefIdeal.defs (F := Ideal)) (onTc (τ := Cert.PleProjDwRefIdeal.τ) (Cert.PleProjDwRefIdeal.main (F := Ideal))) ⟨m, fun _ => 0, g⟩ (fun r => (∀ c : Dev Cert.PleProjDwRefIdeal.nD,
      r.2.mem ((c.tc : Thread Cert.PleProjDwRefIdeal.nD Cert.PleProjDwRefIdeal.τ).loc Cert.PleProjDwRefIdeal.main_arg0) = m ((c.tc : Thread Cert.PleProjDwRefIdeal.nD Cert.PleProjDwRefIdeal.τ).loc Cert.PleProjDwRefIdeal.main_arg0)
      ∧ r.2.mem ((c.tc : Thread Cert.PleProjDwRefIdeal.nD Cert.PleProjDwRefIdeal.τ).loc Cert.PleProjDwRefIdeal.main_arg1) = m ((c.tc : Thread Cert.PleProjDwRefIdeal.nD Cert.PleProjDwRefIdeal.τ).loc Cert.PleProjDwRefIdeal.main_arg1)
      ∧ r.2.mem ((c.tc : Thread Cert.PleProjDwRefIdeal.nD Cert.PleProjDwRefIdeal.τ).loc Cert.PleProjDwRefIdeal.main_arg2) = m ((c.tc : Thread Cert.PleProjDwRefIdeal.nD Cert.PleProjDwRefIdeal.τ).loc Cert.PleProjDwRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_AdamUp [hAdamUp : Cert.AdamUp.Facts] [hPre_device : Cert.Pre_device.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] [hPre_device : Cert.Pre_device.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamUpRefIdeal_pre_device [hAdamUpRefIdeal : Cert.AdamUpRefIdeal.Facts] [hPre_device : Cert.Pre_device.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal_device m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v9)) (v1 : (c : Dev Cert.ConvBwdIdeal.nD) → Buf (Elt Ideal) ((c.tc : Thread Cert.ConvBwdIdeal.nD Cert.ConvBwdIdeal.τ).loc Cert.ConvBwdIdeal.main_v10)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v9) = v0 c
          ∧ r.2.mem ((c.tc : Thread Cert.ConvBwdIdeal.nD Cert.ConvBwdIdeal.τ).loc Cert.ConvBwdIdeal.main_v10) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v70) = v0 c
          ∧ r.2.mem ((c.tc : Thread Cert.ConvBwdRefIdeal.nD Cert.ConvBwdRefIdeal.τ).loc Cert.ConvBwdRefIdeal.main_v61) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v5)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v5) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v29) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_RwkvPost_RwkvPostIdeal : Prop :=
  True

def algebraic_RwkvPostIdeal_RwkvPostRefIdeal_pre_read_out_numbers [hRwkvPostIdeal : Cert.RwkvPostIdeal.Facts] [hRwkvPostRefIdeal : Cert.RwkvPostRefIdeal.Facts] [hPre_read_out_numbers : Cert.Pre_read_out_numbers.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg)
    (m' : (ℓ : Loc Cert.RwkvPostRefIdeal.nD Cert.RwkvPostRefIdeal.τ Cert.RwkvPostRefIdeal.sig) → Buf (Elt Ideal) ℓ) (g' : Dev Cert.RwkvPostRefIdeal.nD → PrngReg), Pre_RwkvPostIdeal_read_out_numbers m →
    (∀ c : Dev Cert.RwkvPostIdeal.nD,
      m' ((c.tc : Thread Cert.RwkvPostRefIdeal.nD Cert.RwkvPostRefIdeal.τ).loc Cert.RwkvPostRefIdeal.main_arg0) = m ((c.tc : Thread Cert.RwkvPostIdeal.nD Cert.RwkvPostIdeal.τ).loc Cert.RwkvPostIdeal.main_arg0)
      ∧ m' ((c.tc : Thread Cert.RwkvPostRefIdeal.nD Cert.RwkvPostRefIdeal.τ).loc Cert.RwkvPostRefIdeal.main_arg1) = m ((c.tc : Thread Cert.RwkvPostIdeal.nD Cert.RwkvPostIdeal.τ).loc Cert.RwkvPostIdeal.main_arg1)
      ∧ m' ((c.tc : Thread Cert.RwkvPostRefIdeal.nD Cert.RwkvPostRefIdeal.τ).loc Cert.RwkvPostRefIdeal.main_arg2) = m ((c.tc : Thread Cert.RwkvPostIdeal.nD Cert.RwkvPostIdeal.τ).loc Cert.RwkvPostIdeal.main_arg2)
      ∧ m' ((c.tc : Thread Cert.RwkvPostRefIdeal.nD Cert.RwkvPostRefIdeal.τ).loc Cert.RwkvPostRefIdeal.main_arg3) = m ((c.tc : Thread Cert.RwkvPostIdeal.nD Cert.RwkvPostIdeal.τ).loc Cert.RwkvPostIdeal.main_arg3)
      ∧ m' ((c.tc : Thread Cert.RwkvPostRefIdeal.nD Cert.RwkvPostRefIdeal.τ).loc Cert.RwkvPostRefIdeal.main_arg4) = m ((c.tc : Thread Cert.RwkvPostIdeal.nD Cert.RwkvPostIdeal.τ).loc Cert.RwkvPostIdeal.main_arg4)
      ∧ m' ((c.tc : Thread Cert.RwkvPostRefIdeal.nD Cert.RwkvPostRefIdeal.τ).loc Cert.RwkvPostRefIdeal.main_arg5) = m ((c.tc : Thread Cert.RwkvPostIdeal.nD Cert.RwkvPostIdeal.τ).loc Cert.RwkvPostIdeal.main_arg5)
      ∧ m' ((c.tc : Thread Cert.RwkvPostRefIdeal.nD Cert.RwkvPostRefIdeal.τ).loc Cert.RwkvPostRefIdeal.main_arg6) = m ((c.tc : Thread Cert.RwkvPostIdeal.nD Cert.RwkvPostIdeal.τ).loc Cert.RwkvPostIdeal.main_arg6)
      ∧ m' ((c.tc : Thread Cert.RwkvPostRefIdeal.nD Cert.RwkvPostRefIdeal.τ).loc Cert.RwkvPostRefIdeal.main_arg7) = m ((c.tc : Thread Cert.RwkvPostIdeal.nD Cert.RwkvPostIdeal.τ).loc Cert.RwkvPostIdeal.main_arg7)) →
    ∃ (v0 : (c : Dev Cert.RwkvPostIdeal.nD) → Buf (Elt Ideal) ((c.tc : Thread Cert.RwkvPostIdeal.nD Cert.RwkvPostIdeal.τ).loc Cert.RwkvPostIdeal.main_v5)),
      θ_run (Cert.RwkvPostIdeal.defs (F := Ideal)) (onTc (τ := Cert.RwkvPostIdeal.τ) (Cert.RwkvPostIdeal.main (F := Ideal))) ⟨m, fun _ => 0, g⟩ (fun r => ∀ c : Dev Cert.RwkvPostIdeal.nD,
          r.2.mem ((c.tc : Thread Cert.RwkvPostIdeal.nD Cert.RwkvPostIdeal.τ).loc Cert.RwkvPostIdeal.main_v5) = v0 c
          ∧ r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
          ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
          ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
          ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
          ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4)
          ∧ r.2.mem ((c.tc : Thread Cert.RwkvPostIdeal.nD Cert.RwkvPostIdeal.τ).loc Cert.RwkvPostIdeal.main_arg5) = m ((c.tc : Thread Cert.RwkvPostIdeal.nD Cert.RwkvPostIdeal.τ).loc Cert.RwkvPostIdeal.main_arg5)
          ∧ r.2.mem ((c.tc : Thread Cert.RwkvPostIdeal.nD Cert.RwkvPostIdeal.τ).loc Cert.RwkvPostIdeal.main_arg6) = m ((c.tc : Thread Cert.RwkvPostIdeal.nD Cert.RwkvPostIdeal.τ).loc Cert.RwkvPostIdeal.main_arg6)
          ∧ r.2.mem ((c.tc : Thread Cert.RwkvPostIdeal.nD Cert.RwkvPostIdeal.τ).loc Cert.RwkvPostIdeal.main_arg7) = m ((c.tc : Thread Cert.RwkvPostIdeal.nD Cert.RwkvPostIdeal.τ).loc Cert.RwkvPostIdeal.main_arg7))
      ∧ θ_run (Cert.RwkvPostRefIdeal.defs (F := Ideal)) (onTc (τ := Cert.RwkvPostRefIdeal.τ) (Cert.RwkvPostRefIdeal.main (F := Ideal))) ⟨m', fun _ => 0, g'⟩ (fun r => ∀ c : Dev Cert.RwkvPostRefIdeal.nD,
          r.2.mem ((c.tc : Thread Cert.RwkvPostRefIdeal.nD Cert.RwkvPostRefIdeal.τ).loc Cert.RwkvPostRefIdeal.main_v42) = v0 c
          ∧ r.2.mem ((c.tc : Thread Cert.RwkvPostRefIdeal.nD Cert.RwkvPostRefIdeal.τ).loc Cert.RwkvPostRefIdeal.main_arg0) = m' ((c.tc : Thread Cert.RwkvPostRefIdeal.nD Cert.RwkvPostRefIdeal.τ).loc Cert.RwkvPostRefIdeal.main_arg0)
          ∧ r.2.mem ((c.tc : Thread Cert.RwkvPostRefIdeal.nD Cert.RwkvPostRefIdeal.τ).loc Cert.RwkvPostRefIdeal.main_arg1) = m' ((c.tc : Thread Cert.RwkvPostRefIdeal.nD Cert.RwkvPostRefIdeal.τ).loc Cert.RwkvPostRefIdeal.main_arg1)
          ∧ r.2.mem ((c.tc : Thread Cert.RwkvPostRefIdeal.nD Cert.RwkvPostRefIdeal.τ).loc Cert.RwkvPostRefIdeal.main_arg2) = m' ((c.tc : Thread Cert.RwkvPostRefIdeal.nD Cert.RwkvPostRefIdeal.τ).loc Cert.RwkvPostRefIdeal.main_arg2)
          ∧ r.2.mem ((c.tc : Thread Cert.RwkvPostRefIdeal.nD Cert.RwkvPostRefIdeal.τ).loc Cert.RwkvPostRefIdeal.main_arg3) = m' ((c.tc : Thread Cert.RwkvPostRefIdeal.nD Cert.RwkvPostRefIdeal.τ).loc Cert.RwkvPostRefIdeal.main_arg3)
          ∧ r.2.mem ((c.tc : Thread Cert.RwkvPostRefIdeal.nD Cert.RwkvPostRefIdeal.τ).loc Cert.RwkvPostRefIdeal.main_arg4) = m' ((c.tc : Thread Cert.RwkvPostRefIdeal.nD Cert.RwkvPostRefIdeal.τ).loc Cert.RwkvPostRefIdeal.main_arg4)
          ∧ r.2.mem ((c.tc : Thread Cert.RwkvPostRefIdeal.nD Cert.RwkvPostRefIdeal.τ).loc Cert.RwkvPostRefIdeal.main_arg5) = m' ((c.tc : Thread Cert.RwkvPostRefIdeal.nD Cert.RwkvPostRefIdeal.τ).loc Cert.RwkvPostRefIdeal.main_arg5)
          ∧ r.2.mem ((c.tc : Thread Cert.RwkvPostRefIdeal.nD Cert.RwkvPostRefIdeal.τ).loc Cert.RwkvPostRefIdeal.main_arg6) = m' ((c.tc : Thread Cert.RwkvPostRefIdeal.nD Cert.RwkvPostRefIdeal.τ).loc Cert.RwkvPostRefIdeal.main_arg6)
          ∧ r.2.mem ((c.tc : Thread Cert.RwkvPostRefIdeal.nD Cert.RwkvPostRefIdeal.τ).loc Cert.RwkvPostRefIdeal.main_arg7) = m' ((c.tc : Thread Cert.RwkvPostRefIdeal.nD Cert.RwkvPostRefIdeal.τ).loc Cert.RwkvPostRefIdeal.main_arg7))

def preserves_RwkvPostBwd_RwkvPostBwdIdeal : Prop :=
  True

def algebraic_RwkvPostBwdIdeal_RwkvPostBwdRefIdeal_pre_read_out_bwd_numbers [hRwkvPostBwdIdeal : Cert.RwkvPostBwdIdeal.Facts] [hRwkvPostBwdRefIdeal : Cert.RwkvPostBwdRefIdeal.Facts] [hPre_read_out_bwd_numbers : Cert.Pre_read_out_bwd_numbers.Facts] : Prop :=
  ∀ (m : (ℓ : Loc Cert.RwkvPostBwdIdeal.nD Cert.RwkvPostBwdIdeal.τ Cert.RwkvPostBwdIdeal.sig) → Buf (Elt Ideal) ℓ) (g : Dev Cert.RwkvPostBwdIdeal.nD → PrngReg)
    (m' : (ℓ : Loc Cert.RwkvPostBwdRefIdeal.nD Cert.RwkvPostBwdRefIdeal.τ Cert.RwkvPostBwdRefIdeal.sig) → Buf (Elt Ideal) ℓ) (g' : Dev Cert.RwkvPostBwdRefIdeal.nD → PrngReg), Pre_RwkvPostBwdIdeal_read_out_bwd_numbers m →
    (∀ c : Dev Cert.RwkvPostBwdIdeal.nD,
      m' ((c.tc : Thread Cert.RwkvPostBwdRefIdeal.nD Cert.RwkvPostBwdRefIdeal.τ).loc Cert.RwkvPostBwdRefIdeal.main_arg0) = m ((c.tc : Thread Cert.RwkvPostBwdIdeal.nD Cert.RwkvPostBwdIdeal.τ).loc Cert.RwkvPostBwdIdeal.main_arg0)
      ∧ m' ((c.tc : Thread Cert.RwkvPostBwdRefIdeal.nD Cert.RwkvPostBwdRefIdeal.τ).loc Cert.RwkvPostBwdRefIdeal.main_arg1) = m ((c.tc : Thread Cert.RwkvPostBwdIdeal.nD Cert.RwkvPostBwdIdeal.τ).loc Cert.RwkvPostBwdIdeal.main_arg1)
      ∧ m' ((c.tc : Thread Cert.RwkvPostBwdRefIdeal.nD Cert.RwkvPostBwdRefIdeal.τ).loc Cert.RwkvPostBwdRefIdeal.main_arg2) = m ((c.tc : Thread Cert.RwkvPostBwdIdeal.nD Cert.RwkvPostBwdIdeal.τ).loc Cert.RwkvPostBwdIdeal.main_arg2)
      ∧ m' ((c.tc : Thread Cert.RwkvPostBwdRefIdeal.nD Cert.RwkvPostBwdRefIdeal.τ).loc Cert.RwkvPostBwdRefIdeal.main_arg3) = m ((c.tc : Thread Cert.RwkvPostBwdIdeal.nD Cert.RwkvPostBwdIdeal.τ).loc Cert.RwkvPostBwdIdeal.main_arg3)
      ∧ m' ((c.tc : Thread Cert.RwkvPostBwdRefIdeal.nD Cert.RwkvPostBwdRefIdeal.τ).loc Cert.RwkvPostBwdRefIdeal.main_arg4) = m ((c.tc : Thread Cert.RwkvPostBwdIdeal.nD Cert.RwkvPostBwdIdeal.τ).loc Cert.RwkvPostBwdIdeal.main_arg4)
      ∧ m' ((c.tc : Thread Cert.RwkvPostBwdRefIdeal.nD Cert.RwkvPostBwdRefIdeal.τ).loc Cert.RwkvPostBwdRefIdeal.main_arg5) = m ((c.tc : Thread Cert.RwkvPostBwdIdeal.nD Cert.RwkvPostBwdIdeal.τ).loc Cert.RwkvPostBwdIdeal.main_arg5)
      ∧ m' ((c.tc : Thread Cert.RwkvPostBwdRefIdeal.nD Cert.RwkvPostBwdRefIdeal.τ).loc Cert.RwkvPostBwdRefIdeal.main_arg6) = m ((c.tc : Thread Cert.RwkvPostBwdIdeal.nD Cert.RwkvPostBwdIdeal.τ).loc Cert.RwkvPostBwdIdeal.main_arg6)
      ∧ m' ((c.tc : Thread Cert.RwkvPostBwdRefIdeal.nD Cert.RwkvPostBwdRefIdeal.τ).loc Cert.RwkvPostBwdRefIdeal.main_arg7) = m ((c.tc : Thread Cert.RwkvPostBwdIdeal.nD Cert.RwkvPostBwdIdeal.τ).loc Cert.RwkvPostBwdIdeal.main_arg7)
      ∧ m' ((c.tc : Thread Cert.RwkvPostBwdRefIdeal.nD Cert.RwkvPostBwdRefIdeal.τ).loc Cert.RwkvPostBwdRefIdeal.main_arg8) = m ((c.tc : Thread Cert.RwkvPostBwdIdeal.nD Cert.RwkvPostBwdIdeal.τ).loc Cert.RwkvPostBwdIdeal.main_arg8)) →
    ∃ (v0 : (c : Dev Cert.RwkvPostBwdIdeal.nD) → Buf (Elt Ideal) ((c.tc : Thread Cert.RwkvPostBwdIdeal.nD Cert.RwkvPostBwdIdeal.τ).loc Cert.RwkvPostBwdIdeal.main_v5_0)) (v1 : (c : Dev Cert.RwkvPostBwdIdeal.nD) → Buf (Elt Ideal) ((c.tc : Thread Cert.RwkvPostBwdIdeal.nD Cert.RwkvPostBwdIdeal.τ).loc Cert.RwkvPostBwdIdeal.main_v5_1)) (v2 : (c : Dev Cert.RwkvPostBwdIdeal.nD) → Buf (Elt Ideal) ((c.tc : Thread Cert.RwkvPostBwdIdeal.nD Cert.RwkvPostBwdIdeal.τ).loc Cert.RwkvPostBwdIdeal.main_v5_2)) (v3 : (c : Dev Cert.RwkvPostBwdIdeal.nD) → Buf (Elt Ideal) ((c.tc : Thread Cert.RwkvPostBwdIdeal.nD Cert.RwkvPostBwdIdeal.τ).loc Cert.RwkvPostBwdIdeal.main_v5_3)) (v4 : (c : Dev Cert.RwkvPostBwdIdeal.nD) → Buf (Elt Ideal) ((c.tc : Thread Cert.RwkvPostBwdIdeal.nD Cert.RwkvPostBwdIdeal.τ).loc Cert.RwkvPostBwdIdeal.main_v5_4)) (v5 : (c : Dev Cert.RwkvPostBwdIdeal.nD) → Buf (Elt Ideal) ((c.tc : Thread Cert.RwkvPostBwdIdeal.nD Cert.RwkvPostBwdIdeal.τ).loc Cert.RwkvPostBwdIdeal.main_v6)) (v6 : (c : Dev Cert.RwkvPostBwdIdeal.nD) → Buf (Elt Ideal) ((c.tc : Thread Cert.RwkvPostBwdIdeal.nD Cert.RwkvPostBwdIdeal.τ).loc Cert.RwkvPostBwdIdeal.main_v7)) (v7 : (c : Dev Cert.RwkvPostBwdIdeal.nD) → Buf (Elt Ideal) ((c.tc : Thread Cert.RwkvPostBwdIdeal.nD Cert.RwkvPostBwdIdeal.τ).loc Cert.RwkvPostBwdIdeal.main_v8)),
      θ_run (Cert.RwkvPostBwdIdeal.defs (F := Ideal)) (onTc (τ := Cert.RwkvPostBwdIdeal.τ) (Cert.RwkvPostBwdIdeal.main (F := Ideal))) ⟨m, fun _ => 0, g⟩ (fun r => ∀ c : Dev Cert.RwkvPostBwdIdeal.nD,
          r.2.mem ((c.tc : Thread Cert.RwkvPostBwdIdeal.nD Cert.RwkvPostBwdIdeal.τ).loc Cert.RwkvPostBwdIdeal.main_v5_0) = v0 c
          ∧ r.2.mem ((c.tc : Thread Cert.RwkvPostBwdIdeal.nD Cert.RwkvPostBwdIdeal.τ).loc Cert.RwkvPostBwdIdeal.main_v5_1) = v1 c
          ∧ r.2.mem ((c.tc : Thread Cert.RwkvPostBwdIdeal.nD Cert.RwkvPostBwdIdeal.τ).loc Cert.RwkvPostBwdIdeal.main_v5_2) = v2 c
          ∧ r.2.mem ((c.tc : Thread Cert.RwkvPostBwdIdeal.nD Cert.RwkvPostBwdIdeal.τ).loc Cert.RwkvPostBwdIdeal.main_v5_3) = v3 c
          ∧ r.2.mem ((c.tc : Thread Cert.RwkvPostBwdIdeal.nD Cert.RwkvPostBwdIdeal.τ).loc Cert.RwkvPostBwdIdeal.main_v5_4) = v4 c
          ∧ r.2.mem ((c.tc : Thread Cert.RwkvPostBwdIdeal.nD Cert.RwkvPostBwdIdeal.τ).loc Cert.RwkvPostBwdIdeal.main_v6) = v5 c
          ∧ r.2.mem ((c.tc : Thread Cert.RwkvPostBwdIdeal.nD Cert.RwkvPostBwdIdeal.τ).loc Cert.RwkvPostBwdIdeal.main_v7) = v6 c
          ∧ r.2.mem ((c.tc : Thread Cert.RwkvPostBwdIdeal.nD Cert.RwkvPostBwdIdeal.τ).loc Cert.RwkvPostBwdIdeal.main_v8) = v7 c
          ∧ r.2.mem ((c.tc : Thread Cert.RwkvPostBwdIdeal.nD Cert.RwkvPostBwdIdeal.τ).loc Cert.RwkvPostBwdIdeal.main_arg0) = m ((c.tc : Thread Cert.RwkvPostBwdIdeal.nD Cert.RwkvPostBwdIdeal.τ).loc Cert.RwkvPostBwdIdeal.main_arg0)
          ∧ r.2.mem ((c.tc : Thread Cert.RwkvPostBwdIdeal.nD Cert.RwkvPostBwdIdeal.τ).loc Cert.RwkvPostBwdIdeal.main_arg1) = m ((c.tc : Thread Cert.RwkvPostBwdIdeal.nD Cert.RwkvPostBwdIdeal.τ).loc Cert.RwkvPostBwdIdeal.main_arg1)
          ∧ r.2.mem ((c.tc : Thread Cert.RwkvPostBwdIdeal.nD Cert.RwkvPostBwdIdeal.τ).loc Cert.RwkvPostBwdIdeal.main_arg2) = m ((c.tc : Thread Cert.RwkvPostBwdIdeal.nD Cert.RwkvPostBwdIdeal.τ).loc Cert.RwkvPostBwdIdeal.main_arg2)
          ∧ r.2.mem ((c.tc : Thread Cert.RwkvPostBwdIdeal.nD Cert.RwkvPostBwdIdeal.τ).loc Cert.RwkvPostBwdIdeal.main_arg3) = m ((c.tc : Thread Cert.RwkvPostBwdIdeal.nD Cert.RwkvPostBwdIdeal.τ).loc Cert.RwkvPostBwdIdeal.main_arg3)
          ∧ r.2.mem ((c.tc : Thread Cert.RwkvPostBwdIdeal.nD Cert.RwkvPostBwdIdeal.τ).loc Cert.RwkvPostBwdIdeal.main_arg4) = m ((c.tc : Thread Cert.RwkvPostBwdIdeal.nD Cert.RwkvPostBwdIdeal.τ).loc Cert.RwkvPostBwdIdeal.main_arg4)
          ∧ r.2.mem ((c.tc : Thread Cert.RwkvPostBwdIdeal.nD Cert.RwkvPostBwdIdeal.τ).loc Cert.RwkvPostBwdIdeal.main_arg5) = m ((c.tc : Thread Cert.RwkvPostBwdIdeal.nD Cert.RwkvPostBwdIdeal.τ).loc Cert.RwkvPostBwdIdeal.main_arg5)
          ∧ r.2.mem ((c.tc : Thread Cert.RwkvPostBwdIdeal.nD Cert.RwkvPostBwdIdeal.τ).loc Cert.RwkvPostBwdIdeal.main_arg6) = m ((c.tc : Thread Cert.RwkvPostBwdIdeal.nD Cert.RwkvPostBwdIdeal.τ).loc Cert.RwkvPostBwdIdeal.main_arg6)
          ∧ r.2.mem ((c.tc : Thread Cert.RwkvPostBwdIdeal.nD Cert.RwkvPostBwdIdeal.τ).loc Cert.RwkvPostBwdIdeal.main_arg7) = m ((c.tc : Thread Cert.RwkvPostBwdIdeal.nD Cert.RwkvPostBwdIdeal.τ).loc Cert.RwkvPostBwdIdeal.main_arg7)
          ∧ r.2.mem ((c.tc : Thread Cert.RwkvPostBwdIdeal.nD Cert.RwkvPostBwdIdeal.τ).loc Cert.RwkvPostBwdIdeal.main_arg8) = m ((c.tc : Thread Cert.RwkvPostBwdIdeal.nD Cert.RwkvPostBwdIdeal.τ).loc Cert.RwkvPostBwdIdeal.main_arg8))
      ∧ θ_run (Cert.RwkvPostBwdRefIdeal.defs (F := Ideal)) (onTc (τ := Cert.RwkvPostBwdRefIdeal.τ) (Cert.RwkvPostBwdRefIdeal.main (F := Ideal))) ⟨m', fun _ => 0, g'⟩ (fun r => ∀ c : Dev Cert.RwkvPostBwdRefIdeal.nD,
          r.2.mem ((c.tc : Thread Cert.RwkvPostBwdRefIdeal.nD Cert.RwkvPostBwdRefIdeal.τ).loc Cert.RwkvPostBwdRefIdeal.main_v108) = v0 c
          ∧ r.2.mem ((c.tc : Thread Cert.RwkvPostBwdRefIdeal.nD Cert.RwkvPostBwdRefIdeal.τ).loc Cert.RwkvPostBwdRefIdeal.main_v107) = v1 c
          ∧ r.2.mem ((c.tc : Thread Cert.RwkvPostBwdRefIdeal.nD Cert.RwkvPostBwdRefIdeal.τ).loc Cert.RwkvPostBwdRefIdeal.main_v106) = v2 c
          ∧ r.2.mem ((c.tc : Thread Cert.RwkvPostBwdRefIdeal.nD Cert.RwkvPostBwdRefIdeal.τ).loc Cert.RwkvPostBwdRefIdeal.main_v105) = v3 c
          ∧ r.2.mem ((c.tc : Thread Cert.RwkvPostBwdRefIdeal.nD Cert.RwkvPostBwdRefIdeal.τ).loc Cert.RwkvPostBwdRefIdeal.main_v51) = v4 c
          ∧ r.2.mem ((c.tc : Thread Cert.RwkvPostBwdRefIdeal.nD Cert.RwkvPostBwdRefIdeal.τ).loc Cert.RwkvPostBwdRefIdeal.main_v77) = v5 c
          ∧ r.2.mem ((c.tc : Thread Cert.RwkvPostBwdRefIdeal.nD Cert.RwkvPostBwdRefIdeal.τ).loc Cert.RwkvPostBwdRefIdeal.main_v71) = v6 c
          ∧ r.2.mem ((c.tc : Thread Cert.RwkvPostBwdRefIdeal.nD Cert.RwkvPostBwdRefIdeal.τ).loc Cert.RwkvPostBwdRefIdeal.main_v66) = v7 c
          ∧ r.2.mem ((c.tc : Thread Cert.RwkvPostBwdRefIdeal.nD Cert.RwkvPostBwdRefIdeal.τ).loc Cert.RwkvPostBwdRefIdeal.main_arg0) = m' ((c.tc : Thread Cert.RwkvPostBwdRefIdeal.nD Cert.RwkvPostBwdRefIdeal.τ).loc Cert.RwkvPostBwdRefIdeal.main_arg0)
          ∧ r.2.mem ((c.tc : Thread Cert.RwkvPostBwdRefIdeal.nD Cert.RwkvPostBwdRefIdeal.τ).loc Cert.RwkvPostBwdRefIdeal.main_arg1) = m' ((c.tc : Thread Cert.RwkvPostBwdRefIdeal.nD Cert.RwkvPostBwdRefIdeal.τ).loc Cert.RwkvPostBwdRefIdeal.main_arg1)
          ∧ r.2.mem ((c.tc : Thread Cert.RwkvPostBwdRefIdeal.nD Cert.RwkvPostBwdRefIdeal.τ).loc Cert.RwkvPostBwdRefIdeal.main_arg2) = m' ((c.tc : Thread Cert.RwkvPostBwdRefIdeal.nD Cert.RwkvPostBwdRefIdeal.τ).loc Cert.RwkvPostBwdRefIdeal.main_arg2)
          ∧ r.2.mem ((c.tc : Thread Cert.RwkvPostBwdRefIdeal.nD Cert.RwkvPostBwdRefIdeal.τ).loc Cert.RwkvPostBwdRefIdeal.main_arg3) = m' ((c.tc : Thread Cert.RwkvPostBwdRefIdeal.nD Cert.RwkvPostBwdRefIdeal.τ).loc Cert.RwkvPostBwdRefIdeal.main_arg3)
          ∧ r.2.mem ((c.tc : Thread Cert.RwkvPostBwdRefIdeal.nD Cert.RwkvPostBwdRefIdeal.τ).loc Cert.RwkvPostBwdRefIdeal.main_arg4) = m' ((c.tc : Thread Cert.RwkvPostBwdRefIdeal.nD Cert.RwkvPostBwdRefIdeal.τ).loc Cert.RwkvPostBwdRefIdeal.main_arg4)
          ∧ r.2.mem ((c.tc : Thread Cert.RwkvPostBwdRefIdeal.nD Cert.RwkvPostBwdRefIdeal.τ).loc Cert.RwkvPostBwdRefIdeal.main_arg5) = m' ((c.tc : Thread Cert.RwkvPostBwdRefIdeal.nD Cert.RwkvPostBwdRefIdeal.τ).loc Cert.RwkvPostBwdRefIdeal.main_arg5)
          ∧ r.2.mem ((c.tc : Thread Cert.RwkvPostBwdRefIdeal.nD Cert.RwkvPostBwdRefIdeal.τ).loc Cert.RwkvPostBwdRefIdeal.main_arg6) = m' ((c.tc : Thread Cert.RwkvPostBwdRefIdeal.nD Cert.RwkvPostBwdRefIdeal.τ).loc Cert.RwkvPostBwdRefIdeal.main_arg6)
          ∧ r.2.mem ((c.tc : Thread Cert.RwkvPostBwdRefIdeal.nD Cert.RwkvPostBwdRefIdeal.τ).loc Cert.RwkvPostBwdRefIdeal.main_arg7) = m' ((c.tc : Thread Cert.RwkvPostBwdRefIdeal.nD Cert.RwkvPostBwdRefIdeal.τ).loc Cert.RwkvPostBwdRefIdeal.main_arg7)
          ∧ r.2.mem ((c.tc : Thread Cert.RwkvPostBwdRefIdeal.nD Cert.RwkvPostBwdRefIdeal.τ).loc Cert.RwkvPostBwdRefIdeal.main_arg8) = m' ((c.tc : Thread Cert.RwkvPostBwdRefIdeal.nD Cert.RwkvPostBwdRefIdeal.τ).loc Cert.RwkvPostBwdRefIdeal.main_arg8))

def preserves_MlpDownDw_MlpDownDwIdeal : Prop :=
  True

def algebraic_MlpDownDwIdeal_MlpDownDwRefIdeal [hMlpDownDwIdeal : Cert.MlpDownDwIdeal.Facts] [hMlpDownDwRefIdeal : Cert.MlpDownDwRefIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg)
    (m' : (ℓ : Loc Cert.MlpDownDwRefIdeal.nD Cert.MlpDownDwRefIdeal.τ Cert.MlpDownDwRefIdeal.sig) → Buf (Elt Ideal) ℓ) (g' : Dev Cert.MlpDownDwRefIdeal.nD → PrngReg), Pre_MlpDownDwIdeal m →
    (∀ c : Dev Cert.MlpDownDwIdeal.nD,
      m' ((c.tc : Thread Cert.MlpDownDwRefIdeal.nD Cert.MlpDownDwRefIdeal.τ).loc Cert.MlpDownDwRefIdeal.main_arg0) = m ((c.tc : Thread Cert.MlpDownDwIdeal.nD Cert.MlpDownDwIdeal.τ).loc Cert.MlpDownDwIdeal.main_arg0)
      ∧ m' ((c.tc : Thread Cert.MlpDownDwRefIdeal.nD Cert.MlpDownDwRefIdeal.τ).loc Cert.MlpDownDwRefIdeal.main_arg1) = m ((c.tc : Thread Cert.MlpDownDwIdeal.nD Cert.MlpDownDwIdeal.τ).loc Cert.MlpDownDwIdeal.main_arg1)
      ∧ m' ((c.tc : Thread Cert.MlpDownDwRefIdeal.nD Cert.MlpDownDwRefIdeal.τ).loc Cert.MlpDownDwRefIdeal.main_arg2) = m ((c.tc : Thread Cert.MlpDownDwIdeal.nD Cert.MlpDownDwIdeal.τ).loc Cert.MlpDownDwIdeal.main_arg2)) →
    ∃ (v0 : (c : Dev Cert.MlpDownDwIdeal.nD) → Buf (Elt Ideal) ((c.tc : Thread Cert.MlpDownDwIdeal.nD Cert.MlpDownDwIdeal.τ).loc Cert.MlpDownDwIdeal.main_v4)),
      θ_run (Cert.MlpDownDwIdeal.defs (F := Ideal)) (onTc (τ := Cert.MlpDownDwIdeal.τ) (Cert.MlpDownDwIdeal.main (F := Ideal))) ⟨m, fun _ => 0, g⟩ (fun r => ∀ c : Dev Cert.MlpDownDwIdeal.nD,
          r.2.mem ((c.tc : Thread Cert.MlpDownDwIdeal.nD Cert.MlpDownDwIdeal.τ).loc Cert.MlpDownDwIdeal.main_v4) = v0 c
          ∧ r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
          ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1)
          ∧ r.2.mem ((c.tc : Thread Cert.MlpDownDwIdeal.nD Cert.MlpDownDwIdeal.τ).loc Cert.MlpDownDwIdeal.main_arg2) = m ((c.tc : Thread Cert.MlpDownDwIdeal.nD Cert.MlpDownDwIdeal.τ).loc Cert.MlpDownDwIdeal.main_arg2))
      ∧ θ_run (Cert.MlpDownDwRefIdeal.defs (F := Ideal)) (onTc (τ := Cert.MlpDownDwRefIdeal.τ) (Cert.MlpDownDwRefIdeal.main (F := Ideal))) ⟨m', fun _ => 0, g'⟩ (fun r => ∀ c : Dev Cert.MlpDownDwRefIdeal.nD,
          r.2.mem ((c.tc : Thread Cert.MlpDownDwRefIdeal.nD Cert.MlpDownDwRefIdeal.τ).loc Cert.MlpDownDwRefIdeal.main_v14) = v0 c
          ∧ r.2.mem ((c.tc : Thread Cert.MlpDownDwRefIdeal.nD Cert.MlpDownDwRefIdeal.τ).loc Cert.MlpDownDwRefIdeal.main_arg0) = m' ((c.tc : Thread Cert.MlpDownDwRefIdeal.nD Cert.MlpDownDwRefIdeal.τ).loc Cert.MlpDownDwRefIdeal.main_arg0)
          ∧ r.2.mem ((c.tc : Thread Cert.MlpDownDwRefIdeal.nD Cert.MlpDownDwRefIdeal.τ).loc Cert.MlpDownDwRefIdeal.main_arg1) = m' ((c.tc : Thread Cert.MlpDownDwRefIdeal.nD Cert.MlpDownDwRefIdeal.τ).loc Cert.MlpDownDwRefIdeal.main_arg1)
          ∧ r.2.mem ((c.tc : Thread Cert.MlpDownDwRefIdeal.nD Cert.MlpDownDwRefIdeal.τ).loc Cert.MlpDownDwRefIdeal.main_arg2) = m' ((c.tc : Thread Cert.MlpDownDwRefIdeal.nD Cert.MlpDownDwRefIdeal.τ).loc Cert.MlpDownDwRefIdeal.main_arg2))

def preserves_MlpDownDx_MlpDownDxIdeal : Prop :=
  True

def algebraic_MlpDownDxIdeal_MlpDownDxRefIdeal [hMlpDownDxIdeal : Cert.MlpDownDxIdeal.Facts] [hMlpDownDxRefIdeal : Cert.MlpDownDxRefIdeal.Facts] : Prop :=
  ∀ (m : (ℓ : Loc Cert.MlpDownDxIdeal.nD Cert.MlpDownDxIdeal.τ Cert.MlpDownDxIdeal.sig) → Buf (Elt Ideal) ℓ) (g : Dev Cert.MlpDownDxIdeal.nD → PrngReg)
    (m' : (ℓ : Loc Cert.MlpDownDxRefIdeal.nD Cert.MlpDownDxRefIdeal.τ Cert.MlpDownDxRefIdeal.sig) → Buf (Elt Ideal) ℓ) (g' : Dev Cert.MlpDownDxRefIdeal.nD → PrngReg), Pre_MlpDownDxIdeal m →
    (∀ c : Dev Cert.MlpDownDxIdeal.nD,
      m' ((c.tc : Thread Cert.MlpDownDxRefIdeal.nD Cert.MlpDownDxRefIdeal.τ).loc Cert.MlpDownDxRefIdeal.main_arg0) = m ((c.tc : Thread Cert.MlpDownDxIdeal.nD Cert.MlpDownDxIdeal.τ).loc Cert.MlpDownDxIdeal.main_arg0)
      ∧ m' ((c.tc : Thread Cert.MlpDownDxRefIdeal.nD Cert.MlpDownDxRefIdeal.τ).loc Cert.MlpDownDxRefIdeal.main_arg1) = m ((c.tc : Thread Cert.MlpDownDxIdeal.nD Cert.MlpDownDxIdeal.τ).loc Cert.MlpDownDxIdeal.main_arg1)
      ∧ m' ((c.tc : Thread Cert.MlpDownDxRefIdeal.nD Cert.MlpDownDxRefIdeal.τ).loc Cert.MlpDownDxRefIdeal.main_arg2) = m ((c.tc : Thread Cert.MlpDownDxIdeal.nD Cert.MlpDownDxIdeal.τ).loc Cert.MlpDownDxIdeal.main_arg2)) →
    ∃ (v0 : (c : Dev Cert.MlpDownDxIdeal.nD) → Buf (Elt Ideal) ((c.tc : Thread Cert.MlpDownDxIdeal.nD Cert.MlpDownDxIdeal.τ).loc Cert.MlpDownDxIdeal.main_v4)),
      θ_run (Cert.MlpDownDxIdeal.defs (F := Ideal)) (onTc (τ := Cert.MlpDownDxIdeal.τ) (Cert.MlpDownDxIdeal.main (F := Ideal))) ⟨m, fun _ => 0, g⟩ (fun r => ∀ c : Dev Cert.MlpDownDxIdeal.nD,
          r.2.mem ((c.tc : Thread Cert.MlpDownDxIdeal.nD Cert.MlpDownDxIdeal.τ).loc Cert.MlpDownDxIdeal.main_v4) = v0 c
          ∧ r.2.mem ((c.tc : Thread Cert.MlpDownDxIdeal.nD Cert.MlpDownDxIdeal.τ).loc Cert.MlpDownDxIdeal.main_arg0) = m ((c.tc : Thread Cert.MlpDownDxIdeal.nD Cert.MlpDownDxIdeal.τ).loc Cert.MlpDownDxIdeal.main_arg0)
          ∧ r.2.mem ((c.tc : Thread Cert.MlpDownDxIdeal.nD Cert.MlpDownDxIdeal.τ).loc Cert.MlpDownDxIdeal.main_arg1) = m ((c.tc : Thread Cert.MlpDownDxIdeal.nD Cert.MlpDownDxIdeal.τ).loc Cert.MlpDownDxIdeal.main_arg1)
          ∧ r.2.mem ((c.tc : Thread Cert.MlpDownDxIdeal.nD Cert.MlpDownDxIdeal.τ).loc Cert.MlpDownDxIdeal.main_arg2) = m ((c.tc : Thread Cert.MlpDownDxIdeal.nD Cert.MlpDownDxIdeal.τ).loc Cert.MlpDownDxIdeal.main_arg2))
      ∧ θ_run (Cert.MlpDownDxRefIdeal.defs (F := Ideal)) (onTc (τ := Cert.MlpDownDxRefIdeal.τ) (Cert.MlpDownDxRefIdeal.main (F := Ideal))) ⟨m', fun _ => 0, g'⟩ (fun r => ∀ c : Dev Cert.MlpDownDxRefIdeal.nD,
          r.2.mem ((c.tc : Thread Cert.MlpDownDxRefIdeal.nD Cert.MlpDownDxRefIdeal.τ).loc Cert.MlpDownDxRefIdeal.main_v14) = v0 c
          ∧ r.2.mem ((c.tc : Thread Cert.MlpDownDxRefIdeal.nD Cert.MlpDownDxRefIdeal.τ).loc Cert.MlpDownDxRefIdeal.main_arg0) = m' ((c.tc : Thread Cert.MlpDownDxRefIdeal.nD Cert.MlpDownDxRefIdeal.τ).loc Cert.MlpDownDxRefIdeal.main_arg0)
          ∧ r.2.mem ((c.tc : Thread Cert.MlpDownDxRefIdeal.nD Cert.MlpDownDxRefIdeal.τ).loc Cert.MlpDownDxRefIdeal.main_arg1) = m' ((c.tc : Thread Cert.MlpDownDxRefIdeal.nD Cert.MlpDownDxRefIdeal.τ).loc Cert.MlpDownDxRefIdeal.main_arg1)
          ∧ r.2.mem ((c.tc : Thread Cert.MlpDownDxRefIdeal.nD Cert.MlpDownDxRefIdeal.τ).loc Cert.MlpDownDxRefIdeal.main_arg2) = m' ((c.tc : Thread Cert.MlpDownDxRefIdeal.nD Cert.MlpDownDxRefIdeal.τ).loc Cert.MlpDownDxRefIdeal.main_arg2))

def preserves_MlpUpDw_MlpUpDwIdeal : Prop :=
  True

def algebraic_MlpUpDwIdeal_MlpUpDwRefIdeal [hMlpUpDwIdeal : Cert.MlpUpDwIdeal.Facts] [hMlpUpDwRefIdeal : Cert.MlpUpDwRefIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg)
    (m' : (ℓ : Loc Cert.MlpUpDwRefIdeal.nD Cert.MlpUpDwRefIdeal.τ Cert.MlpUpDwRefIdeal.sig) → Buf (Elt Ideal) ℓ) (g' : Dev Cert.MlpUpDwRefIdeal.nD → PrngReg), Pre_MlpUpDwIdeal m →
    (∀ c : Dev Cert.MlpUpDwIdeal.nD,
      m' ((c.tc : Thread Cert.MlpUpDwRefIdeal.nD Cert.MlpUpDwRefIdeal.τ).loc Cert.MlpUpDwRefIdeal.main_arg0) = m ((c.tc : Thread Cert.MlpUpDwIdeal.nD Cert.MlpUpDwIdeal.τ).loc Cert.MlpUpDwIdeal.main_arg0)
      ∧ m' ((c.tc : Thread Cert.MlpUpDwRefIdeal.nD Cert.MlpUpDwRefIdeal.τ).loc Cert.MlpUpDwRefIdeal.main_arg1) = m ((c.tc : Thread Cert.MlpUpDwIdeal.nD Cert.MlpUpDwIdeal.τ).loc Cert.MlpUpDwIdeal.main_arg1)
      ∧ m' ((c.tc : Thread Cert.MlpUpDwRefIdeal.nD Cert.MlpUpDwRefIdeal.τ).loc Cert.MlpUpDwRefIdeal.main_arg2) = m ((c.tc : Thread Cert.MlpUpDwIdeal.nD Cert.MlpUpDwIdeal.τ).loc Cert.MlpUpDwIdeal.main_arg2)) →
    ∃ (v0 : (c : Dev Cert.MlpUpDwIdeal.nD) → Buf (Elt Ideal) ((c.tc : Thread Cert.MlpUpDwIdeal.nD Cert.MlpUpDwIdeal.τ).loc Cert.MlpUpDwIdeal.main_v2)),
      θ_run (Cert.MlpUpDwIdeal.defs (F := Ideal)) (onTc (τ := Cert.MlpUpDwIdeal.τ) (Cert.MlpUpDwIdeal.main (F := Ideal))) ⟨m, fun _ => 0, g⟩ (fun r => ∀ c : Dev Cert.MlpUpDwIdeal.nD,
          r.2.mem ((c.tc : Thread Cert.MlpUpDwIdeal.nD Cert.MlpUpDwIdeal.τ).loc Cert.MlpUpDwIdeal.main_v2) = v0 c
          ∧ r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
          ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1)
          ∧ r.2.mem ((c.tc : Thread Cert.MlpUpDwIdeal.nD Cert.MlpUpDwIdeal.τ).loc Cert.MlpUpDwIdeal.main_arg2) = m ((c.tc : Thread Cert.MlpUpDwIdeal.nD Cert.MlpUpDwIdeal.τ).loc Cert.MlpUpDwIdeal.main_arg2))
      ∧ θ_run (Cert.MlpUpDwRefIdeal.defs (F := Ideal)) (onTc (τ := Cert.MlpUpDwRefIdeal.τ) (Cert.MlpUpDwRefIdeal.main (F := Ideal))) ⟨m', fun _ => 0, g'⟩ (fun r => ∀ c : Dev Cert.MlpUpDwRefIdeal.nD,
          r.2.mem ((c.tc : Thread Cert.MlpUpDwRefIdeal.nD Cert.MlpUpDwRefIdeal.τ).loc Cert.MlpUpDwRefIdeal.main_v6) = v0 c
          ∧ r.2.mem ((c.tc : Thread Cert.MlpUpDwRefIdeal.nD Cert.MlpUpDwRefIdeal.τ).loc Cert.MlpUpDwRefIdeal.main_arg0) = m' ((c.tc : Thread Cert.MlpUpDwRefIdeal.nD Cert.MlpUpDwRefIdeal.τ).loc Cert.MlpUpDwRefIdeal.main_arg0)
          ∧ r.2.mem ((c.tc : Thread Cert.MlpUpDwRefIdeal.nD Cert.MlpUpDwRefIdeal.τ).loc Cert.MlpUpDwRefIdeal.main_arg1) = m' ((c.tc : Thread Cert.MlpUpDwRefIdeal.nD Cert.MlpUpDwRefIdeal.τ).loc Cert.MlpUpDwRefIdeal.main_arg1)
          ∧ r.2.mem ((c.tc : Thread Cert.MlpUpDwRefIdeal.nD Cert.MlpUpDwRefIdeal.τ).loc Cert.MlpUpDwRefIdeal.main_arg2) = m' ((c.tc : Thread Cert.MlpUpDwRefIdeal.nD Cert.MlpUpDwRefIdeal.τ).loc Cert.MlpUpDwRefIdeal.main_arg2))

def preserves_MlpUpDx_MlpUpDxIdeal : Prop :=
  True

def algebraic_MlpUpDxIdeal_MlpUpDxRefIdeal [hMlpUpDxIdeal : Cert.MlpUpDxIdeal.Facts] [hMlpUpDxRefIdeal : Cert.MlpUpDxRefIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg)
    (m' : (ℓ : Loc Cert.MlpUpDxRefIdeal.nD Cert.MlpUpDxRefIdeal.τ Cert.MlpUpDxRefIdeal.sig) → Buf (Elt Ideal) ℓ) (g' : Dev Cert.MlpUpDxRefIdeal.nD → PrngReg), Pre_MlpUpDxIdeal m →
    (∀ c : Dev Cert.MlpUpDxIdeal.nD,
      m' ((c.tc : Thread Cert.MlpUpDxRefIdeal.nD Cert.MlpUpDxRefIdeal.τ).loc Cert.MlpUpDxRefIdeal.main_arg0) = m ((c.tc : Thread Cert.MlpUpDxIdeal.nD Cert.MlpUpDxIdeal.τ).loc Cert.MlpUpDxIdeal.main_arg0)
      ∧ m' ((c.tc : Thread Cert.MlpUpDxRefIdeal.nD Cert.MlpUpDxRefIdeal.τ).loc Cert.MlpUpDxRefIdeal.main_arg1) = m ((c.tc : Thread Cert.MlpUpDxIdeal.nD Cert.MlpUpDxIdeal.τ).loc Cert.MlpUpDxIdeal.main_arg1)
      ∧ m' ((c.tc : Thread Cert.MlpUpDxRefIdeal.nD Cert.MlpUpDxRefIdeal.τ).loc Cert.MlpUpDxRefIdeal.main_arg2) = m ((c.tc : Thread Cert.MlpUpDxIdeal.nD Cert.MlpUpDxIdeal.τ).loc Cert.MlpUpDxIdeal.main_arg2)
      ∧ m' ((c.tc : Thread Cert.MlpUpDxRefIdeal.nD Cert.MlpUpDxRefIdeal.τ).loc Cert.MlpUpDxRefIdeal.main_arg3) = m ((c.tc : Thread Cert.MlpUpDxIdeal.nD Cert.MlpUpDxIdeal.τ).loc Cert.MlpUpDxIdeal.main_arg3)
      ∧ m' ((c.tc : Thread Cert.MlpUpDxRefIdeal.nD Cert.MlpUpDxRefIdeal.τ).loc Cert.MlpUpDxRefIdeal.main_arg4) = m ((c.tc : Thread Cert.MlpUpDxIdeal.nD Cert.MlpUpDxIdeal.τ).loc Cert.MlpUpDxIdeal.main_arg4)) →
    ∃ (v0 : (c : Dev Cert.MlpUpDxIdeal.nD) → Buf (Elt Ideal) ((c.tc : Thread Cert.MlpUpDxIdeal.nD Cert.MlpUpDxIdeal.τ).loc Cert.MlpUpDxIdeal.main_v2_0)) (v1 : (c : Dev Cert.MlpUpDxIdeal.nD) → Buf (Elt Ideal) ((c.tc : Thread Cert.MlpUpDxIdeal.nD Cert.MlpUpDxIdeal.τ).loc Cert.MlpUpDxIdeal.main_v2_1)) (v2 : (c : Dev Cert.MlpUpDxIdeal.nD) → Buf (Elt Ideal) ((c.tc : Thread Cert.MlpUpDxIdeal.nD Cert.MlpUpDxIdeal.τ).loc Cert.MlpUpDxIdeal.main_v2_2)),
      θ_run (Cert.MlpUpDxIdeal.defs (F := Ideal)) (onTc (τ := Cert.MlpUpDxIdeal.τ) (Cert.MlpUpDxIdeal.main (F := Ideal))) ⟨m, fun _ => 0, g⟩ (fun r => ∀ c : Dev Cert.MlpUpDxIdeal.nD,
          r.2.mem ((c.tc : Thread Cert.MlpUpDxIdeal.nD Cert.MlpUpDxIdeal.τ).loc Cert.MlpUpDxIdeal.main_v2_0) = v0 c
          ∧ r.2.mem ((c.tc : Thread Cert.MlpUpDxIdeal.nD Cert.MlpUpDxIdeal.τ).loc Cert.MlpUpDxIdeal.main_v2_1) = v1 c
          ∧ r.2.mem ((c.tc : Thread Cert.MlpUpDxIdeal.nD Cert.MlpUpDxIdeal.τ).loc Cert.MlpUpDxIdeal.main_v2_2) = v2 c
          ∧ r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
          ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1)
          ∧ r.2.mem ((c.tc : Thread Cert.MlpUpDxIdeal.nD Cert.MlpUpDxIdeal.τ).loc Cert.MlpUpDxIdeal.main_arg2) = m ((c.tc : Thread Cert.MlpUpDxIdeal.nD Cert.MlpUpDxIdeal.τ).loc Cert.MlpUpDxIdeal.main_arg2)
          ∧ r.2.mem ((c.tc : Thread Cert.MlpUpDxIdeal.nD Cert.MlpUpDxIdeal.τ).loc Cert.MlpUpDxIdeal.main_arg3) = m ((c.tc : Thread Cert.MlpUpDxIdeal.nD Cert.MlpUpDxIdeal.τ).loc Cert.MlpUpDxIdeal.main_arg3)
          ∧ r.2.mem ((c.tc : Thread Cert.MlpUpDxIdeal.nD Cert.MlpUpDxIdeal.τ).loc Cert.MlpUpDxIdeal.main_arg4) = m ((c.tc : Thread Cert.MlpUpDxIdeal.nD Cert.MlpUpDxIdeal.τ).loc Cert.MlpUpDxIdeal.main_arg4))
      ∧ θ_run (Cert.MlpUpDxRefIdeal.defs (F := Ideal)) (onTc (τ := Cert.MlpUpDxRefIdeal.τ) (Cert.MlpUpDxRefIdeal.main (F := Ideal))) ⟨m', fun _ => 0, g'⟩ (fun r => ∀ c : Dev Cert.MlpUpDxRefIdeal.nD,
          r.2.mem ((c.tc : Thread Cert.MlpUpDxRefIdeal.nD Cert.MlpUpDxRefIdeal.τ).loc Cert.MlpUpDxRefIdeal.main_v40) = v0 c
          ∧ r.2.mem ((c.tc : Thread Cert.MlpUpDxRefIdeal.nD Cert.MlpUpDxRefIdeal.τ).loc Cert.MlpUpDxRefIdeal.main_v41) = v1 c
          ∧ r.2.mem ((c.tc : Thread Cert.MlpUpDxRefIdeal.nD Cert.MlpUpDxRefIdeal.τ).loc Cert.MlpUpDxRefIdeal.main_v42) = v2 c
          ∧ r.2.mem ((c.tc : Thread Cert.MlpUpDxRefIdeal.nD Cert.MlpUpDxRefIdeal.τ).loc Cert.MlpUpDxRefIdeal.main_arg0) = m' ((c.tc : Thread Cert.MlpUpDxRefIdeal.nD Cert.MlpUpDxRefIdeal.τ).loc Cert.MlpUpDxRefIdeal.main_arg0)
          ∧ r.2.mem ((c.tc : Thread Cert.MlpUpDxRefIdeal.nD Cert.MlpUpDxRefIdeal.τ).loc Cert.MlpUpDxRefIdeal.main_arg1) = m' ((c.tc : Thread Cert.MlpUpDxRefIdeal.nD Cert.MlpUpDxRefIdeal.τ).loc Cert.MlpUpDxRefIdeal.main_arg1)
          ∧ r.2.mem ((c.tc : Thread Cert.MlpUpDxRefIdeal.nD Cert.MlpUpDxRefIdeal.τ).loc Cert.MlpUpDxRefIdeal.main_arg2) = m' ((c.tc : Thread Cert.MlpUpDxRefIdeal.nD Cert.MlpUpDxRefIdeal.τ).loc Cert.MlpUpDxRefIdeal.main_arg2)
          ∧ r.2.mem ((c.tc : Thread Cert.MlpUpDxRefIdeal.nD Cert.MlpUpDxRefIdeal.τ).loc Cert.MlpUpDxRefIdeal.main_arg3) = m' ((c.tc : Thread Cert.MlpUpDxRefIdeal.nD Cert.MlpUpDxRefIdeal.τ).loc Cert.MlpUpDxRefIdeal.main_arg3)
          ∧ r.2.mem ((c.tc : Thread Cert.MlpUpDxRefIdeal.nD Cert.MlpUpDxRefIdeal.τ).loc Cert.MlpUpDxRefIdeal.main_arg4) = m' ((c.tc : Thread Cert.MlpUpDxRefIdeal.nD Cert.MlpUpDxRefIdeal.τ).loc Cert.MlpUpDxRefIdeal.main_arg4))

def preserves_PleGateDx_PleGateDxIdeal : Prop :=
  True

def algebraic_PleGateDxIdeal_PleGateDxRefIdeal [hPleGateDxIdeal : Cert.PleGateDxIdeal.Facts] [hPleGateDxRefIdeal : Cert.PleGateDxRefIdeal.Facts] : Prop :=
  ∀ (m : (ℓ : Loc Cert.PleGateDxIdeal.nD Cert.PleGateDxIdeal.τ Cert.PleGateDxIdeal.sig) → Buf (Elt Ideal) ℓ) (g : Dev Cert.PleGateDxIdeal.nD → PrngReg)
    (m' : (ℓ : Loc Cert.PleGateDxRefIdeal.nD Cert.PleGateDxRefIdeal.τ Cert.PleGateDxRefIdeal.sig) → Buf (Elt Ideal) ℓ) (g' : Dev Cert.PleGateDxRefIdeal.nD → PrngReg), Pre_PleGateDxIdeal m →
    (∀ c : Dev Cert.PleGateDxIdeal.nD,
      m' ((c.tc : Thread Cert.PleGateDxRefIdeal.nD Cert.PleGateDxRefIdeal.τ).loc Cert.PleGateDxRefIdeal.main_arg0) = m ((c.tc : Thread Cert.PleGateDxIdeal.nD Cert.PleGateDxIdeal.τ).loc Cert.PleGateDxIdeal.main_arg0)
      ∧ m' ((c.tc : Thread Cert.PleGateDxRefIdeal.nD Cert.PleGateDxRefIdeal.τ).loc Cert.PleGateDxRefIdeal.main_arg1) = m ((c.tc : Thread Cert.PleGateDxIdeal.nD Cert.PleGateDxIdeal.τ).loc Cert.PleGateDxIdeal.main_arg1)
      ∧ m' ((c.tc : Thread Cert.PleGateDxRefIdeal.nD Cert.PleGateDxRefIdeal.τ).loc Cert.PleGateDxRefIdeal.main_arg2) = m ((c.tc : Thread Cert.PleGateDxIdeal.nD Cert.PleGateDxIdeal.τ).loc Cert.PleGateDxIdeal.main_arg2)
      ∧ m' ((c.tc : Thread Cert.PleGateDxRefIdeal.nD Cert.PleGateDxRefIdeal.τ).loc Cert.PleGateDxRefIdeal.main_arg3) = m ((c.tc : Thread Cert.PleGateDxIdeal.nD Cert.PleGateDxIdeal.τ).loc Cert.PleGateDxIdeal.main_arg3)
      ∧ m' ((c.tc : Thread Cert.PleGateDxRefIdeal.nD Cert.PleGateDxRefIdeal.τ).loc Cert.PleGateDxRefIdeal.main_arg4) = m ((c.tc : Thread Cert.PleGateDxIdeal.nD Cert.PleGateDxIdeal.τ).loc Cert.PleGateDxIdeal.main_arg4)) →
    ∃ (v0 : (c : Dev Cert.PleGateDxIdeal.nD) → Buf (Elt Ideal) ((c.tc : Thread Cert.PleGateDxIdeal.nD Cert.PleGateDxIdeal.τ).loc Cert.PleGateDxIdeal.main_v2_0)) (v1 : (c : Dev Cert.PleGateDxIdeal.nD) → Buf (Elt Ideal) ((c.tc : Thread Cert.PleGateDxIdeal.nD Cert.PleGateDxIdeal.τ).loc Cert.PleGateDxIdeal.main_v2_1)) (v2 : (c : Dev Cert.PleGateDxIdeal.nD) → Buf (Elt Ideal) ((c.tc : Thread Cert.PleGateDxIdeal.nD Cert.PleGateDxIdeal.τ).loc Cert.PleGateDxIdeal.main_v2_2)),
      θ_run (Cert.PleGateDxIdeal.defs (F := Ideal)) (onTc (τ := Cert.PleGateDxIdeal.τ) (Cert.PleGateDxIdeal.main (F := Ideal))) ⟨m, fun _ => 0, g⟩ (fun r => ∀ c : Dev Cert.PleGateDxIdeal.nD,
          r.2.mem ((c.tc : Thread Cert.PleGateDxIdeal.nD Cert.PleGateDxIdeal.τ).loc Cert.PleGateDxIdeal.main_v2_0) = v0 c
          ∧ r.2.mem ((c.tc : Thread Cert.PleGateDxIdeal.nD Cert.PleGateDxIdeal.τ).loc Cert.PleGateDxIdeal.main_v2_1) = v1 c
          ∧ r.2.mem ((c.tc : Thread Cert.PleGateDxIdeal.nD Cert.PleGateDxIdeal.τ).loc Cert.PleGateDxIdeal.main_v2_2) = v2 c
          ∧ r.2.mem ((c.tc : Thread Cert.PleGateDxIdeal.nD Cert.PleGateDxIdeal.τ).loc Cert.PleGateDxIdeal.main_arg0) = m ((c.tc : Thread Cert.PleGateDxIdeal.nD Cert.PleGateDxIdeal.τ).loc Cert.PleGateDxIdeal.main_arg0)
          ∧ r.2.mem ((c.tc : Thread Cert.PleGateDxIdeal.nD Cert.PleGateDxIdeal.τ).loc Cert.PleGateDxIdeal.main_arg1) = m ((c.tc : Thread Cert.PleGateDxIdeal.nD Cert.PleGateDxIdeal.τ).loc Cert.PleGateDxIdeal.main_arg1)
          ∧ r.2.mem ((c.tc : Thread Cert.PleGateDxIdeal.nD Cert.PleGateDxIdeal.τ).loc Cert.PleGateDxIdeal.main_arg2) = m ((c.tc : Thread Cert.PleGateDxIdeal.nD Cert.PleGateDxIdeal.τ).loc Cert.PleGateDxIdeal.main_arg2)
          ∧ r.2.mem ((c.tc : Thread Cert.PleGateDxIdeal.nD Cert.PleGateDxIdeal.τ).loc Cert.PleGateDxIdeal.main_arg3) = m ((c.tc : Thread Cert.PleGateDxIdeal.nD Cert.PleGateDxIdeal.τ).loc Cert.PleGateDxIdeal.main_arg3)
          ∧ r.2.mem ((c.tc : Thread Cert.PleGateDxIdeal.nD Cert.PleGateDxIdeal.τ).loc Cert.PleGateDxIdeal.main_arg4) = m ((c.tc : Thread Cert.PleGateDxIdeal.nD Cert.PleGateDxIdeal.τ).loc Cert.PleGateDxIdeal.main_arg4))
      ∧ θ_run (Cert.PleGateDxRefIdeal.defs (F := Ideal)) (onTc (τ := Cert.PleGateDxRefIdeal.τ) (Cert.PleGateDxRefIdeal.main (F := Ideal))) ⟨m', fun _ => 0, g'⟩ (fun r => ∀ c : Dev Cert.PleGateDxRefIdeal.nD,
          r.2.mem ((c.tc : Thread Cert.PleGateDxRefIdeal.nD Cert.PleGateDxRefIdeal.τ).loc Cert.PleGateDxRefIdeal.main_v40) = v0 c
          ∧ r.2.mem ((c.tc : Thread Cert.PleGateDxRefIdeal.nD Cert.PleGateDxRefIdeal.τ).loc Cert.PleGateDxRefIdeal.main_v41) = v1 c
          ∧ r.2.mem ((c.tc : Thread Cert.PleGateDxRefIdeal.nD Cert.PleGateDxRefIdeal.τ).loc Cert.PleGateDxRefIdeal.main_v42) = v2 c
          ∧ r.2.mem ((c.tc : Thread Cert.PleGateDxRefIdeal.nD Cert.PleGateDxRefIdeal.τ).loc Cert.PleGateDxRefIdeal.main_arg0) = m' ((c.tc : Thread Cert.PleGateDxRefIdeal.nD Cert.PleGateDxRefIdeal.τ).loc Cert.PleGateDxRefIdeal.main_arg0)
          ∧ r.2.mem ((c.tc : Thread Cert.PleGateDxRefIdeal.nD Cert.PleGateDxRefIdeal.τ).loc Cert.PleGateDxRefIdeal.main_arg1) = m' ((c.tc : Thread Cert.PleGateDxRefIdeal.nD Cert.PleGateDxRefIdeal.τ).loc Cert.PleGateDxRefIdeal.main_arg1)
          ∧ r.2.mem ((c.tc : Thread Cert.PleGateDxRefIdeal.nD Cert.PleGateDxRefIdeal.τ).loc Cert.PleGateDxRefIdeal.main_arg2) = m' ((c.tc : Thread Cert.PleGateDxRefIdeal.nD Cert.PleGateDxRefIdeal.τ).loc Cert.PleGateDxRefIdeal.main_arg2)
          ∧ r.2.mem ((c.tc : Thread Cert.PleGateDxRefIdeal.nD Cert.PleGateDxRefIdeal.τ).loc Cert.PleGateDxRefIdeal.main_arg3) = m' ((c.tc : Thread Cert.PleGateDxRefIdeal.nD Cert.PleGateDxRefIdeal.τ).loc Cert.PleGateDxRefIdeal.main_arg3)
          ∧ r.2.mem ((c.tc : Thread Cert.PleGateDxRefIdeal.nD Cert.PleGateDxRefIdeal.τ).loc Cert.PleGateDxRefIdeal.main_arg4) = m' ((c.tc : Thread Cert.PleGateDxRefIdeal.nD Cert.PleGateDxRefIdeal.τ).loc Cert.PleGateDxRefIdeal.main_arg4))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_PleGateDw_PleGateDwIdeal : Prop :=
  True

def algebraic_PleGateDwIdeal_PleGateDwRefIdeal [hPleGateDwIdeal : Cert.PleGateDwIdeal.Facts] [hPleGateDwRefIdeal : Cert.PleGateDwRefIdeal.Facts] : Prop :=
  ∀ (m : (ℓ : Loc Cert.PleGateDwIdeal.nD Cert.PleGateDwIdeal.τ Cert.PleGateDwIdeal.sig) → Buf (Elt Ideal) ℓ) (g : Dev Cert.PleGateDwIdeal.nD → PrngReg)
    (m' : (ℓ : Loc Cert.PleGateDwRefIdeal.nD Cert.PleGateDwRefIdeal.τ Cert.PleGateDwRefIdeal.sig) → Buf (Elt Ideal) ℓ) (g' : Dev Cert.PleGateDwRefIdeal.nD → PrngReg), Pre_PleGateDwIdeal m →
    (∀ c : Dev Cert.PleGateDwIdeal.nD,
      m' ((c.tc : Thread Cert.PleGateDwRefIdeal.nD Cert.PleGateDwRefIdeal.τ).loc Cert.PleGateDwRefIdeal.main_arg0) = m ((c.tc : Thread Cert.PleGateDwIdeal.nD Cert.PleGateDwIdeal.τ).loc Cert.PleGateDwIdeal.main_arg0)
      ∧ m' ((c.tc : Thread Cert.PleGateDwRefIdeal.nD Cert.PleGateDwRefIdeal.τ).loc Cert.PleGateDwRefIdeal.main_arg1) = m ((c.tc : Thread Cert.PleGateDwIdeal.nD Cert.PleGateDwIdeal.τ).loc Cert.PleGateDwIdeal.main_arg1)
      ∧ m' ((c.tc : Thread Cert.PleGateDwRefIdeal.nD Cert.PleGateDwRefIdeal.τ).loc Cert.PleGateDwRefIdeal.main_arg2) = m ((c.tc : Thread Cert.PleGateDwIdeal.nD Cert.PleGateDwIdeal.τ).loc Cert.PleGateDwIdeal.main_arg2)) →
    ∃ (v0 : (c : Dev Cert.PleGateDwIdeal.nD) → Buf (Elt Ideal) ((c.tc : Thread Cert.PleGateDwIdeal.nD Cert.PleGateDwIdeal.τ).loc Cert.PleGateDwIdeal.main_v2)),
      θ_run (Cert.PleGateDwIdeal.defs (F := Ideal)) (onTc (τ := Cert.PleGateDwIdeal.τ) (Cert.PleGateDwIdeal.main (F := Ideal))) ⟨m, fun _ => 0, g⟩ (fun r => ∀ c : Dev Cert.PleGateDwIdeal.nD,
          r.2.mem ((c.tc : Thread Cert.PleGateDwIdeal.nD Cert.PleGateDwIdeal.τ).loc Cert.PleGateDwIdeal.main_v2) = v0 c
          ∧ r.2.mem ((c.tc : Thread Cert.PleGateDwIdeal.nD Cert.PleGateDwIdeal.τ).loc Cert.PleGateDwIdeal.main_arg0) = m ((c.tc : Thread Cert.PleGateDwIdeal.nD Cert.PleGateDwIdeal.τ).loc Cert.PleGateDwIdeal.main_arg0)
          ∧ r.2.mem ((c.tc : Thread Cert.PleGateDwIdeal.nD Cert.PleGateDwIdeal.τ).loc Cert.PleGateDwIdeal.main_arg1) = m ((c.tc : Thread Cert.PleGateDwIdeal.nD Cert.PleGateDwIdeal.τ).loc Cert.PleGateDwIdeal.main_arg1)
          ∧ r.2.mem ((c.tc : Thread Cert.PleGateDwIdeal.nD Cert.PleGateDwIdeal.τ).loc Cert.PleGateDwIdeal.main_arg2) = m ((c.tc : Thread Cert.PleGateDwIdeal.nD Cert.PleGateDwIdeal.τ).loc Cert.PleGateDwIdeal.main_arg2))
      ∧ θ_run (Cert.PleGateDwRefIdeal.defs (F := Ideal)) (onTc (τ := Cert.PleGateDwRefIdeal.τ) (Cert.PleGateDwRefIdeal.main (F := Ideal))) ⟨m', fun _ => 0, g'⟩ (fun r => ∀ c : Dev Cert.PleGateDwRefIdeal.nD,
          r.2.mem ((c.tc : Thread Cert.PleGateDwRefIdeal.nD Cert.PleGateDwRefIdeal.τ).loc Cert.PleGateDwRefIdeal.main_v4) = v0 c
          ∧ r.2.mem ((c.tc : Thread Cert.PleGateDwRefIdeal.nD Cert.PleGateDwRefIdeal.τ).loc Cert.PleGateDwRefIdeal.main_arg0) = m' ((c.tc : Thread Cert.PleGateDwRefIdeal.nD Cert.PleGateDwRefIdeal.τ).loc Cert.PleGateDwRefIdeal.main_arg0)
          ∧ r.2.mem ((c.tc : Thread Cert.PleGateDwRefIdeal.nD Cert.PleGateDwRefIdeal.τ).loc Cert.PleGateDwRefIdeal.main_arg1) = m' ((c.tc : Thread Cert.PleGateDwRefIdeal.nD Cert.PleGateDwRefIdeal.τ).loc Cert.PleGateDwRefIdeal.main_arg1)
          ∧ r.2.mem ((c.tc : Thread Cert.PleGateDwRefIdeal.nD Cert.PleGateDwRefIdeal.τ).loc Cert.PleGateDwRefIdeal.main_arg2) = m' ((c.tc : Thread Cert.PleGateDwRefIdeal.nD Cert.PleGateDwRefIdeal.τ).loc Cert.PleGateDwRefIdeal.main_arg2))

def preserves_PleProjDw_PleProjDwIdeal : Prop :=
  True

def algebraic_PleProjDwIdeal_PleProjDwRefIdeal [hPleProjDwIdeal : Cert.PleProjDwIdeal.Facts] [hPleProjDwRefIdeal : Cert.PleProjDwRefIdeal.Facts] : Prop :=
  ∀ (m : (ℓ : Loc Cert.PleProjDwIdeal.nD Cert.PleProjDwIdeal.τ Cert.PleProjDwIdeal.sig) → Buf (Elt Ideal) ℓ) (g : Dev Cert.PleProjDwIdeal.nD → PrngReg)
    (m' : (ℓ : Loc Cert.PleProjDwRefIdeal.nD Cert.PleProjDwRefIdeal.τ Cert.PleProjDwRefIdeal.sig) → Buf (Elt Ideal) ℓ) (g' : Dev Cert.PleProjDwRefIdeal.nD → PrngReg), Pre_PleProjDwIdeal m →
    (∀ c : Dev Cert.PleProjDwIdeal.nD,
      m' ((c.tc : Thread Cert.PleProjDwRefIdeal.nD Cert.PleProjDwRefIdeal.τ).loc Cert.PleProjDwRefIdeal.main_arg0) = m ((c.tc : Thread Cert.PleProjDwIdeal.nD Cert.PleProjDwIdeal.τ).loc Cert.PleProjDwIdeal.main_arg0)
      ∧ m' ((c.tc : Thread Cert.PleProjDwRefIdeal.nD Cert.PleProjDwRefIdeal.τ).loc Cert.PleProjDwRefIdeal.main_arg1) = m ((c.tc : Thread Cert.PleProjDwIdeal.nD Cert.PleProjDwIdeal.τ).loc Cert.PleProjDwIdeal.main_arg1)
      ∧ m' ((c.tc : Thread Cert.PleProjDwRefIdeal.nD Cert.PleProjDwRefIdeal.τ).loc Cert.PleProjDwRefIdeal.main_arg2) = m ((c.tc : Thread Cert.PleProjDwIdeal.nD Cert.PleProjDwIdeal.τ).loc Cert.PleProjDwIdeal.main_arg2)) →
    ∃ (v0 : (c : Dev Cert.PleProjDwIdeal.nD) → Buf (Elt Ideal) ((c.tc : Thread Cert.PleProjDwIdeal.nD Cert.PleProjDwIdeal.τ).loc Cert.PleProjDwIdeal.main_v1)),
      θ_run (Cert.PleProjDwIdeal.defs (F := Ideal)) (onTc (τ := Cert.PleProjDwIdeal.τ) (Cert.PleProjDwIdeal.main (F := Ideal))) ⟨m, fun _ => 0, g⟩ (fun r => ∀ c : Dev Cert.PleProjDwIdeal.nD,
          r.2.mem ((c.tc : Thread Cert.PleProjDwIdeal.nD Cert.PleProjDwIdeal.τ).loc Cert.PleProjDwIdeal.main_v1) = v0 c
          ∧ r.2.mem ((c.tc : Thread Cert.PleProjDwIdeal.nD Cert.PleProjDwIdeal.τ).loc Cert.PleProjDwIdeal.main_arg0) = m ((c.tc : Thread Cert.PleProjDwIdeal.nD Cert.PleProjDwIdeal.τ).loc Cert.PleProjDwIdeal.main_arg0)
          ∧ r.2.mem ((c.tc : Thread Cert.PleProjDwIdeal.nD Cert.PleProjDwIdeal.τ).loc Cert.PleProjDwIdeal.main_arg1) = m ((c.tc : Thread Cert.PleProjDwIdeal.nD Cert.PleProjDwIdeal.τ).loc Cert.PleProjDwIdeal.main_arg1)
          ∧ r.2.mem ((c.tc : Thread Cert.PleProjDwIdeal.nD Cert.PleProjDwIdeal.τ).loc Cert.PleProjDwIdeal.main_arg2) = m ((c.tc : Thread Cert.PleProjDwIdeal.nD Cert.PleProjDwIdeal.τ).loc Cert.PleProjDwIdeal.main_arg2))
      ∧ θ_run (Cert.PleProjDwRefIdeal.defs (F := Ideal)) (onTc (τ := Cert.PleProjDwRefIdeal.τ) (Cert.PleProjDwRefIdeal.main (F := Ideal))) ⟨m', fun _ => 0, g'⟩ (fun r => ∀ c : Dev Cert.PleProjDwRefIdeal.nD,
          r.2.mem ((c.tc : Thread Cert.PleProjDwRefIdeal.nD Cert.PleProjDwRefIdeal.τ).loc Cert.PleProjDwRefIdeal.main_v6) = v0 c
          ∧ r.2.mem ((c.tc : Thread Cert.PleProjDwRefIdeal.nD Cert.PleProjDwRefIdeal.τ).loc Cert.PleProjDwRefIdeal.main_arg0) = m' ((c.tc : Thread Cert.PleProjDwRefIdeal.nD Cert.PleProjDwRefIdeal.τ).loc Cert.PleProjDwRefIdeal.main_arg0)
          ∧ r.2.mem ((c.tc : Thread Cert.PleProjDwRefIdeal.nD Cert.PleProjDwRefIdeal.τ).loc Cert.PleProjDwRefIdeal.main_arg1) = m' ((c.tc : Thread Cert.PleProjDwRefIdeal.nD Cert.PleProjDwRefIdeal.τ).loc Cert.PleProjDwRefIdeal.main_arg1)
          ∧ r.2.mem ((c.tc : Thread Cert.PleProjDwRefIdeal.nD Cert.PleProjDwRefIdeal.τ).loc Cert.PleProjDwRefIdeal.main_arg2) = m' ((c.tc : Thread Cert.PleProjDwRefIdeal.nD Cert.PleProjDwRefIdeal.τ).loc Cert.PleProjDwRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v20)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v20) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v4) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v22_0)) (v1 : (c : Dev Cert.InDxIdeal.nD) → Buf (Elt Ideal) ((c.tc : Thread Cert.InDxIdeal.nD Cert.InDxIdeal.τ).loc Cert.InDxIdeal.main_v22_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v22_0) = v0 c
          ∧ r.2.mem ((c.tc : Thread Cert.InDxIdeal.nD Cert.InDxIdeal.τ).loc Cert.InDxIdeal.main_v22_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v40) = v0 c
          ∧ r.2.mem ((c.tc : Thread Cert.InDxRefIdeal.nD Cert.InDxRefIdeal.τ).loc Cert.InDxRefIdeal.main_v42) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v1_0)) (v1 : (c : Dev Cert.HeadIdeal.nD) → Buf (Elt Ideal) ((c.tc : Thread Cert.HeadIdeal.nD Cert.HeadIdeal.τ).loc Cert.HeadIdeal.main_v1_1)) (v2 : (c : Dev Cert.HeadIdeal.nD) → Buf (Elt Ideal) ((c.tc : Thread Cert.HeadIdeal.nD Cert.HeadIdeal.τ).loc Cert.HeadIdeal.main_v1_2)) (v3 : (c : Dev Cert.HeadIdeal.nD) → Buf (Elt Ideal) ((c.tc : Thread Cert.HeadIdeal.nD Cert.HeadIdeal.τ).loc Cert.HeadIdeal.main_v1_3)) (v4 : (c : Dev Cert.HeadIdeal.nD) → Buf (Elt Ideal) ((c.tc : Thread Cert.HeadIdeal.nD Cert.HeadIdeal.τ).loc Cert.HeadIdeal.main_v1_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v1_0) = v0 c
          ∧ r.2.mem ((c.tc : Thread Cert.HeadIdeal.nD Cert.HeadIdeal.τ).loc Cert.HeadIdeal.main_v1_1) = v1 c
          ∧ r.2.mem ((c.tc : Thread Cert.HeadIdeal.nD Cert.HeadIdeal.τ).loc Cert.HeadIdeal.main_v1_2) = v2 c
          ∧ r.2.mem ((c.tc : Thread Cert.HeadIdeal.nD Cert.HeadIdeal.τ).loc Cert.HeadIdeal.main_v1_3) = v3 c
          ∧ r.2.mem ((c.tc : Thread Cert.HeadIdeal.nD Cert.HeadIdeal.τ).loc Cert.HeadIdeal.main_v1_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v61) = v0 c
          ∧ r.2.mem ((c.tc : Thread Cert.HeadRefIdeal.nD Cert.HeadRefIdeal.τ).loc Cert.HeadRefIdeal.main_v65) = v1 c
          ∧ r.2.mem ((c.tc : Thread Cert.HeadRefIdeal.nD Cert.HeadRefIdeal.τ).loc Cert.HeadRefIdeal.main_v66) = v2 c
          ∧ r.2.mem ((c.tc : Thread Cert.HeadRefIdeal.nD Cert.HeadRefIdeal.τ).loc Cert.HeadRefIdeal.main_v67) = v3 c
          ∧ r.2.mem ((c.tc : Thread Cert.HeadRefIdeal.nD Cert.HeadRefIdeal.τ).loc Cert.HeadRefIdeal.main_v68) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] [hPre_device : Cert.Pre_device.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v8) = v0 c
          ∧ r.2.mem ((c.tc : Thread Cert.AdamUpRefIdeal.nD Cert.AdamUpRefIdeal.τ).loc Cert.AdamUpRefIdeal.main_v32) = v1 c
          ∧ r.2.mem ((c.tc : Thread Cert.AdamUpRefIdeal.nD Cert.AdamUpRefIdeal.τ).loc Cert.AdamUpRefIdeal.main_v13) = v2 c
          ∧ r.2.mem ((c.tc : Thread Cert.AdamUpRefIdeal.nD Cert.AdamUpRefIdeal.τ).loc Cert.AdamUpRefIdeal.main_v19) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v19)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v19) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_v15) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v1) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v2) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v2_0)) (v1 : (c : Dev Cert.MlpDownIdeal.nD) → Buf (Elt Ideal) ((c.tc : Thread Cert.MlpDownIdeal.nD Cert.MlpDownIdeal.τ).loc Cert.MlpDownIdeal.main_v2_1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v2_0) = v0 c
          ∧ r.2.mem ((c.tc : Thread Cert.MlpDownIdeal.nD Cert.MlpDownIdeal.τ).loc Cert.MlpDownIdeal.main_v2_1) = v1 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v2) = v0 c
          ∧ r.2.mem ((c.tc : Thread Cert.MlpDownRefIdeal.nD Cert.MlpDownRefIdeal.τ).loc Cert.MlpDownRefIdeal.main_v16) = v1 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v1)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v1) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v0) = v0 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v0) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def Claim : Prop :=
  ∃ (hConvBwd : Cert.ConvBwd.Facts) (hConvBwdIdeal : Cert.ConvBwdIdeal.Facts) (hConvBwdRefIdeal : Cert.ConvBwdRefIdeal.Facts) (hConvFwd : Cert.ConvFwd.Facts) (hConvFwdIdeal : Cert.ConvFwdIdeal.Facts) (hConvFwdRefIdeal : Cert.ConvFwdRefIdeal.Facts) (hRwkvPost : Cert.RwkvPost.Facts) (hRwkvPostIdeal : Cert.RwkvPostIdeal.Facts) (hRwkvPostRefIdeal : Cert.RwkvPostRefIdeal.Facts) (hRwkvPostBwd : Cert.RwkvPostBwd.Facts) (hRwkvPostBwdIdeal : Cert.RwkvPostBwdIdeal.Facts) (hRwkvPostBwdRefIdeal : Cert.RwkvPostBwdRefIdeal.Facts) (hMlpDownDw : Cert.MlpDownDw.Facts) (hMlpDownDwIdeal : Cert.MlpDownDwIdeal.Facts) (hMlpDownDwRefIdeal : Cert.MlpDownDwRefIdeal.Facts) (hMlpDownDx : Cert.MlpDownDx.Facts) (hMlpDownDxIdeal : Cert.MlpDownDxIdeal.Facts) (hMlpDownDxRefIdeal : Cert.MlpDownDxRefIdeal.Facts) (hMlpUpDw : Cert.MlpUpDw.Facts) (hMlpUpDwIdeal : Cert.MlpUpDwIdeal.Facts) (hMlpUpDwRefIdeal : Cert.MlpUpDwRefIdeal.Facts) (hMlpUpDx : Cert.MlpUpDx.Facts) (hMlpUpDxIdeal : Cert.MlpUpDxIdeal.Facts) (hMlpUpDxRefIdeal : Cert.MlpUpDxRefIdeal.Facts) (hPleGateDx : Cert.PleGateDx.Facts) (hPleGateDxIdeal : Cert.PleGateDxIdeal.Facts) (hPleGateDxRefIdeal : Cert.PleGateDxRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hPleGateDw : Cert.PleGateDw.Facts) (hPleGateDwIdeal : Cert.PleGateDwIdeal.Facts) (hPleGateDwRefIdeal : Cert.PleGateDwRefIdeal.Facts) (hPleProjDw : Cert.PleProjDw.Facts) (hPleProjDwIdeal : Cert.PleProjDwIdeal.Facts) (hPleProjDwRefIdeal : Cert.PleProjDwRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hHead : Cert.Head.Facts) (hHeadIdeal : Cert.HeadIdeal.Facts) (hHeadRefIdeal : Cert.HeadRefIdeal.Facts) (hAdamUp : Cert.AdamUp.Facts) (hAdamUpIdeal : Cert.AdamUpIdeal.Facts) (hAdamUpRefIdeal : Cert.AdamUpRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hPleGate : Cert.PleGate.Facts) (hPleGateIdeal : Cert.PleGateIdeal.Facts) (hPleGateRefIdeal : Cert.PleGateRefIdeal.Facts) (hPleProj : Cert.PleProj.Facts) (hPleProjIdeal : Cert.PleProjIdeal.Facts) (hPleProjRefIdeal : Cert.PleProjRefIdeal.Facts) (hPre_read_out_numbers : Cert.Pre_read_out_numbers.Facts) (hPre_read_out_bwd_numbers : Cert.Pre_read_out_bwd_numbers.Facts) (hPre_device : Cert.Pre_device.Facts),
    quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_RwkvPost (hRwkvPost := hRwkvPost)
    ∧ quiescent_RwkvPostIdeal (hRwkvPostIdeal := hRwkvPostIdeal)
    ∧ quiescent_RwkvPostIdeal_pre_read_out_numbers (hRwkvPostIdeal := hRwkvPostIdeal) (hPre_read_out_numbers := hPre_read_out_numbers)
    ∧ quiescent_RwkvPostRefIdeal (hRwkvPostRefIdeal := hRwkvPostRefIdeal)
    ∧ quiescent_RwkvPostRefIdeal_pre_read_out_numbers (hRwkvPostRefIdeal := hRwkvPostRefIdeal) (hPre_read_out_numbers := hPre_read_out_numbers)
    ∧ quiescent_RwkvPostBwd (hRwkvPostBwd := hRwkvPostBwd)
    ∧ quiescent_RwkvPostBwdIdeal (hRwkvPostBwdIdeal := hRwkvPostBwdIdeal)
    ∧ quiescent_RwkvPostBwdIdeal_pre_read_out_bwd_numbers (hRwkvPostBwdIdeal := hRwkvPostBwdIdeal) (hPre_read_out_bwd_numbers := hPre_read_out_bwd_numbers)
    ∧ quiescent_RwkvPostBwdRefIdeal (hRwkvPostBwdRefIdeal := hRwkvPostBwdRefIdeal)
    ∧ quiescent_RwkvPostBwdRefIdeal_pre_read_out_bwd_numbers (hRwkvPostBwdRefIdeal := hRwkvPostBwdRefIdeal) (hPre_read_out_bwd_numbers := hPre_read_out_bwd_numbers)
    ∧ quiescent_MlpDownDw (hMlpDownDw := hMlpDownDw)
    ∧ quiescent_MlpDownDwIdeal (hMlpDownDwIdeal := hMlpDownDwIdeal)
    ∧ quiescent_MlpDownDwRefIdeal (hMlpDownDwRefIdeal := hMlpDownDwRefIdeal)
    ∧ quiescent_MlpDownDx (hMlpDownDx := hMlpDownDx)
    ∧ quiescent_MlpDownDxIdeal (hMlpDownDxIdeal := hMlpDownDxIdeal)
    ∧ quiescent_MlpDownDxRefIdeal (hMlpDownDxRefIdeal := hMlpDownDxRefIdeal)
    ∧ quiescent_MlpUpDw (hMlpUpDw := hMlpUpDw)
    ∧ quiescent_MlpUpDwIdeal (hMlpUpDwIdeal := hMlpUpDwIdeal)
    ∧ quiescent_MlpUpDwRefIdeal (hMlpUpDwRefIdeal := hMlpUpDwRefIdeal)
    ∧ quiescent_MlpUpDx (hMlpUpDx := hMlpUpDx)
    ∧ quiescent_MlpUpDxIdeal (hMlpUpDxIdeal := hMlpUpDxIdeal)
    ∧ quiescent_MlpUpDxRefIdeal (hMlpUpDxRefIdeal := hMlpUpDxRefIdeal)
    ∧ quiescent_PleGateDx (hPleGateDx := hPleGateDx)
    ∧ quiescent_PleGateDxIdeal (hPleGateDxIdeal := hPleGateDxIdeal)
    ∧ quiescent_PleGateDxRefIdeal (hPleGateDxRefIdeal := hPleGateDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_PleGateDw (hPleGateDw := hPleGateDw)
    ∧ quiescent_PleGateDwIdeal (hPleGateDwIdeal := hPleGateDwIdeal)
    ∧ quiescent_PleGateDwRefIdeal (hPleGateDwRefIdeal := hPleGateDwRefIdeal)
    ∧ quiescent_PleProjDw (hPleProjDw := hPleProjDw)
    ∧ quiescent_PleProjDwIdeal (hPleProjDwIdeal := hPleProjDwIdeal)
    ∧ quiescent_PleProjDwRefIdeal (hPleProjDwRefIdeal := hPleProjDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_Head (hHead := hHead)
    ∧ quiescent_HeadIdeal (hHeadIdeal := hHeadIdeal)
    ∧ quiescent_HeadRefIdeal (hHeadRefIdeal := hHeadRefIdeal)
    ∧ quiescent_AdamUp (hAdamUp := hAdamUp) (hPre_device := hPre_device)
    ∧ quiescent_AdamUpIdeal (hAdamUpIdeal := hAdamUpIdeal) (hPre_device := hPre_device)
    ∧ quiescent_AdamUpRefIdeal (hAdamUpRefIdeal := hAdamUpRefIdeal)
    ∧ quiescent_AdamUpRefIdeal_pre_device (hAdamUpRefIdeal := hAdamUpRefIdeal) (hPre_device := hPre_device)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_RwkvPost_RwkvPostIdeal
    ∧ algebraic_RwkvPostIdeal_RwkvPostRefIdeal_pre_read_out_numbers (hRwkvPostIdeal := hRwkvPostIdeal) (hRwkvPostRefIdeal := hRwkvPostRefIdeal) (hPre_read_out_numbers := hPre_read_out_numbers)
    ∧ preserves_RwkvPostBwd_RwkvPostBwdIdeal
    ∧ algebraic_RwkvPostBwdIdeal_RwkvPostBwdRefIdeal_pre_read_out_bwd_numbers (hRwkvPostBwdIdeal := hRwkvPostBwdIdeal) (hRwkvPostBwdRefIdeal := hRwkvPostBwdRefIdeal) (hPre_read_out_bwd_numbers := hPre_read_out_bwd_numbers)
    ∧ preserves_MlpDownDw_MlpDownDwIdeal
    ∧ algebraic_MlpDownDwIdeal_MlpDownDwRefIdeal (hMlpDownDwIdeal := hMlpDownDwIdeal) (hMlpDownDwRefIdeal := hMlpDownDwRefIdeal)
    ∧ preserves_MlpDownDx_MlpDownDxIdeal
    ∧ algebraic_MlpDownDxIdeal_MlpDownDxRefIdeal (hMlpDownDxIdeal := hMlpDownDxIdeal) (hMlpDownDxRefIdeal := hMlpDownDxRefIdeal)
    ∧ preserves_MlpUpDw_MlpUpDwIdeal
    ∧ algebraic_MlpUpDwIdeal_MlpUpDwRefIdeal (hMlpUpDwIdeal := hMlpUpDwIdeal) (hMlpUpDwRefIdeal := hMlpUpDwRefIdeal)
    ∧ preserves_MlpUpDx_MlpUpDxIdeal
    ∧ algebraic_MlpUpDxIdeal_MlpUpDxRefIdeal (hMlpUpDxIdeal := hMlpUpDxIdeal) (hMlpUpDxRefIdeal := hMlpUpDxRefIdeal)
    ∧ preserves_PleGateDx_PleGateDxIdeal
    ∧ algebraic_PleGateDxIdeal_PleGateDxRefIdeal (hPleGateDxIdeal := hPleGateDxIdeal) (hPleGateDxRefIdeal := hPleGateDxRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_PleGateDw_PleGateDwIdeal
    ∧ algebraic_PleGateDwIdeal_PleGateDwRefIdeal (hPleGateDwIdeal := hPleGateDwIdeal) (hPleGateDwRefIdeal := hPleGateDwRefIdeal)
    ∧ preserves_PleProjDw_PleProjDwIdeal
    ∧ algebraic_PleProjDwIdeal_PleProjDwRefIdeal (hPleProjDwIdeal := hPleProjDwIdeal) (hPleProjDwRefIdeal := hPleProjDwRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_Head_HeadIdeal
    ∧ algebraic_HeadIdeal_HeadRefIdeal (hHeadIdeal := hHeadIdeal) (hHeadRefIdeal := hHeadRefIdeal)
    ∧ preserves_AdamUp_AdamUpIdeal
    ∧ algebraic_AdamUpIdeal_AdamUpRefIdeal (hAdamUpIdeal := hAdamUpIdeal) (hAdamUpRefIdeal := hAdamUpRefIdeal) (hPre_device := hPre_device)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_PleGate_PleGateIdeal
    ∧ algebraic_PleGateIdeal_PleGateRefIdeal (hPleGateIdeal := hPleGateIdeal) (hPleGateRefIdeal := hPleGateRefIdeal)
    ∧ preserves_PleProj_PleProjIdeal
    ∧ algebraic_PleProjIdeal_PleProjRefIdeal (hPleProjIdeal := hPleProjIdeal) (hPleProjRefIdeal := hPleProjRefIdeal)
-- ==== Pre_device.lean ====
abbrev S8x1024x512 : Shape := ⟨3, ![8, 1024, 512]⟩
abbrev S1 : Shape := ⟨1, ![1]⟩
abbrev S1x1024x512 : Shape := ⟨3, ![1, 1024, 512]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x512 .bf16) (main_arg1 : FVec F S8x1024x512 .bf16) (main_arg2 : IVec S1 32) (main_arg3 : FVec F S1x1024x512 .f32) (main_arg4 : FVec F S1x1024x512 .f32) (main_arg5 : FVec F S1x1024x512 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_read_out_bwd_numbers.lean ====
abbrev S4096x1024 : Shape := ⟨2, ![4096, 1024]⟩
abbrev S4096x512 : Shape := ⟨2, ![4096, 512]⟩
abbrev S512 : Shape := ⟨1, ![512]⟩
abbrev S8x64 : Shape := ⟨2, ![8, 64]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S512 : S_.BroadcastsInDim S512 (![] : Fin 0 → Fin S512.rank)
  bcast_S_S8x64 : S_.BroadcastsInDim S8x64 (![] : Fin 0 → Fin S8x64.rank)

variable [Facts]

def fn_part1 {F : FTy → Type} [FloatOps F] (main_arg6 : FVec F S512 .f32) (main_arg8 : FVec F S8x64 .f32) (main_v2 : IVec S4096x1024 1) (main_v5 : IVec S4096x512 1) (main_v8 : IVec S4096x512 1) (main_v11 : IVec S4096x512 1) (main_v14 : IVec S4096x512 1) (main_v17 : IVec S4096x512 1) : IVec S4096x1024 1 × IVec S4096x512 1 × IVec S4096x512 1 × IVec S4096x512 1 × IVec S4096x512 1 × IVec S4096x512 1 × IVec S512 1 × IVec S8x64 1 :=
  let main_v18 : FVec F S512 .f32 := subf main_arg6 main_arg6
  let main_cst_5 : FVec F S_ .f32 := constant S_ .f32 0x00000000#32
  let main_v19 : FVec F S512 .f32 := broadcastInDim S512 ![] bcast_S_S512 main_cst_5
  let main_v20 : IVec S512 1 := cmpf .oeq main_v18 main_v19
  let main_v21 : FVec F S8x64 .f32 := subf main_arg8 main_arg8
  let main_cst_6 : FVec F S_ .f32 := constant S_ .f32 0x00000000#32
  let main_v22 : FVec F S8x64 .f32 := broadcastInDim S8x64 ![] bcast_S_S8x64 main_cst_6
  let main_v23 : IVec S8x64 1 := cmpf .oeq main_v21 main_v22
  (main_v2, main_v5, main_v8, main_v11, main_v14, main_v17, main_v20, main_v23)

def fn {F : FTy → Type} [FloatOps F] (main_arg0 : FVec F S4096x1024 .f32) (main_arg1 : FVec F S4096x512 .f32) (main_arg2 : FVec F S4096x512 .f32) (main_arg3 : FVec F S4096x512 .f32) (main_arg4 : FVec F S4096x512 .f32) (main_arg5 : FVec F S4096x512 .f32) (main_arg6 : FVec F S512 .f32) (main_arg7 : FVec F S512 .f32) (main_arg8 : FVec F S8x64 .f32) : IVec S4096x1024 1 × IVec S4096x512 1 × IVec S4096x512 1 × IVec S4096x512 1 × IVec S4096x512 1 × IVec S4096x512 1 × IVec S512 1 × IVec S8x64 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_v3 : FVec F S4096x512 .f32 := subf main_arg1 main_arg1
  let main_cst_0 : FVec F S_ .f32 := constant S_ .f32 0x00000000#32
  let main_v4 : FVec F S4096x512 .f32 := broadcastInDim S4096x512 ![] bcast_S_S4096x512 main_cst_0
  let main_v5 : IVec S4096x512 1 := cmpf .oeq main_v3 main_v4
  let main_v6 : FVec F S4096x512 .f32 := subf main_arg2 main_arg2
  let main_cst_1 : FVec F S_ .f32 := constant S_ .f32 0x00000000#32
  let main_v7 : FVec F S4096x512 .f32 := broadcastInDim S4096x512 ![] bcast_S_S4096x512 main_cst_1
  let main_v8 : IVec S4096x512 1 := cmpf .oeq main_v6 main_v7
  let main_v9 : FVec F S4096x512 .f32 := subf main_arg3 main_arg3
  let main_cst_2 : FVec F S_ .f32 := constant S_ .f32 0x00000000#32
  let main_v10 : FVec F S4096x512 .f32 := broadcastInDim S4096x512 ![] bcast_S_S4096x512 main_cst_2
  let main_v11 : IVec S4096x512 1 := cmpf .oeq main_v9 main_v10
  let main_v12 : FVec F S4096x512 .f32 := subf main_arg4 main_arg4
  let main_cst_3 : FVec F S_ .f32 := constant S_ .f32 0x00000000#32
  let main_v13 : FVec F S4096x512 .f32 := broadcastInDim S4096x512 ![] bcast_S_S4096x512 main_cst_3
  let main_v14 : IVec S4096x512 1 := cmpf .oeq main_v12 main_v13
  let main_v15 : FVec F S4096x512 .f32 := subf main_arg5 main_arg5
  let main_cst_4 : FVec F S_ .f32 := constant S_ .f32 0x00000000#32
  let main_v16 : FVec F S4096x512 .f32 := broadcastInDim S4096x512 ![] bcast_S_S4096x512 main_cst_4
  let main_v17 : IVec S4096x512 1 := cmpf .oeq main_v15 main_v16
  fn_part1 (F := F) main_arg6 main_arg8 main_v2 main_v5 main_v8 main_v11 main_v14 main_v17
-- ==== Pre_read_out_numbers.lean ====
abbrev S4096x512 : Shape := ⟨2, ![4096, 512]⟩
abbrev S512 : Shape := ⟨1, ![512]⟩
abbrev S8x64 : Shape := ⟨2, ![8, 64]⟩
abbrev S_ : Shape := ⟨0, ![]⟩

class Facts : Prop where
  bcast_S_S4096x512 : S_.BroadcastsInDim S4096x512 (![] : Fin 0 → Fin S4096x512.rank)
  bcast_S_S8x64 : S_.BroadcastsInDim S8x64 (![] : Fin 0 → Fin S8x64.rank)

variable [Facts]

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x512 .f32) (main_arg5 : FVec F S512 .f32) (main_arg6 : FVec F S512 .f32) (main_arg7 : FVec F S8x64 .f32) : IVec S4096x512 1 × IVec S4096x512 1 × IVec S4096x512 1 × IVec S8x64 1 :=
  let main_v0 : FVec F S4096x512 .f32 := subf main_arg0 main_arg0
  let main_cst : FVec F S_ .f32 := constant S_ .f32 0x00000000#32
  let main_v1 : FVec F S4096x512 .f32 := broadcastInDim S4096x512 ![] bcast_S_S4096x512 main_cst
  let main_v2 : IVec S4096x512 1 := cmpf .oeq main_v0 main_v1
  let main_v3 : FVec F S4096x512 .f32 := subf main_arg1 main_arg1
  let main_cst_0 : FVec F S_ .f32 := constant S_ .f32 0x00000000#32
  let main_v4 : FVec F S4096x512 .f32 := broadcastInDim S4096x512 ![] bcast_S_S4096x512 main_cst_0
  let main_v5 : IVec S4096x512 1 := cmpf .oeq main_v3 main_v4
  let main_v6 : FVec F S4096x512 .f32 := subf main_arg2 main_arg2
  let main_cst_1 : FVec F S_ .f32 := constant S_ .f32 0x00000000#32
  let main_v7 : FVec F S4096x512 .f32 := broadcastInDim S4096x512 ![] bcast_S_S4096x512 main_cst_1
  let main_v8 : IVec S4096x512 1 := cmpf .oeq main_v6 main_v7
  let main_v9 : FVec F S8x64 .f32 := subf main_arg7 main_arg7
  let main_cst_2 : FVec F S_ .f32 := constant S_ .f32 0x00000000#32
  let main_v10 : FVec F S8x64 .f32 := broadcastInDim S8x64 ![] bcast_S_S8x64 main_cst_2
  let main_v11 : IVec S8x64 1 := cmpf .oeq main_v9 main_v10
  (main_v2, main_v5, main_v8, main_v11)
-- ==== ConvBwd.lean ====
abbrev S4096x1024 : Shape := ⟨2, ![4096, 1024]⟩
abbrev S4096x1536 : Shape := ⟨2, ![4096, 1536]⟩
abbrev S3x512 : Shape := ⟨2, ![3, 512]⟩
abbrev S4096x3x4x128 : Shape := ⟨4, ![4096, 3, 4, 128]⟩
abbrev S4096x4x3x128 : Shape := ⟨4, ![4096, 4, 3, 128]⟩
abbrev S_ : Shape := ⟨0, ![]⟩
abbrev S4096x2048 : Shape := ⟨2, ![4096, 2048]⟩
abbrev S4096x3584 : Shape := ⟨2, ![4096, 3584]⟩
abbrev S1x512 : Shape := ⟨2, ![1, 512]⟩
abbrev S4096x128 : Shape := ⟨2, ![4096, 128]⟩
abbrev S4096x384 : Shape := ⟨2, ![4096, 384]⟩
abbrev S3x128 : Shape := ⟨2, ![3, 128]⟩
abbrev S1x128 : Shape := ⟨2, ![1, 128]⟩
abbrev S128 : Shape := ⟨1, ![128]⟩

abbrev nBuf : Space → Nat
  | .hbm => 18
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S3x512, .f32⟩
  | .hbm, ⟨3, _⟩ => ⟨S4096x3x4x128, .f32⟩
  | .hbm, ⟨4, _⟩ => ⟨S4096x4x3x128, .f32⟩
  | .hbm, ⟨5, _⟩ => ⟨S4096x1536, .f32⟩
  | .hbm, ⟨6, _⟩ => ⟨S_, .f32⟩
  | .hbm, ⟨7, _⟩ => ⟨S4096x2048, .f32⟩
  | .hbm, ⟨8, _⟩ => ⟨S4096x3584, .f32⟩
  | .hbm, ⟨9, _⟩ => ⟨S4096x3584, .bf16⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S4096x1536, .bf16⟩
  | .hbm, ⟨14, _⟩ => ⟨S4096x4x3x128, .bf16⟩
  | .hbm, ⟨15, _⟩ => ⟨S4096x3x4x128, .bf16⟩
  | .hbm, ⟨16, _⟩ => ⟨S4096x1536, .bf16⟩
  | .hbm, ⟨17, _⟩ => ⟨S3x512, .f32⟩
  | .local _ .vmem, ⟨0, _⟩ => ⟨S4096x128, .f32⟩
  | .local _ .vmem, ⟨1, _⟩ => ⟨S4096x128, .f32⟩
  | .local _ .vmem, ⟨2, _⟩ => ⟨S4096x384, .f32⟩
  | .local _ .vmem, ⟨3, _⟩ => ⟨S4096x384, .f32⟩
  | .local _ .vmem, ⟨4, _⟩ => ⟨S3x128, .f32⟩
  | .local _ .vmem, ⟨5, _⟩ => ⟨S3x128, .f32⟩
  | .local _ .vmem, ⟨6, _⟩ => ⟨S4096x384, .bf16⟩
  | .local _ .vmem, ⟨7, _⟩ => ⟨S4096x384, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvBwdRefIdeal.lean ====
abbrev S4096x1024 : Shape := ⟨2, ![4096, 1024]⟩
abbrev S4096x1536 : Shape := ⟨2, ![4096, 1536]⟩
abbrev S3x512 : Shape := ⟨2, ![3, 512]⟩
abbrev S1x4096x1536 : Shape := ⟨3, ![1, 4096, 1536]⟩
abbrev S1x4096x512 : Shape := ⟨3, ![1, 4096, 512]⟩
abbrev S_ : Shape := ⟨0, ![]⟩
abbrev S1x2x512 : Shape := ⟨3, ![1, 2, 512]⟩
abbrev S1x4098x512 : Shape := ⟨3, ![1, 4098, 512]⟩
abbrev S1x512 : Shape := ⟨2, ![1, 512]⟩
abbrev S512 : Shape := ⟨1, ![512]⟩
abbrev S1x1x512 : Shape := ⟨3, ![1, 1, 512]⟩
abbrev S4096x512 : Shape := ⟨2, ![4096, 512]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S3x512, .f32⟩
  | .hbm, ⟨3, _⟩ => ⟨S1x4096x1536, .f32⟩
  | .hbm, ⟨4, _⟩ => ⟨S1x4096x512, .f32⟩
  | .hbm, ⟨5, _⟩ => ⟨S1x4096x512, .f32⟩
  | .hbm, ⟨6, _⟩ => ⟨S1x4096x512, .f32⟩
  | .hbm, ⟨7, _⟩ => ⟨S1x4096x512, .f32⟩
  | .hbm, ⟨8, _⟩ => ⟨S_, .f32⟩
  | .hbm, ⟨9, _⟩ => ⟨S1x2x512, .f32⟩
  | .hbm, ⟨10, _⟩ => ⟨S1x4098x512, .f32⟩
  | .hbm, ⟨11, _⟩ => ⟨S_, .f32⟩
  | .hbm, ⟨12, _⟩ => ⟨S1x2x512, .f32⟩
  | .hbm, ⟨13, _⟩ => ⟨S1x4096x512, .f32⟩
  | .hbm, ⟨14, _⟩ => ⟨S1x512, .f32⟩
  | .hbm, ⟨15, _⟩ => ⟨S512, .f32⟩
  | .hbm, ⟨16, _⟩ => ⟨S1x1x512, .f32⟩
  | .hbm, ⟨17, _⟩ => ⟨S1x4096x512, .f32⟩
  | .hbm, ⟨18, _⟩ => ⟨S1x4096x512, .f32⟩
  | .hbm, ⟨19, _⟩ => ⟨S1x4096x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S1x4096x512, .f32⟩
  | .hbm, ⟨24, _⟩ => ⟨S1x4096x512, .f32⟩
  | .hbm, ⟨25, _⟩ => ⟨S1x4096x512, .f32⟩
  | .hbm, ⟨26, _⟩ => ⟨S1x4096x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S1x4096x512, .f32⟩
  | .hbm, ⟨31, _⟩ => ⟨S1x4096x512, .f32⟩
  | .hbm, ⟨32, _⟩ => ⟨S1x4096x512, .f32⟩
  | .hbm, ⟨33, _⟩ => ⟨S1x4096x512, .f32⟩
  | .hbm, ⟨34, _⟩ => ⟨S4096x512, .f32⟩
  | .hbm, ⟨35, _⟩ => ⟨S1x4096x512, .f32⟩
  | .hbm, ⟨36, _⟩ => ⟨S1x4096x512, .f32⟩
  | .hbm, ⟨37, _⟩ => ⟨S1x4096x512, .f32⟩
  | .hbm, ⟨38, _⟩ => ⟨S1x4096x512, .f32⟩
  | .hbm, ⟨39, _⟩ => ⟨S_, .f32⟩
  | .hbm, ⟨40, _⟩ => ⟨S1x512, .f32⟩
  | .hbm, ⟨41, _⟩ => ⟨S1x1x512, .f32⟩
  | .hbm, ⟨42, _⟩ => ⟨S1x4096x512, .f32⟩
  | .hbm, ⟨43, _⟩ => ⟨S1x4096x512, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S3x512, .f32⟩
  | .hbm, ⟨49, _⟩ => ⟨S_, .f32⟩
  | .hbm, ⟨50, _⟩ => ⟨S1x4098x512, .f32⟩
  | .hbm, ⟨51, _⟩ => ⟨S1x4096x512, .f32⟩
  | .hbm, ⟨52, _⟩ => ⟨S_, .f32⟩
  | .hbm, ⟨53, _⟩ => ⟨S1x512, .f32⟩
  | .hbm, ⟨54, _⟩ => ⟨S1x1x512, .f32⟩
  | .hbm, ⟨55, _⟩ => ⟨S1x4096x512, .f32⟩
  | .hbm, ⟨56, _⟩ => ⟨S1x4096x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S3x512, .f32⟩
  | .hbm, ⟨62, _⟩ => ⟨S3x512, .f32⟩
  | .hbm, ⟨63, _⟩ => ⟨S_, .f32⟩
  | .hbm, ⟨64, _⟩ => ⟨S1x4098x512, .f32⟩
  | .hbm, ⟨65, _⟩ => ⟨S1x4098x512, .f32⟩
  | .hbm, ⟨66, _⟩ => ⟨S1x4096x512, .f32⟩
  | .hbm, ⟨67, _⟩ => ⟨S_, .f32⟩
  | .hbm, ⟨68, _⟩ => ⟨S1x512, .f32⟩
  | .hbm, ⟨69, _⟩ => ⟨S1x1x512, .f32⟩
  | .hbm, ⟨70, _⟩ => ⟨S1x4096x512, .f32⟩
  | .hbm, ⟨71, _⟩ => ⟨S1x4096x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S_, .f32⟩
  | .hbm, ⟨76, _⟩ => ⟨S3x512, .f32⟩
  | .hbm, ⟨77, _⟩ => ⟨S3x512, .f32⟩
  | .hbm, ⟨78, _⟩ => ⟨S_, .f32⟩
  | .hbm, ⟨79, _⟩ => ⟨S1x4098x512, .f32⟩
  | .hbm, ⟨80, _⟩ => ⟨S1x4098x512, .f32⟩
  | .hbm, ⟨81, _⟩ => ⟨S1x2x512, .f32⟩
  | .hbm, ⟨82, _⟩ => ⟨S1x4096x512, .f32⟩
  | .hbm, ⟨83, _⟩ => ⟨S1x4096x512, .f32⟩
  | .hbm, ⟨84, _⟩ => ⟨S1x4096x512, .f32⟩
  | .hbm, ⟨85, _⟩ => ⟨S1x4096x1536, .f32⟩
  | .hbm, ⟨86, _⟩ => ⟨S4096x1536, .f32⟩
  | .hbm, ⟨87, _⟩ => ⟨S4096x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== ConvFwd.lean ====
abbrev S4096x1536 : Shape := ⟨2, ![4096, 1536]⟩
abbrev S3x512 : Shape := ⟨2, ![3, 512]⟩
abbrev S4096x3x4x128 : Shape := ⟨4, ![4096, 3, 4, 128]⟩
abbrev S4096x4x3x128 : Shape := ⟨4, ![4096, 4, 3, 128]⟩
abbrev S_ : Shape := ⟨0, ![]⟩
abbrev S4096x2048 : Shape := ⟨2, ![4096, 2048]⟩
abbrev S4096x3584 : Shape := ⟨2, ![4096, 3584]⟩
abbrev S4096x512 : Shape := ⟨2, ![4096, 512]⟩
abbrev S4096x384 : Shape := ⟨2, ![4096, 384]⟩
abbrev S3x128 : Shape := ⟨2, ![3, 128]⟩
abbrev S4096x128 : Shape := ⟨2, ![4096, 128]⟩
abbrev S1x128 : Shape := ⟨2, ![1, 128]⟩

abbrev nBuf : Space → Nat
  | .hbm => 9
  | .vmem => 6
  | .smem => 0
  | _ => 0

abbrev bufTy : (tb : Table) → Fin (tcTables nBuf tb) → BufTy
  | .hbm, ⟨0, _⟩ => ⟨S4096x1536, .f32⟩
  | .hbm, ⟨1, _⟩ => ⟨S3x512, .f32⟩
  | .hbm, ⟨2, _⟩ => ⟨S4096x3x4x128, .f32⟩
  | .hbm, ⟨3, _⟩ => ⟨S4096x4x3x128, .f32⟩
  | .hbm, ⟨4, _⟩ => ⟨S4096x1536, .f32⟩
  | .hbm, ⟨5, _⟩ => ⟨S_, .f32⟩
  | .hbm, ⟨6, _⟩ => ⟨S4096x2048, .f32⟩
  | .hbm, ⟨7, _⟩ => ⟨S4096x3584, .f32⟩
  | .hbm, ⟨8, _⟩ => ⟨S4096x512, .bf16⟩
  | .local _ .vmem, ⟨0, _⟩ => ⟨S4096x384, .f32⟩
  | .local _ .vmem, ⟨1, _⟩ => ⟨S4096x384, .f32⟩
  | .local _ .vmem, ⟨2, _⟩ => ⟨S3x128, .f32⟩
  | .local _ .vmem, ⟨3, _⟩ => ⟨S3x128, .f32⟩
  | .local _ .vmem, ⟨4, _⟩ => ⟨S4096x128, .bf16⟩
  | .local _ .vmem, ⟨5, _⟩ => ⟨S4096x128, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvFwdRefIdeal.lean ====
abbrev S4096x1536 : Shape := ⟨2, ![4096, 1536]⟩
abbrev S3x512 : Shape := ⟨2, ![3, 512]⟩
abbrev S1x4096x1536 : Shape := ⟨3, ![1, 4096, 1536]⟩
abbrev S1x4096x512 : Shape := ⟨3, ![1, 4096, 512]⟩
abbrev S_ : Shape := ⟨0, ![]⟩
abbrev S1x2x512 : Shape := ⟨3, ![1, 2, 512]⟩
abbrev S1x4098x512 : Shape := ⟨3, ![1, 4098, 512]⟩
abbrev S1x512 : Shape := ⟨2, ![1, 512]⟩
abbrev S512 : Shape := ⟨1, ![512]⟩
abbrev S1x1x512 : Shape := ⟨3, ![1, 1, 512]⟩
abbrev S4096x512 : Shape := ⟨2, ![4096, 512]⟩

abbrev nBuf : Space → Nat
  | .hbm => 33
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S3x512, .f32⟩
  | .hbm, ⟨2, _⟩ => ⟨S1x4096x1536, .f32⟩
  | .hbm, ⟨3, _⟩ => ⟨S1x4096x512, .f32⟩
  | .hbm, ⟨4, _⟩ => ⟨S1x4096x512, .f32⟩
  | .hbm, ⟨5, _⟩ => ⟨S1x4096x512, .f32⟩
  | .hbm, ⟨6, _⟩ => ⟨S1x4096x512, .f32⟩
  | .hbm, ⟨7, _⟩ => ⟨S_, .f32⟩
  | .hbm, ⟨8, _⟩ => ⟨S1x2x512, .f32⟩
  | .hbm, ⟨9, _⟩ => ⟨S1x4098x512, .f32⟩
  | .hbm, ⟨10, _⟩ => ⟨S1x4096x512, .f32⟩
  | .hbm, ⟨11, _⟩ => ⟨S1x512, .f32⟩
  | .hbm, ⟨12, _⟩ => ⟨S512, .f32⟩
  | .hbm, ⟨13, _⟩ => ⟨S1x1x512, .f32⟩
  | .hbm, ⟨14, _⟩ => ⟨S1x4096x512, .f32⟩
  | .hbm, ⟨15, _⟩ => ⟨S1x4096x512, .f32⟩
  | .hbm, ⟨16, _⟩ => ⟨S1x4096x512, .f32⟩
  | .hbm, ⟨17, _⟩ => ⟨S1x512, .f32⟩
  | .hbm, ⟨18, _⟩ => ⟨S512, .f32⟩
  | .hbm, ⟨19, _⟩ => ⟨S1x1x512, .f32⟩
  | .hbm, ⟨20, _⟩ => ⟨S1x4096x512, .f32⟩
  | .hbm, ⟨21, _⟩ => ⟨S1x4096x512, .f32⟩
  | .hbm, ⟨22, _⟩ => ⟨S1x4096x512, .f32⟩
  | .hbm, ⟨23, _⟩ => ⟨S1x4096x512, .f32⟩
  | .hbm, ⟨24, _⟩ => ⟨S1x512, .f32⟩
  | .hbm, ⟨25, _⟩ => ⟨S512, .f32⟩
  | .hbm, ⟨26, _⟩ => ⟨S1x1x512, .f32⟩
  | .hbm, ⟨27, _⟩ => ⟨S1x4096x512, .f32⟩
  | .hbm, ⟨28, _⟩ => ⟨S1x4096x512, .f32⟩
  | .hbm, ⟨29, _⟩ => ⟨S1x4096x512, .f32⟩
  | .hbm, ⟨30, _⟩ => ⟨S1x4096x512, .f32⟩
  | .hbm, ⟨31, _⟩ => ⟨S4096x512, .f32⟩
  | .hbm, ⟨32, _⟩ => ⟨S4096x512, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== RwkvPost.lean ====
abbrev S4096x512 : Shape := ⟨2, ![4096, 512]⟩
abbrev S512 : Shape := ⟨1, ![512]⟩
abbrev S8x64 : Shape := ⟨2, ![8, 64]⟩
abbrev S_ : Shape := ⟨0, ![]⟩
abbrev S4096x2048 : Shape := ⟨2, ![4096, 2048]⟩
abbrev S1x512 : Shape := ⟨2, ![1, 512]⟩
abbrev S512x512 : Shape := ⟨2, ![512, 512]⟩
abbrev S256x256 : Shape := ⟨2, ![256, 256]⟩
abbrev S1024x512 : Shape := ⟨2, ![1024, 512]⟩
abbrev S1024x256 : Shape := ⟨2, ![1024, 256]⟩

abbrev nBuf : Space → Nat
  | .hbm => 15
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S512, .f32⟩
  | .hbm, ⟨6, _⟩ => ⟨S512, .f32⟩
  | .hbm, ⟨7, _⟩ => ⟨S8x64, .f32⟩
  | .hbm, ⟨8, _⟩ => ⟨S_, .f32⟩
  | .hbm, ⟨9, _⟩ => ⟨S4096x512, .f32⟩
  | .hbm, ⟨10, _⟩ => ⟨S4096x2048, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RwkvPostRefIdeal.lean ====
abbrev S4096x512 : Shape := ⟨2, ![4096, 512]⟩
abbrev S512 : Shape := ⟨1, ![512]⟩
abbrev S8x64 : Shape := ⟨2, ![8, 64]⟩
abbrev S1x4096x8x64 : Shape := ⟨4, ![1, 4096, 8, 64]⟩
abbrev S_ : Shape := ⟨0, ![]⟩
abbrev S1x4096x8 : Shape := ⟨3, ![1, 4096, 8]⟩
abbrev S1x4096x8x1 : Shape := ⟨4, ![1, 4096, 8, 1]⟩
abbrev S1x4096x512 : Shape := ⟨3, ![1, 4096, 512]⟩
abbrev S1x1x512 : Shape := ⟨3, ![1, 1, 512]⟩
abbrev S1x1x8x64 : Shape := ⟨4, ![1, 1, 8, 64]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S512, .f32⟩
  | .hbm, ⟨6, _⟩ => ⟨S512, .f32⟩
  | .hbm, ⟨7, _⟩ => ⟨S8x64, .f32⟩
  | .hbm, ⟨8, _⟩ => ⟨S1x4096x8x64, .f32⟩
  | .hbm, ⟨9, _⟩ => ⟨S1x4096x8x64, .f32⟩
  | .hbm, ⟨10, _⟩ => ⟨S1x4096x8x64, .f32⟩
  | .hbm, ⟨11, _⟩ => ⟨S1x4096x8x64, .f32⟩
  | .hbm, ⟨12, _⟩ => ⟨S_, .f32⟩
  | .hbm, ⟨13, _⟩ => ⟨S1x4096x8, .f32⟩
  | .hbm, ⟨14, _⟩ => ⟨S1x4096x8x1, .f32⟩
  | .hbm, ⟨15, _⟩ => ⟨S_, .f32⟩
  | .hbm, ⟨16, _⟩ => ⟨S1x4096x8x1, .f32⟩
  | .hbm, ⟨17, _⟩ => ⟨S1x4096x8x1, .f32⟩
  | .hbm, ⟨18, _⟩ => ⟨S1x4096x8x64, .f32⟩
  | .hbm, ⟨19, _⟩ => ⟨S1x4096x8x64, .f32⟩
  | .hbm, ⟨20, _⟩ => ⟨S1x4096x8x64, .f32⟩
  | .hbm, ⟨21, _⟩ => ⟨S_, .f32⟩
  | .hbm, ⟨22, _⟩ => ⟨S1x4096x8, .f32⟩
  | .hbm, ⟨23, _⟩ => ⟨S1x4096x8x1, .f32⟩
  | .hbm, ⟨24, _⟩ => ⟨S_, .f32⟩
  | .hbm, ⟨25, _⟩ => ⟨S1x4096x8x1, .f32⟩
  | .hbm, ⟨26, _⟩ => ⟨S1x4096x8x1, .f32⟩
  | .hbm, ⟨27, _⟩ => ⟨S1x4096x8x64, .f32⟩
  | .hbm, ⟨28, _⟩ => ⟨S1x4096x8x64, .f32⟩
  | .hbm, ⟨29, _⟩ => ⟨S_, .f32⟩
  | .hbm, ⟨30, _⟩ => ⟨S1x4096x8x1, .f32⟩
  | .hbm, ⟨31, _⟩ => ⟨S1x4096x8x1, .f32⟩
  | .hbm, ⟨32, _⟩ => ⟨S1x4096x8x1, .f32⟩
  | .hbm, ⟨33, _⟩ => ⟨S1x4096x8x64, .f32⟩
  | .hbm, ⟨34, _⟩ => ⟨S1x4096x8x64, .f32⟩
  | .hbm, ⟨35, _⟩ => ⟨S1x4096x512, .f32⟩
  | .hbm, ⟨36, _⟩ => ⟨S1x1x512, .f32⟩
  | .hbm, ⟨37, _⟩ => ⟨S1x4096x512, .f32⟩
  | .hbm, ⟨38, _⟩ => ⟨S1x4096x512, .f32⟩
  | .hbm, ⟨39, _⟩ => ⟨S1x1x512, .f32⟩
  | .hbm, ⟨40, _⟩ => ⟨S1x4096x512, .f32⟩
  | .hbm, ⟨41, _⟩ => ⟨S1x4096x512, .f32⟩
  | .hbm, ⟨42, _⟩ => ⟨S1x4096x8x64, .f32⟩
  | .hbm, ⟨43, _⟩ => ⟨S1x1x8x64, .f32⟩
  | .hbm, ⟨44, _⟩ => ⟨S1x4096x8x64, .f32⟩
  | .hbm, ⟨45, _⟩ => ⟨S1x4096x8x64, .f32⟩
  | .hbm, ⟨46, _⟩ => ⟨S_, .f32⟩
  | .hbm, ⟨47, _⟩ => ⟨S1x4096x8, .f32⟩
  | .hbm, ⟨48, _⟩ => ⟨S1x4096x8x1, .f32⟩
  | .hbm, ⟨49, _⟩ => ⟨S1x4096x8x64, .f32⟩
  | .hbm, ⟨50, _⟩ => ⟨S1x4096x8x64, .f32⟩
  | .hbm, ⟨51, _⟩ => ⟨S1x4096x512, .f32⟩
  | .hbm, ⟨52, _⟩ => ⟨S1x4096x512, .f32⟩
  | .hbm, ⟨53, _⟩ => ⟨S1x4096x512, .f32⟩
  | .hbm, ⟨54, _⟩ => ⟨S1x4096x512, .f32⟩
  | .hbm, ⟨55, _⟩ => ⟨S4096x512, .f32⟩
  | .hbm, ⟨56, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== RwkvPostBwd.lean ====
abbrev S4096x1024 : Shape := ⟨2, ![4096, 1024]⟩
abbrev S4096x512 : Shape := ⟨2, ![4096, 512]⟩
abbrev S512 : Shape := ⟨1, ![512]⟩
abbrev S8x64 : Shape := ⟨2, ![8, 64]⟩
abbrev S_ : Shape := ⟨0, ![]⟩
abbrev S4096x2048 : Shape := ⟨2, ![4096, 2048]⟩
abbrev S1x512 : Shape := ⟨2, ![1, 512]⟩
abbrev S512x512 : Shape := ⟨2, ![512, 512]⟩
abbrev S256x256 : Shape := ⟨2, ![256, 256]⟩
abbrev S1024x512 : Shape := ⟨2, ![1024, 512]⟩
abbrev S1024x256 : Shape := ⟨2, ![1024, 256]⟩

abbrev nBuf : Space → Nat
  | .hbm => 26
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S512, .f32⟩
  | .hbm, ⟨7, _⟩ => ⟨S512, .f32⟩
  | .hbm, ⟨8, _⟩ => ⟨S8x64, .f32⟩
  | .hbm, ⟨9, _⟩ => ⟨S_, .f32⟩
  | .hbm, ⟨10, _⟩ => ⟨S4096x512, .f32⟩
  | .hbm, ⟨11, _⟩ => ⟨S4096x2048, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S512, .f32⟩
  | .hbm, ⟨24, _⟩ => ⟨S512, .f32⟩
  | .hbm, ⟨25, _⟩ => ⟨S8x64, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_129 : BitVec 32 := 0#32
  let v475 : BitVec 1 := Scalar.cmpi .eq arg0 c0_i32_129
  let v476 : BitVec 32 := Scalar.extui v475
  let c0_i32_130 : BitVec 32 := 0#32
  let v477 : BitVec 1 := Scalar.cmpi .ne v476 c0_i32_130
  v477

def k0_cond2 (i : grid0.Coords) : BitVec 1 :=
  let arg0 : BitVec 32 := BitVec.ofNat 32 (i 0).val
  let c0_i32_129 : BitVec 32 := 0#32
  let v475 : BitVec 1 := Scalar.cmpi .eq arg0 c0_i32_129
  let v_true : BitVec 1 := 1#1
  let v478 : BitVec 1 := Scalar.xori v475 v_true
  let v479 : BitVec 32 := Scalar.extui v478
  let c0_i32_131 : BitVec 32 := 0#32
  let v480 : BitVec 1 := Scalar.cmpi .ne v479 c0_i32_131
  v480

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== RwkvPostBwdRefIdeal.lean ====
abbrev S4096x1024 : Shape := ⟨2, ![4096, 1024]⟩
abbrev S4096x512 : Shape := ⟨2, ![4096, 512]⟩
abbrev S512 : Shape := ⟨1, ![512]⟩
abbrev S8x64 : Shape := ⟨2, ![8, 64]⟩
abbrev S1x4096x8x64 : Shape := ⟨4, ![1, 4096, 8, 64]⟩
abbrev S_ : Shape := ⟨0, ![]⟩
abbrev S1x4096x8 : Shape := ⟨3, ![1, 4096, 8]⟩
abbrev S1x4096x8x1 : Shape := ⟨4, ![1, 4096, 8, 1]⟩
abbrev S1x4096x512 : Shape := ⟨3, ![1, 4096, 512]⟩
abbrev S1x1x512 : Shape := ⟨3, ![1, 1, 512]⟩
abbrev S1x1x8x64 : Shape := ⟨4, ![1, 1, 8, 64]⟩
abbrev S4096x8 : Shape := ⟨2, ![4096, 8]⟩
abbrev S1x8x64 : Shape := ⟨3, ![1, 8, 64]⟩
abbrev S1x512 : Shape := ⟨2, ![1, 512]⟩

abbrev nBuf : Space → Nat
  | .hbm => 142
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x512, .f32⟩
  | 4 => ⟨S4096x512, .f32⟩
  | 5 => ⟨S4096x512, .f32⟩
  | 6 => ⟨S512, .f32⟩
  | 7 => ⟨S512, .f32⟩
  | 8 => ⟨S8x64, .f32⟩
  | 9 => ⟨S1x4096x8x64, .f32⟩
  | 10 => ⟨S1x4096x8x64, .f32⟩
  | 11 => ⟨S1x4096x8x64, .f32⟩
  | 12 => ⟨S1x4096x8x64, .f32⟩
  | 13 => ⟨S_, .f32⟩
  | 14 => ⟨S1x4096x8, .f32⟩
  | 15 => ⟨S1x4096x8x1, .f32⟩
  | 16 => ⟨S_, .f32⟩
  | 17 => ⟨S1x4096x8x1, .f32⟩
  | 18 => ⟨S1x4096x8x1, .f32⟩
  | 19 => ⟨S1x4096x8x64, .f32⟩
  | 20 => ⟨S1x4096x8x64, .f32⟩
  | 21 => ⟨S1x4096x8x64, .f32⟩
  | 22 => ⟨S_, .f32⟩
  | 23 => ⟨S1x4096x8x64, .f32⟩
  | 24 => ⟨S1x4096x8x64, .f32⟩
  | 25 => ⟨S_, .f32⟩
  | 26 => ⟨S1x4096x8, .f32⟩
  | 27 => ⟨S1x4096x8x1, .f32⟩
  | 28 => ⟨S_, .f32⟩
  | 29 => ⟨S1x4096x8x1, .f32⟩
  | 30 => ⟨S1x4096x8x1, .f32⟩
  | 31 => ⟨S1x4096x8x64, .f32⟩
  | 32 => ⟨S1x4096x8x64, .f32⟩
  | 33 => ⟨S_, .f32⟩
  | 34 => ⟨S1x4096x8x1, .f32⟩
  | 35 => ⟨S1x4096x8x1, .f32⟩
  | 36 => ⟨S1x4096x8x1, .f32⟩
  | 37 => ⟨S1x4096x8x1, .f32⟩
  | 38 => ⟨S_, .f32⟩
  | 39 => ⟨S1x4096x8x1, .f32⟩
  | 40 => ⟨S1x4096x8x1, .f32⟩
  | 41 => ⟨S1x4096x8x64, .f32⟩
  | 42 => ⟨S1x4096x8x64, .f32⟩
  | 43 => ⟨S1x4096x512, .f32⟩
  | 44 => ⟨S1x1x512, .f32⟩
  | 45 => ⟨S1x4096x512, .f32⟩
  | 46 => ⟨S1x4096x512, .f32⟩
  | 47 => ⟨S1x1x512, .f32⟩
  | 48 => ⟨S1x4096x512, .f32⟩
  | 49 => ⟨S1x4096x512, .f32⟩
  | 50 => ⟨S1x4096x8x64, .f32⟩
  | 51 => ⟨S1x1x8x64, .f32⟩
  | 52 => ⟨S1x4096x8x64, .f32⟩
  | 53 => ⟨S1x4096x8x64, .f32⟩
  | 54 => ⟨S_, .f32⟩
  | 55 => ⟨S1x4096x8, .f32⟩
  | 56 => ⟨S1x4096x8x1, .f32⟩
  | 57 => ⟨S1x4096x8x64, .f32⟩
  | 58 => ⟨S1x4096x8x64, .f32⟩
  | 59 => ⟨S1x4096x512, .f32⟩
  | 60 => ⟨S1x4096x512, .f32⟩
  | 61 => ⟨S1x4096x512, .f32⟩
  | 62 => ⟨S1x4096x512, .f32⟩
  | 63 => ⟨S4096x512, .f32⟩
  | 64 => ⟨S4096x512, .f32⟩
  | 65 => ⟨S1x4096x512, .f32⟩
  | 66 => ⟨S1x4096x512, .f32⟩
  | 67 => ⟨S1x4096x512, .f32⟩
  | 68 => ⟨S_, .f32⟩
  | 69 => ⟨S4096x512, .f32⟩
  | 70 => ⟨S1x4096x8x64, .f32⟩
  | 71 => ⟨S1x4096x8x64, .f32⟩
  | 72 => ⟨S1x4096x8x64, .f32⟩
  | 73 => ⟨S1x4096x8x64, .f32⟩
  | 74 => ⟨S_, .f32⟩
  | 75 => ⟨S1x4096x8, .f32⟩
  | 76 => ⟨S1x4096x8x1, .f32⟩
  | 77 => ⟨S_, .f32⟩
  | 78 => ⟨S4096x8, .f32⟩
  | 79 => ⟨S1x4096x8, .f32⟩
  | 80 => ⟨S1x4096x8x64, .f32⟩
  | 81 => ⟨S1x4096x8x64, .f32⟩
  | 82 => ⟨S_, .f32⟩
  | 83 => ⟨S1x8x64, .f32⟩
  | 84 => ⟨S1x1x8x64, .f32⟩
  | 85 => ⟨S1x4096x8x64, .f32⟩
  | 86 => ⟨S1x4096x8x64, .f32⟩
  | 87 => ⟨S_, .f32⟩
  | 88 => ⟨S8x64, .f32⟩
  | 89 => ⟨S1x4096x8x64, .f32⟩
  | 90 => ⟨S1x4096x8x64, .f32⟩
  | 91 => ⟨S_, .f32⟩
  | 92 => ⟨S1x512, .f32⟩
  | 93 => ⟨S1x1x512, .f32⟩
  | 94 => ⟨S_, .f32⟩
  | 95 => ⟨S512, .f32⟩
  | 96 => ⟨S1x4096x512, .f32⟩
  | 97 => ⟨S_, .f32⟩
  | 98 => ⟨S1x512, .f32⟩
  | 99 => ⟨S1x1x512, .f32⟩
  | 100 => ⟨S1x4096x512, .f32⟩
  | 101 => ⟨S1x4096x512, .f32⟩
  | 102 => ⟨S_, .f32⟩
  | 103 => ⟨S512, .f32⟩
  | 104 => ⟨S1x4096x8x64, .f32⟩
  | 105 => ⟨S1x4096x8x64, .f32⟩
  | 106 => ⟨S_, .f32⟩
  | 107 => ⟨S1x4096x8, .f32⟩
  | 108 => ⟨S1x4096x8x1, .f32⟩
  | 109 => ⟨S1x4096x8x64, .f32⟩
  | 110 => ⟨S1x4096x8x64, .f32⟩
  | 111 => ⟨S1x4096x8x1, .f32⟩
  | 112 => ⟨S1x4096x8x64, .f32⟩
  | 113 => ⟨S_, .f32⟩
  | 114 => ⟨S1x4096x8, .f32⟩
  | 115 => ⟨S1x4096x8x1, .f32⟩
  | 116 => ⟨S_, .f32⟩
  | 117 => ⟨S1x4096x8x1, .f32⟩
  | 118 => ⟨S1x4096x8x1, .f32⟩
  | 119 => ⟨S_, .f32⟩
  | 120 => ⟨S4096x8, .f32⟩
  | 121 => ⟨S1x4096x8, .f32⟩
  | 122 => ⟨S1x4096x8x64, .f32⟩
  | 123 => ⟨S1x4096x8x64, .f32⟩
  | 124 => ⟨S1x4096x8x64, .f32⟩
  | 125 => ⟨S_, .f32⟩
  | 126 => ⟨S1x4096x8, .f32⟩
  | 127 => ⟨S1x4096x8x1, .f32⟩
  | _ => ⟨S4096x1024, .f32⟩

abbrev hbmTy0_1 (i : Nat) : BufTy := match i % 128 with
  | 0 => ⟨S1x4096x8x64, .f32⟩
  | 1 => ⟨S1x4096x8x1, .f32⟩
  | 2 => ⟨S_, .f32⟩
  | 3 => ⟨S1x4096x8x1, .f32⟩
  | 4 => ⟨S1x4096x8x1, .f32⟩
  | 5 => ⟨S_, .f32⟩
  | 6 => ⟨S4096x8, .f32⟩
  | 7 => ⟨S1x4096x8, .f32⟩
  | 8 => ⟨S1x4096x8x64, .f32⟩
  | 9 => ⟨S1x4096x8x64, .f32⟩
  | 10 => ⟨S4096x512, .f32⟩
  | 11 => ⟨S4096x512, .f32⟩
  | 12 => ⟨S4096x512, .f32⟩
  | 13 => ⟨S4096x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_15 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_cst_18 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_20 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_21 : Ref sig .tc := ⟨.hbm, 130, rfl⟩
abbrev main_v99 : Ref sig .tc := ⟨.hbm, 131, rfl⟩
abbrev main_v100 : Ref sig .tc := ⟨.hbm, 132, rfl⟩
abbrev main_cst_22 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]
-- ==== MlpDownDw.lean ====
abbrev S4096x4096 : Shape := ⟨2, ![4096, 4096]⟩
abbrev S4096x1024 : Shape := ⟨2, ![4096, 1024]⟩
abbrev S_ : Shape := ⟨0, ![]⟩
abbrev S4096x512 : Shape := ⟨2, ![4096, 512]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownDwRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S1024x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== MlpDownDx.lean ====
abbrev S4096x4096 : Shape := ⟨2, ![4096, 4096]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownDxRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S1024x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== MlpUpDw.lean ====
abbrev S4096x1024 : Shape := ⟨2, ![4096, 1024]⟩
abbrev S1024x4096 : Shape := ⟨2, ![1024, 4096]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpDwRefIdeal.lean ====
abbrev S4096x1024 : Shape := ⟨2, ![4096, 1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpUpDx.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x4096, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32 : BitVec 32 := 0#32
  let v40 : BitVec 1 := Scalar.cmpi .eq v1 c0_i32
  let v41 : BitVec 32 := Scalar.extui v40
  let c0_i32_19 : BitVec 32 := 0#32
  let v42 : BitVec 1 := Scalar.cmpi .ne v41 c0_i32_19
  v42

def k0_cond2 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_20 : BitVec 32 := 0#32
  let v43 : BitVec 1 := Scalar.cmpi .sgt v1 c0_i32_20
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== MlpUpDxRefIdeal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S1024x4096, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== PleGateDx.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32 : BitVec 32 := 0#32
  let v40 : BitVec 1 := Scalar.cmpi .eq v1 c0_i32
  let v41 : BitVec 32 := Scalar.extui v40
  let c0_i32_19 : BitVec 32 := 0#32
  let v42 : BitVec 1 := Scalar.cmpi .ne v41 c0_i32_19
  v42

def k0_cond2 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_20 : BitVec 32 := 0#32
  let v43 : BitVec 1 := Scalar.cmpi .sgt v1 c0_i32_20
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== PleGateDxRefIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x1024, .f32⟩
  | .hbm, ⟨27, _⟩ => ⟨S1024x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PleGateDw.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateDwRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PleProjDw.lean ====
abbrev S4096x256 : Shape := ⟨2, ![4096, 256]⟩
abbrev S256x1024 : Shape := ⟨2, ![256, 1024]⟩
abbrev S4096x1024 : Shape := ⟨2, ![4096, 1024]⟩
abbrev S8x256x128 : Shape := ⟨3, ![8, 256, 128]⟩
abbrev S4096x128 : Shape := ⟨2, ![4096, 128]⟩
abbrev S1x256x128 : Shape := ⟨3, ![1, 256, 128]⟩
abbrev S256x128 : Shape := ⟨2, ![256, 128]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .bf16⟩
  | .hbm, ⟨4, _⟩ => ⟨S8x256x128, .bf16⟩
  | .local _ .vmem, ⟨0, _⟩ => ⟨S4096x256, .f32⟩
  | .local _ .vmem, ⟨1, _⟩ => ⟨S4096x128, .bf16⟩
  | .local _ .vmem, ⟨2, _⟩ => ⟨S4096x128, .bf16⟩
  | .local _ .vmem, ⟨3, _⟩ => ⟨S1x256x128, .bf16⟩
  | .local _ .vmem, ⟨4, _⟩ => ⟨S1x256x128, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjDwRefIdeal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .f32⟩
  | .hbm, ⟨4, _⟩ => ⟨S1024x256, .f32⟩
  | .hbm, ⟨5, _⟩ => ⟨S256x1024, .f32⟩
  | .hbm, ⟨6, _⟩ => ⟨S4096x256, .f32⟩
  | .hbm, ⟨7, _⟩ => ⟨S256x8x128, .f32⟩
  | .hbm, ⟨8, _⟩ => ⟨S8x256x128, .f32⟩
  | .hbm, ⟨9, _⟩ => ⟨S8x256x128, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S4096x1024 : Shape := ⟨2, ![4096, 1024]⟩
abbrev S1024x3360 : Shape := ⟨2, ![1024, 3360]⟩
abbrev S4096x3360 : Shape := ⟨2, ![4096, 3360]⟩
abbrev S4096x1536 : Shape := ⟨2, ![4096, 1536]⟩
abbrev S4096x3x4x128 : Shape := ⟨4, ![4096, 3, 4, 128]⟩
abbrev S4096x4x3x128 : Shape := ⟨4, ![4096, 4, 3, 128]⟩
abbrev S4096x1600 : Shape := ⟨2, ![4096, 1600]⟩
abbrev S4096x64 : Shape := ⟨2, ![4096, 64]⟩
abbrev S_ : Shape := ⟨0, ![]⟩
abbrev S4096x192 : Shape := ⟨2, ![4096, 192]⟩
abbrev S4096x160 : Shape := ⟨2, ![4096, 160]⟩
abbrev S4096x256 : Shape := ⟨2, ![4096, 256]⟩
abbrev S4096x3584 : Shape := ⟨2, ![4096, 3584]⟩
abbrev S1024x3584 : Shape := ⟨2, ![1024, 3584]⟩
abbrev S4096x896 : Shape := ⟨2, ![4096, 896]⟩
abbrev S1024x896 : Shape := ⟨2, ![1024, 896]⟩
abbrev S1024x1536 : Shape := ⟨2, ![1024, 1536]⟩
abbrev S1024x4x3x128 : Shape := ⟨4, ![1024, 4, 3, 128]⟩
abbrev S1024x3x4x128 : Shape := ⟨4, ![1024, 3, 4, 128]⟩
abbrev S1024x1600 : Shape := ⟨2, ![1024, 1600]⟩
abbrev S1024x64 : Shape := ⟨2, ![1024, 64]⟩
abbrev S1024x160 : Shape := ⟨2, ![1024, 160]⟩

abbrev nBuf : Space → Nat
  | .hbm => 26
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3360, .f32⟩
  | .hbm, ⟨2, _⟩ => ⟨S4096x3360, .f32⟩
  | .hbm, ⟨3, _⟩ => ⟨S4096x1024, .bf16⟩
  | .hbm, ⟨4, _⟩ => ⟨S4096x3360, .bf16⟩
  | .hbm, ⟨5, _⟩ => ⟨S4096x1536, .bf16⟩
  | .hbm, ⟨6, _⟩ => ⟨S4096x3x4x128, .bf16⟩
  | .hbm, ⟨7, _⟩ => ⟨S4096x4x3x128, .bf16⟩
  | .hbm, ⟨8, _⟩ => ⟨S4096x1536, .bf16⟩
  | .hbm, ⟨9, _⟩ => ⟨S4096x1600, .bf16⟩
  | .hbm, ⟨10, _⟩ => ⟨S4096x64, .bf16⟩
  | .hbm, ⟨11, _⟩ => ⟨S_, .bf16⟩
  | .hbm, ⟨12, _⟩ => ⟨S4096x192, .bf16⟩
  | .hbm, ⟨13, _⟩ => ⟨S4096x160, .bf16⟩
  | .hbm, ⟨14, _⟩ => ⟨S_, .bf16⟩
  | .hbm, ⟨15, _⟩ => ⟨S4096x256, .bf16⟩
  | .hbm, ⟨16, _⟩ => ⟨S4096x3584, .bf16⟩
  | .hbm, ⟨17, _⟩ => ⟨S1024x3584, .bf16⟩
  | .hbm, ⟨18, _⟩ => ⟨S1024x1536, .bf16⟩
  | .hbm, ⟨19, _⟩ => ⟨S1024x4x3x128, .bf16⟩
  | .hbm, ⟨20, _⟩ => ⟨S1024x3x4x128, .bf16⟩
  | .hbm, ⟨21, _⟩ => ⟨S1024x1536, .bf16⟩
  | .hbm, ⟨22, _⟩ => ⟨S1024x1600, .bf16⟩
  | .hbm, ⟨23, _⟩ => ⟨S1024x64, .bf16⟩
  | .hbm, ⟨24, _⟩ => ⟨S1024x160, .bf16⟩
  | .hbm, ⟨25, _⟩ => ⟨S1024x3360, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1024x896, .bf16⟩
  | .local _ .vmem, ⟨4, _⟩ => ⟨S1024x896, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x1024 : Shape := ⟨2, ![4096, 1024]⟩
abbrev S1024x3360 : Shape := ⟨2, ![1024, 3360]⟩
abbrev S4096x3360 : Shape := ⟨2, ![4096, 3360]⟩
abbrev S3360x1024 : Shape := ⟨2, ![3360, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3360, .f32⟩
  | .hbm, ⟨2, _⟩ => ⟨S4096x3360, .f32⟩
  | .hbm, ⟨3, _⟩ => ⟨S4096x3360, .f32⟩
  | .hbm, ⟨4, _⟩ => ⟨S3360x1024, .f32⟩
  | .hbm, ⟨5, _⟩ => ⟨S1024x3360, .f32⟩
  | .hbm, ⟨6, _⟩ => ⟨S4096x1024, .f32⟩
  | .hbm, ⟨7, _⟩ => ⟨S1024x3360, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDx.lean ====
abbrev S4096x1024 : Shape := ⟨2, ![4096, 1024]⟩
abbrev S1024 : Shape := ⟨1, ![1024]⟩
abbrev S1024x3360 : Shape := ⟨2, ![1024, 3360]⟩
abbrev S4096x3360 : Shape := ⟨2, ![4096, 3360]⟩
abbrev S4096x1536 : Shape := ⟨2, ![4096, 1536]⟩
abbrev S4096x3x4x128 : Shape := ⟨4, ![4096, 3, 4, 128]⟩
abbrev S4096x4x3x128 : Shape := ⟨4, ![4096, 4, 3, 128]⟩
abbrev S4096x1600 : Shape := ⟨2, ![4096, 1600]⟩
abbrev S4096x64 : Shape := ⟨2, ![4096, 64]⟩
abbrev S_ : Shape := ⟨0, ![]⟩
abbrev S4096x192 : Shape := ⟨2, ![4096, 192]⟩
abbrev S4096x160 : Shape := ⟨2, ![4096, 160]⟩
abbrev S4096x256 : Shape := ⟨2, ![4096, 256]⟩
abbrev S4096x3584 : Shape := ⟨2, ![4096, 3584]⟩
abbrev S1024x1536 : Shape := ⟨2, ![1024, 1536]⟩
abbrev S1024x3x4x128 : Shape := ⟨4, ![1024, 3, 4, 128]⟩
abbrev S1024x4x3x128 : Shape := ⟨4, ![1024, 4, 3, 128]⟩
abbrev S1024x1600 : Shape := ⟨2, ![1024, 1600]⟩
abbrev S1024x64 : Shape := ⟨2, ![1024, 64]⟩
abbrev S1024x192 : Shape := ⟨2, ![1024, 192]⟩
abbrev S1024x160 : Shape := ⟨2, ![1024, 160]⟩
abbrev S1024x256 : Shape := ⟨2, ![1024, 256]⟩
abbrev S1024x3584 : Shape := ⟨2, ![1024, 3584]⟩
abbrev S1x1024 : Shape := ⟨2, ![1, 1024]⟩
abbrev S512x3584 : Shape := ⟨2, ![512, 3584]⟩
abbrev S512x1024 : Shape := ⟨2, ![512, 1024]⟩
abbrev S512 : Shape := ⟨1, ![512]⟩
abbrev S512x1 : Shape := ⟨2, ![512, 1]⟩

abbrev nBuf : Space → Nat
  | .hbm => 33
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3360, .f32⟩
  | .hbm, ⟨3, _⟩ => ⟨S4096x3360, .f32⟩
  | .hbm, ⟨4, _⟩ => ⟨S4096x1024, .f32⟩
  | .hbm, ⟨5, _⟩ => ⟨S4096x3360, .bf16⟩
  | .hbm, ⟨6, _⟩ => ⟨S4096x1536, .bf16⟩
  | .hbm, ⟨7, _⟩ => ⟨S4096x3x4x128, .bf16⟩
  | .hbm, ⟨8, _⟩ => ⟨S4096x4x3x128, .bf16⟩
  | .hbm, ⟨9, _⟩ => ⟨S4096x1536, .bf16⟩
  | .hbm, ⟨10, _⟩ => ⟨S4096x1600, .bf16⟩
  | .hbm, ⟨11, _⟩ => ⟨S4096x64, .bf16⟩
  | .hbm, ⟨12, _⟩ => ⟨S_, .bf16⟩
  | .hbm, ⟨13, _⟩ => ⟨S4096x192, .bf16⟩
  | .hbm, ⟨14, _⟩ => ⟨S4096x160, .bf16⟩
  | .hbm, ⟨15, _⟩ => ⟨S_, .bf16⟩
  | .hbm, ⟨16, _⟩ => ⟨S4096x256, .bf16⟩
  | .hbm, ⟨17, _⟩ => ⟨S4096x3584, .bf16⟩
  | .hbm, ⟨18, _⟩ => ⟨S1024x1536, .f32⟩
  | .hbm, ⟨19, _⟩ => ⟨S1024x3x4x128, .f32⟩
  | .hbm, ⟨20, _⟩ => ⟨S1024x4x3x128, .f32⟩
  | .hbm, ⟨21, _⟩ => ⟨S1024x1536, .f32⟩
  | .hbm, ⟨22, _⟩ => ⟨S1024x1600, .f32⟩
  | .hbm, ⟨23, _⟩ => ⟨S1024x64, .f32⟩
  | .hbm, ⟨24, _⟩ => ⟨S_, .f32⟩
  | .hbm, ⟨25, _⟩ => ⟨S1024x192, .f32⟩
  | .hbm, ⟨26, _⟩ => ⟨S1024x160, .f32⟩
  | .hbm, ⟨27, _⟩ => ⟨S_, .f32⟩
  | .hbm, ⟨28, _⟩ => ⟨S1024x256, .f32⟩
  | .hbm, ⟨29, _⟩ => ⟨S1024x3584, .f32⟩
  | .hbm, ⟨30, _⟩ => ⟨S1x1024, .f32⟩
  | .hbm, ⟨31, _⟩ => ⟨S4096x1024, .f32⟩
  | .hbm, ⟨32, _⟩ => ⟨S1x1024, .f32⟩
  | .local _ .vmem, ⟨0, _⟩ => ⟨S512x3584, .bf16⟩
  | .local _ .vmem, ⟨1, _⟩ => ⟨S512x3584, .bf16⟩
  | .local _ .vmem, ⟨2, _⟩ => ⟨S1024x3584, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32 : BitVec 32 := 0#32
  let v39 : BitVec 1 := Scalar.cmpi .eq v1 c0_i32
  let v40 : BitVec 32 := Scalar.extui v39
  let c0_i32_17 : BitVec 32 := 0#32
  let v41 : BitVec 1 := Scalar.cmpi .ne v40 c0_i32_17
  v41

def k0_cond2 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_18 : BitVec 32 := 0#32
  let v42 : BitVec 1 := Scalar.cmpi .sgt v1 c0_i32_18
  let v43 : BitVec 32 := Scalar.extui v42
  let c0_i32_19 : BitVec 32 := 0#32
  let v44 : BitVec 1 := Scalar.cmpi .ne v43 c0_i32_19
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== InDxRefIdeal.lean ====
abbrev S4096x1024 : Shape := ⟨2, ![4096, 1024]⟩
abbrev S1024 : Shape := ⟨1, ![1024]⟩
abbrev S1024x3360 : Shape := ⟨2, ![1024, 3360]⟩
abbrev S4096x3360 : Shape := ⟨2, ![4096, 3360]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3360x1024 : Shape := ⟨2, ![3360, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3360, .f32⟩
  | .hbm, ⟨3, _⟩ => ⟨S4096x3360, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3360, .f32⟩
  | .hbm, ⟨26, _⟩ => ⟨S3360x1024, .f32⟩
  | .hbm, ⟨27, _⟩ => ⟨S1024x3360, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Head.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S1x1024, .f32⟩
  | .hbm, ⟨10, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_31 : BitVec 32 := 0#32
  let v75 : BitVec 1 := Scalar.cmpi .ne v74 c0_i32_31
  v75

def k0_cond2 (i : grid0.Coords) : BitVec 1 :=
  let arg0 : BitVec 32 := BitVec.ofNat 32 (i 0).val
  let c0_i32 : BitVec 32 := 0#32
  let v73 : BitVec 1 := Scalar.cmpi .eq arg0 c0_i32
  let v_true : BitVec 1 := 1#1
  let v76 : BitVec 1 := Scalar.xori v73 v_true
  let v77 : BitVec 32 := Scalar.extui v76
  let c0_i32_32 : BitVec 32 := 0#32
  let v78 : BitVec 1 := Scalar.cmpi .ne v77 c0_i32_32
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== HeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .bf16⟩
  | .hbm, ⟨91, _⟩ => ⟨S4096x1024, .bf16⟩
  | .hbm, ⟨92, _⟩ => ⟨S1x1024, .f32⟩
  | .hbm, ⟨93, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_cst_11 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_cst_13 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== AdamUp.lean ====
abbrev S8x1024x512 : Shape := ⟨3, ![8, 1024, 512]⟩
abbrev S1 : Shape := ⟨1, ![1]⟩
abbrev S1x1024x512 : Shape := ⟨3, ![1, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S8x1024x512 : Shape := ⟨3, ![8, 1024, 512]⟩
abbrev S1 : Shape := ⟨1, ![1]⟩
abbrev S1x1024x512 : Shape := ⟨3, ![1, 1024, 512]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩
abbrev S1024x512 : Shape := ⟨2, ![1024, 512]⟩

abbrev nBuf : Space → Nat
  | .hbm => 50
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S1, .i32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S8, .i32⟩
  | .hbm, ⟨7, _⟩ => ⟨S8x1x1, .i32⟩
  | .hbm, ⟨8, _⟩ => ⟨S1x1x1, .i32⟩
  | .hbm, ⟨9, _⟩ => ⟨S8x1x1, .i32⟩
  | .hbm, ⟨10, _⟩ => ⟨S8x1x1, .i1⟩
  | .hbm, ⟨11, _⟩ => ⟨S8x1024x512, .i1⟩
  | .hbm, ⟨12, _⟩ => ⟨S8x1024x512, .bf16⟩
  | .hbm, ⟨13, _⟩ => ⟨S8x1024x512, .f32⟩
  | .hbm, ⟨14, _⟩ => ⟨S_, .f32⟩
  | .hbm, ⟨15, _⟩ => ⟨S1024x512, .f32⟩
  | .hbm, ⟨16, _⟩ => ⟨S1x1024x512, .f32⟩
  | .hbm, ⟨17, _⟩ => ⟨S_, .f32⟩
  | .hbm, ⟨18, _⟩ => ⟨S1x1024x512, .f32⟩
  | .hbm, ⟨19, _⟩ => ⟨S1x1024x512, .f32⟩
  | .hbm, ⟨20, _⟩ => ⟨S_, .f32⟩
  | .hbm, ⟨21, _⟩ => ⟨S1x1024x512, .f32⟩
  | .hbm, ⟨22, _⟩ => ⟨S1x1024x512, .f32⟩
  | .hbm, ⟨23, _⟩ => ⟨S1x1024x512, .f32⟩
  | .hbm, ⟨24, _⟩ => ⟨S_, .f32⟩
  | .hbm, ⟨25, _⟩ => ⟨S1x1024x512, .f32⟩
  | .hbm, ⟨26, _⟩ => ⟨S1x1024x512, .f32⟩
  | .hbm, ⟨27, _⟩ => ⟨S1x1024x512, .f32⟩
  | .hbm, ⟨28, _⟩ => ⟨S_, .f32⟩
  | .hbm, ⟨29, _⟩ => ⟨S1x1024x512, .f32⟩
  | .hbm, ⟨30, _⟩ => ⟨S1x1024x512, .f32⟩
  | .hbm, ⟨31, _⟩ => ⟨S1x1024x512, .f32⟩
  | .hbm, ⟨32, _⟩ => ⟨S_, .f32⟩
  | .hbm, ⟨33, _⟩ => ⟨S1x1024x512, .f32⟩
  | .hbm, ⟨34, _⟩ => ⟨S1x1024x512, .f32⟩
  | .hbm, ⟨35, _⟩ => ⟨S_, .f32⟩
  | .hbm, ⟨36, _⟩ => ⟨S1x1024x512, .f32⟩
  | .hbm, ⟨37, _⟩ => ⟨S1x1024x512, .f32⟩
  | .hbm, ⟨38, _⟩ => ⟨S1x1024x512, .f32⟩
  | .hbm, ⟨39, _⟩ => ⟨S_, .f32⟩
  | .hbm, ⟨40, _⟩ => ⟨S1x1024x512, .f32⟩
  | .hbm, ⟨41, _⟩ => ⟨S1x1024x512, .f32⟩
  | .hbm, ⟨42, _⟩ => ⟨S1x1024x512, .f32⟩
  | .hbm, ⟨43, _⟩ => ⟨S_, .f32⟩
  | .hbm, ⟨44, _⟩ => ⟨S1x1024x512, .f32⟩
  | .hbm, ⟨45, _⟩ => ⟨S1x1024x512, .f32⟩
  | .hbm, ⟨46, _⟩ => ⟨S1x1024x512, .f32⟩
  | .hbm, ⟨47, _⟩ => ⟨S_, .f32⟩
  | .hbm, ⟨48, _⟩ => ⟨S1x1024x512, .f32⟩
  | .hbm, ⟨49, _⟩ => ⟨S1x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== InProj.lean ====
abbrev S4096x1024 : Shape := ⟨2, ![4096, 1024]⟩
abbrev S1024x3360 : Shape := ⟨2, ![1024, 3360]⟩
abbrev S1024x1536 : Shape := ⟨2, ![1024, 1536]⟩
abbrev S1024x3x4x128 : Shape := ⟨4, ![1024, 3, 4, 128]⟩
abbrev S1024x4x3x128 : Shape := ⟨4, ![1024, 4, 3, 128]⟩
abbrev S1024x1600 : Shape := ⟨2, ![1024, 1600]⟩
abbrev S1024x64 : Shape := ⟨2, ![1024, 64]⟩
abbrev S_ : Shape := ⟨0, ![]⟩
abbrev S1024x192 : Shape := ⟨2, ![1024, 192]⟩
abbrev S1024x160 : Shape := ⟨2, ![1024, 160]⟩
abbrev S1024x256 : Shape := ⟨2, ![1024, 256]⟩
abbrev S1024x3584 : Shape := ⟨2, ![1024, 3584]⟩
abbrev S4096x3584 : Shape := ⟨2, ![4096, 3584]⟩
abbrev S2048x1024 : Shape := ⟨2, ![2048, 1024]⟩
abbrev S1024x512 : Shape := ⟨2, ![1024, 512]⟩
abbrev S2048x512 : Shape := ⟨2, ![2048, 512]⟩
abbrev S4096x1536 : Shape := ⟨2, ![4096, 1536]⟩
abbrev S4096x4x3x128 : Shape := ⟨4, ![4096, 4, 3, 128]⟩
abbrev S4096x3x4x128 : Shape := ⟨4, ![4096, 3, 4, 128]⟩
abbrev S4096x1600 : Shape := ⟨2, ![4096, 1600]⟩
abbrev S4096x64 : Shape := ⟨2, ![4096, 64]⟩
abbrev S4096x160 : Shape := ⟨2, ![4096, 160]⟩
abbrev S4096x3360 : Shape := ⟨2, ![4096, 3360]⟩

abbrev nBuf : Space → Nat
  | .hbm => 24
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3360, .f32⟩
  | .hbm, ⟨2, _⟩ => ⟨S4096x1024, .bf16⟩
  | .hbm, ⟨3, _⟩ => ⟨S1024x1536, .f32⟩
  | .hbm, ⟨4, _⟩ => ⟨S1024x3x4x128, .f32⟩
  | .hbm, ⟨5, _⟩ => ⟨S1024x4x3x128, .f32⟩
  | .hbm, ⟨6, _⟩ => ⟨S1024x1536, .f32⟩
  | .hbm, ⟨7, _⟩ => ⟨S1024x1600, .f32⟩
  | .hbm, ⟨8, _⟩ => ⟨S1024x64, .f32⟩
  | .hbm, ⟨9, _⟩ => ⟨S_, .f32⟩
  | .hbm, ⟨10, _⟩ => ⟨S1024x192, .f32⟩
  | .hbm, ⟨11, _⟩ => ⟨S1024x160, .f32⟩
  | .hbm, ⟨12, _⟩ => ⟨S_, .f32⟩
  | .hbm, ⟨13, _⟩ => ⟨S1024x256, .f32⟩
  | .hbm, ⟨14, _⟩ => ⟨S1024x3584, .f32⟩
  | .hbm, ⟨15, _⟩ => ⟨S4096x3584, .f32⟩
  | .hbm, ⟨16, _⟩ => ⟨S4096x1536, .f32⟩
  | .hbm, ⟨17, _⟩ => ⟨S4096x4x3x128, .f32⟩
  | .hbm, ⟨18, _⟩ => ⟨S4096x3x4x128, .f32⟩
  | .hbm, ⟨19, _⟩ => ⟨S4096x1536, .f32⟩
  | .hbm, ⟨20, _⟩ => ⟨S4096x1600, .f32⟩
  | .hbm, ⟨21, _⟩ => ⟨S4096x64, .f32⟩
  | .hbm, ⟨22, _⟩ => ⟨S4096x160, .f32⟩
  | .hbm, ⟨23, _⟩ => ⟨S4096x3360, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .f32⟩
  | .local _ .vmem, ⟨3, _⟩ => ⟨S1024x512, .f32⟩
  | .local _ .vmem, ⟨4, _⟩ => ⟨S2048x512, .f32⟩
  | .local _ .vmem, ⟨5, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x1024 : Shape := ⟨2, ![4096, 1024]⟩
abbrev S1024x3360 : Shape := ⟨2, ![1024, 3360]⟩
abbrev S4096x3360 : Shape := ⟨2, ![4096, 3360]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3360, .f32⟩
  | .hbm, ⟨2, _⟩ => ⟨S4096x3360, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MlpUp.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== MlpDown.lean ====
abbrev S4096x1024 : Shape := ⟨2, ![4096, 1024]⟩
abbrev S4096x4096 : Shape := ⟨2, ![4096, 4096]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1024, .f32⟩
  | .hbm, ⟨4, _⟩ => ⟨S4096x4096, .bf16⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MlpDownRefIdeal.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== PleGate.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleProj.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S1024x1024, .f32⟩
  | .local _ .vmem, ⟨4, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.ShortConv.lean ====
module

public import proofs.«01_k».proof.Defs
public import proofs.«01_k».proof.Proof.Gen.ConvBwdRefIdeal.Read
public import Idealize.ShloMosaic.Lib.Pointwise

@[expose] public section

set_option maxRecDepth 16384

noncomputable section

namespace Cert.ShortConv
open Idealize.ShloMosaic Idealize.ShloMosaic.TcCoe
open Cert.ConvBwdRefIdeal Cert.ConvBwdRefIdeal.Read

/-- A sequence moved down by `n` rows, zero coming in above. -/
def down (n : ℕ) (f : Fin 4096 → EReal) (i : Fin 4096) : EReal :=
  if _ : n ≤ i.val then f ⟨i.val - n, by omega⟩ else 0

/-- A sequence moved up by `n` rows, zero coming in below. -/
def up (n : ℕ) (f : Fin 4096 → EReal) (i : Fin 4096) : EReal :=
  if h : i.val + n < 4096 then f ⟨i.val + n, h⟩ else 0

/-- A small number read from its word. -/
theorem toInt_small (n : ℕ) (hn : n ≤ 4096) : (BitVec.ofNat 32 n).toInt = n := by
  have e : (BitVec.ofNat 32 n).toNat = n := by rw [BitVec.toNat_ofNat]; omega
  rw [BitVec.toInt_eq_toNat_of_lt (by omega), e]

/-- A choice by a row number compared, as a word, with a bound: below it, -/
theorem select_lt (i : Fin 4096) (n : ℕ) (hn : n ≤ 4096) (a b : EReal) :
    Scalar.select (IntOp.cmpi CmpIPredicate.slt (BitVec.ofNat 32 i.val) (BitVec.ofNat 32 n)) a b
      = if i.val < n then a else b := by
  have hi := i.isLt
  unfold Scalar.select
  refine if_congr ?_ rfl rfl
  simp only [IntOp.cmpi, BitVec.slt, toInt_small n hn, toInt_small i.val hi.le]
  by_cases h : i.val < n <;> simp [h]

/-- or not below it. -/
theorem select_ge (i : Fin 4096) (n : ℕ) (hn : n ≤ 4096) (a b : EReal) :
    Scalar.select (IntOp.cmpi CmpIPredicate.sge (BitVec.ofNat 32 i.val) (BitVec.ofNat 32 n)) a b
      = if n ≤ i.val then a else b := by
  have hi := i.isLt
  unfold Scalar.select
  refine if_congr ?_ rfl rfl
  simp only [IntOp.cmpi, BitVec.sle, toInt_small n hn, toInt_small i.val hi.le]
  by_cases h : n ≤ i.val <;> simp [h]

/-- Rows brought around from the end are replaced by zero: a move down, -/
theorem around_down (n : ℕ) (hn : n ≤ 4096) (f : Fin 4096 → EReal) (i : Fin 4096) (h : (i.val + 4096 - n) % 4096 < 4096) :
    (if i.val < n then 0 else f ⟨(i.val + 4096 - n) % 4096, h⟩) = down n f i := by
  unfold down
  by_cases hi : i.val < n
  · rw [if_pos hi, dif_neg (by omega)]
  · have e : (⟨(i.val + 4096 - n) % 4096, h⟩ : Fin 4096) = ⟨i.val - n, by omega⟩ :=
      Fin.ext (by show (i.val + 4096 - n) % 4096 = i.val - n; omega)
    rw [if_neg hi, dif_pos (by omega), e]

/-- and a move up. -/
theorem around_up (n r : ℕ) (hr : r + n = 4096) (hn : 0 < n) (f : Fin 4096 → EReal) (i : Fin 4096)
    (h : (i.val + 4096 - r) % 4096 < 4096) :
    (if r ≤ i.val then 0 else f ⟨(i.val + 4096 - r) % 4096, h⟩) = up n f i := by
  unfold up
  by_cases hi : r ≤ i.val
  · rw [if_pos hi, dif_neg (by omega)]
  · have e : (⟨(i.val + 4096 - r) % 4096, h⟩ : Fin 4096) = ⟨i.val + n, by omega⟩ :=
      Fin.ext (by show (i.val + 4096 - r) % 4096 = i.val + n; omega)
    rw [if_neg hi, dif_pos (by omega), e]

/-- A sequence of products moved down. -/
theorem down_mul (n : ℕ) (f : Fin 4096 → EReal) (a : EReal) (i : Fin 4096) :
    down n (fun t => f t * a) i = down n f i * a := by
  unfold down
  by_cases h : n ≤ i.val
  · rw [dif_pos h, dif_pos h]
  · rw [dif_neg h, dif_neg h, zero_mul]

/-- The convolution with three taps, the last tap on the present row. -/
def conv (w : Fin 3 → EReal) (u : Fin 4096 → EReal) (t : Fin 4096) : EReal :=
  (u t * w 2 + down 1 u t * w 1) + down 2 u t * w 0

/-- Its transpose. -/
def back (w : Fin 3 → EReal) (v : Fin 4096 → EReal) (t : Fin 4096) : EReal :=
  (v t * w 2 + up 1 v t * w 1) + up 2 v t * w 0

variable (d : FVec Ideal S4096x1024 .f32) (p : FVec Ideal S4096x1536 .f32) (w : FVec Ideal S3x512 .f32)

/-- The taps of channel `q`. -/
def taps (q : Fin 512) : Fin 3 → EReal := fun k => w (ix2 k q)

/-- The `k`-th projection of channel `q`: 0 the gate on the way out, 1 the gate on the way in, 2 the value. -/
def part (k : Fin 3) (q : Fin 512) : Fin 4096 → EReal := fun t => p (ix2 t ⟨512 * k.val + q.val, by omega⟩)

/-- The cotangent given for channel `q`. -/
def given (q : Fin 512) : Fin 4096 → EReal := fun t => d (ix2 t ⟨q.val, by omega⟩)

/-- What enters the convolution. -/
def entering (q : Fin 512) (t : Fin 4096) : EReal := part p 1 q t * part p 2 q t

/-- The cotangent of what leaves it. -/
def leaving (q : Fin 512) (t : Fin 4096) : EReal := part p 0 q t * given d q t

/-- The cotangent of the `k`-th projection. -/
def grad (q : Fin 512) (t : Fin 4096) : Fin 3 → EReal
  | 0 => given d q t * conv (taps w q) (entering p q) t
  | 1 => back (taps w q) (leaving d p q) t * part p 2 q t
  | 2 => part p 1 q t * back (taps w q) (leaving d p q) t

/-- The cotangent of tap `k`. -/
def gradTap (k : Fin 3) (q : Fin 512) : EReal :=
  ∑ t : Fin 4096, down (2 - k.val) (entering p q) t * leaving d p q t

theorem ref_row0 (i : Fin 4096) (q : Fin 512) :
    val_main_v8 (F := Ideal) p (ix3 0 i q) = down 2 (entering p q) i := by
  pointwise [val_main_v8, val_main_v6, val_main_v5, val_main_v4, val_main_v3, val_main_v2, val_main_v0, val_main_cst]
  unfold down
  by_cases h : i.val < 2
  · rw [dif_pos h, dif_neg (by omega)]
  · rw [dif_neg h, dif_pos (by omega)]; rfl

theorem ref_row1 (i : Fin 4096) (q : Fin 512) :
    val_main_v14 (F := Ideal) p (ix3 0 i q) = down 1 (entering p q) i := by
  pointwise [val_main_v14, val_main_v6, val_main_v5, val_main_v4, val_main_v3, val_main_v2, val_main_v0, val_main_cst]
  unfold down
  by_cases h : 1 + i.val < 2
  · rw [dif_pos h, dif_neg (by omega)]
  · have e : (⟨1 + i.val - 2, by omega⟩ : Fin 4096) = ⟨i.val - 1, by omega⟩ := Fin.ext (by show _ - _ = _ - _; omega)
    rw [dif_neg h, dif_pos (by omega), e]; rfl

theorem ref_row2 (i : Fin 4096) (q : Fin 512) :
    val_main_v21 (F := Ideal) p (ix3 0 i q) = entering p q i := by
  pointwise [val_main_v21, val_main_v6, val_main_v5, val_main_v4, val_main_v3, val_main_v2, val_main_v0, val_main_cst]
  rfl

theorem ref_conv (i : Fin 4096) (q : Fin 512) :
    val_main_v27 (F := Ideal) p w (ix3 0 i q) = conv (taps w q) (entering p q) i := by
  pointwise [val_main_v27, val_main_v20, val_main_v26, val_main_v25, val_main_v13, val_main_v19,
    val_main_v12, val_main_v18, val_main_v11, val_main_v17, val_main_v24, val_main_v23,
    val_main_v22, val_main_v16, val_main_v15, val_main_v10, val_main_v9, conv, taps]
  rw [ref_row0, ref_row1, ref_row2]
  exact (add_comm _ _).trans ((congrArg _ (add_comm _ _)).trans (add_assoc _ _ _).symm)

theorem ref_leaving (i : Fin 4096) (q : Fin 512) : val_main_v31 (F := Ideal) d p (ix3 0 i q) = leaving d p q i := by
  pointwise [val_main_v31, val_main_v30, val_main_v29, val_main_v1, val_main_v0, leaving, part, given]

/-- A shifted product against a product of a shifted sequence. -/
theorem shift_mul (n : ℕ) (f : Fin 4096 → EReal) (a : EReal) (i : Fin 4096) :
    (if h : i.val + n < 4096 then f ⟨i.val + n, h⟩ * a else 0) = up n f i * a := by
  unfold up
  by_cases h : i.val + n < 4096
  · rw [dif_pos h, dif_pos h]
  · rw [dif_neg h, dif_neg h, zero_mul]

theorem ref_back (i : Fin 4096) (q : Fin 512) :
    val_main_v65 (F := Ideal) d p w (ix3 0 i q) = back (taps w q) (leaving d p q) i := by
  pointwise [val_main_v65, val_main_v63, val_main_v52, val_main_v51, val_main_v62, val_main_v41, val_main_v37,
    val_main_v46, val_main_v57, val_main_v36, val_main_v45, val_main_v56, val_main_v11, val_main_v17, val_main_v24,
    val_main_v23, val_main_v22, val_main_v16, val_main_v15, val_main_v10, val_main_v9, val_main_cst_8,
    val_main_cst_12, back, taps]
  simp only [ref_leaving]
  rw [← shift_mul, ← shift_mul]
  refine congrArg₂ (· + ·) (congrArg₂ (· + ·) rfl ?_) ?_
  · by_cases h : i.val + 1 < 4096
    · have e : (⟨2 + i.val - 1, by omega⟩ : Fin 4096) = ⟨i.val + 1, h⟩ := Fin.ext (by show _ - _ = _ + _; omega)
      rw [dif_pos (by omega), dif_pos h, e]
    · rw [dif_neg (by omega), dif_neg h]
  · by_cases h : i.val + 2 < 4096
    · have e : (⟨2 + i.val, by omega⟩ : Fin 4096) = ⟨i.val + 2, h⟩ := Fin.ext (Nat.add_comm _ _)
      rw [dif_pos (by omega), dif_pos h, e]
    · rw [dif_neg (by omega), dif_neg h]

/-- A sum over one entry. -/
theorem sum_lone (x : FVec Ideal S1x1x512 .f32) (q : Fin 512) :
    Ideal.hostReduceAdd Gen.reducesTo_S1x1x512_S512_d0_1 x 0 (ix1 q) = x (ix3 0 0 q) := by
  unfold Ideal.hostReduceAdd
  rw [zero_add]
  refine Finset.sum_eq_single_of_mem (ix3 0 0 q) ?_ fun i hi hne => absurd ?_ hne
  · refine Finset.mem_filter.2 ⟨Finset.mem_univ _, funext fun b => Fin.ext ?_⟩
    match b with
    | ⟨0, _⟩ => rfl
  · have e := (Finset.mem_filter.1 hi).2
    funext a; apply Fin.ext
    match a with
    | ⟨0, h⟩ => exact Nat.lt_one_iff.1 (i ⟨0, h⟩).isLt
    | ⟨1, h⟩ => exact Nat.lt_one_iff.1 (i ⟨1, h⟩).isLt
    | ⟨2, _⟩ => exact congrArg Fin.val (congrFun e 0)

/-- The reference's cotangent of the projections. -/
theorem ref_grad (i : Fin 4096) (q : Fin 1536) :
    val_main_v70 (F := Ideal) d p w (ix2 i q)
      = grad d p w ⟨q.val % 512, by omega⟩ i ⟨q.val / 512, by omega⟩ := by
  pointwise [val_main_v70, val_main_v69, val_main_v68, val_main_v32, val_main_v67, val_main_v66, val_main_v30,
    val_main_v29, val_main_v2, val_main_v3, val_main_v0]
  simp only [ref_conv, ref_back]
  by_cases h0 : q.val < 512
  · rw [dif_pos h0, show (⟨q.val / 512, by omega⟩ : Fin 3) = 0 from Fin.ext (by show q.val / 512 = 0; omega),
      show (⟨q.val % 512, by omega⟩ : Fin 512) = ⟨q.val, h0⟩ from Fin.ext (by show q.val % 512 = q.val; omega)]
    rfl
  · rw [dif_neg h0]
    by_cases h1 : q.val - 512 < 512
    · rw [dif_pos h1, show (⟨q.val / 512, by omega⟩ : Fin 3) = 1 from Fin.ext (by show q.val / 512 = 1; omega),
        show (⟨q.val % 512, by omega⟩ : Fin 512) = ⟨q.val - 512, h1⟩ from
          Fin.ext (by show q.val % 512 = q.val - 512; omega)]
      rfl
    · rw [dif_neg h1, show (⟨q.val / 512, by omega⟩ : Fin 3) = 2 from Fin.ext (by show q.val / 512 = 2; omega),
        show (⟨q.val % 512, by omega⟩ : Fin 512) = ⟨q.val - 512 - 512, by omega⟩ from
          Fin.ext (by show q.val % 512 = q.val - 512 - 512; omega)]
      rfl

/-- The reference's cotangent of the taps. -/
theorem ref_gradTap (k : Fin 3) (q : Fin 512) :
    val_main_v61 (F := Ideal) d p (ix2 k q) = gradTap d p k q := by
  pointwise [val_main_v61, val_main_v50, val_main_v60, val_main_v59, val_main_v49, val_main_v48, val_main_v40,
    val_main_v39, val_main_v58, val_main_v47, val_main_v38, val_main_cst_3, val_main_cst_7, val_main_cst_11, val_main_cst_2, val_main_cst_6, val_main_cst_10]
  simp only [sum_lone]
  pointwise [val_main_v35, val_main_v44, val_main_v55, val_main_v34, val_main_v43, val_main_v54, val_main_v33, val_main_v42, val_main_v53, val_main_cst_1, val_main_cst_5, val_main_cst_9]
  simp only [ref_row0, ref_row1, ref_row2, ref_leaving]
  unfold gradTap
  match k with
  | ⟨0, _⟩ => simp
  | ⟨1, _⟩ => simp
  | ⟨2, _⟩ => simp [down]

end Cert.ShortConv
end
-- ==== Proof.ConvBwd.lean ====
module

public import proofs.«01_k».proof.Defs
public import proofs.«01_k».proof.Proof.Gen.ConvBwdIdeal.Frame
public import proofs.«01_k».proof.Proof.ShortConv
public import Idealize.ShloMosaic.Lib.Pipeline.ValueKit
public import Idealize.ShloMosaic.Lib.Pointwise
public import Idealize.ShloMosaic.Lib.Claim

@[expose] public section

set_option maxRecDepth 65536

noncomputable section

namespace Cert.ConvBwdIdeal.Value
open Idealize.ShloMosaic Idealize.ShloMosaic.TcCoe Idealize.SL.Sem
open Cert.ConvBwdIdeal Cert.ConvBwdIdeal.Gen
open Cert.ShortConv

variable (m : (ℓ : Loc nD τ sig) → Buf (Elt Ideal) ℓ)

/-- The block each operand and the results are staged at, point by point. -/
theorem idx : ∀ t : Fin cfg0.N, win0_0.index t = ![0, t.val] ∧ win0_1.index t = ![0, t.val]
    ∧ win0_2.index t = ![0, t.val] ∧ win0_3.index t = ![0, t.val] ∧ win0_4.index t = ![0, t.val]
    ∧ win0_5.index t = ![0, t.val] ∧ win0_6.index t = ![0, t.val] :=
  (by decide +kernel : ∀ t : Fin grid0.N, _)

/-! One block of 128 channels. -/

section block
variable (v0 : FVec Ideal S4096x128 .f32) (v1 : FVec Ideal S4096x384 .f32) (v3 : FVec Ideal S3x128 .f32)

theorem pay8_apply (t : Fin 4096) (q : Fin 128) :
    k0_pay8 (F := Ideal) v1 (ix2 t q) = v1 (ix2 t ⟨128 + q.val, by omega⟩) * v1 (ix2 t ⟨256 + q.val, by omega⟩) := by
  pointwise [k0_pay8, k0_pay7, k0_pay6, k0_pay5]

theorem pay6_apply (t : Fin 4096) (q : Fin 128) :
    k0_pay6 (F := Ideal) v1 (ix2 t q) = v1 (ix2 t ⟨128 + q.val, by omega⟩) := by
  pointwise [k0_pay6, k0_pay5]

theorem pay7_apply (t : Fin 4096) (q : Fin 128) :
    k0_pay7 (F := Ideal) v1 (ix2 t q) = v1 (ix2 t ⟨256 + q.val, by omega⟩) := by
  pointwise [k0_pay7, k0_pay5]

theorem pay14_apply (q : Fin 128) : k0_pay14 (F := Ideal) v3 (ix2 0 q) = v3 (ix2 0 q) := by
  pointwise [k0_pay14]

theorem pay11_apply (t : Fin 4096) (q : Fin 128) :
    k0_pay11 (F := Ideal) v0 v1 (ix2 t q) = v0 (ix2 t q) * v1 (ix2 t ⟨q.val, by omega⟩) := by
  pointwise [k0_pay11, k0_pay5]

theorem pay9_apply (i : Fin 4096) (q : Fin 128) :
    k0_pay9 (F := Ideal) v1 (ix2 i q) = down 1 (fun t => k0_pay8 (F := Ideal) v1 (ix2 t q)) i := by
  pointwise [k0_pay9]
  exact (select_lt i 1 (by omega) _ _).trans (around_down 1 (by omega) (fun t => k0_pay8 (F := Ideal) v1 (ix2 t q)) i _)

theorem pay10_apply (i : Fin 4096) (q : Fin 128) :
    k0_pay10 (F := Ideal) v1 (ix2 i q) = down 2 (fun t => k0_pay8 (F := Ideal) v1 (ix2 t q)) i := by
  pointwise [k0_pay10]
  exact (select_lt i 2 (by omega) _ _).trans (around_down 2 (by omega) (fun t => k0_pay8 (F := Ideal) v1 (ix2 t q)) i _)

theorem pay12_apply (i : Fin 4096) (q : Fin 128) :
    k0_pay12 (F := Ideal) v0 v1 v3 (ix2 i q) = k0_pay11 (F := Ideal) v0 v1 (ix2 i q) * v3 (ix2 2 q)
      + up 1 (fun t => k0_pay11 (F := Ideal) v0 v1 (ix2 t q)) i * v3 (ix2 1 q) := by
  pointwise [k0_pay12]
  exact congrArg (_ + ·) (((select_ge i 4095 (by omega) _ _).trans
    (around_up 1 4095 (by omega) (by omega)
      (fun t => k0_pay11 (F := Ideal) v0 v1 (ix2 t q) * v3 (ix2 1 q)) i _)).trans (shift_mul 1
      (fun t => k0_pay11 (F := Ideal) v0 v1 (ix2 t q)) (v3 (ix2 1 q)) i))

theorem pay13_apply (i : Fin 4096) (q : Fin 128) :
    k0_pay13 (F := Ideal) v0 v1 (ix2 i q) = up 2 (fun t => k0_pay11 (F := Ideal) v0 v1 (ix2 t q)) i := by
  pointwise [k0_pay13]
  exact (select_ge i 4094 (by omega) _ _).trans
    (around_up 2 4094 (by omega) (by omega) (fun t => k0_pay11 (F := Ideal) v0 v1 (ix2 t q)) i _)

variable {v0 v1 v3} {d : FVec Ideal S4096x1024 .f32} {p : FVec Ideal S4096x1536 .f32} {w : FVec Ideal S3x512 .f32}
  {q : Fin 128} {j : Fin 512}

/-- Lane `q` of the block holds channel `j`. -/
structure Holds (v0 : FVec Ideal S4096x128 .f32) (v1 : FVec Ideal S4096x384 .f32) (v3 : FVec Ideal S3x128 .f32)
    (d : FVec Ideal S4096x1024 .f32) (p : FVec Ideal S4096x1536 .f32) (w : FVec Ideal S3x512 .f32)
    (q : Fin 128) (j : Fin 512) : Prop where
  given : ∀ t, v0 (ix2 t q) = given d j t
  part : ∀ (k : Fin 3) t, v1 (ix2 t ⟨128 * k.val + q.val, by omega⟩) = part p k j t
  taps : ∀ k, v3 (ix2 k q) = taps w j k

theorem entering_eq (h : Holds v0 v1 v3 d p w q j) : (fun t => k0_pay8 (F := Ideal) v1 (ix2 t q)) = entering p j :=
  funext fun t => (pay8_apply v1 t q).trans (congrArg₂ (· * ·) (h.part 1 t) (h.part 2 t))

theorem leaving_eq (h : Holds v0 v1 v3 d p w q j) : (fun t => k0_pay11 (F := Ideal) v0 v1 (ix2 t q)) = leaving d p j :=
  funext fun t => (pay11_apply v0 v1 t q).trans ((mul_comm _ _).trans (congrArg₂ (· * ·)
    ((congrArg v1 (congrArg (ix2 t) (Fin.ext (by simp)))).trans (h.part 0 t)) (h.given t)))

/-- What is written for the projections, at lane `r` of the block. -/
theorem grad_apply (r : Fin 384) (hr : r.val % 128 = q.val) (h : Holds v0 v1 v3 d p w q j) (i : Fin 4096) :
    k0_pay4 (F := Ideal) v0 v3 (k0_pay6 v1) (k0_pay7 v1) (k0_pay8 v1) (k0_pay9 v1) (k0_pay10 v1) (k0_pay12 v0 v1 v3)
        (k0_pay13 v0 v1) (k0_pay14 v3) (ix2 i r)
      = grad d p w j i ⟨r.val / 128, by omega⟩ := by
  have hu := entering_eq h
  have hv := leaving_eq h
  have e8 : ∀ t, k0_pay8 (F := Ideal) v1 (ix2 t q) = entering p j t := congrFun hu
  have e11 : ∀ t, k0_pay11 (F := Ideal) v0 v1 (ix2 t q) = leaving d p j t := congrFun hv
  have back_eq : k0_pay12 (F := Ideal) v0 v1 v3 (ix2 i q) + k0_pay13 (F := Ideal) v0 v1 (ix2 i q) * v3 (ix2 0 q)
      = back (taps w j) (leaving d p j) i := by
    rw [pay12_apply, pay13_apply, hv, e11, h.taps, h.taps, h.taps]; rfl
  pointwise [k0_pay4]
  by_cases h0 : r.val < 128
  · rw [dif_pos h0, show (⟨r.val / 128, by omega⟩ : Fin 3) = 0 from Fin.ext (by show r.val / 128 = 0; omega),
      show (⟨r.val, h0⟩ : Fin 128) = q from Fin.ext (by show r.val = q.val; omega),
      pay9_apply, pay10_apply, hu, e8, h.taps, h.taps, h.taps, h.given]
    rfl
  · rw [dif_neg h0]
    by_cases h1 : r.val - 128 < 128
    · rw [dif_pos h1, show (⟨r.val / 128, by omega⟩ : Fin 3) = 1 from Fin.ext (by show r.val / 128 = 1; omega),
        show (⟨r.val - 128, h1⟩ : Fin 128) = q from Fin.ext (by show r.val - 128 = q.val; omega),
        pay14_apply, back_eq, pay7_apply]
      exact congrArg (_ * ·) ((congrArg v1 (congrArg (ix2 i) (Fin.ext (by
        show 256 + q.val = 128 * 2 + q.val; omega)))).trans (h.part 2 i))
    · rw [dif_neg h1, show (⟨r.val / 128, by omega⟩ : Fin 3) = 2 from Fin.ext (by show r.val / 128 = 2; omega),
        show (⟨r.val - 128 - 128, by omega⟩ : Fin 128) = q from Fin.ext (by show r.val - 128 - 128 = q.val; omega),
        pay14_apply, back_eq, pay6_apply]
      exact (mul_comm _ _).trans (congrArg (· * _) ((congrArg v1 (congrArg (ix2 i) (Fin.ext (by
        show 128 + q.val = 128 * 1 + q.val; omega)))).trans (h.part 1 i)))

/-- What is written for the taps. -/
theorem tap0_apply (h : Holds v0 v1 v3 d p w q j) :
    k0_pay1 (F := Ideal) (k0_pay10 v1) (k0_pay11 v0 v1) (ix2 0 q) = gradTap d p 0 j := by
  pointwise [k0_pay1]
  refine Finset.sum_congr rfl fun t _ => (mul_comm _ _).trans (congrArg₂ (· * ·) ?_ (congrFun (leaving_eq h) t))
  rw [pay10_apply, entering_eq h]; rfl

theorem tap1_apply (h : Holds v0 v1 v3 d p w q j) :
    k0_pay2 (F := Ideal) (k0_pay9 v1) (k0_pay11 v0 v1) (ix2 0 q) = gradTap d p 1 j := by
  pointwise [k0_pay2]
  refine Finset.sum_congr rfl fun t _ => (mul_comm _ _).trans (congrArg₂ (· * ·) ?_ (congrFun (leaving_eq h) t))
  rw [pay9_apply, entering_eq h]; rfl

theorem tap2_apply (h : Holds v0 v1 v3 d p w q j) :
    k0_pay3 (F := Ideal) (k0_pay8 v1) (k0_pay11 v0 v1) (ix2 0 q) = gradTap d p 2 j := by
  pointwise [k0_pay3]
  refine Finset.sum_congr rfl fun t _ => (mul_comm _ _).trans (congrArg₂ (· * ·) ?_ (congrFun (leaving_eq h) t))
  exact (congrFun (entering_eq h) t).trans (by simp [down])

end block

/-! The blocks together. -/

/-- The projections in the order the kernel takes them. -/
def arrange (p : FVec Ideal S4096x1536 .f32) : FVec Ideal S4096x3584 .f32 :=
  concatenate S4096x3584 1
    [⟨S4096x1536, shapeCast S4096x1536 (transpose S4096x4x3x128 [0, 2, 1, 3]
        (shapeCast S4096x3x4x128 p shapeCasts_S4096x1536_S4096x3x4x128)
        transposes_S4096x3x4x128_S4096x4x3x128_0_2_1_3) shapeCasts_S4096x4x3x128_S4096x1536⟩,
     ⟨S4096x2048, broadcastInDim S4096x2048 ![] bcast_S_S4096x2048 (constant S_ .f32 0x00000000#32)⟩]
    concatenates_S4096x1536_S4096x2048_S4096x3584_d1

theorem arranged (c : Dev nD) :
    (V m c main_v4 : FVec Ideal S4096x3584 .f32) = arrange (m ((c : Thread nD τ).loc main_arg1)) := by
  unfold V V0
  simp only [hostOps0, List.flatten_cons, List.flatten_nil, List.append_nil, List.cons_append, List.nil_append]
  simp only [StableHlo.after_cons, StableHlo.after_nil]
  after_results_steps
  rfl

theorem arrange_apply (p : FVec Ideal S4096x1536 .f32) (i : Fin 4096) (t : Fin 4) (k : Fin 3) (q : Fin 128)
    (z : Fin 3584) (hz : z.val = 384 * t.val + (128 * k.val + q.val)) :
    arrange p (ix2 i z) = part p k ⟨128 * t.val + q.val, by omega⟩ i := by
  pointwise [arrange]
  rw [dif_pos (by omega)]
  exact congrArg p (congrArg (ix2 i) (Fin.ext (by
    show z.val / 128 % 3 * 512 + z.val / 384 * 128 + z.val % 128 = 512 * k.val + (128 * t.val + q.val); omega)))

theorem holds (c : Dev nD) (t : Fin cfg0.N) (ht : t.val < 4) (q : Fin 128) :
    Holds (iblk m c 0 t) (X0_1 m c t) (iblk m c 2 t) (m ((c : Thread nD τ).loc main_arg0))
      (m ((c : Thread nD τ).loc main_arg1)) (m ((c : Thread nD τ).loc main_arg2)) q ⟨128 * t.val + q.val, by omega⟩ where
  given s := by
    unfold given
    blk_point [iblk, V, idx t]
  part k s := by
    unfold X0_1 Pipeline.Window.fill
    rw [dif_pos (moved0_1 t _)]
    refine Eq.trans ?_ (arrange_apply (m ((c : Thread nD τ).loc main_arg1)) s ⟨t.val, ht⟩ k q ⟨384 * t.val + (128 * k.val + q.val), by omega⟩ rfl)
    rw [← arranged]
    blk_point [iblk, idx t]
  taps k := by
    unfold taps
    blk_point [iblk, V, idx t]

/-- What the kernel writes for the projections: block by block, in each the three parts of its 128 channels. -/
def blocks (d : FVec Ideal S4096x1024 .f32) (p : FVec Ideal S4096x1536 .f32) (w : FVec Ideal S3x512 .f32)
    (i : Fin 4096) (z : ℕ) : EReal :=
  grad d p w ⟨(128 * (z / 384) + z % 128) % 512, by omega⟩ i ⟨z % 384 / 128, by omega⟩

theorem point3 (c : Dev nD) (t : Fin cfg0.N) (y : S4096x384.Idx) :
    k0_pay4 (F := Ideal) (iblk m c 0 t) (iblk m c 2 t) (k0_pay6 (X0_1 m c t)) (k0_pay7 (X0_1 m c t))
        (k0_pay8 (X0_1 m c t)) (k0_pay9 (X0_1 m c t)) (k0_pay10 (X0_1 m c t))
        (k0_pay12 (iblk m c 0 t) (X0_1 m c t) (iblk m c 2 t)) (k0_pay13 (iblk m c 0 t) (X0_1 m c t))
        (k0_pay14 (iblk m c 2 t)) y
      = blocks (m ((c : Thread nD τ).loc main_arg0)) (m ((c : Thread nD τ).loc main_arg1))
          (m ((c : Thread nD τ).loc main_arg2)) (y 0) (t.val * 384 + (y 1).val) := by
  have ht : t.val < 4 := lt_of_lt_of_eq t.isLt N_0
  obtain ⟨i, r, rfl⟩ : ∃ i r, y = ix2 i r := ⟨_, _, eq_ix2 y⟩
  refine (grad_apply r rfl (holds m c t ht ⟨r.val % 128, by omega⟩) i).trans ?_
  unfold blocks
  have ej : (⟨128 * t.val + r.val % 128, by omega⟩ : Fin 512)
      = ⟨(128 * ((t.val * 384 + r.val) / 384) + (t.val * 384 + r.val) % 128) % 512, by omega⟩ :=
    Fin.ext (by show _ = _ % 512; dsimp only; omega)
  have ek : (⟨r.val / 128, by omega⟩ : Fin 3) = ⟨(t.val * 384 + r.val) % 384 / 128, by omega⟩ :=
    Fin.ext (by show _ = _ / 128; dsimp only; omega)
  exact congrArg₂ (fun j k => grad _ _ _ j i k) ej ek

theorem final3 (c : Dev nD) :
    (dats m 0 c).arrAt 3 (cfgs 0).N = fun z => if (z 1 : ℕ) < 1536 then
      blocks (m ((c : Thread nD τ).loc main_arg0)) (m ((c : Thread nD τ).loc main_arg1))
        (m ((c : Thread nD τ).loc main_arg2)) (z 0) (z 1).val else V m c main_v5_0 z := by
  refine (dats m 0 c).arrAt_eq_of_coversWhere 3 _ (fun β => β 1 < 4) (by decide +kernel) (fun t _ y => ?_)
    (fun j => by blk_simp [Pipeline.Window.cell_apply]; omega)
  blk_simp
  rw [after0_3]; unfold Gen.outsAt0; frame_out
  refine (point3 m c t _).trans (congrArg₂ (blocks _ _ _) (Fin.ext ?_) ?_)
  · show (y 0).val = _
    blk_simp [idx t]
    try omega
  · rw [(idx t).2.2.2.1]; rfl

theorem final4 (c : Dev nD) : (dats m 0 c).arrAt 4 (cfgs 0).N
    = fun z => gradTap (m ((c : Thread nD τ).loc main_arg0)) (m ((c : Thread nD τ).loc main_arg1)) 0 (z 1) := by
  refine (dats m 0 c).arrAt_eq_of_covers 4 _ (by decide +kernel) fun t _ y => ?_
  blk_simp
  rw [after0_4]; unfold Gen.outsAt0; frame_out
  have ht : t.val < 4 := lt_of_lt_of_eq t.isLt N_0
  obtain ⟨i, q, rfl⟩ : ∃ (i : Fin 1) (q : Fin 128), y = ix2 i q := ⟨_, _, eq_ix2 y⟩
  obtain rfl : i = 0 := Subsingleton.elim _ _
  refine (tap0_apply (holds m c t ht q)).trans (congrArg (gradTap _ _ 0) (Fin.ext ?_))
  show 128 * t.val + q.val = _
  blk_simp [idx t]
  omega

theorem final5 (c : Dev nD) : (dats m 0 c).arrAt 5 (cfgs 0).N
    = fun z => gradTap (m ((c : Thread nD τ).loc main_arg0)) (m ((c : Thread nD τ).loc main_arg1)) 1 (z 1) := by
  refine (dats m 0 c).arrAt_eq_of_covers 5 _ (by decide +kernel) fun t _ y => ?_
  blk_simp
  rw [after0_5]; unfold Gen.outsAt0; frame_out
  have ht : t.val < 4 := lt_of_lt_of_eq t.isLt N_0
  obtain ⟨i, q, rfl⟩ : ∃ (i : Fin 1) (q : Fin 128), y = ix2 i q := ⟨_, _, eq_ix2 y⟩
  obtain rfl : i = 0 := Subsingleton.elim _ _
  refine (tap1_apply (holds m c t ht q)).trans (congrArg (gradTap _ _ 1) (Fin.ext ?_))
  show 128 * t.val + q.val = _
  blk_simp [idx t]
  omega

theorem final6 (c : Dev nD) : (dats m 0 c).arrAt 6 (cfgs 0).N
    = fun z => gradTap (m ((c : Thread nD τ).loc main_arg0)) (m ((c : Thread nD τ).loc main_arg1)) 2 (z 1) := by
  refine (dats m 0 c).arrAt_eq_of_covers 6 _ (by decide +kernel) fun t _ y => ?_
  blk_simp
  rw [after0_6]; unfold Gen.outsAt0; frame_out
  have ht : t.val < 4 := lt_of_lt_of_eq t.isLt N_0
  obtain ⟨i, q, rfl⟩ : ∃ (i : Fin 1) (q : Fin 128), y = ix2 i q := ⟨_, _, eq_ix2 y⟩
  obtain rfl : i = 0 := Subsingleton.elim _ _
  refine (tap2_apply (holds m c t ht q)).trans (congrArg (gradTap _ _ 2) (Fin.ext ?_))
  show 128 * t.val + q.val = _
  blk_simp [idx t]
  omega

/-- The projections' cotangent put back in the reference's order. -/
def unblock (a : FVec Ideal S4096x3584 .bf16) : FVec Ideal S4096x1536 .bf16 :=
  shapeCast S4096x1536 (transpose S4096x3x4x128 [0, 2, 1, 3]
    (shapeCast S4096x4x3x128 (extractStridedSlice S4096x1536 ![0, 0] a slices_S4096x3584_S4096x1536_0_0)
      shapeCasts_S4096x1536_S4096x4x3x128) transposes_S4096x4x3x128_S4096x3x4x128_0_2_1_3)
    shapeCasts_S4096x3x4x128_S4096x1536

theorem unblock_apply (d : FVec Ideal S4096x1024 .f32) (p : FVec Ideal S4096x1536 .f32) (w : FVec Ideal S3x512 .f32)
    (rest : FVec Ideal S4096x3584 .bf16) (i : Fin 4096) (q : Fin 1536) :
    unblock (fun z => if (z 1 : ℕ) < 1536 then blocks d p w (z 0) (z 1).val else rest z) (ix2 i q)
      = grad d p w ⟨q.val % 512, by omega⟩ i ⟨q.val / 512, by omega⟩ := by
  pointwise [unblock]
  rw [if_pos (by omega)]
  unfold blocks
  have e0 : q.val / 512 < 3 := by omega
  have e1 : (q.val / 128 % 4 * 384 + q.val / 512 * 128 + q.val % 128) / 384 = q.val / 128 % 4 := by omega
  have e2 : (q.val / 128 % 4 * 384 + q.val / 512 * 128 + q.val % 128) % 128 = q.val % 128 := by omega
  have e3 : (q.val / 128 % 4 * 384 + q.val / 512 * 128 + q.val % 128) % 384 / 128 = q.val / 512 := by omega
  have e4 : (128 * (q.val / 128 % 4) + q.val % 128) % 512 = q.val % 512 := by omega
  have ej : (⟨(128 * ((q.val / 128 % 4 * 384 + q.val / 512 * 128 + q.val % 128) / 384)
        + (q.val / 128 % 4 * 384 + q.val / 512 * 128 + q.val % 128) % 128) % 512, by omega⟩ : Fin 512)
      = ⟨q.val % 512, by omega⟩ := Fin.ext (by dsimp only; rw [e1, e2, e4])
  have ek : (⟨(q.val / 128 % 4 * 384 + q.val / 512 * 128 + q.val % 128) % 384 / 128, by omega⟩ : Fin 3)
      = ⟨q.val / 512, by omega⟩ := Fin.ext e3
  exact congrArg₂ (fun j k => grad d p w j i k) ej ek

/-- The three taps' cotangents, one below another. -/
def stack (a b e : FVec Ideal S1x512 .f32) : FVec Ideal S3x512 .f32 :=
  concatenate S3x512 0 [⟨S1x512, a⟩, ⟨S1x512, b⟩, ⟨S1x512, e⟩] concatenates_S1x512_S1x512_S1x512_S3x512_d0

theorem stack_apply (g : Fin 3 → Fin 512 → EReal) (k : Fin 3) (q : Fin 512) :
    stack (fun z => g 0 (z 1)) (fun z => g 1 (z 1)) (fun z => g 2 (z 1)) (ix2 k q) = g k q := by
  pointwise [stack]
  match k with
  | ⟨0, _⟩ => rfl
  | ⟨1, _⟩ => rfl
  | ⟨2, _⟩ => rfl

/-- The call, and the reference's gradient of the gated convolution, agree. -/
theorem algebraic : Cert.algebraic_ConvBwdIdeal_ConvBwdRefIdeal := by
  pair_intro
  · run_from Cert.ConvBwdIdeal.Gen.run_main m g
    exact W_main_arg1 m _ c
  · run_from Cert.ConvBwdRefIdeal.Value.run m' g'
    · unfold Pipeline.afterTail₀
      simp only [hostOps1, List.flatten_cons, List.flatten_nil, List.append_nil, List.cons_append, List.nil_append]
      simp only [StableHlo.after_cons, StableHlo.after_nil]
      after_results_steps
      rw [Pipeline.withArrays_arr _ launch0.win.arr_inj c _ _ 3]
      rw [final3]
      obtain ⟨e0, e1, e2⟩ := hagree c
      rw [Cert.ConvBwdRefIdeal.Read.val_main_v70_eq, e0, e1, e2]
      show _ = unblock _
      funext y
      obtain ⟨i, q, rfl⟩ : ∃ (i : Fin 4096) (q : Fin 1536), y = ix2 i q := ⟨_, _, eq_ix2 y⟩
      exact (ref_grad _ _ _ i q).trans (unblock_apply _ _ _ _ i q).symm
    · unfold Pipeline.afterTail₀
      simp only [hostOps1, List.flatten_cons, List.flatten_nil, List.append_nil, List.cons_append, List.nil_append]
      simp only [StableHlo.after_cons, StableHlo.after_nil]
      after_results_steps
      change _ = stack _ _ _
      simp only [Matrix.cons_val_zero, Matrix.cons_val_one, Matrix.cons_val]
      after_results_steps
      rw [Pipeline.withArrays_arr _ launch0.win.arr_inj c _ _ 4, Pipeline.withArrays_arr _ launch0.win.arr_inj c _ _ 5,
        Pipeline.withArrays_arr _ launch0.win.arr_inj c _ _ 6]
      rw [final4, final5, final6]
      obtain ⟨e0, e1, e2⟩ := hagree c
      rw [Cert.ConvBwdRefIdeal.Read.val_main_v61_eq, e0, e1]
      funext y
      obtain ⟨k, q, rfl⟩ : ∃ (k : Fin 3) (q : Fin 512), y = ix2 k q := ⟨_, _, eq_ix2 y⟩
      exact (ref_gradTap _ _ k q).trans (stack_apply (gradTap _ _) k q).symm

end Cert.ConvBwdIdeal.Value
end
-- ==== Proof.ConvFwd.lean ====
module

public import proofs.«01_k».proof.Defs
public import proofs.«01_k».proof.Proof.Gen.ConvFwdIdeal.Frame
public import proofs.«01_k».proof.Proof.Gen.ConvFwdRefIdeal.Read
public import proofs.«01_k».proof.Proof.ConvBwd
public import Idealize.ShloMosaic.Lib.Pipeline.ValueKit
public import Idealize.ShloMosaic.Lib.Pointwise
public import Idealize.ShloMosaic.Lib.Claim

@[expose] public section

set_option maxRecDepth 65536

noncomputable section

namespace Cert.ConvFwdIdeal.Value
open Idealize.ShloMosaic Idealize.ShloMosaic.TcCoe Idealize.SL.Sem
open Cert.ConvFwdIdeal Cert.ConvFwdIdeal.Gen
open Cert.ConvFwdRefIdeal.Read
open Cert.ShortConv (down conv part taps entering select_lt around_down down_mul)

variable (m : (ℓ : Loc nD τ sig) → Buf (Elt Ideal) ℓ)

/-- The block each operand and the result are staged at, point by point. -/
theorem idx : ∀ t : Fin cfg0.N, win0_0.index t = ![0, t.val] ∧ win0_1.index t = ![0, t.val]
    ∧ win0_2.index t = ![0, t.val] :=
  (by decide +kernel : ∀ t : Fin grid0.N, _)

set_option maxHeartbeats 1600000 in
/-- One entry of a stored block: the gate times the convolution of the lane's products. -/
theorem pay (v0 : FVec Ideal S4096x384 .f32) (v2 : FVec Ideal S3x128 .f32) (i : Fin 4096) (q : Fin 128) :
    k0_pay1 (F := Ideal) v0 v2 (ix2 i q) = v0 (ix2 i ⟨q.val, by omega⟩) * conv (fun k => v2 (ix2 k q))
      (fun t => v0 (ix2 t ⟨128 + q.val, by omega⟩) * v0 (ix2 t ⟨256 + q.val, by omega⟩)) i := by
  pointwise [k0_pay1]
  refine congrArg (HMul.hMul _) (congrArg₂ (· + ·) (congrArg (HAdd.hAdd _) ?_) ?_)
  · exact ((select_lt i 1 (by omega) _ _).trans (around_down 1 (by omega)
      (fun t => v0 (ix2 t ⟨128 + q.val, by omega⟩) * v0 (ix2 t ⟨256 + q.val, by omega⟩) * v2 (ix2 1 q)) i _)).trans
      (down_mul _ _ _ _)
  · exact ((select_lt i 2 (by omega) _ _).trans (around_down 2 (by omega)
      (fun t => v0 (ix2 t ⟨128 + q.val, by omega⟩) * v0 (ix2 t ⟨256 + q.val, by omega⟩) * v2 (ix2 0 q)) i _)).trans
      (down_mul _ _ _ _)

/-- The reference's entry: the same of the channel. -/
theorem ref_apply (p : FVec Ideal S4096x1536 .f32) (w : FVec Ideal S3x512 .f32) (i : Fin 4096) (q : Fin 512) :
    val_main_v29 (F := Ideal) p w (ix2 i q) = part p 0 q i * conv (taps w q) (entering p q) i := by
  have e : val_main_v26 (F := Ideal) p w = ConvBwdRefIdeal.Read.val_main_v27 p w := rfl
  pointwise [val_main_v29, val_main_v28, val_main_v27, val_main_v1, val_main_v0]
  rw [e, ShortConv.ref_conv]
  exact congrArg (· * _) (congrArg p (congrArg (ix2 i) (Fin.ext (by show q.val = 512 * 0 + q.val; omega))))

/-- The projections in the order the kernel takes them. -/
theorem arranged (c : Dev nD) (i : Fin 4096) (t : Fin 4) (k : Fin 3) (q : Fin 128) (z : Fin 3584)
    (hz : z.val = 384 * t.val + (128 * k.val + q.val)) :
    (V m c main_v4 : FVec Ideal S4096x3584 .f32) (ix2 i z)
      = part (m ((c : Thread nD τ).loc main_arg0)) k ⟨128 * t.val + q.val, by omega⟩ i := by
  unfold V
  simp only [hostOps0, List.flatten_cons, List.flatten_nil, List.append_nil, List.cons_append, List.nil_append]
  simp only [StableHlo.after_cons, StableHlo.after_nil]
  after_results_steps
  exact ConvBwdIdeal.Value.arrange_apply _ i t k q z hz

/-- One entry of a staged block of the projections. -/
theorem staged (c : Dev nD) (t : Fin cfg0.N) (ht : t.val < 4) (q : Fin 128) (k : Fin 3) (s : Fin 4096) (z : Fin 384)
    (hz : z.val = 128 * k.val + q.val) :
    X0_0 m c t (ix2 s z) = part (m ((c : Thread nD τ).loc main_arg0)) k ⟨128 * t.val + q.val, by omega⟩ s := by
  unfold X0_0 Pipeline.Window.fill
  rw [dif_pos (moved0_0 t _)]
  refine Eq.trans ?_ (arranged m c s ⟨t.val, ht⟩ k q ⟨384 * t.val + (128 * k.val + q.val), by omega⟩ rfl)
  blk_point [iblk, idx t]

theorem point (c : Dev nD) (t : Fin cfg0.N) (y : S4096x128.Idx) :
    k0_pay1 (F := Ideal) (X0_0 m c t) (iblk m c 1 t) y
      = val_main_v29 (F := Ideal) (m ((c : Thread nD τ).loc main_arg0)) (m ((c : Thread nD τ).loc main_arg1))
          (((cfg0.win 2).blk t).view.emb y) := by
  have ht : t.val < 4 := lt_of_lt_of_eq t.isLt N_0
  obtain ⟨i, q, rfl⟩ : ∃ i q, y = ix2 i q := ⟨_, _, eq_ix2 y⟩
  have e : ((cfg0.win 2).blk t).view.emb (ix2 i q) = ix2 i ⟨128 * t.val + q.val, by omega⟩ := by
    funext a; apply Fin.ext
    match a with
    | ⟨0, _⟩ => blk_simp [idx t]
    | ⟨1, _⟩ =>
      blk_simp [idx t]
      show t.val * 128 + q.val = 128 * t.val + q.val
      omega
  refine (pay _ _ i q).trans (Eq.trans ?_ ((congrArg _ e).trans (ref_apply _ _ i _)).symm)
  refine congrArg₂ (· * ·) (staged m c t ht q 0 i _ (by simp)) ?_
  refine congrArg₂ (fun w u => conv w u i) (funext fun k => ?_) (funext fun s => congrArg₂ (· * ·)
    (staged m c t ht q 1 s _ rfl) (staged m c t ht q 2 s _ rfl))
  unfold taps
  blk_point [iblk, V, idx t]

/-- The array the call leaves. -/
theorem final (c : Dev nD) : (dats m 0 c).arrAt 2 (cfgs 0).N
    = val_main_v29 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold Gen.outsAt0; frame_out
  exact point m c t y

/-- The call, and the reference's gated convolution, agree. -/
theorem algebraic : Cert.algebraic_ConvFwdIdeal_ConvFwdRefIdeal := by
  pair_intro
  · run_from Cert.ConvFwdIdeal.Gen.run_main m g
  · run_from Cert.ConvFwdRefIdeal.Value.run m' g'
    exact (final m c).symm

end Cert.ConvFwdIdeal.Value
end
-- ==== Proof.NormBwd.lean ====
module

public import Idealize.ShloMosaic.Lib.Pipeline.ValueKit
public import Idealize.ShloMosaic.Lib.Pointwise
public import Idealize.ShloMosaic.Lib.Claim

@[expose] public section

set_option maxRecDepth 16384

noncomputable section

/-!
The gradient of an RMS norm's argument, one row: what the kernels compute and what the reference's derivative says, on any
row. `h` is the row, `dn` the cotangent of the normed row times the norm's weight, `x` the residual's cotangent.
-/
namespace Cert.NormBwd
open Idealize.ShloMosaic

/-- An extended real whose difference with itself is zero is a number. -/
theorem number {x : EReal} (h : Ideal.cmp .oeq (x - x) (Ideal.ofBits .f32 0#32) = 1#1) : ∃ r : ℝ, x = r := by
  rw [Ideal.ofBits_zero_f32] at h
  induction x with
  | bot => exact absurd h (by simp [Ideal.cmp])
  | top => exact absurd h (by simp [Ideal.cmp])
  | coe r => exact ⟨r, rfl⟩

theorem width : Ideal.ofBits .f32 1149239296#32 = ((1024 : ℝ) : EReal) := by
  simp [Ideal.ofBits, Ideal.ieee, -EReal.coe_mul]; norm_num

theorem half : Ideal.ofBits .f32 3204448256#32 = ((-(1 / 2) : ℝ) : EReal) := by
  simp [Ideal.ofBits, Ideal.ieee, -EReal.coe_mul]; norm_num

theorem eps : ∃ e : ℝ, 0 < e ∧ Ideal.ofBits .f32 897988541#32 = (e : EReal) := by
  refine ⟨8796093 * (2 ^ 43)⁻¹, by norm_num, ?_⟩
  simp [Ideal.ofBits, Ideal.ieee, -EReal.coe_mul]

/-- A finite sum of numbers is a number: the sum of the reals. -/
theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

/-- One over the root of the row's mean square plus the norm's small constant. -/
def scale (h : Fin 1024 → EReal) : EReal :=
  Ideal.rsqrt (Ideal.div (∑ k, h k * h k) (Ideal.ofBits .f32 1149239296#32) + Ideal.ofBits .f32 897988541#32)

/-- The derivative of the scale, taken through the mean square. -/
def through (h dn : Fin 1024 → EReal) : EReal :=
  Ideal.div ((∑ k, h k * dn k) * (Ideal.ofBits .f32 3204448256#32 * Ideal.div (scale h)
    (Ideal.div (∑ k, h k * h k) (Ideal.ofBits .f32 1149239296#32) + Ideal.ofBits .f32 897988541#32)))
    (Ideal.ofBits .f32 1149239296#32)

/-- The kernels' entry `i` of a row, the residual's cotangent `x` added. -/
def kernel (h dn : Fin 1024 → EReal) (i : Fin 1024) (x : EReal) : EReal :=
  scale h * (dn i - h i * scale h * Ideal.div (∑ k, dn k * (h k * scale h)) (Ideal.ofBits .f32 1149239296#32)) + x

/-- The derivative's entry `i` of a row, the residual's cotangent `x` added. -/
def derivative (h dn : Fin 1024 → EReal) (i : Fin 1024) (x : EReal) : EReal :=
  x + dn i * scale h + h i * through h dn + through h dn * h i

/-- A positive number times a sum is the sum of the products. -/
theorem mul_sum {n : ℕ} {a : ℝ} (ha : 0 ≤ a) (f : Fin n → EReal) : (a : EReal) * ∑ k, f k = ∑ k, (a : EReal) * f k := by
  induction n with
  | zero => simp
  | succ n ih =>
    rw [Fin.sum_univ_succ, Fin.sum_univ_succ, ← ih,
      EReal.left_distrib_of_nonneg_of_ne_top (by exact_mod_cast ha) (EReal.coe_ne_top a)]

theorem square_nonneg (x : EReal) : 0 ≤ x * x := by
  induction x with
  | bot => simp
  | top => simp
  | coe r => exact_mod_cast mul_self_nonneg r

/-- The scale of a row that is not all numbers is zero. -/
theorem scale_zero {h : Fin 1024 → EReal} {k : Fin 1024} (hk : h k * h k = ⊤) :
    Ideal.div (∑ k, h k * h k) (Ideal.ofBits .f32 1149239296#32) + Ideal.ofBits .f32 897988541#32 = ⊤ ∧ scale h = 0 := by
  obtain ⟨e, he, hE⟩ := eps
  have hs : ∑ k, h k * h k = ⊤ := by
    rw [← Finset.add_sum_erase _ _ (Finset.mem_univ k), hk]
    exact EReal.top_add_of_ne_bot
      (ne_of_gt (lt_of_lt_of_le EReal.bot_lt_zero (Finset.sum_nonneg fun k _ => square_nonneg (h k))))
  have hm : Ideal.div (∑ k, h k * h k) (Ideal.ofBits .f32 1149239296#32) + Ideal.ofBits .f32 897988541#32 = ⊤ := by
    rw [hs, width, hE, Ideal.div_coe (by norm_num), EReal.top_mul_coe_of_pos (by norm_num)]
    exact EReal.top_add_of_ne_bot (EReal.coe_ne_bot e)
  refine ⟨hm, ?_⟩
  unfold scale
  rw [hm, Ideal.rsqrt_top]

/-- A row holds numbers only, or an infinity. -/
theorem numbers_or (h : Fin 1024 → EReal) : (∀ k, ∃ r : ℝ, h k = r) ∨ ∃ k, h k * h k = ⊤ := by
  refine or_iff_not_imp_right.2 fun hn k => ?_
  have hk : h k * h k ≠ ⊤ := fun e => hn ⟨k, e⟩
  generalize h k = x at hk
  induction x with
  | bot => simp at hk
  | top => simp at hk
  | coe r => exact ⟨r, rfl⟩

/-- The scale of a row of numbers is a positive number, the inverse of the root of a positive number. -/
theorem scale_coe {h : Fin 1024 → EReal} (hh : ∀ k, ∃ r : ℝ, h k = r) : ∃ q : ℝ, 0 < q ∧
    Ideal.div (∑ k, h k * h k) (Ideal.ofBits .f32 1149239296#32) + Ideal.ofBits .f32 897988541#32 = (q : EReal)
    ∧ scale h = (((Real.sqrt q)⁻¹ : ℝ) : EReal) := by
  choose h' hh using hh
  obtain ⟨e, he, hE⟩ := eps
  have hm : Ideal.div (∑ k, h k * h k) (Ideal.ofBits .f32 1149239296#32) + Ideal.ofBits .f32 897988541#32
      = (((∑ k, h' k * h' k) * (1 / 1024) + e : ℝ) : EReal) := by
    simp only [hh, ← EReal.coe_mul, coe_sum]
    rw [width, hE, Ideal.div_coe (by norm_num), ← EReal.coe_mul, ← EReal.coe_add]
  have hpos : 0 < (∑ k, h' k * h' k) * (1 / 1024) + e :=
    add_pos_of_nonneg_of_pos (mul_nonneg (Finset.sum_nonneg fun k _ => mul_self_nonneg _) (by norm_num)) he
  refine ⟨_, hpos, hm, ?_⟩
  unfold scale
  rw [hm, Ideal.rsqrt_coe, if_neg (not_lt.2 hpos.le), if_neg hpos.ne']

theorem twice (a : ℝ) (y : EReal) : (a : EReal) * y + (a : EReal) * y = ((2 * a : ℝ) : EReal) * y := by
  have h2 : ∀ z : EReal, z + z = ((2 : ℝ) : EReal) * z := fun z => by
    induction z with
    | bot => rw [EReal.coe_mul_bot_of_pos (by norm_num)]; rfl
    | top => rw [EReal.coe_mul_top_of_pos (by norm_num)]; rfl
    | coe r => rw [← EReal.coe_mul, ← EReal.coe_add]; exact congrArg _ (by ring)
  rw [h2, ← mul_assoc, ← EReal.coe_mul]

/-- The kernels' row and the derivative's row are equal: with an infinity in the row, both are the residual's cotangent. -/
theorem row (h dn : Fin 1024 → EReal) (i : Fin 1024) (x : EReal) : kernel h dn i x = derivative h dn i x := by
  unfold kernel derivative through
  rcases numbers_or h with hh | ⟨k, hk⟩
  · obtain ⟨q, hq, hm, hs⟩ := scale_coe hh
    choose h' hh using hh
    have hr : (Real.sqrt q)⁻¹ * (Real.sqrt q)⁻¹ = 1 / q := by
      rw [← mul_inv, Real.mul_self_sqrt hq.le, one_div]
    have hs0 : 0 ≤ (Real.sqrt q)⁻¹ := inv_nonneg.2 (Real.sqrt_nonneg q)
    rw [hm, hs, width, half, Ideal.div_coe (by norm_num), Ideal.div_coe hq.ne', Ideal.div_coe (by norm_num)]
    generalize (Real.sqrt q)⁻¹ = s at hr hs0
    have hsum : ∑ k, dn k * (h k * (s : EReal)) = (s : EReal) * ∑ k, h k * dn k := by
      rw [mul_sum hs0]
      exact Finset.sum_congr rfl fun k _ => by ac_rfl
    rw [hsum, hh i]
    generalize ∑ k, h k * dn k = M
    have e1 : (h' i : EReal) * s * (s * M * ((1 / 1024 : ℝ) : EReal)) = ((h' i * s * s * (1 / 1024) : ℝ) : EReal) * M := by
      push_cast; ac_rfl
    have e2 : M * (((-(1 / 2) : ℝ) : EReal) * (s * ((1 / q : ℝ) : EReal))) * ((1 / 1024 : ℝ) : EReal)
        = ((-(1 / 2) * s * (s * s) * (1 / 1024) : ℝ) : EReal) * M := by
      rw [hr]; push_cast; ac_rfl
    have e3 : (h' i : EReal) * (((-(1 / 2) * s * (s * s) * (1 / 1024) : ℝ) : EReal) * M)
        = ((h' i * (-(1 / 2) * s * (s * s) * (1 / 1024)) : ℝ) : EReal) * M := by
      rw [← mul_assoc, ← EReal.coe_mul]
    rw [e1, e2, mul_comm (((-(1 / 2) * s * (s * s) * (1 / 1024) : ℝ) : EReal) * M) (h' i : EReal), e3, add_assoc (_ + _), twice,
      sub_eq_add_neg, EReal.left_distrib_of_nonneg_of_ne_top (by exact_mod_cast hs0) (EReal.coe_ne_top s), ← EReal.neg_mul,
      ← EReal.coe_neg, ← mul_assoc, ← EReal.coe_mul, mul_comm (s : EReal) (dn i)]
    rw [show s * -(h' i * s * s * (1 / 1024)) = 2 * (h' i * (-(1 / 2) * s * (s * s) * (1 / 1024))) by ring]
    generalize ((2 * (h' i * (-(1 / 2) * s * (s * s) * (1 / 1024))) : ℝ) : EReal) * M = w
    ac_rfl
  · obtain ⟨hm, hs⟩ := scale_zero hk
    rw [hm, hs, width, Ideal.div_coe (by norm_num), Ideal.div_coe (by norm_num)]
    simp [Ideal.div]

/-- The two are equal also where the kernel's row is given entry by entry equal to the derivative's. -/
theorem rows {h h' dn dn' : Fin 1024 → EReal} {i i' : Fin 1024} {x x' : EReal} (eh : ∀ k, h k = h' k)
    (ed : ∀ k, dn k = dn' k) (ei : i = i') (ex : x = x') : kernel h dn i x = derivative h' dn' i' x' := by
  obtain rfl := funext eh
  obtain rfl := funext ed
  subst ei ex
  exact row h dn i x

/-- Products of numbers are numbers. -/
theorem number_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

end Cert.NormBwd

end
-- ==== Proof.HeadSum.lean ====
module

public import proofs.«01_k».proof.Proof.NormBwd
public import Idealize.ShloMosaic.Lib.Pointwise
public import proofs.«01_k».proof.Proof.Gen.RwkvPostIdeal.Skeleton

@[expose] public section

set_option maxRecDepth 16384

noncomputable section

/-!
Sums over the heads, 64 lanes each, taken as a product with a matrix of ones on the heads' diagonal blocks. The row
multiplied is split in two, itself and what is left of it; on numbers nothing is left.
-/
namespace Cert.HeadSum
open Idealize.ShloMosaic Idealize.ShloMosaic.TcCoe
open Cert.RwkvPostIdeal Cert.RwkvPostIdeal.Gen

/-- Lane `k` of head `h`. -/
abbrev lane (h : Fin 8) (k : Fin 64) : Fin 512 := ⟨h.val * 64 + k.val, by omega⟩

theorem exists_lane (j : Fin 512) : ∃ h k, j = lane h k :=
  ⟨⟨j.val / 64, by omega⟩, ⟨j.val % 64, by omega⟩, Fin.ext (by show j.val = j.val / 64 * 64 + j.val % 64; omega)⟩

/-- The sum over the head lane `j` belongs to, in a block of four heads. -/
def headSum (z : Fin 256 → EReal) (j : Fin 256) : EReal := ∑ k : Fin 64, z ⟨64 * (j.val / 64) + k.val, by omega⟩

/-- Whether two lanes belong to the same head. -/
def same (c j : Fin 256) : EReal := if c.val / 64 = j.val / 64 then 1 else 0

theorem sum_same (z : Fin 256 → EReal) (j : Fin 256) : ∑ c, z c * same c j = headSum z j := by
  unfold same headSum
  simp only [mul_ite, mul_one, mul_zero]
  rw [← Finset.sum_filter]
  refine Finset.sum_bij' (fun c _ => (⟨c.val % 64, by omega⟩ : Fin 64)) (fun k _ => ⟨64 * (j.val / 64) + k.val, by omega⟩)
    (fun _ _ => Finset.mem_univ _) (fun k _ => Finset.mem_filter.2 ⟨Finset.mem_univ _, by
      show (64 * (j.val / 64) + k.val) / 64 = j.val / 64; omega⟩) (fun c hc => Fin.ext ?_) (fun k _ => Fin.ext ?_)
    (fun c hc => congrArg z (Fin.ext ?_))
  · have := (Finset.mem_filter.1 hc).2
    show 64 * (j.val / 64) + c.val % 64 = c.val; omega
  · show (64 * (j.val / 64) + k.val) % 64 = k.val; omega
  · have := (Finset.mem_filter.1 hc).2
    show c.val = 64 * (j.val / 64) + c.val % 64; omega

/-- The product with the row and with what is left of it. -/
theorem split_sum (z : Fin 256 → EReal) (hz : ∀ c, ∃ r : ℝ, z c = r) (j : Fin 256) :
    ∑ c, z c * same c j + ∑ c, (z c - z c) * same c j = headSum z j := by
  have e : ∑ c, (z c - z c) * same c j = 0 := Finset.sum_eq_zero fun c _ => by
    obtain ⟨r, hr⟩ := hz c
    rw [hr, ← EReal.coe_sub, sub_self, EReal.coe_zero, zero_mul]
  rw [e, add_zero, sum_same]

/-- The matrix of ones on the heads' diagonal blocks. -/
def ones : FVec Ideal S256x256 .bf16 :=
  truncf .bf16 (sitofp .f32 (extui 32 (cmpi .eq
    (k0_pay12 (iota .tc S256x256 32 [0] iota_S256x256_d0_w32) 64#32)
    (k0_pay12 (iota .tc S256x256 32 [1] iota_S256x256_d1_w32) 64#32)) natLt_1_32)) bitsLt_bf16_f32

/-- The sums over the heads of a block's rows. -/
def sums (x : FVec Ideal S512x512 .f32) : FVec Ideal S512x512 .f32 :=
  have hi : FVec Ideal S512x512 .bf16 := truncf .bf16 x bitsLt_bf16_f32
  have lo : FVec Ideal S512x512 .bf16 := truncf .bf16 (subf x (extf .f32 hi bitsLt_bf16_f32)) bitsLt_bf16_f32
  have both : FVec Ideal S1024x512 .bf16 :=
    concatenate S1024x512 0 [⟨S512x512, hi⟩, ⟨S512x512, lo⟩] concatenates_S512x512_S512x512_S1024x512_d0
  have left : FVec Ideal S1024x256 .f32 := matmul dot_S1024x256_S256x256_S1024x256_1_0_0_1_n_n none
    (extractStridedSlice S1024x256 ![0, 0] both slices_S1024x512_o0_0_S1024x256) ones (constant S1024x256 .f32 0x00000000#32)
  have right : FVec Ideal S1024x256 .f32 := matmul dot_S1024x256_S256x256_S1024x256_1_0_0_1_n_n none
    (extractStridedSlice S1024x256 ![0, 256] both slices_S1024x512_o0_256_S1024x256) ones (constant S1024x256 .f32 0x00000000#32)
  have s : FVec Ideal S1024x512 .f32 :=
    concatenate S1024x512 1 [⟨S1024x256, left⟩, ⟨S1024x256, right⟩] concatenates_S1024x256_S1024x256_S1024x512_d1
  addf (extractStridedSlice S512x512 ![0, 0] s slices_S1024x512_o0_0_S512x512)
    (extractStridedSlice S512x512 ![512, 0] s slices_S1024x512_o512_0_S512x512)

/-- The quotient by 64 of a lane's number, as the kernels take it. -/
def quotient (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem quotient_eq : ∀ c : Fin 256, quotient (BitVec.ofNat 32 c.val) = BitVec.ofNat 32 (c.val / 64) := by
  decide +kernel

theorem ones_apply (c j : Fin 256) : ones (ix2 c j) = same c j := by
  pointwise [ones, k0_pay12]
  change FloatOps.sitofp (F := Ideal) FTy.f32 (BitVec.setWidth 32 (IntOp.cmpi CmpIPredicate.eq
    (quotient (BitVec.ofNat 32 c.val)) (quotient (BitVec.ofNat 32 j.val)))) = _
  rw [quotient_eq, quotient_eq]
  have e : BitVec.setWidth 32 (IntOp.cmpi CmpIPredicate.eq (BitVec.ofNat 32 (c.val / 64)) (BitVec.ofNat 32 (j.val / 64)))
      = if c.val / 64 = j.val / 64 then 1#32 else 0#32 :=
    (by decide +kernel : ∀ a b : Fin 4, BitVec.setWidth 32 (IntOp.cmpi CmpIPredicate.eq (BitVec.ofNat 32 a.val)
      (BitVec.ofNat 32 b.val)) = if a.val = b.val then 1#32 else 0#32) ⟨c.val / 64, by omega⟩ ⟨j.val / 64, by omega⟩
  rw [e]
  unfold same
  split_ifs
  · show (((1#32 : BitVec 32).toInt : ℝ) : EReal) = 1
    simp
  · show (((0#32 : BitVec 32).toInt : ℝ) : EReal) = 0
    simp

/-- On numbers each entry is the sum of its row over its head. -/
theorem sums_apply (x : FVec Ideal S512x512 .f32) (i j : Fin 512) (hx : ∀ k, ∃ r : ℝ, x (ix2 i k) = r) :
    sums x (ix2 i j) = ∑ k : Fin 64, x (ix2 i ⟨64 * (j.val / 64) + k.val, by omega⟩) := by
  pointwise [sums]
  simp only [ones_apply]
  by_cases h : j.val < 256
  · rw [dif_pos h, dif_pos h]
    exact split_sum (fun c => x (ix2 i ⟨c.val, by omega⟩)) (fun c => hx _) ⟨j.val, h⟩
  · rw [dif_neg h, dif_neg h]
    refine (split_sum (fun c => x (ix2 i ⟨256 + c.val, by omega⟩)) (fun c => hx _) ⟨j.val - 256, by omega⟩).trans ?_
    exact Finset.sum_congr rfl fun k _ => congrArg x (congrArg (ix2 i) (Fin.ext (by
      show 256 + (64 * ((j.val - 256) / 64) + k.val) = 64 * (j.val / 64) + k.val; omega)))

/-- The same, the lane given by its head and its place in the head. -/
theorem sums_lane (x : FVec Ideal S512x512 .f32) (i : Fin 512) (h : Fin 8) (k : Fin 64)
    (hx : ∀ h k, ∃ r : ℝ, x (ix2 i (lane h k)) = r) :
    sums x (ix2 i (lane h k)) = ∑ l : Fin 64, x (ix2 i (lane h l)) := by
  rw [sums_apply x i _ fun j => by obtain ⟨h, k, rfl⟩ := exists_lane j; exact hx h k]
  exact Finset.sum_congr rfl fun l _ => congrArg x (congrArg (ix2 i) (Fin.ext (by
    show 64 * ((h.val * 64 + k.val) / 64) + l.val = h.val * 64 + l.val; omega)))

end Cert.HeadSum

end
-- ==== Proof.GroupNorm.lean ====
module

public import proofs.«01_k».proof.Proof.NormBwd

@[expose] public section

set_option maxRecDepth 16384

noncomputable section

/-!
A group norm over one head of 64 lanes, and the gradient of its argument: what the kernel computes and what the
reference's derivative says, on a head of numbers. `y` is the head, `d` the cotangent of the normed head.
-/
namespace Cert.GroupNorm
open Idealize.ShloMosaic

theorem lanes : Ideal.ofBits .f32 1115684864#32 = ((64 : ℝ) : EReal) := by
  simp [Ideal.ofBits, Ideal.ieee, -EReal.coe_mul]; norm_num

theorem share : Ideal.ofBits .f32 1015021568#32 = ((1 / 64 : ℝ) : EReal) := by
  simp [Ideal.ofBits, Ideal.ieee, -EReal.coe_mul]; norm_num

theorem two : Ideal.ofBits .f32 1073741824#32 = ((2 : ℝ) : EReal) := by
  simp [Ideal.ofBits, Ideal.ieee, -EReal.coe_mul]; norm_num

theorem eps : ∃ e : ℝ, 0 < e ∧ Ideal.ofBits .f32 975685036#32 = (e : EReal) := by
  refine ⟨10995116 * (2 ^ 34)⁻¹, by norm_num, ?_⟩
  simp [Ideal.ofBits, Ideal.ieee, -EReal.coe_mul]

/-- The quotient by the number of lanes is the product with its reciprocal. -/
theorem div_lanes (x : EReal) :
    Ideal.div x (Ideal.ofBits .f32 1115684864#32) = x * Ideal.ofBits .f32 1015021568#32 := by
  rw [lanes, share, Ideal.div_coe (by norm_num)]

/-- A head less its mean. -/
def centred (y : Fin 64 → EReal) (k : Fin 64) : EReal := y k - (∑ l, y l) * Ideal.ofBits .f32 1015021568#32

/-- The head's variance plus the norm's small constant. -/
def spread (y : Fin 64 → EReal) : EReal :=
  (∑ k, centred y k * centred y k) * Ideal.ofBits .f32 1015021568#32 + Ideal.ofBits .f32 975685036#32

/-- The normed head. -/
def normed (y : Fin 64 → EReal) (k : Fin 64) : EReal := centred y k * Ideal.rsqrt (spread y)

/-- The derivative of one over the root, in terms of the root. -/
def slope (y : Fin 64 → EReal) : EReal :=
  Ideal.ofBits .f32 3204448256#32 * Ideal.div (Ideal.rsqrt (spread y)) (spread y)

/-- A lane's part of the scale's derivative, as the kernel sums it. -/
def part (y d : Fin 64 → EReal) (k : Fin 64) : EReal :=
  centred y k * d k * slope y * Ideal.ofBits .f32 1015021568#32

/-- The kernel's gradient of the centred head. -/
def inner (y d : Fin 64 → EReal) (k : Fin 64) : EReal :=
  d k * Ideal.rsqrt (spread y) + centred y k * (∑ l, part y d l) + (∑ l, part y d l) * centred y k

/-- A lane's part of the mean's derivative, as the kernel sums it. -/
def shift (y d : Fin 64 → EReal) (k : Fin 64) : EReal :=
  (Ideal.ofBits .f32 0#32 - inner y d k) * Ideal.ofBits .f32 1015021568#32

/-- The kernel's gradient of the head. -/
def kernel (y d : Fin 64 → EReal) (k : Fin 64) : EReal := inner y d k + ∑ l, shift y d l

/-- The derivative taken through the variance. -/
def through (y d : Fin 64 → EReal) : EReal :=
  (∑ l, centred y l * d l) * slope y * Ideal.ofBits .f32 1015021568#32

/-- The derivative's gradient of the head. -/
def derivative (y d : Fin 64 → EReal) (k : Fin 64) : EReal :=
  d k * Ideal.rsqrt (spread y) + through y d * (Ideal.ofBits .f32 1073741824#32 * centred y k)
    + ((∑ l, -(d l * Ideal.rsqrt (spread y)))
      + ∑ l, -(through y d * (Ideal.ofBits .f32 1073741824#32 * centred y l))) * Ideal.ofBits .f32 1015021568#32

section
variable {y d : Fin 64 → EReal} (hy : ∀ k, ∃ r : ℝ, y k = r) (hd : ∀ k, ∃ r : ℝ, d k = r)
include hy

theorem number_centred : ∀ k, ∃ r : ℝ, centred y k = r := by
  choose y' hy using hy
  intro k
  unfold centred
  simp only [hy, NormBwd.coe_sum, share, ← EReal.coe_mul, ← EReal.coe_sub]
  exact ⟨_, rfl⟩

/-- The variance plus the small constant is a positive number; so are its root's reciprocal and the slope numbers. -/
theorem number_spread : ∃ q : ℝ, 0 < q ∧ spread y = q ∧ Ideal.rsqrt (spread y) = (((Real.sqrt q)⁻¹ : ℝ) : EReal)
    ∧ slope y = ((-(1 / 2) * ((Real.sqrt q)⁻¹ * (1 / q)) : ℝ) : EReal) := by
  choose c hc using number_centred hy
  obtain ⟨e, he, hE⟩ := eps
  have hq : spread y = (((∑ k, c k * c k) * (1 / 64) + e : ℝ) : EReal) := by
    unfold spread
    simp only [hc, ← EReal.coe_mul, NormBwd.coe_sum, share, hE, ← EReal.coe_add]
  have hpos : 0 < (∑ k, c k * c k) * (1 / 64) + e :=
    add_pos_of_nonneg_of_pos (mul_nonneg (Finset.sum_nonneg fun k _ => mul_self_nonneg _) (by norm_num)) he
  have hs : Ideal.rsqrt (spread y) = (((Real.sqrt ((∑ k, c k * c k) * (1 / 64) + e))⁻¹ : ℝ) : EReal) := by
    rw [hq, Ideal.rsqrt_coe, if_neg (not_lt.2 hpos.le), if_neg hpos.ne']
  refine ⟨_, hpos, hq, hs, ?_⟩
  unfold slope
  rw [hs, hq, NormBwd.half, Ideal.div_coe hpos.ne', ← EReal.coe_mul, ← EReal.coe_mul]

include hd

theorem number_part : ∀ k, ∃ r : ℝ, part y d k = r := by
  choose c hc using number_centred hy
  choose d' hd using hd
  obtain ⟨q, _, _, _, hs⟩ := number_spread hy
  intro k
  unfold part
  simp only [hc, hd, hs, share, ← EReal.coe_mul]
  exact ⟨_, rfl⟩

theorem number_shift : ∀ k, ∃ r : ℝ, shift y d k = r := by
  choose p hp using number_part hy hd
  choose c hc using number_centred hy
  choose d' hd using hd
  obtain ⟨q, _, _, hr, _⟩ := number_spread hy
  intro k
  unfold shift inner
  rw [Ideal.ofBits_zero_f32, ← EReal.coe_zero]
  simp only [hc, hd, hr, hp, share, NormBwd.coe_sum, ← EReal.coe_mul, ← EReal.coe_add, ← EReal.coe_sub]
  exact ⟨_, rfl⟩

/-- The kernel's head and the derivative's head are equal on numbers. -/
theorem head (k : Fin 64) : kernel y d k = derivative y d k := by
  choose c hc using number_centred hy
  choose d' hd using hd
  obtain ⟨q, _, _, hr, hs⟩ := number_spread hy
  unfold kernel derivative shift inner through part
  rw [Ideal.ofBits_zero_f32, ← EReal.coe_zero]
  generalize (Real.sqrt q)⁻¹ = s at *
  generalize -(1 / 2) * (s * (1 / q)) = p at *
  simp only [hc, hd, hr, hs, share, two, NormBwd.coe_sum, ← EReal.coe_neg, ← EReal.coe_mul, ← EReal.coe_add,
    ← EReal.coe_sub]
  refine congrArg _ ?_
  have e : ∑ l, c l * d' l * p * (1 / 64) = (∑ l, c l * d' l) * p * (1 / 64) := by
    rw [Finset.sum_mul, Finset.sum_mul]
  rw [e]
  generalize (∑ l, c l * d' l) * p * (1 / 64) = g
  rw [← Finset.sum_add_distrib, Finset.sum_mul]
  exact congrArg₂ (· + ·) (by ring) (Finset.sum_congr rfl fun l _ => by ring)

end

end Cert.GroupNorm

end
-- ==== Proof.RwkvPost.lean ====
module

public import proofs.«01_k».proof.Defs
public import proofs.«01_k».proof.Proof.Gen.RwkvPostIdeal.Value
public import proofs.«01_k».proof.Proof.Gen.RwkvPostRefIdeal.Read
public import Idealize.ShloMosaic.Lib.Pipeline.ValueKit
public import Idealize.ShloMosaic.Lib.Pointwise
public import Idealize.ShloMosaic.Lib.Claim
public import proofs.«01_k».proof.Proof.HeadSum
public import proofs.«01_k».proof.Proof.GroupNorm

@[expose] public section

set_option maxRecDepth 16384

noncomputable section

/-!
The recurrence's read-out: the group norm of its output over each head, the bonus of the step's own key and value, and
the gate.
-/
namespace Cert.RwkvPostIdeal.Value
open Idealize.ShloMosaic Idealize.ShloMosaic.TcCoe Idealize.SL.Sem
open Cert.RwkvPostIdeal Cert.RwkvPostIdeal.Gen Cert.HeadSum
open Cert.RwkvPostRefIdeal.Read

variable (m : (ℓ : Loc nD τ sig) → Buf (Elt Ideal) ℓ)

theorem centred_eq (x : Vec Ideal S512x512 .f32) : k0_pay10 (F := Ideal) x k0_pay7 k0_pay8 k0_pay9
    = subf x (mulf (sums x) (broadcast S512x512 (Scalar.ofBits (F := Ideal) .f32 0x3C800000#32))) := rfl

theorem square_eq (x : Vec Ideal S512x512 .f32) : k0_pay11 (F := Ideal) x k0_pay7 k0_pay8 k0_pay9
    = mulf (k0_pay10 x k0_pay7 k0_pay8 k0_pay9) (k0_pay10 x k0_pay7 k0_pay8 k0_pay9) := rfl

theorem normed_eq (g b : FVec Ideal S1x512 .f32) (x z : FVec Ideal S512x512 .f32) :
    k0_pay16 g b x z (k0_pay12 (iota .tc S256x256 32 [0] iota_S256x256_d0_w32) 64#32) k0_pay13 k0_pay14 k0_pay15
      = addf (mulf (mulf x (rsqrt (addf (mulf (sums z)
          (broadcast S512x512 (Scalar.ofBits (F := Ideal) .f32 0x3C800000#32)))
          (broadcast S512x512 (Scalar.ofBits (F := Ideal) .f32 0x3A27C5AC#32)))))
          (broadcastTo S512x512 g broadcasts_S1x512_S512x512)) (broadcastTo S512x512 b broadcasts_S1x512_S512x512) := rfl

theorem bonus_eq (v x : FVec Ideal S512x512 .f32) : k0_pay21 v x k0_pay18 k0_pay19 k0_pay20 = mulf (sums x) v := rfl

/-- The read-out's entry at lane `k` of a head, from the head's lanes. -/
def readOut (y b : Fin 64 → EReal) (k : Fin 64) (g c v w : EReal) : EReal :=
  (GroupNorm.normed y k * g + c + (∑ l, b l) * v) * w

theorem centred_apply (x : Vec Ideal S512x512 .f32) (i : Fin 512) (hx : ∀ h k, ∃ r : ℝ, x (ix2 i (lane h k)) = r)
    (h : Fin 8) (k : Fin 64) : k0_pay10 (F := Ideal) x k0_pay7 k0_pay8 k0_pay9 (ix2 i (lane h k))
      = GroupNorm.centred (fun l => x (ix2 i (lane h l))) k := by
  rw [centred_eq]
  show x _ - sums x _ * _ = _
  rw [sums_lane x i h k hx]
  rfl

theorem square_apply (x : Vec Ideal S512x512 .f32) (i : Fin 512) (hx : ∀ h k, ∃ r : ℝ, x (ix2 i (lane h k)) = r)
    (h : Fin 8) (k : Fin 64) : k0_pay11 (F := Ideal) x k0_pay7 k0_pay8 k0_pay9 (ix2 i (lane h k))
      = GroupNorm.centred (fun l => x (ix2 i (lane h l))) k * GroupNorm.centred (fun l => x (ix2 i (lane h l))) k := by
  rw [square_eq, ← centred_apply x i hx]
  rfl

theorem normed_apply (g b : FVec Ideal S1x512 .f32) (x : FVec Ideal S512x512 .f32) (i : Fin 512)
    (hx : ∀ h k, ∃ r : ℝ, x (ix2 i (lane h k)) = r) (h : Fin 8) (k : Fin 64) :
    k0_pay16 g b (k0_pay10 x k0_pay7 k0_pay8 k0_pay9) (k0_pay11 x k0_pay7 k0_pay8 k0_pay9)
      (k0_pay12 (iota .tc S256x256 32 [0] iota_S256x256_d0_w32) 64#32) k0_pay13 k0_pay14 k0_pay15 (ix2 i (lane h k))
      = GroupNorm.normed (fun l => x (ix2 i (lane h l))) k * g (ix2 0 (lane h k)) + b (ix2 0 (lane h k)) := by
  rw [normed_eq]
  pointwise []
  rw [sums_lane _ i h k fun h k => by
    rw [square_apply x i hx]
    exact NormBwd.number_mul (GroupNorm.number_centred (hx h) k) (GroupNorm.number_centred (hx h) k)]
  simp only [square_apply x i hx, centred_apply x i hx]
  rfl

/-- A stored entry is the read-out's. -/
theorem pay1 (x0 x1 x2 x3 x4 : Vec Ideal S512x512 .f32) (x5 x6 x7 : Vec Ideal S1x512 .f32) (i : Fin 512)
    (hy : ∀ h k, ∃ r : ℝ, x0 (ix2 i (lane h k)) = r)
    (hb : ∀ h k, ∃ r : ℝ, x1 (ix2 i (lane h k)) * x2 (ix2 i (lane h k)) * x7 (ix2 0 (lane h k)) = (r : EReal))
    (h : Fin 8) (k : Fin 64) :
    k0_pay1 (F := Ideal) x4 (k0_pay16 (k0_pay4 x5) (k0_pay5 x6) (k0_pay10 x0 k0_pay7 k0_pay8 k0_pay9)
        (k0_pay11 x0 k0_pay7 k0_pay8 k0_pay9) (k0_pay12 (iota .tc S256x256 32 [0] iota_S256x256_d0_w32) 64#32)
        k0_pay13 k0_pay14 k0_pay15)
      (k0_pay21 (k0_pay3 x3) (k0_pay17 (k0_pay2 x1) x2 (k0_pay6 x7)) k0_pay18 k0_pay19 k0_pay20) (ix2 i (lane h k))
      = readOut (fun l => x0 (ix2 i (lane h l)))
        (fun l => x1 (ix2 i (lane h l)) * x2 (ix2 i (lane h l)) * x7 (ix2 0 (lane h l))) k
        (x5 (ix2 0 (lane h k))) (x6 (ix2 0 (lane h k))) (x3 (ix2 i (lane h k))) (x4 (ix2 i (lane h k))) := by
  have e : ∀ h k, k0_pay17 (F := Ideal) (k0_pay2 x1) x2 (k0_pay6 x7) (ix2 i (lane h k))
      = x1 (ix2 i (lane h k)) * x2 (ix2 i (lane h k)) * x7 (ix2 0 (lane h k)) := fun h k => by
    pointwise [k0_pay17, k0_pay2, k0_pay6]
  rw [bonus_eq]
  pointwise [k0_pay1]
  rw [normed_apply _ _ x0 i hy, sums_lane _ i h k fun h k => by rw [e]; exact hb h k]
  simp only [e]
  pointwise [k0_pay3, k0_pay4, k0_pay5]
  rfl

theorem ref42 (x0 x1 x2 x3 x4 : FVec Ideal S4096x512 .f32) (x5 x6 : FVec Ideal S512 .f32) (x7 : FVec Ideal S8x64 .f32)
    (i : Fin 4096) (h : Fin 8) (k : Fin 64) :
    val_main_v42 (F := Ideal) x0 x1 x2 x3 x4 x5 x6 x7 (ix2 i (lane h k))
      = readOut (fun l => x0 (ix2 i (lane h l)))
        (fun l => x1 (ix2 i (lane h l)) * x2 (ix2 i (lane h l)) * x7 (ix2 h l)) k
        (x5 (ix1 (lane h k))) (x6 (ix1 (lane h k))) (x3 (ix2 i (lane h k))) (x4 (ix2 i (lane h k))) := by
  unfold lane
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1,
    val_main_cst_2, val_main_cst_3, val_main_cst_4]
  simp only [GroupNorm.div_lanes]
  rfl

theorem idx : ∀ t : Fin cfg0.N, win0_0.index t = ![t.val, 0]
    ∧ win0_1.index t = ![t.val, 0]
    ∧ win0_2.index t = ![t.val, 0]
    ∧ win0_3.index t = ![t.val, 2]
    ∧ win0_4.index t = ![t.val, 0]
    ∧ win0_5.index t = ![0, 0]
    ∧ win0_6.index t = ![0, 0]
    ∧ win0_7.index t = ![0, 0]
    ∧ win0_8.index t = ![t.val, 0] :=
  (by decide +kernel : ∀ t : Fin grid0.N, _)

/-- The array the receptance and the value are read from: zeros in its second and last quarter. -/
def mix (r v : FVec Ideal S4096x512 .f32) : FVec Ideal S4096x2048 .f32 :=
  have zero : FVec Ideal S4096x512 .f32 := broadcastInDim S4096x512 ![] bcast_S_S4096x512 (constant S_ .f32 0x00000000#32)
  concatenate S4096x2048 1 [⟨S4096x512, r⟩, ⟨S4096x512, zero⟩, ⟨S4096x512, v⟩, ⟨S4096x512, zero⟩]
    concatenates_S4096x512_S4096x512_S4096x512_S4096x512_S4096x2048_d1

theorem mix_r (r v : FVec Ideal S4096x512 .f32) (i : Fin 4096) (j : Fin 512) :
    mix r v (ix2 i ⟨j.val, by omega⟩) = r (ix2 i j) := by
  pointwise [mix]

theorem mix_v (r v : FVec Ideal S4096x512 .f32) (i : Fin 4096) (j : Fin 512) :
    mix r v (ix2 i ⟨1024 + j.val, by omega⟩) = v (ix2 i j) := by
  pointwise [mix]
  rw [dif_neg (by omega), dif_neg (by omega), dif_pos (by omega)]
  exact congrArg v (congrArg (ix2 i) (Fin.ext (by show 1024 + j.val - 512 - 512 = j.val; omega)))

theorem mixed (c : Dev nD) : V m c main_v1 = mix (m ((c : Thread nD τ).loc main_arg1)) (m ((c : Thread nD τ).loc main_arg3)) := by
  unfold V
  simp only [hostOps0, List.flatten_cons, List.flatten_nil, List.append_nil, List.cons_append, List.nil_append]
  simp only [StableHlo.after_cons, StableHlo.after_nil]
  after_results_steps
  rfl

theorem weight5 (c : Dev nD) (j : Fin 512) :
    (V m c main_v2 : FVec Ideal S1x512 .f32) (ix2 0 j) = ((m ((c : Thread nD τ).loc main_arg5)) : FVec Ideal S512 .f32) (ix1 j) := by
  unfold V
  simp only [hostOps0, List.flatten_cons, List.flatten_nil, List.append_nil, List.cons_append, List.nil_append]
  simp only [StableHlo.after_cons, StableHlo.after_nil]
  after_results_steps
  pointwise []

theorem weight6 (c : Dev nD) (j : Fin 512) :
    (V m c main_v3 : FVec Ideal S1x512 .f32) (ix2 0 j) = ((m ((c : Thread nD τ).loc main_arg6)) : FVec Ideal S512 .f32) (ix1 j) := by
  unfold V
  simp only [hostOps0, List.flatten_cons, List.flatten_nil, List.append_nil, List.cons_append, List.nil_append]
  simp only [StableHlo.after_cons, StableHlo.after_nil]
  after_results_steps
  pointwise []

theorem weight7 (c : Dev nD) (h : Fin 8) (k : Fin 64) :
    (V m c main_v4 : FVec Ideal S1x512 .f32) (ix2 0 (lane h k)) = ((m ((c : Thread nD τ).loc main_arg7)) : FVec Ideal S8x64 .f32) (ix2 h k) := by
  unfold lane
  unfold V
  simp only [hostOps0, List.flatten_cons, List.flatten_nil, List.append_nil, List.cons_append, List.nil_append]
  simp only [StableHlo.after_cons, StableHlo.after_nil]
  after_results_steps
  pointwise []

/-- The shape relations the precondition's function states. -/
theorem numbersFacts : Cert.Pre_read_out_numbers.Facts := ⟨by decide, by decide⟩

section
variable (h : @Pre_RwkvPostIdeal_read_out_numbers numbersFacts m)
include h

theorem number0 (c : Dev nD) (i : S4096x512.Idx) : ∃ r : ℝ, ((m ((c : Thread nD τ).loc main_arg0)) : FVec Ideal S4096x512 .f32) i = (r : EReal) :=
  NormBwd.number (congrFun (h c).1 i)

theorem number1 (c : Dev nD) (i : S4096x512.Idx) : ∃ r : ℝ, ((m ((c : Thread nD τ).loc main_arg1)) : FVec Ideal S4096x512 .f32) i = (r : EReal) :=
  NormBwd.number (congrFun (h c).2.1 i)

theorem number2 (c : Dev nD) (i : S4096x512.Idx) : ∃ r : ℝ, ((m ((c : Thread nD τ).loc main_arg2)) : FVec Ideal S4096x512 .f32) i = (r : EReal) :=
  NormBwd.number (congrFun (h c).2.2.1 i)

theorem number7 (c : Dev nD) (i : S8x64.Idx) : ∃ r : ℝ, ((m ((c : Thread nD τ).loc main_arg7)) : FVec Ideal S8x64 .f32) i = (r : EReal) :=
  NormBwd.number (congrFun (h c).2.2.2 i)

/-- One entry of a stored block. -/
theorem point (c : Dev nD) (t : Fin cfg0.N) (y : S512x512.Idx) :
    k0_pay1 (F := Ideal) (iblk m c 4 t) (k0_pay16 (k0_pay4 (iblk m c 5 t)) (k0_pay5 (iblk m c 6 t))
        (k0_pay10 (iblk m c 0 t) k0_pay7 k0_pay8 k0_pay9) (k0_pay11 (iblk m c 0 t) k0_pay7 k0_pay8 k0_pay9)
        (k0_pay12 (iota .tc S256x256 32 [0] iota_S256x256_d0_w32) 64#32) k0_pay13 k0_pay14 k0_pay15)
      (k0_pay21 (k0_pay3 (iblk m c 3 t)) (k0_pay17 (k0_pay2 (iblk m c 1 t)) (iblk m c 2 t) (k0_pay6 (iblk m c 7 t)))
        k0_pay18 k0_pay19 k0_pay20) y
      = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb y) := by
  have ht : t.val < 8 := lt_of_lt_of_eq t.isLt N_0
  obtain ⟨i, j, rfl⟩ : ∃ i j, y = ix2 i j := ⟨_, _, eq_ix2 y⟩
  obtain ⟨hd, k, rfl⟩ := exists_lane j
  have e : ((cfg0.win 8).blk t).view.emb (ix2 i (lane hd k)) = ix2 ⟨512 * t.val + i.val, by omega⟩ (lane hd k) := by
    funext a; apply Fin.ext
    match a with
    | ⟨0, _⟩ =>
      blk_simp [idx t]
      show t.val * 512 + i.val = 512 * t.val + i.val
      omega
    | ⟨1, _⟩ => blk_simp [idx t]
  have b0 : ∀ h k, (iblk m c 0 t : FVec Ideal S512x512 .f32) (ix2 i (lane h k))
      = ((m ((c : Thread nD τ).loc main_arg0)) : FVec Ideal S4096x512 .f32) (ix2 ⟨512 * t.val + i.val, by omega⟩ (lane h k)) := fun h k => by
    blk_point [iblk, V, idx t]
  have b1 : ∀ h k, (iblk m c 1 t : FVec Ideal S512x512 .f32) (ix2 i (lane h k))
      = ((m ((c : Thread nD τ).loc main_arg1)) : FVec Ideal S4096x512 .f32) (ix2 ⟨512 * t.val + i.val, by omega⟩ (lane h k)) := fun h k => by
    rw [← mix_r (m ((c : Thread nD τ).loc main_arg1)) (m ((c : Thread nD τ).loc main_arg3)), ← mixed m c]
    blk_point [iblk, idx t]
  have b2 : ∀ h k, (iblk m c 2 t : FVec Ideal S512x512 .f32) (ix2 i (lane h k))
      = ((m ((c : Thread nD τ).loc main_arg2)) : FVec Ideal S4096x512 .f32) (ix2 ⟨512 * t.val + i.val, by omega⟩ (lane h k)) := fun h k => by
    blk_point [iblk, V, idx t]
  have b3 : (iblk m c 3 t : FVec Ideal S512x512 .f32) (ix2 i (lane hd k))
      = ((m ((c : Thread nD τ).loc main_arg3)) : FVec Ideal S4096x512 .f32) (ix2 ⟨512 * t.val + i.val, by omega⟩ (lane hd k)) := by
    rw [← mix_v (m ((c : Thread nD τ).loc main_arg1)) (m ((c : Thread nD τ).loc main_arg3)), ← mixed m c]
    blk_point [iblk, idx t]
  have b4 : (iblk m c 4 t : FVec Ideal S512x512 .f32) (ix2 i (lane hd k))
      = ((m ((c : Thread nD τ).loc main_arg4)) : FVec Ideal S4096x512 .f32) (ix2 ⟨512 * t.val + i.val, by omega⟩ (lane hd k)) := by
    blk_point [iblk, V, idx t]
  have b5 : (iblk m c 5 t : FVec Ideal S1x512 .f32) (ix2 0 (lane hd k)) = ((m ((c : Thread nD τ).loc main_arg5)) : FVec Ideal S512 .f32) (ix1 (lane hd k)) := by
    rw [← weight5 m c]
    blk_point [iblk, idx t]
  have b6 : (iblk m c 6 t : FVec Ideal S1x512 .f32) (ix2 0 (lane hd k)) = ((m ((c : Thread nD τ).loc main_arg6)) : FVec Ideal S512 .f32) (ix1 (lane hd k)) := by
    rw [← weight6 m c]
    blk_point [iblk, idx t]
  have b7 : ∀ h k, (iblk m c 7 t : FVec Ideal S1x512 .f32) (ix2 0 (lane h k))
      = ((m ((c : Thread nD τ).loc main_arg7)) : FVec Ideal S8x64 .f32) (ix2 h k) := fun h k => by
    rw [← weight7 m c]
    blk_point [iblk, idx t]
  refine (pay1 _ _ _ _ _ _ _ _ i (fun h' k => ?_) (fun h' k => ?_) hd k).trans
    (Eq.trans ?_ ((congrArg _ e).trans (ref42 _ _ _ _ _ _ _ _ _ hd k)).symm)
  · rw [b0]; exact number0 m h c _
  · rw [b1, b2, b7]
    exact NormBwd.number_mul (NormBwd.number_mul (number1 m h c _) (number2 m h c _)) (number7 m h c _)
  · simp only [b0, b1, b2, b3, b4, b5, b6, b7]

/-- The array the call leaves. -/
theorem final (c : Dev nD) : (dats m 0 c).arrAt 8 (cfgs 0).N
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]; frame_out
  exact point m h c t y

end

/-- The call, and the reference's read-out, agree. -/
theorem algebraic : @Cert.algebraic_RwkvPostIdeal_RwkvPostRefIdeal_pre_read_out_numbers _ _ numbersFacts := by
  pair_intro
  · run_from Cert.RwkvPostIdeal.Gen.run_main m g
  · run_from Cert.RwkvPostRefIdeal.Value.run m' g'
    exact (final m hpre c).symm

end Cert.RwkvPostIdeal.Value
end
-- ==== Proof.ReadOutGrad.lean ====
module

public import proofs.«01_k».proof.Proof.Gen.RwkvPostBwdRefIdeal.Read
public import Idealize.ShloMosaic.Lib.Pointwise
public import proofs.«01_k».proof.Proof.GroupNorm

@[expose] public section

set_option maxRecDepth 16384

noncomputable section

/-!
The derivative of the recurrence's read-out, entry by entry: every entry from the 64 lanes of its head in its row.
-/
namespace Cert.ReadOutGrad
open Idealize.ShloMosaic Idealize.ShloMosaic.TcCoe
open Cert.RwkvPostBwdRefIdeal Cert.RwkvPostBwdRefIdeal.Gen Cert.RwkvPostBwdRefIdeal.Read

/-- A sum over one entry. -/
theorem lone_row (x : FVec Ideal S1x1x512 .f32) (q : Fin 512) :
    Ideal.hostReduceAdd reducesTo_S1x1x512_S512_d0_1 x 0 (ix1 q) = x (ix3 0 0 q) := by
  unfold Ideal.hostReduceAdd
  rw [zero_add]
  refine Finset.sum_eq_single_of_mem (ix3 0 0 q) ?_ fun i hi hne => absurd ?_ hne
  · refine Finset.mem_filter.2 ⟨Finset.mem_univ _, funext fun b => Fin.ext ?_⟩
    match b with
    | ⟨0, _⟩ => rfl
  · have e := (Finset.mem_filter.1 hi).2
    funext a; apply Fin.ext
    match a with
    | ⟨0, h⟩ => exact Nat.lt_one_iff.1 (i ⟨0, h⟩).isLt
    | ⟨1, h⟩ => exact Nat.lt_one_iff.1 (i ⟨1, h⟩).isLt
    | ⟨2, _⟩ => exact congrArg Fin.val (congrFun e 0)

theorem lone_heads (x : FVec Ideal S1x1x8x64 .f32) (p : Fin 8) (q : Fin 64) :
    Ideal.hostReduceAdd reducesTo_S1x1x8x64_S8x64_d0_1 x 0 (ix2 p q) = x (ix4 0 0 p q) := by
  unfold Ideal.hostReduceAdd
  rw [zero_add]
  refine Finset.sum_eq_single_of_mem (ix4 0 0 p q) ?_ fun i hi hne => absurd ?_ hne
  · refine Finset.mem_filter.2 ⟨Finset.mem_univ _, funext fun b => Fin.ext ?_⟩
    match b with
    | ⟨0, _⟩ => rfl
    | ⟨1, _⟩ => rfl
  · have e := (Finset.mem_filter.1 hi).2
    funext a; apply Fin.ext
    match a with
    | ⟨0, h⟩ => exact Nat.lt_one_iff.1 (i ⟨0, h⟩).isLt
    | ⟨1, h⟩ => exact Nat.lt_one_iff.1 (i ⟨1, h⟩).isLt
    | ⟨2, _⟩ => exact congrArg Fin.val (congrFun e 0)
    | ⟨3, _⟩ => exact congrArg Fin.val (congrFun e 1)

theorem lone_sums (x : FVec Ideal S1x4096x8x1 .f32) (p : Fin 4096) (q : Fin 8) :
    Ideal.hostReduceAdd reducesTo_S1x4096x8x1_S4096x8_d0_3 x 0 (ix2 p q) = x (ix4 0 p q 0) := by
  unfold Ideal.hostReduceAdd
  rw [zero_add]
  refine Finset.sum_eq_single_of_mem (ix4 0 p q 0) ?_ fun i hi hne => absurd ?_ hne
  · refine Finset.mem_filter.2 ⟨Finset.mem_univ _, funext fun b => Fin.ext ?_⟩
    match b with
    | ⟨0, _⟩ => rfl
    | ⟨1, _⟩ => rfl
  · have e := (Finset.mem_filter.1 hi).2
    funext a; apply Fin.ext
    match a with
    | ⟨0, h⟩ => exact Nat.lt_one_iff.1 (i ⟨0, h⟩).isLt
    | ⟨1, _⟩ => exact congrArg Fin.val (congrFun e 0)
    | ⟨2, _⟩ => exact congrArg Fin.val (congrFun e 1)
    | ⟨3, h⟩ => exact Nat.lt_one_iff.1 (i ⟨3, h⟩).isLt

/-- The gradient of a head's bonus. -/
theorem bonus_grad (x0 : FVec Ideal S4096x1024 .f32) (x4 x5 : FVec Ideal S4096x512 .f32) (i : Fin 4096) (h : Fin 8) :
    val_main_v58 (F := Ideal) x0 x4 x5 (ix2 i h) = (∑ l : Fin 64, x0 (ix2 i ⟨512 + (h.val * 64 + l.val), by omega⟩) * x5 (ix2 i ⟨h.val * 64 + l.val, by omega⟩) * x4 (ix2 i ⟨h.val * 64 + l.val, by omega⟩)) := by
  pointwise [val_main_v58, val_main_cst_9]
  rw [lone_sums]
  pointwise [val_main_v57, val_main_v56, val_main_cst_8, val_main_v55, val_main_v52, val_main_v50, val_main_v48,
    val_main_v47, val_main_v44, val_main_v3]
  done

/-- The derivative taken through the variance. -/
theorem v89 (x0 : FVec Ideal S4096x1024 .f32) (x1 x5 : FVec Ideal S4096x512 .f32) (x6 : FVec Ideal S512 .f32) (i : Fin 4096) (h : Fin 8) :
    val_main_v89 (F := Ideal) x0 x1 x5 x6 (ix4 0 i h 0) = GroupNorm.through (fun l => x1 (ix2 i ⟨h.val * 64 + l.val, by omega⟩)) (fun l => x0 (ix2 i ⟨512 + (h.val * 64 + l.val), by omega⟩) * x5 (ix2 i ⟨h.val * 64 + l.val, by omega⟩) * x6 (ix1 ⟨h.val * 64 + l.val, by omega⟩)) := by
  pointwise [val_main_v89, val_main_v88, val_main_cst_18, val_main_v84, val_main_v81, val_main_v80, val_main_cst_16,
    val_main_v79, val_main_v78, val_main_v76, val_main_v75, val_main_v50, val_main_v48, val_main_v47, val_main_v44,
    val_main_v28, val_main_v24, val_main_v23, val_main_cst_5, val_main_v22, val_main_v21, val_main_v20,
    val_main_v19, val_main_cst_4, val_main_v18, val_main_v17, val_main_v16, val_main_v15, val_main_cst_3,
    val_main_v14, val_main_v13, val_main_cst_2, val_main_v10, val_main_v9, val_main_v8, val_main_v7, val_main_v6,
    val_main_cst_0, val_main_v5, val_main_v4, val_main_cst, val_main_v0]
  simp only [GroupNorm.div_lanes]
  rfl

theorem v90 (x0 : FVec Ideal S4096x1024 .f32) (x1 x5 : FVec Ideal S4096x512 .f32) (x6 : FVec Ideal S512 .f32) (i : Fin 4096) (h : Fin 8) :
    val_main_v90 (F := Ideal) x0 x1 x5 x6 (ix2 i h) = GroupNorm.through (fun l => x1 (ix2 i ⟨h.val * 64 + l.val, by omega⟩)) (fun l => x0 (ix2 i ⟨512 + (h.val * 64 + l.val), by omega⟩) * x5 (ix2 i ⟨h.val * 64 + l.val, by omega⟩) * x6 (ix1 ⟨h.val * 64 + l.val, by omega⟩)) := by
  rw [← v89]
  pointwise [val_main_v90, val_main_cst_19]
  rw [lone_sums]

theorem v101 (x0 : FVec Ideal S4096x1024 .f32) (x1 x5 : FVec Ideal S4096x512 .f32) (x6 : FVec Ideal S512 .f32) (i : Fin 4096) (h : Fin 8) :
    val_main_v101 (F := Ideal) x0 x1 x5 x6 (ix2 i h) = ((∑ l : Fin 64, -(x0 (ix2 i ⟨512 + (h.val * 64 + l.val), by omega⟩) * x5 (ix2 i ⟨h.val * 64 + l.val, by omega⟩) * x6 (ix1 ⟨h.val * 64 + l.val, by omega⟩) * Ideal.rsqrt (GroupNorm.spread (fun l => x1 (ix2 i ⟨h.val * 64 + l.val, by omega⟩)))))
      + ∑ l : Fin 64, -(GroupNorm.through (fun l => x1 (ix2 i ⟨h.val * 64 + l.val, by omega⟩)) (fun l => x0 (ix2 i ⟨512 + (h.val * 64 + l.val), by omega⟩) * x5 (ix2 i ⟨h.val * 64 + l.val, by omega⟩) * x6 (ix1 ⟨h.val * 64 + l.val, by omega⟩)) * (Ideal.ofBits .f32 1073741824#32 * GroupNorm.centred (fun l => x1 (ix2 i ⟨h.val * 64 + l.val, by omega⟩)) l)))
      * Ideal.ofBits .f32 1015021568#32 := by
  pointwise [val_main_v101, val_main_cst_22]
  rw [lone_sums]
  pointwise [val_main_v100, val_main_v99, val_main_cst_21, val_main_v98, val_main_v96, val_main_v95,
    val_main_cst_20, val_main_v94, val_main_v93, val_main_v92, val_main_v91, val_main_v87, val_main_v86,
    val_main_cst_17, val_main_v85, val_main_v83, val_main_v82, val_main_v78, val_main_v76, val_main_v75,
    val_main_v50, val_main_v48, val_main_v47, val_main_v44, val_main_v28, val_main_v21, val_main_v20, val_main_v19,
    val_main_cst_4, val_main_v16, val_main_v15, val_main_cst_3, val_main_v14, val_main_v13, val_main_cst_2,
    val_main_v12, val_main_v11, val_main_cst_1, val_main_v10, val_main_v9, val_main_v8, val_main_v7, val_main_v6,
    val_main_cst_0, val_main_v5, val_main_v4, val_main_cst, val_main_v0]
  simp only [v90, GroupNorm.div_lanes]
  rfl

/-- The gradient of the recurrence's output. -/
theorem normed_grad (x0 : FVec Ideal S4096x1024 .f32) (x1 x5 : FVec Ideal S4096x512 .f32) (x6 : FVec Ideal S512 .f32) (i : Fin 4096) (h : Fin 8) (k : Fin 64) :
    val_main_v108 (F := Ideal) x0 x1 x5 x6 (ix2 i ⟨h.val * 64 + k.val, by omega⟩) = GroupNorm.derivative (fun l => x1 (ix2 i ⟨h.val * 64 + l.val, by omega⟩)) (fun l => x0 (ix2 i ⟨512 + (h.val * 64 + l.val), by omega⟩) * x5 (ix2 i ⟨h.val * 64 + l.val, by omega⟩) * x6 (ix1 ⟨h.val * 64 + l.val, by omega⟩)) k := by
  pointwise [val_main_v108, val_main_v104, val_main_v103, val_main_v102, val_main_v97, val_main_v93, val_main_v92,
    val_main_v91, val_main_v83, val_main_v82, val_main_v78, val_main_v76, val_main_v75, val_main_v50, val_main_v48,
    val_main_v47, val_main_v44, val_main_v28, val_main_v21, val_main_v20, val_main_v19, val_main_cst_4,
    val_main_v16, val_main_v15, val_main_cst_3, val_main_v14, val_main_v13, val_main_cst_2, val_main_v12,
    val_main_v11, val_main_cst_1, val_main_v10, val_main_v9, val_main_v8, val_main_v7, val_main_v6, val_main_cst_0,
    val_main_v5, val_main_v4, val_main_cst, val_main_v0]
  simp only [v90, v101, GroupNorm.div_lanes]
  rfl

/-- The gradient of the receptance. -/
theorem r_grad (x0 : FVec Ideal S4096x1024 .f32) (x3 x4 x5 : FVec Ideal S4096x512 .f32) (x8 : FVec Ideal S8x64 .f32) (i : Fin 4096) (h : Fin 8) (k : Fin 64) :
    val_main_v107 (F := Ideal) x0 x3 x4 x5 x8 (ix2 i ⟨h.val * 64 + k.val, by omega⟩) = (∑ l : Fin 64, x0 (ix2 i ⟨512 + (h.val * 64 + l.val), by omega⟩) * x5 (ix2 i ⟨h.val * 64 + l.val, by omega⟩) * x4 (ix2 i ⟨h.val * 64 + l.val, by omega⟩)) * x8 (ix2 h k) * x3 (ix2 i ⟨h.val * 64 + k.val, by omega⟩) := by
  pointwise [val_main_v107, val_main_v68, val_main_v65, val_main_v64, val_main_v60, val_main_v59, val_main_v35,
    val_main_v2]
  rw [bonus_grad]

/-- The gradient of the key. -/
theorem k_grad (x0 : FVec Ideal S4096x1024 .f32) (x2 x4 x5 : FVec Ideal S4096x512 .f32) (x8 : FVec Ideal S8x64 .f32) (i : Fin 4096) (h : Fin 8) (k : Fin 64) :
    val_main_v106 (F := Ideal) x0 x2 x4 x5 x8 (ix2 i ⟨h.val * 64 + k.val, by omega⟩) = x2 (ix2 i ⟨h.val * 64 + k.val, by omega⟩) * ((∑ l : Fin 64, x0 (ix2 i ⟨512 + (h.val * 64 + l.val), by omega⟩) * x5 (ix2 i ⟨h.val * 64 + l.val, by omega⟩) * x4 (ix2 i ⟨h.val * 64 + l.val, by omega⟩)) * x8 (ix2 h k)) := by
  pointwise [val_main_v106, val_main_v67, val_main_v65, val_main_v64, val_main_v60, val_main_v59, val_main_v35,
    val_main_v1]
  rw [bonus_grad]

/-- The gradient of the value. -/
theorem v_grad (x0 : FVec Ideal S4096x1024 .f32) (x2 x3 x5 : FVec Ideal S4096x512 .f32) (x8 : FVec Ideal S8x64 .f32) (i : Fin 4096) (h : Fin 8) (k : Fin 64) :
    val_main_v105 (F := Ideal) x0 x2 x3 x5 x8 (ix2 i ⟨h.val * 64 + k.val, by omega⟩) = (∑ l : Fin 64, x2 (ix2 i ⟨h.val * 64 + l.val, by omega⟩) * x3 (ix2 i ⟨h.val * 64 + l.val, by omega⟩) * x8 (ix2 h l)) * (x0 (ix2 i ⟨512 + (h.val * 64 + k.val), by omega⟩) * x5 (ix2 i ⟨h.val * 64 + k.val, by omega⟩)) := by
  pointwise [val_main_v105, val_main_v54, val_main_v53, val_main_v52, val_main_v50, val_main_v48, val_main_v47,
    val_main_v44, val_main_v39, val_main_v38, val_main_cst_6, val_main_v37, val_main_v36, val_main_v35,
    val_main_v34, val_main_v2, val_main_v1]

/-- The gradient of the gate. -/
theorem gate_grad (x0 : FVec Ideal S4096x1024 .f32) (x1 x2 x3 x4 : FVec Ideal S4096x512 .f32) (x6 x7 : FVec Ideal S512 .f32) (x8 : FVec Ideal S8x64 .f32) (i : Fin 4096) (h : Fin 8) (k : Fin 64) :
    val_main_v51 (F := Ideal) x0 x1 x2 x3 x4 x6 x7 x8 (ix2 i ⟨h.val * 64 + k.val, by omega⟩) = (GroupNorm.normed (fun l => x1 (ix2 i ⟨h.val * 64 + l.val, by omega⟩)) k * x6 (ix1 ⟨h.val * 64 + k.val, by omega⟩) + x7 (ix1 ⟨h.val * 64 + k.val, by omega⟩)
      + (∑ l : Fin 64, x2 (ix2 i ⟨h.val * 64 + l.val, by omega⟩) * x3 (ix2 i ⟨h.val * 64 + l.val, by omega⟩) * x8 (ix2 h l)) * x4 (ix2 i ⟨h.val * 64 + k.val, by omega⟩)) * x0 (ix2 i ⟨512 + (h.val * 64 + k.val), by omega⟩) := by
  pointwise [val_main_v51, val_main_cst_7, val_main_v49, val_main_v48, val_main_v47, val_main_v43, val_main_v42,
    val_main_v41, val_main_v40, val_main_v39, val_main_v38, val_main_cst_6, val_main_v37, val_main_v36,
    val_main_v35, val_main_v34, val_main_v33, val_main_v32, val_main_v31, val_main_v30, val_main_v29, val_main_v28,
    val_main_v27, val_main_v26, val_main_v25, val_main_v21, val_main_v20, val_main_v19, val_main_cst_4,
    val_main_v18, val_main_v17, val_main_v16, val_main_v15, val_main_cst_3, val_main_v14, val_main_v13,
    val_main_cst_2, val_main_v10, val_main_v9, val_main_v8, val_main_v7, val_main_v6, val_main_cst_0, val_main_v5,
    val_main_v4, val_main_cst, val_main_v3, val_main_v2, val_main_v1, val_main_v0]
  simp only [GroupNorm.div_lanes, Fin.sum_univ_one]
  rfl

/-- The gradients of the norm's weights and of its offsets. -/
theorem weight_grad (x0 : FVec Ideal S4096x1024 .f32) (x1 x5 : FVec Ideal S4096x512 .f32) (h : Fin 8) (k : Fin 64) :
    val_main_v77 (F := Ideal) x0 x1 x5 (ix1 ⟨h.val * 64 + k.val, by omega⟩) = ∑ i : Fin 4096, GroupNorm.normed (fun l => x1 (ix2 i ⟨h.val * 64 + l.val, by omega⟩)) k * (x0 (ix2 i ⟨512 + (h.val * 64 + k.val), by omega⟩) * x5 (ix2 i ⟨h.val * 64 + k.val, by omega⟩)) := by
  pointwise [val_main_v77, val_main_cst_15]
  rw [lone_row]
  pointwise [val_main_v74, val_main_v73, val_main_cst_14, val_main_v72, val_main_v50, val_main_v48, val_main_v47,
    val_main_v44, val_main_v27, val_main_v26, val_main_v25, val_main_v21, val_main_v20, val_main_v19,
    val_main_cst_4, val_main_v18, val_main_v17, val_main_v16, val_main_v15, val_main_cst_3, val_main_v14,
    val_main_v13, val_main_cst_2, val_main_v10, val_main_v9, val_main_v8, val_main_v7, val_main_v6, val_main_cst_0,
    val_main_v5, val_main_v4, val_main_cst, val_main_v0]
  simp only [GroupNorm.div_lanes]
  rfl

theorem offset_grad (x0 : FVec Ideal S4096x1024 .f32) (x5 : FVec Ideal S4096x512 .f32) (h : Fin 8) (k : Fin 64) :
    val_main_v71 (F := Ideal) x0 x5 (ix1 ⟨h.val * 64 + k.val, by omega⟩) = ∑ i : Fin 4096, x0 (ix2 i ⟨512 + (h.val * 64 + k.val), by omega⟩) * x5 (ix2 i ⟨h.val * 64 + k.val, by omega⟩) := by
  pointwise [val_main_v71, val_main_cst_13]
  rw [lone_row]
  pointwise [val_main_v70, val_main_v69, val_main_cst_12, val_main_v50, val_main_v48, val_main_v47, val_main_v44]

/-- The gradient of the bonus's weights. -/
theorem bonus_weight_grad (x0 : FVec Ideal S4096x1024 .f32) (x2 x3 x4 x5 : FVec Ideal S4096x512 .f32) (h : Fin 8) (k : Fin 64) :
    val_main_v66 (F := Ideal) x0 x2 x3 x4 x5 (ix2 h k) = ∑ i : Fin 4096, x2 (ix2 i ⟨h.val * 64 + k.val, by omega⟩) * x3 (ix2 i ⟨h.val * 64 + k.val, by omega⟩) * (∑ l : Fin 64, x0 (ix2 i ⟨512 + (h.val * 64 + l.val), by omega⟩) * x5 (ix2 i ⟨h.val * 64 + l.val, by omega⟩) * x4 (ix2 i ⟨h.val * 64 + l.val, by omega⟩)) := by
  pointwise [val_main_v66, val_main_cst_11]
  rw [lone_heads]
  pointwise [val_main_v63, val_main_v62, val_main_cst_10, val_main_v61, val_main_v60, val_main_v59, val_main_v34,
    val_main_v2, val_main_v1]
  simp only [bonus_grad]

end Cert.ReadOutGrad

end
-- ==== Proof.RwkvPostBwd.lean ====
module

public import proofs.«01_k».proof.Defs
public import proofs.«01_k».proof.Proof.Gen.RwkvPostBwdIdeal.Frame
public import proofs.«01_k».proof.Proof.ReadOutGrad
public import Idealize.ShloMosaic.Lib.Pipeline.ValueKit
public import Idealize.ShloMosaic.Lib.Pointwise
public import Idealize.ShloMosaic.Lib.Claim
public import proofs.«01_k».proof.Proof.RwkvPost

@[expose] public section

set_option maxRecDepth 16384

noncomputable section

/-!
The gradient of the recurrence's read-out: the group norm's, the bonus's and the gate's.
-/
namespace Cert.RwkvPostBwdIdeal.Value
open Idealize.ShloMosaic Idealize.ShloMosaic.TcCoe Idealize.SL.Sem
open Cert.RwkvPostBwdIdeal Cert.RwkvPostBwdIdeal.Gen Cert.HeadSum
open Cert.RwkvPostBwdRefIdeal.Read

variable (m : (ℓ : Loc nD τ sig) → Buf (Elt Ideal) ℓ)

/-! The kernel's stages over a block of rows, their sums over the heads by name. -/

/-- The block less its heads' means. -/
abbrev centre (y : Vec Ideal S512x512 .f32) : FVec Ideal S512x512 .f32 := k0_pay12 (F := Ideal) y k0_pay9 k0_pay10 k0_pay11

theorem centre_eq (y : Vec Ideal S512x512 .f32) : centre y
    = subf y (mulf (sums y) (broadcast S512x512 (Scalar.ofBits (F := Ideal) .f32 0x3C800000#32))) := rfl

theorem spread_eq (x : FVec Ideal S512x512 .f32) : k0_pay18 x k0_pay14 k0_pay15 k0_pay16 k0_pay17
    = addf (mulf (sums x) (broadcast S512x512 (Scalar.ofBits (F := Ideal) .f32 0x3C800000#32)))
      (broadcast S512x512 (Scalar.ofBits (F := Ideal) .f32 0x3A27C5AC#32)) := rfl

theorem root_eq (x : FVec Ideal S512x512 .f32) : k0_pay19 x k0_pay14 k0_pay15 k0_pay16 k0_pay17
    = rsqrt (k0_pay18 x k0_pay14 k0_pay15 k0_pay16 k0_pay17) := rfl

/-- The block's sums of what the bonus weighs. -/
abbrev bonusSums (x : FVec Ideal S512x512 .f32) : FVec Ideal S512x512 .f32 :=
  k0_pay31 (k0_pay27 (iota .tc S256x256 32 [0] iota_S256x256_d0_w32) 64#32 k0_pay25 k0_pay26 1#32 0#32)
    (k0_pay29 x (iota .tc S256x256 32 [0] iota_S256x256_d0_w32) 64#32 k0_pay25 k0_pay26 1#32 0#32) (k0_pay30 x)

theorem bonusSums_eq (x : FVec Ideal S512x512 .f32) : bonusSums x = sums x := rfl

/-- The block's sums of what reaches the bonus. -/
abbrev gradSums (x : FVec Ideal S512x512 .f32) : FVec Ideal S512x512 .f32 :=
  k0_pay39 x k0_pay36 (iota .tc S256x256 32 [1] iota_S256x256_d1_w32) 64#32 k0_pay37 k0_pay38 1#32

theorem gradSums_eq (x : FVec Ideal S512x512 .f32) : gradSums x = sums x := rfl

/-- The gradient of the centred block. -/
abbrev innerGrad (c x y : FVec Ideal S512x512 .f32) : FVec Ideal S512x512 .f32 :=
  k0_pay53 c x y (k0_pay49 (iota .tc S256x256 32 [0] iota_S256x256_d0_w32) 64#32) k0_pay50 k0_pay51 k0_pay52

theorem innerGrad_eq (c x y : FVec Ideal S512x512 .f32) : innerGrad c x y
    = addf (addf x (mulf c (sums y))) (mulf (sums y) c) := rfl

theorem shift_eq (c x y : FVec Ideal S512x512 .f32) :
    k0_pay54 c x y (k0_pay49 (iota .tc S256x256 32 [0] iota_S256x256_d0_w32) 64#32) k0_pay50 k0_pay51 k0_pay52
      = mulf (subf (broadcast S512x512 (Scalar.ofBits (F := Ideal) .f32 0x00000000#32)) (innerGrad c x y))
        (broadcast S512x512 (Scalar.ofBits (F := Ideal) .f32 0x3C800000#32)) := rfl

theorem stored_eq (x y : FVec Ideal S512x512 .f32) : k0_pay57 x y k0_pay55 k0_pay56 1#32 = addf x (sums y) := rfl

section
variable (y dy g : Vec Ideal S512x512 .f32) (w : Vec Ideal S1x512 .f32) (i : Fin 512)
  (hy : ∀ h k, ∃ r : ℝ, y (ix2 i (lane h k)) = (r : EReal))
include hy

theorem centre_apply (h : Fin 8) (k : Fin 64) : centre y (ix2 i (lane h k)) = GroupNorm.centred (fun l => y (ix2 i (lane h l))) k := by
  rw [centre_eq]
  show y _ - sums y _ * _ = _
  rw [sums_lane y i h k hy]
  rfl

theorem square_apply (h : Fin 8) (k : Fin 64) : k0_pay13 (centre y) (ix2 i (lane h k))
    = GroupNorm.centred (fun l => y (ix2 i (lane h l))) k * GroupNorm.centred (fun l => y (ix2 i (lane h l))) k := by
  rw [← centre_apply y i hy]
  rfl

theorem spread_apply (h : Fin 8) (k : Fin 64) :
    k0_pay18 (k0_pay13 (centre y)) k0_pay14 k0_pay15 k0_pay16 k0_pay17 (ix2 i (lane h k)) = GroupNorm.spread (fun l => y (ix2 i (lane h l))) := by
  rw [spread_eq]
  show sums _ _ * _ + _ = _
  rw [sums_lane _ i h k fun h k => by
    rw [square_apply y i hy]
    exact NormBwd.number_mul (GroupNorm.number_centred (hy h) k) (GroupNorm.number_centred (hy h) k)]
  simp only [square_apply y i hy]
  rfl

/-- One over the root, for the block's lanes. -/
abbrev root : FVec Ideal S512x512 .f32 := k0_pay19 (k0_pay13 (centre y)) k0_pay14 k0_pay15 k0_pay16 k0_pay17

theorem root_apply (h : Fin 8) (k : Fin 64) : root y (ix2 i (lane h k)) = Ideal.rsqrt (GroupNorm.spread (fun l => y (ix2 i (lane h l)))) := by
  rw [← spread_apply y i hy h k]
  rfl

/-- The root's derivative, for the block's lanes. -/
abbrev slope : FVec Ideal S512x512 .f32 := k0_pay20 (k0_pay13 (centre y)) k0_pay14 k0_pay15 k0_pay16 k0_pay17

theorem slope_apply (h : Fin 8) (k : Fin 64) : slope y (ix2 i (lane h k)) = GroupNorm.slope (fun l => y (ix2 i (lane h l))) := by
  unfold GroupNorm.slope
  rw [← root_apply y i hy h k, ← spread_apply y i hy h k]
  rfl

/-- The normed block. -/
abbrev normed : FVec Ideal S512x512 .f32 :=
  k0_pay21 (centre y) (k0_pay13 (centre y)) k0_pay14 k0_pay15 k0_pay16 k0_pay17

theorem normed_apply (h : Fin 8) (k : Fin 64) : normed y (ix2 i (lane h k)) = GroupNorm.normed (fun l => y (ix2 i (lane h l))) k := by
  unfold GroupNorm.normed
  rw [← centre_apply y i hy, ← root_apply y i hy h k]
  rfl

/-- What each lane adds to the scale's derivative. -/
abbrev parts : FVec Ideal S512x512 .f32 := k0_pay48 (k0_pay6 w) (centre y) (slope y) (k0_pay33 dy g)

theorem parts_apply (h : Fin 8) (k : Fin 64) : parts y dy g w (ix2 i (lane h k)) = GroupNorm.part (fun l => y (ix2 i (lane h l))) (fun l => dy (ix2 i (lane h l)) * g (ix2 i (lane h l)) * w (ix2 0 (lane h l))) k := by
  unfold GroupNorm.part
  rw [← centre_apply y i hy, ← slope_apply y i hy h k]
  pointwise [k0_pay48, k0_pay46, k0_pay6, k0_pay33]

/-- The normed block's cotangent over the root. -/
abbrev scaled : FVec Ideal S512x512 .f32 := k0_pay47 (k0_pay6 w) (root y) (k0_pay33 dy g)

theorem scaled_apply (h : Fin 8) (k : Fin 64) : scaled y dy g w (ix2 i (lane h k))
    = (fun l => dy (ix2 i (lane h l)) * g (ix2 i (lane h l)) * w (ix2 0 (lane h l))) k * Ideal.rsqrt (GroupNorm.spread (fun l => y (ix2 i (lane h l)))) := by
  rw [← root_apply y i hy h k]
  pointwise [k0_pay47, k0_pay46, k0_pay6, k0_pay33]

variable (hd : ∀ h k, ∃ r : ℝ, dy (ix2 i (lane h k)) * g (ix2 i (lane h k)) * w (ix2 0 (lane h k)) = (r : EReal))
include hd

theorem inner_apply (h : Fin 8) (k : Fin 64) : innerGrad (centre y) (scaled y dy g w) (parts y dy g w) (ix2 i (lane h k))
    = GroupNorm.inner (fun l => y (ix2 i (lane h l))) (fun l => dy (ix2 i (lane h l)) * g (ix2 i (lane h l)) * w (ix2 0 (lane h l))) k := by
  rw [innerGrad_eq]
  show scaled y dy g w _ + centre y _ * sums _ _ + sums _ _ * centre y _ = _
  rw [sums_lane _ i h k fun h k => by
    rw [parts_apply y dy g w i hy]
    exact GroupNorm.number_part (hy h) (hd h) k]
  simp only [parts_apply y dy g w i hy, centre_apply y i hy, scaled_apply y dy g w i hy]
  rfl

/-- The stored gradient of the recurrence's output. -/
abbrev outGrad : FVec Ideal S512x512 .f32 :=
  k0_pay57 (innerGrad (centre y) (scaled y dy g w) (parts y dy g w))
    (k0_pay54 (centre y) (scaled y dy g w) (parts y dy g w)
      (k0_pay49 (iota .tc S256x256 32 [0] iota_S256x256_d0_w32) 64#32) k0_pay50 k0_pay51 k0_pay52)
    k0_pay55 k0_pay56 1#32

theorem outGrad_apply (h : Fin 8) (k : Fin 64) : outGrad y dy g w (ix2 i (lane h k)) = GroupNorm.kernel (fun l => y (ix2 i (lane h l))) (fun l => dy (ix2 i (lane h l)) * g (ix2 i (lane h l)) * w (ix2 0 (lane h l))) k := by
  have e : ∀ h k, k0_pay54 (centre y) (scaled y dy g w) (parts y dy g w)
      (k0_pay49 (iota .tc S256x256 32 [0] iota_S256x256_d0_w32) 64#32) k0_pay50 k0_pay51 k0_pay52 (ix2 i (lane h k))
      = GroupNorm.shift (fun l => y (ix2 i (lane h l))) (fun l => dy (ix2 i (lane h l)) * g (ix2 i (lane h l)) * w (ix2 0 (lane h l))) k := fun h k => by
    unfold GroupNorm.shift
    rw [shift_eq, ← inner_apply y dy g w i hy hd]
    rfl
  unfold outGrad
  rw [stored_eq]
  show innerGrad _ _ _ _ + sums _ _ = _
  rw [sums_lane _ i h k fun h k => by
    rw [e]
    exact GroupNorm.number_shift (hy h) (hd h) k]
  simp only [e, inner_apply y dy g w i hy hd]
  rfl

end

section
variable (r kh v dy g y : Vec Ideal S512x512 .f32) (w c rk : Vec Ideal S1x512 .f32)

/-- What the bonus weighs. -/
abbrev terms : FVec Ideal S512x512 .f32 := k0_pay24 (k0_pay4 r) kh (k0_pay8 rk)

theorem terms_apply (i j : Fin 512) : terms r kh rk (ix2 i j) = r (ix2 i j) * kh (ix2 i j) * rk (ix2 0 j) := by
  pointwise [terms, k0_pay24, k0_pay23, k0_pay4, k0_pay8]

/-- What reaches the bonus. -/
abbrev reach : FVec Ideal S512x512 .f32 := k0_pay35 dy (k0_pay5 v) g

theorem reach_apply (i j : Fin 512) : reach v dy g (ix2 i j) = dy (ix2 i j) * g (ix2 i j) * v (ix2 i j) := by
  pointwise [reach, k0_pay35, k0_pay33, k0_pay5]

variable (i : Fin 512)

section
variable (hb : ∀ h k, ∃ x : ℝ, r (ix2 i (lane h k)) * kh (ix2 i (lane h k)) * rk (ix2 0 (lane h k)) = (x : EReal))
include hb

theorem bonus_apply (h : Fin 8) (k : Fin 64) : bonusSums (terms r kh rk) (ix2 i (lane h k))
    = ∑ l : Fin 64, r (ix2 i (lane h l)) * kh (ix2 i (lane h l)) * rk (ix2 0 (lane h l)) := by
  rw [bonusSums_eq, sums_lane _ i h k fun h k => by rw [terms_apply]; exact hb h k]
  simp only [terms_apply]

/-- The stored gradient of the value. -/
abbrev valueGrad : FVec Ideal S512x512 .f32 :=
  k0_pay34 dy g (k0_pay27 (iota .tc S256x256 32 [0] iota_S256x256_d0_w32) 64#32 k0_pay25 k0_pay26 1#32 0#32)
    (k0_pay29 (terms r kh rk) (iota .tc S256x256 32 [0] iota_S256x256_d0_w32) 64#32 k0_pay25 k0_pay26 1#32 0#32)
    (k0_pay30 (terms r kh rk))

theorem valueGrad_apply (h : Fin 8) (k : Fin 64) : valueGrad r kh dy g rk (ix2 i (lane h k))
    = (∑ l : Fin 64, r (ix2 i (lane h l)) * kh (ix2 i (lane h l)) * rk (ix2 0 (lane h l)))
      * (dy (ix2 i (lane h k)) * g (ix2 i (lane h k))) := by
  rw [← bonus_apply r kh rk i hb h k]
  rfl

/-- The stored gradient of the gate. -/
abbrev gateGrad : FVec Ideal S512x512 .f32 :=
  k0_pay32 dy (k0_pay5 v)
    (k0_pay22 (k0_pay6 w) (k0_pay7 c) (centre y) (k0_pay13 (centre y)) k0_pay14 k0_pay15 k0_pay16 k0_pay17)
    (k0_pay27 (iota .tc S256x256 32 [0] iota_S256x256_d0_w32) 64#32 k0_pay25 k0_pay26 1#32 0#32)
    (k0_pay29 (terms r kh rk) (iota .tc S256x256 32 [0] iota_S256x256_d0_w32) 64#32 k0_pay25 k0_pay26 1#32 0#32)
    (k0_pay30 (terms r kh rk))

theorem gateGrad_apply (hy : ∀ h k, ∃ r : ℝ, y (ix2 i (lane h k)) = (r : EReal)) (h : Fin 8) (k : Fin 64) :
    gateGrad r kh v dy y w c rk (ix2 i (lane h k))
      = (GroupNorm.normed (fun l => y (ix2 i (lane h l))) k * w (ix2 0 (lane h k)) + c (ix2 0 (lane h k))
          + (∑ l : Fin 64, r (ix2 i (lane h l)) * kh (ix2 i (lane h l)) * rk (ix2 0 (lane h l))) * v (ix2 i (lane h k)))
        * dy (ix2 i (lane h k)) := by
  rw [← bonus_apply r kh rk i hb h k, ← normed_apply y i hy]
  pointwise [gateGrad, k0_pay32, k0_pay22, k0_pay5, k0_pay6, k0_pay7]

end

section
variable (hr : ∀ h k, ∃ x : ℝ, dy (ix2 i (lane h k)) * g (ix2 i (lane h k)) * v (ix2 i (lane h k)) = (x : EReal))
include hr

theorem gradSums_apply (h : Fin 8) (k : Fin 64) : gradSums (reach v dy g) (ix2 i (lane h k))
    = ∑ l : Fin 64, dy (ix2 i (lane h l)) * g (ix2 i (lane h l)) * v (ix2 i (lane h l)) := by
  rw [gradSums_eq, sums_lane _ i h k fun h k => by rw [reach_apply]; exact hr h k]
  simp only [reach_apply]

/-- The stored gradients of the key and of the receptance. -/
abbrev keyGrad : FVec Ideal S512x512 .f32 :=
  k0_pay42 (k0_pay4 r) (k0_pay8 rk) (reach v dy g) k0_pay36 (iota .tc S256x256 32 [1] iota_S256x256_d1_w32) 64#32
    k0_pay37 k0_pay38 1#32

theorem keyGrad_apply (h : Fin 8) (k : Fin 64) : keyGrad r v dy g rk (ix2 i (lane h k))
    = r (ix2 i (lane h k)) * ((∑ l : Fin 64, dy (ix2 i (lane h l)) * g (ix2 i (lane h l)) * v (ix2 i (lane h l)))
      * rk (ix2 0 (lane h k))) := by
  rw [← gradSums_apply v dy g i hr h k]
  pointwise [keyGrad, k0_pay42, k0_pay41, k0_pay4, k0_pay8]

abbrev recGrad : FVec Ideal S512x512 .f32 :=
  k0_pay43 kh (k0_pay8 rk) (reach v dy g) k0_pay36 (iota .tc S256x256 32 [1] iota_S256x256_d1_w32) 64#32
    k0_pay37 k0_pay38 1#32

theorem recGrad_apply (h : Fin 8) (k : Fin 64) : recGrad kh v dy g rk (ix2 i (lane h k))
    = (∑ l : Fin 64, dy (ix2 i (lane h l)) * g (ix2 i (lane h l)) * v (ix2 i (lane h l)))
      * rk (ix2 0 (lane h k)) * kh (ix2 i (lane h k)) := by
  rw [← gradSums_apply v dy g i hr h k]
  pointwise [recGrad, k0_pay43, k0_pay41, k0_pay8]

end

/-! The blocks' sums over their rows. -/

theorem offsetSum (h : Fin 8) (k : Fin 64) : k0_pay44 (F := Ideal) (k0_pay33 dy g) (ix2 0 (lane h k))
    = ∑ i : Fin 512, dy (ix2 i (lane h k)) * g (ix2 i (lane h k)) := by
  pointwise [k0_pay44, k0_pay33]

theorem weightSum (hy : ∀ i h k, ∃ r : ℝ, y (ix2 i (lane h k)) = (r : EReal)) (h : Fin 8) (k : Fin 64) :
    k0_pay45 (normed y) (k0_pay33 dy g) (ix2 0 (lane h k))
      = ∑ i : Fin 512, GroupNorm.normed (fun l => y (ix2 i (lane h l))) k * (dy (ix2 i (lane h k)) * g (ix2 i (lane h k))) := by
  simp only [← normed_apply y _ (hy _)]
  pointwise [k0_pay45, k0_pay33]

/-- A block's sum for the bonus's weights. -/
abbrev bonusWeightSum : FVec Ideal S1x512 .f32 :=
  k0_pay40 (k0_pay23 (k0_pay4 r) kh) (reach v dy g) k0_pay36 (iota .tc S256x256 32 [1] iota_S256x256_d1_w32) 64#32
    k0_pay37 k0_pay38 1#32

theorem bonusWeightSum_apply
    (hr : ∀ i h k, ∃ x : ℝ, dy (ix2 i (lane h k)) * g (ix2 i (lane h k)) * v (ix2 i (lane h k)) = (x : EReal))
    (h : Fin 8) (k : Fin 64) : bonusWeightSum r kh v dy g (ix2 0 (lane h k))
    = ∑ i : Fin 512, r (ix2 i (lane h k)) * kh (ix2 i (lane h k))
      * ∑ l : Fin 64, dy (ix2 i (lane h l)) * g (ix2 i (lane h l)) * v (ix2 i (lane h l)) := by
  simp only [← fun i => gradSums_apply v dy g i (hr i) h k]
  pointwise [bonusWeightSum, k0_pay40, k0_pay23, k0_pay4]

end

theorem idx : ∀ t : Fin cfg0.N, win0_0.index t = ![t.val, 1]
    ∧ win0_1.index t = ![t.val, 0]
    ∧ win0_2.index t = ![t.val, 0]
    ∧ win0_3.index t = ![t.val, 0]
    ∧ win0_4.index t = ![t.val, 2]
    ∧ win0_5.index t = ![t.val, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0] :=
  (by decide +kernel : ∀ t : Fin grid0.N, _)

/-! The arguments' arrays, and their blocks entry by entry. -/

abbrev arg0 (c : Dev nD) : FVec Ideal S4096x1024 .f32 := m ((c : Thread nD τ).loc main_arg0)
abbrev arg1 (c : Dev nD) : FVec Ideal S4096x512 .f32 := m ((c : Thread nD τ).loc main_arg1)
abbrev arg2 (c : Dev nD) : FVec Ideal S4096x512 .f32 := m ((c : Thread nD τ).loc main_arg2)
abbrev arg3 (c : Dev nD) : FVec Ideal S4096x512 .f32 := m ((c : Thread nD τ).loc main_arg3)
abbrev arg4 (c : Dev nD) : FVec Ideal S4096x512 .f32 := m ((c : Thread nD τ).loc main_arg4)
abbrev arg5 (c : Dev nD) : FVec Ideal S4096x512 .f32 := m ((c : Thread nD τ).loc main_arg5)
abbrev arg6 (c : Dev nD) : FVec Ideal S512 .f32 := m ((c : Thread nD τ).loc main_arg6)
abbrev arg7 (c : Dev nD) : FVec Ideal S512 .f32 := m ((c : Thread nD τ).loc main_arg7)
abbrev arg8 (c : Dev nD) : FVec Ideal S8x64 .f32 := m ((c : Thread nD τ).loc main_arg8)

theorem mixed (c : Dev nD) : V m c main_v1 = RwkvPostIdeal.Value.mix (arg2 m c) (arg4 m c) := by
  unfold V V0
  simp only [hostOps0, List.flatten_cons, List.flatten_nil, List.append_nil, List.cons_append, List.nil_append]
  simp only [StableHlo.after_cons, StableHlo.after_nil]
  after_results_steps
  rfl

theorem weight6 (c : Dev nD) (j : Fin 512) : (V m c main_v2 : FVec Ideal S1x512 .f32) (ix2 0 j) = arg6 m c (ix1 j) := by
  unfold V V0
  simp only [hostOps0, List.flatten_cons, List.flatten_nil, List.append_nil, List.cons_append, List.nil_append]
  simp only [StableHlo.after_cons, StableHlo.after_nil]
  after_results_steps
  pointwise []

theorem weight7 (c : Dev nD) (j : Fin 512) : (V m c main_v3 : FVec Ideal S1x512 .f32) (ix2 0 j) = arg7 m c (ix1 j) := by
  unfold V V0
  simp only [hostOps0, List.flatten_cons, List.flatten_nil, List.append_nil, List.cons_append, List.nil_append]
  simp only [StableHlo.after_cons, StableHlo.after_nil]
  after_results_steps
  pointwise []

theorem weight8 (c : Dev nD) (h : Fin 8) (k : Fin 64) :
    (V m c main_v4 : FVec Ideal S1x512 .f32) (ix2 0 (lane h k)) = arg8 m c (ix2 h k) := by
  unfold lane
  unfold V V0
  simp only [hostOps0, List.flatten_cons, List.flatten_nil, List.append_nil, List.cons_append, List.nil_append]
  simp only [StableHlo.after_cons, StableHlo.after_nil]
  after_results_steps
  pointwise []

/-- Row `i` of block `t`. -/
abbrev row (t : Fin cfg0.N) (i : Fin 512) : Fin 4096 :=
  ⟨t.val * 512 + i.val, by have := lt_of_lt_of_eq t.isLt (show cfg0.N = 8 from N_0); omega⟩

section
variable (c : Dev nD) (t : Fin cfg0.N) (i : Fin 512) (h : Fin 8) (k : Fin 64)

theorem blk0 : (iblk m c 0 t : FVec Ideal S512x512 .f32) (ix2 i (lane h k))
    = arg0 m c (ix2 (row t i) ⟨512 + (h.val * 64 + k.val), by omega⟩) := by
  blk_point [iblk, V, idx t]

theorem blk1 : (iblk m c 1 t : FVec Ideal S512x512 .f32) (ix2 i (lane h k)) = arg1 m c (ix2 (row t i) (lane h k)) := by
  blk_point [iblk, V, idx t]

theorem blk2 : (iblk m c 2 t : FVec Ideal S512x512 .f32) (ix2 i (lane h k)) = arg2 m c (ix2 (row t i) (lane h k)) := by
  rw [← RwkvPostIdeal.Value.mix_r (arg2 m c) (arg4 m c), ← mixed m c]
  blk_point [iblk, idx t]

theorem blk3 : (iblk m c 3 t : FVec Ideal S512x512 .f32) (ix2 i (lane h k)) = arg3 m c (ix2 (row t i) (lane h k)) := by
  blk_point [iblk, V, idx t]

theorem blk4 : (iblk m c 4 t : FVec Ideal S512x512 .f32) (ix2 i (lane h k)) = arg4 m c (ix2 (row t i) (lane h k)) := by
  rw [← RwkvPostIdeal.Value.mix_v (arg2 m c) (arg4 m c), ← mixed m c]
  blk_point [iblk, idx t]

theorem blk5 : (iblk m c 5 t : FVec Ideal S512x512 .f32) (ix2 i (lane h k)) = arg5 m c (ix2 (row t i) (lane h k)) := by
  blk_point [iblk, V, idx t]

theorem blk6 : (iblk m c 6 t : FVec Ideal S1x512 .f32) (ix2 0 (lane h k)) = arg6 m c (ix1 (lane h k)) := by
  rw [← weight6 m c]
  blk_point [iblk, idx t]

theorem blk7 : (iblk m c 7 t : FVec Ideal S1x512 .f32) (ix2 0 (lane h k)) = arg7 m c (ix1 (lane h k)) := by
  rw [← weight7 m c]
  blk_point [iblk, idx t]

theorem blk8 : (iblk m c 8 t : FVec Ideal S1x512 .f32) (ix2 0 (lane h k)) = arg8 m c (ix2 h k) := by
  rw [← weight8 m c]
  blk_point [iblk, idx t]

end

/-- The shape relations the precondition's function states. -/
theorem numbersFacts : Cert.Pre_read_out_bwd_numbers.Facts := ⟨by decide, by decide, by decide, by decide⟩

section
variable (h : @Pre_RwkvPostBwdIdeal_read_out_bwd_numbers numbersFacts m)
include h

theorem number0 (c : Dev nD) (i : S4096x1024.Idx) : ∃ r : ℝ, arg0 m c i = (r : EReal) :=
  NormBwd.number (congrFun (h c).1 i)

theorem number1 (c : Dev nD) (i : S4096x512.Idx) : ∃ r : ℝ, arg1 m c i = (r : EReal) :=
  NormBwd.number (congrFun (h c).2.1 i)

theorem number2 (c : Dev nD) (i : S4096x512.Idx) : ∃ r : ℝ, arg2 m c i = (r : EReal) :=
  NormBwd.number (congrFun (h c).2.2.1 i)

theorem number3 (c : Dev nD) (i : S4096x512.Idx) : ∃ r : ℝ, arg3 m c i = (r : EReal) :=
  NormBwd.number (congrFun (h c).2.2.2.1 i)

theorem number4 (c : Dev nD) (i : S4096x512.Idx) : ∃ r : ℝ, arg4 m c i = (r : EReal) :=
  NormBwd.number (congrFun (h c).2.2.2.2.1 i)

theorem number5 (c : Dev nD) (i : S4096x512.Idx) : ∃ r : ℝ, arg5 m c i = (r : EReal) :=
  NormBwd.number (congrFun (h c).2.2.2.2.2.1 i)

theorem number6 (c : Dev nD) (i : S512.Idx) : ∃ r : ℝ, arg6 m c i = (r : EReal) :=
  NormBwd.number (congrFun (h c).2.2.2.2.2.2.1 i)

theorem number8 (c : Dev nD) (i : S8x64.Idx) : ∃ r : ℝ, arg8 m c i = (r : EReal) :=
  NormBwd.number (congrFun (h c).2.2.2.2.2.2.2 i)

theorem in0 (c : Dev nD) (t : Fin cfg0.N) (i : Fin 512) (hd : Fin 8) (k : Fin 64) : ∃ r : ℝ,
    (iblk m c 0 t : FVec Ideal S512x512 .f32) (ix2 i (lane hd k)) = (r : EReal) := by
  rw [blk0]; exact number0 m h c _

theorem in1 (c : Dev nD) (t : Fin cfg0.N) (i : Fin 512) (hd : Fin 8) (k : Fin 64) : ∃ r : ℝ,
    (iblk m c 1 t : FVec Ideal S512x512 .f32) (ix2 i (lane hd k)) = (r : EReal) := by
  rw [blk1]; exact number1 m h c _

theorem in2 (c : Dev nD) (t : Fin cfg0.N) (i : Fin 512) (hd : Fin 8) (k : Fin 64) : ∃ r : ℝ,
    (iblk m c 2 t : FVec Ideal S512x512 .f32) (ix2 i (lane hd k)) = (r : EReal) := by
  rw [blk2]; exact number2 m h c _

theorem in3 (c : Dev nD) (t : Fin cfg0.N) (i : Fin 512) (hd : Fin 8) (k : Fin 64) : ∃ r : ℝ,
    (iblk m c 3 t : FVec Ideal S512x512 .f32) (ix2 i (lane hd k)) = (r : EReal) := by
  rw [blk3]; exact number3 m h c _

theorem in4 (c : Dev nD) (t : Fin cfg0.N) (i : Fin 512) (hd : Fin 8) (k : Fin 64) : ∃ r : ℝ,
    (iblk m c 4 t : FVec Ideal S512x512 .f32) (ix2 i (lane hd k)) = (r : EReal) := by
  rw [blk4]; exact number4 m h c _

theorem in5 (c : Dev nD) (t : Fin cfg0.N) (i : Fin 512) (hd : Fin 8) (k : Fin 64) : ∃ r : ℝ,
    (iblk m c 5 t : FVec Ideal S512x512 .f32) (ix2 i (lane hd k)) = (r : EReal) := by
  rw [blk5]; exact number5 m h c _

theorem in6 (c : Dev nD) (t : Fin cfg0.N) (hd : Fin 8) (k : Fin 64) : ∃ r : ℝ,
    (iblk m c 6 t : FVec Ideal S1x512 .f32) (ix2 0 (lane hd k)) = (r : EReal) := by
  rw [blk6]; exact number6 m h c _

theorem in8 (c : Dev nD) (t : Fin cfg0.N) (hd : Fin 8) (k : Fin 64) : ∃ r : ℝ,
    (iblk m c 8 t : FVec Ideal S1x512 .f32) (ix2 0 (lane hd k)) = (r : EReal) := by
  rw [blk8]; exact number8 m h c _

omit h in
theorem three {x y z : EReal} (hx : ∃ r : ℝ, x = (r : EReal)) (hy : ∃ r : ℝ, y = (r : EReal)) (hz : ∃ r : ℝ, z = (r : EReal)) :
    ∃ r : ℝ, x * y * z = (r : EReal) :=
  NormBwd.number_mul (NormBwd.number_mul hx hy) hz

theorem point9 (c : Dev nD) (t : Fin cfg0.N) (y : S512x512.Idx) :
    outGrad (iblk m c 1 t) (iblk m c 0 t) (iblk m c 5 t) (iblk m c 6 t) y
      = val_main_v108 (F := Ideal) (arg0 m c) (arg1 m c) (arg5 m c) (arg6 m c) (((cfg0.win 9).blk t).view.emb y) := by
  obtain ⟨i, j, rfl⟩ : ∃ i j, y = ix2 i j := ⟨_, _, eq_ix2 y⟩
  obtain ⟨hd, k, rfl⟩ := exists_lane j
  have e : ((cfg0.win 9).blk t).view.emb (ix2 i (lane hd k)) = ix2 (row t i) (lane hd k) := by
    funext a; apply Fin.ext
    match a with
    | ⟨0, _⟩ => blk_simp [idx t]
    | ⟨1, _⟩ => blk_simp [idx t]
  refine (outGrad_apply _ _ _ _ i (in1 m h c t i) (fun hd k => three (in0 m h c t i hd k) (in5 m h c t i hd k) (in6 m h c t hd k)) hd k).trans
    ((GroupNorm.head (in1 m h c t i hd) (fun k => three (in0 m h c t i hd k) (in5 m h c t i hd k) (in6 m h c t hd k)) k).trans
    (Eq.trans ?_ ((congrArg _ e).trans (ReadOutGrad.normed_grad _ _ _ _ _ hd k)).symm))
  simp only [blk0, blk1, blk2, blk3, blk4, blk5, blk6, blk7, blk8]

theorem final9 (c : Dev nD) : (dats m 0 c).arrAt 9 (cfgs 0).N
    = val_main_v108 (F := Ideal) (arg0 m c) (arg1 m c) (arg5 m c) (arg6 m c) := by
  refine (dats m 0 c).arrAt_eq_of_covers 9 _ (by decide +kernel) fun t _ y => ?_
  blk_simp
  rw [after0_9]
  by_cases h0 : t.val % 8 = 0
  · rw [outsAt0_A m c t h0 (by have := lt_of_lt_of_eq t.isLt (show cfg0.N = 8 from N_0); omega)]
    frame_out
    exact point9 m h c t y
  · rw [outsAt0_B m c t h0 (by omega)]
    frame_out
    exact point9 m h c t y

theorem point10 (c : Dev nD) (t : Fin cfg0.N) (y : S512x512.Idx) :
    recGrad (iblk m c 3 t) (iblk m c 4 t) (iblk m c 0 t) (iblk m c 5 t) (iblk m c 8 t) y
      = val_main_v107 (F := Ideal) (arg0 m c) (arg3 m c) (arg4 m c) (arg5 m c) (arg8 m c) (((cfg0.win 10).blk t).view.emb y) := by
  obtain ⟨i, j, rfl⟩ : ∃ i j, y = ix2 i j := ⟨_, _, eq_ix2 y⟩
  obtain ⟨hd, k, rfl⟩ := exists_lane j
  have e : ((cfg0.win 10).blk t).view.emb (ix2 i (lane hd k)) = ix2 (row t i) (lane hd k) := by
    funext a; apply Fin.ext
    match a with
    | ⟨0, _⟩ => blk_simp [idx t]
    | ⟨1, _⟩ => blk_simp [idx t]
  refine (recGrad_apply _ _ _ _ _ i (fun hd k => three (in0 m h c t i hd k) (in5 m h c t i hd k) (in4 m h c t i hd k)) hd k).trans
    (Eq.trans ?_ ((congrArg _ e).trans (ReadOutGrad.r_grad _ _ _ _ _ _ hd k)).symm)
  simp only [blk0, blk1, blk2, blk3, blk4, blk5, blk6, blk7, blk8]

theorem final10 (c : Dev nD) : (dats m 0 c).arrAt 10 (cfgs 0).N
    = val_main_v107 (F := Ideal) (arg0 m c) (arg3 m c) (arg4 m c) (arg5 m c) (arg8 m c) := by
  refine (dats m 0 c).arrAt_eq_of_covers 10 _ (by decide +kernel) fun t _ y => ?_
  blk_simp
  rw [after0_10]
  by_cases h0 : t.val % 8 = 0
  · rw [outsAt0_A m c t h0 (by have := lt_of_lt_of_eq t.isLt (show cfg0.N = 8 from N_0); omega)]
    frame_out
    exact point10 m h c t y
  · rw [outsAt0_B m c t h0 (by omega)]
    frame_out
    exact point10 m h c t y

theorem point11 (c : Dev nD) (t : Fin cfg0.N) (y : S512x512.Idx) :
    keyGrad (iblk m c 2 t) (iblk m c 4 t) (iblk m c 0 t) (iblk m c 5 t) (iblk m c 8 t) y
      = val_main_v106 (F := Ideal) (arg0 m c) (arg2 m c) (arg4 m c) (arg5 m c) (arg8 m c) (((cfg0.win 11).blk t).view.emb y) := by
  obtain ⟨i, j, rfl⟩ : ∃ i j, y = ix2 i j := ⟨_, _, eq_ix2 y⟩
  obtain ⟨hd, k, rfl⟩ := exists_lane j
  have e : ((cfg0.win 11).blk t).view.emb (ix2 i (lane hd k)) = ix2 (row t i) (lane hd k) := by
    funext a; apply Fin.ext
    match a with
    | ⟨0, _⟩ => blk_simp [idx t]
    | ⟨1, _⟩ => blk_simp [idx t]
  refine (keyGrad_apply _ _ _ _ _ i (fun hd k => three (in0 m h c t i hd k) (in5 m h c t i hd k) (in4 m h c t i hd k)) hd k).trans
    (Eq.trans ?_ ((congrArg _ e).trans (ReadOutGrad.k_grad _ _ _ _ _ _ hd k)).symm)
  simp only [blk0, blk1, blk2, blk3, blk4, blk5, blk6, blk7, blk8]

theorem final11 (c : Dev nD) : (dats m 0 c).arrAt 11 (cfgs 0).N
    = val_main_v106 (F := Ideal) (arg0 m c) (arg2 m c) (arg4 m c) (arg5 m c) (arg8 m c) := by
  refine (dats m 0 c).arrAt_eq_of_covers 11 _ (by decide +kernel) fun t _ y => ?_
  blk_simp
  rw [after0_11]
  by_cases h0 : t.val % 8 = 0
  · rw [outsAt0_A m c t h0 (by have := lt_of_lt_of_eq t.isLt (show cfg0.N = 8 from N_0); omega)]
    frame_out
    exact point11 m h c t y
  · rw [outsAt0_B m c t h0 (by omega)]
    frame_out
    exact point11 m h c t y

theorem point12 (c : Dev nD) (t : Fin cfg0.N) (y : S512x512.Idx) :
    valueGrad (iblk m c 2 t) (iblk m c 3 t) (iblk m c 0 t) (iblk m c 5 t) (iblk m c 8 t) y
      = val_main_v105 (F := Ideal) (arg0 m c) (arg2 m c) (arg3 m c) (arg5 m c) (arg8 m c) (((cfg0.win 12).blk t).view.emb y) := by
  obtain ⟨i, j, rfl⟩ : ∃ i j, y = ix2 i j := ⟨_, _, eq_ix2 y⟩
  obtain ⟨hd, k, rfl⟩ := exists_lane j
  have e : ((cfg0.win 12).blk t).view.emb (ix2 i (lane hd k)) = ix2 (row t i) (lane hd k) := by
    funext a; apply Fin.ext
    match a with
    | ⟨0, _⟩ => blk_simp [idx t]
    | ⟨1, _⟩ => blk_simp [idx t]
  refine (valueGrad_apply _ _ _ _ _ i (fun hd k => three (in2 m h c t i hd k) (in3 m h c t i hd k) (in8 m h c t hd k)) hd k).trans
    (Eq.trans ?_ ((congrArg _ e).trans (ReadOutGrad.v_grad _ _ _ _ _ _ hd k)).symm)
  simp only [blk0, blk1, blk2, blk3, blk4, blk5, blk6, blk7, blk8]

theorem final12 (c : Dev nD) : (dats m 0 c).arrAt 12 (cfgs 0).N
    = val_main_v105 (F := Ideal) (arg0 m c) (arg2 m c) (arg3 m c) (arg5 m c) (arg8 m c) := by
  refine (dats m 0 c).arrAt_eq_of_covers 12 _ (by decide +kernel) fun t _ y => ?_
  blk_simp
  rw [after0_12]
  by_cases h0 : t.val % 8 = 0
  · rw [outsAt0_A m c t h0 (by have := lt_of_lt_of_eq t.isLt (show cfg0.N = 8 from N_0); omega)]
    frame_out
    exact point12 m h c t y
  · rw [outsAt0_B m c t h0 (by omega)]
    frame_out
    exact point12 m h c t y

theorem point13 (c : Dev nD) (t : Fin cfg0.N) (y : S512x512.Idx) :
    gateGrad (iblk m c 2 t) (iblk m c 3 t) (iblk m c 4 t) (iblk m c 0 t) (iblk m c 1 t) (iblk m c 6 t) (iblk m c 7 t) (iblk m c 8 t) y
      = val_main_v51 (F := Ideal) (arg0 m c) (arg1 m c) (arg2 m c) (arg3 m c) (arg4 m c) (arg6 m c) (arg7 m c) (arg8 m c) (((cfg0.win 13).blk t).view.emb y) := by
  obtain ⟨i, j, rfl⟩ : ∃ i j, y = ix2 i j := ⟨_, _, eq_ix2 y⟩
  obtain ⟨hd, k, rfl⟩ := exists_lane j
  have e : ((cfg0.win 13).blk t).view.emb (ix2 i (lane hd k)) = ix2 (row t i) (lane hd k) := by
    funext a; apply Fin.ext
    match a with
    | ⟨0, _⟩ => blk_simp [idx t]
    | ⟨1, _⟩ => blk_simp [idx t]
  refine (gateGrad_apply _ _ _ _ _ _ _ _ i (fun hd k => three (in2 m h c t i hd k) (in3 m h c t i hd k) (in8 m h c t hd k)) (in1 m h c t i) hd k).trans
    (Eq.trans ?_ ((congrArg _ e).trans (ReadOutGrad.gate_grad _ _ _ _ _ _ _ _ _ hd k)).symm)
  simp only [blk0, blk1, blk2, blk3, blk4, blk5, blk6, blk7, blk8]

theorem final13 (c : Dev nD) : (dats m 0 c).arrAt 13 (cfgs 0).N
    = val_main_v51 (F := Ideal) (arg0 m c) (arg1 m c) (arg2 m c) (arg3 m c) (arg4 m c) (arg6 m c) (arg7 m c) (arg8 m c) := by
  refine (dats m 0 c).arrAt_eq_of_covers 13 _ (by decide +kernel) fun t _ y => ?_
  blk_simp
  rw [after0_13]
  by_cases h0 : t.val % 8 = 0
  · rw [outsAt0_A m c t h0 (by have := lt_of_lt_of_eq t.isLt (show cfg0.N = 8 from N_0); omega)]
    frame_out
    exact point13 m h c t y
  · rw [outsAt0_B m c t h0 (by omega)]
    frame_out
    exact point13 m h c t y

theorem final14 (c : Dev nD) (hd : Fin 8) (k : Fin 64) :
    ((dats m 0 c).arrAt 14 (cfgs 0).N : FVec Ideal S1x512 .f32) (ix2 0 (lane hd k))
      = val_main_v77 (F := Ideal) (arg0 m c) (arg1 m c) (arg5 m c) (ix1 (lane hd k)) := by
  have e : ((dats m 0 c).arrAt 14 (cfgs 0).N : FVec Ideal S1x512 .f32)
      = fun j => ∑ t : Fin cfg0.N, k0_pay45 (normed (iblk m c 1 t)) (k0_pay33 (iblk m c 0 t) (iblk m c 5 t)) j := by
    refine (dats m 0 c).arrAt_eq_of_after_last 14 t0_7 (by decide +kernel) _ fun j => ?_
    blk_simp
    rw [after0_14, Pipeline.eq_sum_fin_of_reset_step_apply_last (fun n h => (outsAt0 m c n h).2.2.2.2.2.1) 8
      (fun _ => (0 : EReal)) (fun t j => k0_pay45 (normed (iblk m c 1 t)) (k0_pay33 (iblk m c 0 t) (iblk m c 5 t)) j)
      (fun t h j => by
        rw [outsAt0_A m c t h (by have := lt_of_lt_of_eq t.isLt (show cfg0.N = 8 from N_0); omega)]
        frame_out
        exact (zero_add _).symm)
      (fun t h j => by
        rw [outsAt0_B m c t h (by omega)]
        frame_out
        pointwise [k0_pay1]) (le_of_eq N_0) t0_7 rfl j, zero_add]
  rw [e]
  show @Eq EReal _ _
  refine Eq.trans (Finset.sum_congr rfl fun t _ => (weightSum _ _ _ (in1 m h c t) hd k)) (Eq.trans ?_ (ReadOutGrad.weight_grad _ _ _ hd k).symm)
  refine Fin.sum_mul_add_congr fun t x hl => ?_
  simp only [blk0, blk1, blk2, blk3, blk4, blk5, blk6, blk7, blk8]

theorem final15 (c : Dev nD) (hd : Fin 8) (k : Fin 64) :
    ((dats m 0 c).arrAt 15 (cfgs 0).N : FVec Ideal S1x512 .f32) (ix2 0 (lane hd k))
      = val_main_v71 (F := Ideal) (arg0 m c) (arg5 m c) (ix1 (lane hd k)) := by
  have e : ((dats m 0 c).arrAt 15 (cfgs 0).N : FVec Ideal S1x512 .f32)
      = fun j => ∑ t : Fin cfg0.N, k0_pay44 (F := Ideal) (k0_pay33 (iblk m c 0 t) (iblk m c 5 t)) j := by
    refine (dats m 0 c).arrAt_eq_of_after_last 15 t0_7 (by decide +kernel) _ fun j => ?_
    blk_simp
    rw [after0_15, Pipeline.eq_sum_fin_of_reset_step_apply_last (fun n h => (outsAt0 m c n h).2.2.2.2.2.2.1) 8
      (fun _ => (0 : EReal)) (fun t j => k0_pay44 (F := Ideal) (k0_pay33 (iblk m c 0 t) (iblk m c 5 t)) j)
      (fun t h j => by
        rw [outsAt0_A m c t h (by have := lt_of_lt_of_eq t.isLt (show cfg0.N = 8 from N_0); omega)]
        frame_out
        exact (zero_add _).symm)
      (fun t h j => by
        rw [outsAt0_B m c t h (by omega)]
        frame_out
        pointwise [k0_pay2]) (le_of_eq N_0) t0_7 rfl j, zero_add]
  rw [e]
  show @Eq EReal _ _
  refine Eq.trans (Finset.sum_congr rfl fun t _ => (offsetSum _ _ hd k)) (Eq.trans ?_ (ReadOutGrad.offset_grad _ _ hd k).symm)
  refine Fin.sum_mul_add_congr fun t x hl => ?_
  simp only [blk0, blk1, blk2, blk3, blk4, blk5, blk6, blk7, blk8]

theorem final16 (c : Dev nD) (hd : Fin 8) (k : Fin 64) :
    ((dats m 0 c).arrAt 16 (cfgs 0).N : FVec Ideal S1x512 .f32) (ix2 0 (lane hd k))
      = val_main_v66 (F := Ideal) (arg0 m c) (arg2 m c) (arg3 m c) (arg4 m c) (arg5 m c) (ix2 hd k) := by
  have e : ((dats m 0 c).arrAt 16 (cfgs 0).N : FVec Ideal S1x512 .f32)
      = fun j => ∑ t : Fin cfg0.N, bonusWeightSum (iblk m c 2 t) (iblk m c 3 t) (iblk m c 4 t) (iblk m c 0 t) (iblk m c 5 t) j := by
    refine (dats m 0 c).arrAt_eq_of_after_last 16 t0_7 (by decide +kernel) _ fun j => ?_
    blk_simp
    rw [after0_16, Pipeline.eq_sum_fin_of_reset_step_apply_last (fun n h => (outsAt0 m c n h).2.2.2.2.2.2.2) 8
      (fun _ => (0 : EReal)) (fun t j => bonusWeightSum (iblk m c 2 t) (iblk m c 3 t) (iblk m c 4 t) (iblk m c 0 t) (iblk m c 5 t) j)
      (fun t h j => by
        rw [outsAt0_A m c t h (by have := lt_of_lt_of_eq t.isLt (show cfg0.N = 8 from N_0); omega)]
        frame_out
        exact (zero_add _).symm)
      (fun t h j => by
        rw [outsAt0_B m c t h (by omega)]
        frame_out
        pointwise [k0_pay3]) (le_of_eq N_0) t0_7 rfl j, zero_add]
  rw [e]
  show @Eq EReal _ _
  refine Eq.trans (Finset.sum_congr rfl fun t _ => (bonusWeightSum_apply _ _ _ _ _ (fun i hd k => three (in0 m h c t i hd k) (in5 m h c t i hd k) (in4 m h c t i hd k)) hd k)) (Eq.trans ?_ (ReadOutGrad.bonus_weight_grad _ _ _ _ _ hd k).symm)
  refine Fin.sum_mul_add_congr fun t x hl => ?_
  simp only [blk0, blk1, blk2, blk3, blk4, blk5, blk6, blk7, blk8]

end

/-- What a window's array holds after the last grid point. -/
theorem exit_array (c : Dev nD) (w : Fin (cfgs 0).W) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  (dats m 0 c).withArrays_arrAt sharedIn0 (V0 m c) (fun _ => rfl) w

set_option maxHeartbeats 3200000 in
/-- The call, and the derivative of the reference's read-out, agree on numbers. -/
theorem algebraic : @Cert.algebraic_RwkvPostBwdIdeal_RwkvPostBwdRefIdeal_pre_read_out_bwd_numbers _ _ numbersFacts := by
  pair_intro
  · run_from Cert.RwkvPostBwdIdeal.Gen.run_main m g
    · exact W_main_arg2 m _ c
    · exact W_main_arg4 m _ c
    · exact W_main_arg6 m _ c
    · exact W_main_arg7 m _ c
    · exact W_main_arg8 m _ c
  · run_from Cert.RwkvPostBwdRefIdeal.Value.run m' g'
    · obtain ⟨e0, e1, e2, e3, e4, e5, e6, e7, e8⟩ := hagree c
      rw [Cert.RwkvPostBwdRefIdeal.Read.val_main_v108_eq, e0, e1, e5, e6]
      exact (final9 m hpre c).symm
    · exact (final10 m hpre c).symm
    · exact (final11 m hpre c).symm
    · exact (final12 m hpre c).symm
    · exact (final13 m hpre c).symm
    · unfold Pipeline.afterTail₀
      simp only [hostOps1, List.flatten_cons, List.flatten_nil, List.append_nil, List.cons_append, List.nil_append]
      simp only [StableHlo.after_cons, StableHlo.after_nil]
      after_results_steps
      rw [exit_array m c 14]
      funext y
      obtain ⟨j, rfl⟩ : ∃ j : Fin 512, y = ix1 j := ⟨_, eq_ix1 y⟩
      obtain ⟨hd, k, rfl⟩ := exists_lane j
      refine (final14 m hpre c hd k).symm.trans ?_
      pointwise []
    · unfold Pipeline.afterTail₀
      simp only [hostOps1, List.flatten_cons, List.flatten_nil, List.append_nil, List.cons_append, List.nil_append]
      simp only [StableHlo.after_cons, StableHlo.after_nil]
      after_results_steps
      rw [exit_array m c 15]
      funext y
      obtain ⟨j, rfl⟩ : ∃ j : Fin 512, y = ix1 j := ⟨_, eq_ix1 y⟩
      obtain ⟨hd, k, rfl⟩ := exists_lane j
      refine (final15 m hpre c hd k).symm.trans ?_
      pointwise []
    · unfold Pipeline.afterTail₀
      simp only [hostOps1, List.flatten_cons, List.flatten_nil, List.append_nil, List.cons_append, List.nil_append]
      simp only [StableHlo.after_cons, StableHlo.after_nil]
      after_results_steps
      rw [exit_array m c 16]
      funext y
      obtain ⟨hd, k, rfl⟩ : ∃ hd k, y = ix2 hd k := ⟨_, _, eq_ix2 y⟩
      refine (final16 m hpre c hd k).symm.trans ?_
      pointwise []

end Cert.RwkvPostBwdIdeal.Value
end
-- ==== Proof.DownDw.lean ====
module

public import proofs.«01_k».proof.Defs
public import proofs.«01_k».proof.Proof.Gen.MlpDownDwIdeal.Value
public import proofs.«01_k».proof.Proof.Gen.MlpDownDwRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MlpDownDwIdeal.Value
open Idealize.ShloMosaic Idealize.ShloMosaic.TcCoe Idealize.SL.Sem
open Cert.MlpDownDwIdeal Cert.MlpDownDwIdeal.Gen
open Cert.MlpDownDwRefIdeal.Read

variable (m : (ℓ : Loc nD τ sig) → Buf (Elt Ideal) ℓ)

theorem idx : ∀ t : Fin cfg0.N, win0_0.index t = ![0, t.val] ∧ win0_1.index t = ![0, 0]
    ∧ win0_2.index t = ![t.val, 0] :=
  (by decide +kernel : ∀ t : Fin grid0.N, _)

theorem point (c : Dev nD) (t : Fin cfg0.N) (y : S512x1024.Idx) :
    k0_pay1 (iblk m c 0 t) (iblk m c 1 t) y
      = val_main_v14 (F := Ideal) (m ((c : Thread nD τ).loc main_arg0))
          (m ((c : Thread nD τ).loc main_arg2)) (((cfg0.win 2).blk t).view.emb y) := by
  pointwise [k0_pay1, val_main_v14, val_main_v9, val_main_v8, val_main_v4, val_main_v0, val_main_call0_v0, val_main_call0_cst]
  refine Finset.sum_congr rfl fun x _ => (mul_comm (_ : EReal) _).trans (Ideal.mul_congr ?_ (Ideal.mul_congr ?_ ?_))
  · blk_point [iblk, V, idx t]
  all_goals
    blk_simp [iblk]
    entry_read
    pointwise
    blk_point [idx t]

/-- The array the call leaves: the gradient of the squared-ReLU product with respect to the weights. -/
theorem final (c : Dev nD) : (dats m 0 c).arrAt 2 (cfgs 0).N
    = val_main_v14 (F := Ideal) (m ((c : Thread nD τ).loc main_arg0))
          (m ((c : Thread nD τ).loc main_arg2)) := by
  refine (dats m 0 c).arrAt_eq_of_covers 2 _ (by decide +kernel) fun t _ y => ?_
  blk_simp
  rw [after0_2]; frame_out
  exact point m c t y

theorem algebraic : Cert.algebraic_MlpDownDwIdeal_MlpDownDwRefIdeal := by
  pair_intro
  · run_from Cert.MlpDownDwIdeal.Gen.run_main m g
  · run_from Cert.MlpDownDwRefIdeal.Value.run m' g'
    exact (final m c).symm

end Cert.MlpDownDwIdeal.Value
end
-- ==== Proof.DownDx.lean ====
module

public import proofs.«01_k».proof.Defs
public import proofs.«01_k».proof.Proof.Gen.MlpDownDxIdeal.Value
public import proofs.«01_k».proof.Proof.Gen.MlpDownDxRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MlpDownDxIdeal.Value
open Idealize.ShloMosaic Idealize.ShloMosaic.TcCoe Idealize.SL.Sem
open Cert.MlpDownDxIdeal Cert.MlpDownDxIdeal.Gen
open Cert.MlpDownDxRefIdeal.Read

variable (m : (ℓ : Loc nD τ sig) → Buf (Elt Ideal) ℓ)

/-- Where the pre-activation is not positive the rectified value is zero, so the mask of the rectifier's
derivative changes nothing. -/
theorem relu_gate (p s a : EReal) : (if 0 < p then s * (a * max p 0) else 0) = s * (a * max p 0) := by
  split_ifs with h
  · rfl
  · rw [max_eq_right (not_lt.mp h), mul_zero, mul_zero]

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

theorem point (c : Dev nD) (t : Fin cfg0.N) (y : S2048x1024.Idx) :
    k0_pay1 (iblk m c 0 t) (iblk m c 1 t) (iblk m c 2 t) y
      = val_main_v14 (F := Ideal) (m ((c : Thread nD τ).loc main_arg0)) (m ((c : Thread nD τ).loc main_arg1))
          (m ((c : Thread nD τ).loc main_arg2)) (((cfg0.win 3).blk t).view.emb y) := by
  pointwise [k0_pay1, val_main_v14, val_main_v13, val_main_v2, val_main_v11, val_main_v12, val_main_v10, val_main_v6,
    val_main_v5, val_main_v1, val_main_cst, val_main_cst_1, val_main_cst_2, val_main_call0_v0, val_main_call0_cst, val_main_v0]
  rw [relu_gate]
  refine Ideal.mul_congr ?_ (Ideal.mul_congr rfl ?_)
  · blk_point [iblk, V, idx t]
  · blk_simp [iblk]
    entry_read
    pointwise
    blk_point [idx t]

/-- The array the call leaves: the gradient of the squared-ReLU product with respect to the pre-activation. -/
theorem final (c : Dev nD) : (dats m 0 c).arrAt 3 (cfgs 0).N
    = val_main_v14 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  exact point m c t y

theorem algebraic : Cert.algebraic_MlpDownDxIdeal_MlpDownDxRefIdeal := by
  pair_intro
  · run_from Cert.MlpDownDxIdeal.Gen.run_main m g
  · run_from Cert.MlpDownDxRefIdeal.Value.run m' g'
    exact (final m c).symm
end Cert.MlpDownDxIdeal.Value
end
-- ==== Proof.UpDw.lean ====
module

public import proofs.«01_k».proof.Defs
public import proofs.«01_k».proof.Proof.Gen.MlpUpDwIdeal.Value
public import proofs.«01_k».proof.Proof.Gen.MlpUpDwRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MlpUpDwIdeal.Value
open Idealize.ShloMosaic Idealize.ShloMosaic.TcCoe Idealize.SL.Sem
open Cert.MlpUpDwIdeal Cert.MlpUpDwIdeal.Gen
open Cert.MlpUpDwRefIdeal.Read

variable (m : (ℓ : Loc nD τ sig) → Buf (Elt Ideal) ℓ)

theorem idx : ∀ t : Fin cfg0.N, win0_0.index t = ![0, 0] ∧ win0_1.index t = ![0, t.val]
    ∧ win0_2.index t = ![t.val, 0, 0] :=
  (by decide +kernel : ∀ t : Fin grid0.N, _)

theorem point (c : Dev nD) (t : Fin cfg0.N) (y : S1x1024x512.Idx) :
    k0_pay1 (iblk m c 0 t) (iblk m c 1 t) y
      = val_main_v6 (F := Ideal) (m ((c : Thread nD τ).loc main_arg0))
          (m ((c : Thread nD τ).loc main_arg2)) (((cfg0.win 2).blk t).view.emb y) := by
  pointwise [k0_pay1, val_main_v6, val_main_v5, val_main_v4, val_main_v3, val_main_v2, val_main_v1, val_main_v0]
  refine Finset.sum_congr rfl fun x _ => (mul_comm (_ : EReal) _).trans (Ideal.mul_congr ?_ ?_)
  · blk_point [iblk, V, idx t]
  · blk_point [iblk, V, idx t]

/-- The array the call leaves: the gradient of the product with respect to the weights, in eight column blocks. -/
theorem final (c : Dev nD) : (dats m 0 c).arrAt 2 (cfgs 0).N
    = val_main_v6 (F := Ideal) (m ((c : Thread nD τ).loc main_arg0))
          (m ((c : Thread nD τ).loc main_arg2)) := by
  refine (dats m 0 c).arrAt_eq_of_covers 2 _ (by decide +kernel) fun t _ y => ?_
  blk_simp
  rw [after0_2]; frame_out
  exact point m c t y

theorem algebraic : Cert.algebraic_MlpUpDwIdeal_MlpUpDwRefIdeal := by
  pair_intro
  · run_from Cert.MlpUpDwIdeal.Gen.run_main m g
  · run_from Cert.MlpUpDwRefIdeal.Value.run m' g'
    exact (final m c).symm

end Cert.MlpUpDwIdeal.Value
end
-- ==== Proof.MlpUpDx.lean ====
module

public import proofs.«01_k».proof.Defs
public import proofs.«01_k».proof.Proof.Gen.MlpUpDxIdeal.Value
public import proofs.«01_k».proof.Proof.Gen.MlpUpDxRefIdeal.Read
public import Idealize.ShloMosaic.Lib.Pipeline.ValueKit
public import Idealize.ShloMosaic.Lib.Pointwise
public import Idealize.ShloMosaic.Lib.Claim
public import proofs.«01_k».proof.Proof.NormBwd

@[expose] public section

set_option maxRecDepth 16384

noncomputable section

namespace Cert.MlpUpDxIdeal.Value
open Idealize.ShloMosaic Idealize.ShloMosaic.TcCoe Idealize.SL.Sem
open Cert.MlpUpDxIdeal Cert.MlpUpDxIdeal.Gen
open Cert.MlpUpDxRefIdeal.Read

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![0, 0] :=
  (by decide +kernel : ∀ t : Fin grid0.N, _)

/-- A stored entry is the norm's gradient of the row. -/
theorem pay7 (x2 : Vec Ideal S512x4096 .bf16) (x4 : Vec Ideal S1024x4096 .f32) (x7 x8 : Vec Ideal S512x1024 .f32)
    (x9 : Vec Ideal S1x1024 .f32) (y : S512x1024.Idx) :
    k0_pay7 x2 x4 x7 x8 x9 y = NormBwd.kernel (fun k => x7 (ix2 (y 0) k))
      (fun k => (∑ l : Fin 4096, (x2 (ix2 (y 0) l) : EReal) * x4 (ix2 k l)) * x9 (ix2 0 k)) (y 1) (x8 y) := by
  obtain ⟨i, j, rfl⟩ : ∃ i j, y = ix2 i j := ⟨_, _, eq_ix2 y⟩
  pointwise [k0_pay7, k0_pay5, k0_pay4, k0_pay3]
  rfl

theorem pay6 (x2 : Vec Ideal S512x4096 .bf16) (x4 : Vec Ideal S1024x4096 .f32) (x7 : Vec Ideal S512x1024 .f32) (y : S1x1024.Idx) :
    k0_pay6 x2 x4 x7 y = ∑ x : Fin 512, (∑ l : Fin 4096, (x2 (ix2 x l) : EReal) * x4 (ix2 (y 1) l))
      * (x7 (ix2 x (y 1)) * NormBwd.scale (fun k => x7 (ix2 x k))) := by
  obtain ⟨i, j, rfl⟩ : ∃ i j, y = ix2 i j := ⟨_, _, eq_ix2 y⟩
  pointwise [k0_pay6, k0_pay5, k0_pay4, k0_pay3]
  rfl

theorem ref40 (x0 : FVec Ideal S4096x1024 .f32) (x1 : FVec Ideal S1024 .f32) (x2 : FVec Ideal S1024x4096 .f32)
    (x3 : FVec Ideal S4096x4096 .f32) (x4 : FVec Ideal S4096x1024 .f32) (y : S4096x1024.Idx) :
    val_main_v40 (F := Ideal) x0 x1 x2 x3 x4 y = NormBwd.derivative (fun k => x0 (ix2 (y 0) k))
      (fun k => (∑ l : Fin 4096, (x3 (ix2 (y 0) l) : EReal) * x2 (ix2 k l)) * x1 (ix1 k)) (y 1) (x4 y) := by
  obtain ⟨i, j, rfl⟩ : ∃ i j, y = ix2 i j := ⟨_, _, eq_ix2 y⟩
  pointwise [val_main_v40, val_main_v39, val_main_v38, val_main_v37, val_main_v36, val_main_v35, val_main_cst_7, val_main_v34, val_main_v33, val_main_cst_6, val_main_v32, val_main_v31, val_main_v30, val_main_v29, val_main_v28, val_main_v27, val_main_cst_5, val_main_v26, val_main_v25, val_main_cst_4, val_main_v24, val_main_v23, val_main_v22, val_main_v21, val_main_cst_3, val_main_v20, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [Fin.sum_univ_one]
  rfl

theorem ref42 (x0 : FVec Ideal S4096x1024 .f32) (x2 : FVec Ideal S1024x4096 .f32)
    (x3 : FVec Ideal S4096x4096 .f32) (y : S1x1024.Idx) :
    val_main_v42 (F := Ideal) x0 x2 x3 y = ∑ x : Fin 4096, x0 (ix2 x (y 1)) * NormBwd.scale (fun k => x0 (ix2 x k))
      * (∑ l : Fin 4096, (x3 (ix2 x l) : EReal) * x2 (ix2 (y 1) l)) := by
  obtain ⟨i, j, rfl⟩ : ∃ i j, y = ix2 i j := ⟨_, _, eq_ix2 y⟩
  pointwise [val_main_v42, val_main_v41, val_main_v40, val_main_v39, val_main_v38, val_main_v37, val_main_v36, val_main_v35, val_main_cst_7, val_main_v34, val_main_v33, val_main_cst_6, val_main_v32, val_main_v31, val_main_v30, val_main_v29, val_main_v28, val_main_v27, val_main_cst_5, val_main_v26, val_main_v25, val_main_cst_4, val_main_v24, val_main_v23, val_main_v22, val_main_v21, val_main_cst_3, val_main_v20, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [Fin.sum_univ_one]
  rfl

/-- One entry of a stored block of the norm's gradient. -/
theorem point (c : Dev nD) (t : Fin cfg0.N) (y : S512x1024.Idx) :
    k0_pay7 (iblk m c 0 t) (iblk m c 1 t) (iblk m c 2 t) (iblk m c 3 t) (iblk m c 4 t) y
      = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [pay7, ref40]
  refine NormBwd.rows (fun k => ?_) (fun k => Ideal.mul_congr (Finset.sum_congr rfl fun l _ => Ideal.mul_congr ?_ ?_) ?_)
    ?_ ?_
  · blk_point [iblk, V, idx t]
  · blk_point [iblk, V, idx t]
  · blk_point [iblk, V, idx t]
  · blk_point [iblk, V, idx t]
  · exact Fin.ext (Pipeline.Window.rect_emb_val_of_index_zero win0_5 t 1 (by simp [idx t]) y).symm
  · blk_point [iblk, V, idx t]

/-- The gradient's array. -/
theorem final5 (c : Dev nD) : (dats m 0 c).arrAt 5 (cfgs 0).N
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h0 : t.val % 8 = 0
  · rw [outsAt0_A m c t h0 (by have := lt_of_lt_of_eq t.isLt (show cfg0.N = 8 from N_0); omega)]
    frame_out
    exact point m c t y
  · rw [outsAt0_B m c t h0 (by omega)]
    frame_out
    exact point m c t y

theorem final6 (c : Dev nD) : (dats m 0 c).arrAt 6 (cfgs 0).N
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  by_cases h0 : t.val % 8 = 0
  · rw [outsAt0_A m c t h0 (by have := lt_of_lt_of_eq t.isLt (show cfg0.N = 8 from N_0); omega)]
    frame_out
    exact point m c t y
  · rw [outsAt0_B m c t h0 (by omega)]
    frame_out
    exact point m c t y

/-- The gradient of the norm's weights: the blocks' sums added up, one grid point after another. -/
theorem final7 (c : Dev nD) : (dats m 0 c).arrAt 7 (cfgs 0).N
    = val_main_v42 (F := Ideal) (m ((c : Thread nD τ).loc main_arg0)) (m ((c : Thread nD τ).loc main_arg2)) (m ((c : Thread nD τ).loc main_arg3)) := by
  refine (dats m 0 c).arrAt_eq_of_after_last 7 t0_7 (by decide +kernel) _ fun j => ?_
  blk_simp
  rw [after0_7, Pipeline.eq_sum_fin_of_reset_step_apply_last (fun n h => (outsAt0 m c n h).2.2) 8
    (fun _ => (0 : EReal)) (fun t j => k0_pay6 (iblk m c 0 t) (iblk m c 1 t) (iblk m c 2 t) j)
    (fun t h j => by
      rw [outsAt0_A m c t h (by have := lt_of_lt_of_eq t.isLt (show cfg0.N = 8 from N_0); omega)]
      frame_out
      exact (zero_add _).symm)
    (fun t h j => by
      rw [outsAt0_B m c t h (by omega)]
      frame_out
      pointwise [k0_pay2]) (le_of_eq N_0) t0_7 rfl j, zero_add, ref42]
  simp only [pay6]
  refine Fin.sum_mul_add_congr fun t x hl => (mul_comm (_ : EReal) _).trans (Ideal.mul_congr (Ideal.mul_congr ?_
    (congrArg NormBwd.scale (funext fun k => ?_))) (Finset.sum_congr rfl fun l _ => Ideal.mul_congr ?_ ?_))
  · blk_point [iblk, V, idx t]
  · blk_point [iblk, V, idx t]
  · blk_point [iblk, V, idx t]
  · blk_point [iblk, V, idx t]

/-- The call and the derivative agree. -/
theorem algebraic : Cert.algebraic_MlpUpDxIdeal_MlpUpDxRefIdeal := by
  pair_intro
  · run_from Cert.MlpUpDxIdeal.Gen.run_main m g
  · run_from Cert.MlpUpDxRefIdeal.Value.run m' g'
    · obtain ⟨e0, e1, e2, e3, e4⟩ := hagree c
      rw [val_main_v40_eq, e0, e1, e2, e3, e4]
      exact (final5 m c).symm
    · obtain ⟨e0, e1, e2, e3, e4⟩ := hagree c
      rw [val_main_v41_eq, e0, e1, e2, e3, e4]
      exact (final6 m c).symm
    · exact (final7 m c).symm

end Cert.MlpUpDxIdeal.Value
end
-- ==== Proof.PleGateDx.lean ====
module

public import proofs.«01_k».proof.Defs
public import proofs.«01_k».proof.Proof.Gen.PleGateDxIdeal.Value
public import proofs.«01_k».proof.Proof.Gen.PleGateDxRefIdeal.Read
public import Idealize.ShloMosaic.Lib.Pipeline.ValueKit
public import Idealize.ShloMosaic.Lib.Pointwise
public import Idealize.ShloMosaic.Lib.Claim
public import proofs.«01_k».proof.Proof.NormBwd

@[expose] public section

set_option maxRecDepth 16384

noncomputable section

namespace Cert.PleGateDxIdeal.Value
open Idealize.ShloMosaic Idealize.ShloMosaic.TcCoe Idealize.SL.Sem
open Cert.PleGateDxIdeal Cert.PleGateDxIdeal.Gen
open Cert.PleGateDxRefIdeal.Read

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![0, 0] :=
  (by decide +kernel : ∀ t : Fin grid0.N, _)

/-- A stored entry is the norm's gradient of the row. -/
theorem pay7 (x2 : Vec Ideal S512x1024 .bf16) (x4 : Vec Ideal S1024x1024 .f32) (x7 x8 : Vec Ideal S512x1024 .f32)
    (x9 : Vec Ideal S1x1024 .f32) (y : S512x1024.Idx) :
    k0_pay7 x2 x4 x7 x8 x9 y = NormBwd.kernel (fun k => x7 (ix2 (y 0) k))
      (fun k => (∑ l : Fin 1024, (x2 (ix2 (y 0) l) : EReal) * x4 (ix2 k l)) * x9 (ix2 0 k)) (y 1) (x8 y) := by
  obtain ⟨i, j, rfl⟩ : ∃ i j, y = ix2 i j := ⟨_, _, eq_ix2 y⟩
  pointwise [k0_pay7, k0_pay5, k0_pay4, k0_pay3]
  rfl

theorem pay6 (x2 : Vec Ideal S512x1024 .bf16) (x4 : Vec Ideal S1024x1024 .f32) (x7 : Vec Ideal S512x1024 .f32) (y : S1x1024.Idx) :
    k0_pay6 x2 x4 x7 y = ∑ x : Fin 512, (∑ l : Fin 1024, (x2 (ix2 x l) : EReal) * x4 (ix2 (y 1) l))
      * (x7 (ix2 x (y 1)) * NormBwd.scale (fun k => x7 (ix2 x k))) := by
  obtain ⟨i, j, rfl⟩ : ∃ i j, y = ix2 i j := ⟨_, _, eq_ix2 y⟩
  pointwise [k0_pay6, k0_pay5, k0_pay4, k0_pay3]
  rfl

theorem ref40 (x0 : FVec Ideal S4096x1024 .f32) (x1 : FVec Ideal S1024 .f32) (x2 : FVec Ideal S1024x1024 .f32)
    (x3 : FVec Ideal S4096x1024 .f32) (x4 : FVec Ideal S4096x1024 .f32) (y : S4096x1024.Idx) :
    val_main_v40 (F := Ideal) x0 x1 x2 x3 x4 y = NormBwd.derivative (fun k => x0 (ix2 (y 0) k))
      (fun k => (∑ l : Fin 1024, (x3 (ix2 (y 0) l) : EReal) * x2 (ix2 k l)) * x1 (ix1 k)) (y 1) (x4 y) := by
  obtain ⟨i, j, rfl⟩ : ∃ i j, y = ix2 i j := ⟨_, _, eq_ix2 y⟩
  pointwise [val_main_v40, val_main_v39, val_main_v38, val_main_v37, val_main_v36, val_main_v35, val_main_cst_7, val_main_v34, val_main_v33, val_main_cst_6, val_main_v32, val_main_v31, val_main_v30, val_main_v29, val_main_v28, val_main_v27, val_main_cst_5, val_main_v26, val_main_v25, val_main_cst_4, val_main_v24, val_main_v23, val_main_v22, val_main_v21, val_main_cst_3, val_main_v20, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [Fin.sum_univ_one]
  rfl

theorem ref42 (x0 : FVec Ideal S4096x1024 .f32) (x2 : FVec Ideal S1024x1024 .f32)
    (x3 : FVec Ideal S4096x1024 .f32) (y : S1x1024.Idx) :
    val_main_v42 (F := Ideal) x0 x2 x3 y = ∑ x : Fin 4096, x0 (ix2 x (y 1)) * NormBwd.scale (fun k => x0 (ix2 x k))
      * (∑ l : Fin 1024, (x3 (ix2 x l) : EReal) * x2 (ix2 (y 1) l)) := by
  obtain ⟨i, j, rfl⟩ : ∃ i j, y = ix2 i j := ⟨_, _, eq_ix2 y⟩
  pointwise [val_main_v42, val_main_v41, val_main_v40, val_main_v39, val_main_v38, val_main_v37, val_main_v36, val_main_v35, val_main_cst_7, val_main_v34, val_main_v33, val_main_cst_6, val_main_v32, val_main_v31, val_main_v30, val_main_v29, val_main_v28, val_main_v27, val_main_cst_5, val_main_v26, val_main_v25, val_main_cst_4, val_main_v24, val_main_v23, val_main_v22, val_main_v21, val_main_cst_3, val_main_v20, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [Fin.sum_univ_one]
  rfl

/-- One entry of a stored block of the norm's gradient. -/
theorem point (c : Dev nD) (t : Fin cfg0.N) (y : S512x1024.Idx) :
    k0_pay7 (iblk m c 0 t) (iblk m c 1 t) (iblk m c 2 t) (iblk m c 3 t) (iblk m c 4 t) y
      = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [pay7, ref40]
  refine NormBwd.rows (fun k => ?_) (fun k => Ideal.mul_congr (Finset.sum_congr rfl fun l _ => Ideal.mul_congr ?_ ?_) ?_)
    ?_ ?_
  · blk_point [iblk, V, idx t]
  · blk_point [iblk, V, idx t]
  · blk_point [iblk, V, idx t]
  · blk_point [iblk, V, idx t]
  · exact Fin.ext (Pipeline.Window.rect_emb_val_of_index_zero win0_5 t 1 (by simp [idx t]) y).symm
  · blk_point [iblk, V, idx t]

/-- The gradient's array. -/
theorem final5 (c : Dev nD) : (dats m 0 c).arrAt 5 (cfgs 0).N
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h0 : t.val % 8 = 0
  · rw [outsAt0_A m c t h0 (by have := lt_of_lt_of_eq t.isLt (show cfg0.N = 8 from N_0); omega)]
    frame_out
    exact point m c t y
  · rw [outsAt0_B m c t h0 (by omega)]
    frame_out
    exact point m c t y

theorem final6 (c : Dev nD) : (dats m 0 c).arrAt 6 (cfgs 0).N
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  by_cases h0 : t.val % 8 = 0
  · rw [outsAt0_A m c t h0 (by have := lt_of_lt_of_eq t.isLt (show cfg0.N = 8 from N_0); omega)]
    frame_out
    exact point m c t y
  · rw [outsAt0_B m c t h0 (by omega)]
    frame_out
    exact point m c t y

/-- The gradient of the norm's weights: the blocks' sums added up, one grid point after another. -/
theorem final7 (c : Dev nD) : (dats m 0 c).arrAt 7 (cfgs 0).N
    = val_main_v42 (F := Ideal) (m ((c : Thread nD τ).loc main_arg0)) (m ((c : Thread nD τ).loc main_arg2)) (m ((c : Thread nD τ).loc main_arg3)) := by
  refine (dats m 0 c).arrAt_eq_of_after_last 7 t0_7 (by decide +kernel) _ fun j => ?_
  blk_simp
  rw [after0_7, Pipeline.eq_sum_fin_of_reset_step_apply_last (fun n h => (outsAt0 m c n h).2.2) 8
    (fun _ => (0 : EReal)) (fun t j => k0_pay6 (iblk m c 0 t) (iblk m c 1 t) (iblk m c 2 t) j)
    (fun t h j => by
      rw [outsAt0_A m c t h (by have := lt_of_lt_of_eq t.isLt (show cfg0.N = 8 from N_0); omega)]
      frame_out
      exact (zero_add _).symm)
    (fun t h j => by
      rw [outsAt0_B m c t h (by omega)]
      frame_out
      pointwise [k0_pay2]) (le_of_eq N_0) t0_7 rfl j, zero_add, ref42]
  simp only [pay6]
  refine Fin.sum_mul_add_congr fun t x hl => (mul_comm (_ : EReal) _).trans (Ideal.mul_congr (Ideal.mul_congr ?_
    (congrArg NormBwd.scale (funext fun k => ?_))) (Finset.sum_congr rfl fun l _ => Ideal.mul_congr ?_ ?_))
  · blk_point [iblk, V, idx t]
  · blk_point [iblk, V, idx t]
  · blk_point [iblk, V, idx t]
  · blk_point [iblk, V, idx t]

/-- The call and the derivative agree. -/
theorem algebraic : Cert.algebraic_PleGateDxIdeal_PleGateDxRefIdeal := by
  pair_intro
  · run_from Cert.PleGateDxIdeal.Gen.run_main m g
  · run_from Cert.PleGateDxRefIdeal.Value.run m' g'
    · obtain ⟨e0, e1, e2, e3, e4⟩ := hagree c
      rw [val_main_v40_eq, e0, e1, e2, e3, e4]
      exact (final5 m c).symm
    · obtain ⟨e0, e1, e2, e3, e4⟩ := hagree c
      rw [val_main_v41_eq, e0, e1, e2, e3, e4]
      exact (final6 m c).symm
    · exact (final7 m c).symm

end Cert.PleGateDxIdeal.Value
end
-- ==== Proof.OutDw.lean ====
module

public import proofs.«01_k».proof.Defs
public import proofs.«01_k».proof.Proof.Gen.OutDwIdeal.Value
public import proofs.«01_k».proof.Proof.Gen.OutDwRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutDwIdeal.Value
open Idealize.ShloMosaic Idealize.ShloMosaic.TcCoe Idealize.SL.Sem
open Cert.OutDwIdeal Cert.OutDwIdeal.Gen
open Cert.OutDwRefIdeal.Read

variable (m : (ℓ : Loc nD τ sig) → Buf (Elt Ideal) ℓ)
/-- The block each operand and each result is staged at, point by point. -/
theorem idx : ∀ t : Fin cfg0.N, win0_0.index t = ![0, t.val]
    ∧ win0_1.index t = ![0, 0]
    ∧ win0_2.index t = ![t.val, 0] :=
  (by decide +kernel : ∀ t : Fin grid0.N, _)

/-- One entry of a stored block: a sum over the tokens. -/
theorem point (c : Dev nD) (t : Fin cfg0.N) (y : S512x1024.Idx) :
    k0_pay1 (iblk m c 0 t) (iblk m c 1 t) y
      = val_main_v4 (F := Ideal) (m ((c : Thread nD τ).loc main_arg0)) (m ((c : Thread nD τ).loc main_arg2)) (((cfg0.win 2).blk t).view.emb y) := by
  pointwise [k0_pay1, val_main_v4, val_main_v2, val_main_v1]
  refine Finset.sum_congr rfl fun x _ => (mul_comm (_ : EReal) _).trans (Ideal.mul_congr ?_ ?_)
  · blk_point [iblk, V, idx t]
  · blk_point [iblk, V, idx t]

/-- The array the call leaves: the weights' gradient. -/
theorem final (c : Dev nD) : (dats m 0 c).arrAt 2 (cfgs 0).N
    = val_main_v4 (F := Ideal) (m ((c : Thread nD τ).loc main_arg0)) (m ((c : Thread nD τ).loc main_arg2)) := by
  refine (dats m 0 c).arrAt_eq_of_covers 2 _ (by decide +kernel) fun t _ y => ?_
  blk_simp
  rw [after0_2]; frame_out
  exact point m c t y

/-- The call and the derivative of the product agree. -/
theorem algebraic : Cert.algebraic_OutDwIdeal_OutDwRefIdeal := by
  pair_intro
  · run_from Cert.OutDwIdeal.Gen.run_main m g
  · run_from Cert.OutDwRefIdeal.Value.run m' g'
    exact (final m c).symm

end Cert.OutDwIdeal.Value
end
-- ==== Proof.OutDx.lean ====
module

public import proofs.«01_k».proof.Defs
public import proofs.«01_k».proof.Proof.Gen.OutDxIdeal.Value
public import proofs.«01_k».proof.Proof.Gen.OutDxRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutDxIdeal.Value
open Idealize.ShloMosaic Idealize.ShloMosaic.TcCoe Idealize.SL.Sem
open Cert.OutDxIdeal Cert.OutDxIdeal.Gen
open Cert.OutDxRefIdeal.Read

variable (m : (ℓ : Loc nD τ sig) → Buf (Elt Ideal) ℓ)
/-- The block each operand and each result is staged at, point by point. -/
theorem idx : ∀ t : Fin cfg0.N, win0_0.index t = ![t.val, 0]
    ∧ win0_1.index t = ![0, 0]
    ∧ win0_2.index t = ![t.val, 0] :=
  (by decide +kernel : ∀ t : Fin grid0.N, _)

/-- One entry of a stored block: a sum over the output columns. -/
theorem point (c : Dev nD) (t : Fin cfg0.N) (y : S1024x1024.Idx) :
    k0_pay1 (iblk m c 0 t) (iblk m c 1 t) y
      = val_main_v3 (F := Ideal) (m ((c : Thread nD τ).loc main_arg1)) (m ((c : Thread nD τ).loc main_arg2)) (((cfg0.win 2).blk t).view.emb y) := by
  pointwise [k0_pay1, val_main_v3]
  refine Finset.sum_congr rfl fun x _ => Ideal.mul_congr ?_ ?_
  · blk_point [iblk, V, idx t]
  · blk_point [iblk, V, idx t]

/-- The array the call leaves: the gradient of the left factor. -/
theorem final (c : Dev nD) : (dats m 0 c).arrAt 2 (cfgs 0).N
    = val_main_v3 (F := Ideal) (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

/-- The call and the derivative of the product agree. -/
theorem algebraic : Cert.algebraic_OutDxIdeal_OutDxRefIdeal := by
  pair_intro
  · run_from Cert.OutDxIdeal.Gen.run_main m g
  · run_from Cert.OutDxRefIdeal.Value.run m' g'
    exact (final m c).symm

end Cert.OutDxIdeal.Value
end
-- ==== Proof.PleGateDw.lean ====
module

public import proofs.«01_k».proof.Defs
public import proofs.«01_k».proof.Proof.Gen.PleGateDwIdeal.Value
public import proofs.«01_k».proof.Proof.Gen.PleGateDwRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.PleGateDwIdeal.Value
open Idealize.ShloMosaic Idealize.ShloMosaic.TcCoe Idealize.SL.Sem
open Cert.PleGateDwIdeal Cert.PleGateDwIdeal.Gen
open Cert.PleGateDwRefIdeal.Read

variable (m : (ℓ : Loc nD τ sig) → Buf (Elt Ideal) ℓ)
/-- The block each operand and each result is staged at, point by point. -/
theorem idx : ∀ t : Fin cfg0.N, win0_0.index t = ![0, t.val]
    ∧ win0_1.index t = ![0, 0]
    ∧ win0_2.index t = ![t.val, 0] :=
  (by decide +kernel : ∀ t : Fin grid0.N, _)

/-- One entry of a stored block: a sum over the tokens. -/
theorem point (c : Dev nD) (t : Fin cfg0.N) (y : S512x1024.Idx) :
    k0_pay1 (iblk m c 0 t) (iblk m c 1 t) y
      = val_main_v4 (F := Ideal) (m ((c : Thread nD τ).loc main_arg0)) (m ((c : Thread nD τ).loc main_arg2)) (((cfg0.win 2).blk t).view.emb y) := by
  pointwise [k0_pay1, val_main_v4, val_main_v2, val_main_v1]
  refine Finset.sum_congr rfl fun x _ => (mul_comm (_ : EReal) _).trans (Ideal.mul_congr ?_ ?_)
  · blk_point [iblk, V, idx t]
  · blk_point [iblk, V, idx t]

/-- The array the call leaves: the weights' gradient. -/
theorem final (c : Dev nD) : (dats m 0 c).arrAt 2 (cfgs 0).N
    = val_main_v4 (F := Ideal) (m ((c : Thread nD τ).loc main_arg0)) (m ((c : Thread nD τ).loc main_arg2)) := by
  refine (dats m 0 c).arrAt_eq_of_covers 2 _ (by decide +kernel) fun t _ y => ?_
  blk_simp
  rw [after0_2]; frame_out
  exact point m c t y

/-- The call and the derivative of the product agree. -/
theorem algebraic : Cert.algebraic_PleGateDwIdeal_PleGateDwRefIdeal := by
  pair_intro
  · run_from Cert.PleGateDwIdeal.Gen.run_main m g
  · run_from Cert.PleGateDwRefIdeal.Value.run m' g'
    exact (final m c).symm

end Cert.PleGateDwIdeal.Value
end
-- ==== Proof.PleProjDw.lean ====
module

public import proofs.«01_k».proof.Defs
public import proofs.«01_k».proof.Proof.Gen.PleProjDwIdeal.Value
public import proofs.«01_k».proof.Proof.Gen.PleProjDwRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.PleProjDwIdeal.Value
open Idealize.ShloMosaic Idealize.ShloMosaic.TcCoe Idealize.SL.Sem
open Cert.PleProjDwIdeal Cert.PleProjDwIdeal.Gen
open Cert.PleProjDwRefIdeal.Read

variable (m : (ℓ : Loc nD τ sig) → Buf (Elt Ideal) ℓ)
/-- The block each operand and each result is staged at, point by point. -/
theorem idx : ∀ t : Fin cfg0.N, win0_0.index t = ![0, 0]
    ∧ win0_1.index t = ![0, t.val]
    ∧ win0_2.index t = ![t.val, 0, 0] :=
  (by decide +kernel : ∀ t : Fin grid0.N, _)

/-- One entry of a stored block: a sum over the tokens. -/
theorem point (c : Dev nD) (t : Fin cfg0.N) (y : S1x256x128.Idx) :
    k0_pay1 (iblk m c 0 t) (iblk m c 1 t) y
      = val_main_v6 (F := Ideal) (m ((c : Thread nD τ).loc main_arg0)) (m ((c : Thread nD τ).loc main_arg2)) (((cfg0.win 2).blk t).view.emb y) := by
  pointwise [k0_pay1, val_main_v6, val_main_v5, val_main_v4, val_main_v2, val_main_v1]
  refine Finset.sum_congr rfl fun x _ => (mul_comm (_ : EReal) _).trans (Ideal.mul_congr ?_ ?_)
  · blk_point [iblk, V, idx t]
  · blk_point [iblk, V, idx t]

/-- The array the call leaves: the weights' gradient. -/
theorem final (c : Dev nD) : (dats m 0 c).arrAt 2 (cfgs 0).N
    = val_main_v6 (F := Ideal) (m ((c : Thread nD τ).loc main_arg0)) (m ((c : Thread nD τ).loc main_arg2)) := by
  refine (dats m 0 c).arrAt_eq_of_covers 2 _ (by decide +kernel) fun t _ y => ?_
  blk_simp
  rw [after0_2]; frame_out
  exact point m c t y

/-- The call and the derivative of the product agree. -/
theorem algebraic : Cert.algebraic_PleProjDwIdeal_PleProjDwRefIdeal := by
  pair_intro
  · run_from Cert.PleProjDwIdeal.Gen.run_main m g
  · run_from Cert.PleProjDwRefIdeal.Value.run m' g'
    exact (final m c).symm

end Cert.PleProjDwIdeal.Value
end
-- ==== Proof.Columns.lean ====
module

public import Idealize.ShloMosaic.Lib.Pipeline.ValueKit
public import Idealize.ShloMosaic.Lib.Pointwise
public import Idealize.ShloMosaic.Lib.Claim

@[expose] public section

set_option maxRecDepth 16384

noncomputable section

/-!
The input projection's 3360 columns and the 3584 columns the kernels keep them in: the convolution's three parts
interleaved in blocks of 128, the last two low-rank parts followed or preceded by unused columns.
-/
namespace Cert.Columns
open Idealize.ShloMosaic

/-- Where the kernels keep column `j`. -/
def col (j : ℕ) : ℕ :=
  if j < 1536 then j / 128 % 4 * 384 + j / 512 * 128 + j % 128 else if j < 3136 then j else if j < 3200 then j + 64
    else j + 128

theorem col_lt {j : ℕ} (h : j < 3360) : col j < 3584 := by
  unfold col
  split_ifs <;> omega

/-- An interleaved column is one of the first 1536, and comes from the column it was put at. -/
theorem interleaved (j : ℕ) (h : j < 1536) : j / 128 % 4 * 384 + j / 512 * 128 + j % 128 < 1536
    ∧ (j / 128 % 4 * 384 + j / 512 * 128 + j % 128) / 128 % 3 * 512
      + (j / 128 % 4 * 384 + j / 512 * 128 + j % 128) / 384 * 128
      + (j / 128 % 4 * 384 + j / 512 * 128 + j % 128) % 128 = j :=
  (by decide +kernel : ∀ j : Fin 1536, j.val / 128 % 4 * 384 + j.val / 512 * 128 + j.val % 128 < 1536
    ∧ (j.val / 128 % 4 * 384 + j.val / 512 * 128 + j.val % 128) / 128 % 3 * 512
      + (j.val / 128 % 4 * 384 + j.val / 512 * 128 + j.val % 128) / 384 * 128
      + (j.val / 128 % 4 * 384 + j.val / 512 * 128 + j.val % 128) % 128 = j.val) ⟨j, h⟩

/-- The columns put back, one by one: four pieces side by side. -/
def back (f : Fin 3584 → EReal) (j : Fin 3360) : EReal :=
  if h : j.val < 1536 then f ⟨j.val / 128 % 4 * 384 + j.val / 512 * 128 + j.val % 128, by omega⟩
  else if h' : j.val - 1536 < 1600 then f ⟨1536 + (j.val - 1536), by omega⟩
  else if h'' : j.val - 1536 - 1600 < 64 then f ⟨3200 + (j.val - 1536 - 1600), by omega⟩
  else f ⟨3328 + (j.val - 1536 - 1600 - 64), by omega⟩

/-- A column is put back from where it is kept. -/
theorem back_eq (f : Fin 3584 → EReal) (j : Fin 3360) : back f j = f ⟨col j, col_lt j.isLt⟩ := by
  obtain ⟨j, hj⟩ := j
  unfold back
  dsimp only
  split
  next h1 => exact congrArg f (Fin.ext (if_pos h1).symm)
  next h1 =>
    split
    next h2 =>
      refine congrArg f (Fin.ext ?_)
      show 1536 + (j - 1536) = col j
      rw [col, if_neg h1, if_pos (by omega)]
      omega
    next h2 =>
      split
      next h3 =>
        refine congrArg f (Fin.ext ?_)
        show 3200 + (j - 1536 - 1600) = col j
        rw [col, if_neg h1, if_neg (by omega), if_pos (by omega)]
        omega
      next h3 =>
        refine congrArg f (Fin.ext ?_)
        show 3328 + (j - 1536 - 1600 - 64) = col j
        rw [col, if_neg h1, if_neg (by omega), if_neg (by omega)]
        omega

/-- The arranged columns, one by one: the four pieces side by side, the last two with zeros around them. -/
def there (f : Fin 3360 → EReal) (q : Fin 3584) : EReal :=
  if h : q.val < 1536 then f ⟨q.val / 128 % 3 * 512 + q.val / 384 * 128 + q.val % 128, by omega⟩
  else if h' : q.val - 1536 < 1600 then f ⟨1536 + (q.val - 1536), by omega⟩
  else if h'' : q.val - 1536 - 1600 < 192 then
    if h3 : 64 ≤ q.val - 1536 - 1600 ∧ q.val - 1536 - 1600 - 64 < 64
    then f ⟨3136 + (q.val - 1536 - 1600 - 64), by omega⟩ else 0
  else if h3 : q.val - 1536 - 1600 - 192 < 160 then f ⟨3200 + (q.val - 1536 - 1600 - 192), by omega⟩ else 0

/-- A column is found where it is kept. -/
theorem there_col (f : Fin 3360 → EReal) (j : Fin 3360) : there f ⟨col j, col_lt j.isLt⟩ = f j := by
  have hj := j.isLt
  generalize hq : (⟨col j, col_lt j.isLt⟩ : Fin 3584) = q
  have h : q.val = col j.val := by rw [← hq]
  clear hq
  unfold there
  split
  next h1 =>
    refine congrArg f (Fin.ext ?_)
    show q.val / 128 % 3 * 512 + q.val / 384 * 128 + q.val % 128 = j.val
    rw [h] at h1 ⊢
    unfold col at h1 ⊢
    by_cases e : j.val < 1536
    · rw [if_pos e]
      exact (interleaved _ e).2
    · rw [if_neg e] at h1 ⊢
      split_ifs at h1 ⊢ <;> omega
  next h1 =>
    have e : ¬ j.val < 1536 := fun e => h1 (by rw [h, col, if_pos e]; exact (interleaved _ e).1)
    rw [col, if_neg e] at h
    split
    next h2 =>
      refine congrArg f (Fin.ext ?_)
      show 1536 + (q.val - 1536) = j.val
      split_ifs at h <;> omega
    next h2 =>
      split
      next h3 =>
        rw [dif_pos (by split_ifs at h <;> omega)]
        refine congrArg f (Fin.ext ?_)
        show 3136 + (q.val - 1536 - 1600 - 64) = j.val
        split_ifs at h <;> omega
      next h3 =>
        rw [dif_pos (by split_ifs at h <;> omega)]
        refine congrArg f (Fin.ext ?_)
        show 3200 + (q.val - 1536 - 1600 - 192) = j.val
        split_ifs at h <;> omega

/-- Each of the first 1536 places is where one of the first 1536 columns is kept. -/
theorem kept (q : ℕ) (h : q < 1536) : ∃ j : Fin 3360, col j = q :=
  ⟨⟨q / 128 % 3 * 512 + q / 384 * 128 + q % 128, by omega⟩,
    (by decide +kernel : ∀ q : Fin 1536, col (q.val / 128 % 3 * 512 + q.val / 384 * 128 + q.val % 128) = q.val) ⟨q, h⟩⟩

/-- Where no column is kept there is a zero. -/
theorem there_off (f : Fin 3360 → EReal) (q : Fin 3584) (h : ∀ j : Fin 3360, col j ≠ q.val) : there f q = 0 := by
  unfold there
  split
  next h1 =>
    obtain ⟨j, hj⟩ := kept q.val h1
    exact absurd hj (h j)
  next h1 =>
    split
    next h2 =>
      refine absurd ?_ (h ⟨q.val, by omega⟩)
      show col q.val = q.val
      rw [col, if_neg h1, if_pos (by omega)]
    next h2 =>
      split
      next h3 =>
        split
        next h4 =>
          refine absurd ?_ (h ⟨q.val - 64, by omega⟩)
          show col (q.val - 64) = q.val
          rw [col, if_neg (by omega), if_neg (by omega), if_pos (by omega)]
          omega
        next h4 => rfl
      next h3 =>
        split
        next h4 =>
          refine absurd ?_ (h ⟨q.val - 128, by omega⟩)
          show col (q.val - 128) = q.val
          rw [col, if_neg (by omega), if_neg (by omega), if_neg (by omega)]
          omega
        next h4 => rfl

/-- Two columns are not kept at one place. -/
theorem col_inj {i j : Fin 3360} (h : col i = col j) : i = j := by
  have e := (there_col (fun p => ((p.val : ℝ) : EReal)) i).symm.trans
    ((congrArg _ (Fin.ext h)).trans (there_col (fun p => ((p.val : ℝ) : EReal)) j))
  exact Fin.ext (Nat.cast_injective (R := ℝ) (EReal.coe_injective e))

/-- A sum of products over the places is the sum over the columns. -/
theorem sum_there (f g : Fin 3360 → EReal) : ∑ q, there f q * there g q = ∑ p, f p * g p := by
  refine (Fintype.sum_of_injective (fun j : Fin 3360 => (⟨col j, col_lt j.isLt⟩ : Fin 3584))
    (fun i j h => col_inj (congrArg Fin.val h)) _ _ (fun q hq => ?_) fun p => ?_).symm
  · rw [there_off f q fun j e => hq ⟨j, Fin.ext e⟩, zero_mul]
  · rw [there_col f p, there_col g p]

end Cert.Columns

end
-- ==== Proof.InDw.lean ====
module

public import proofs.«01_k».proof.Defs
public import proofs.«01_k».proof.Proof.Gen.InDwIdeal.Frame
public import proofs.«01_k».proof.Proof.Gen.InDwRefIdeal.Read
public import proofs.«01_k».proof.Proof.Columns
public import Idealize.ShloMosaic.Lib.Pipeline.ValueKit
public import Idealize.ShloMosaic.Lib.Pointwise
public import Idealize.ShloMosaic.Lib.Claim

@[expose] public section

set_option maxRecDepth 16384

noncomputable section

namespace Cert.InDwIdeal.Value
open Idealize.ShloMosaic Idealize.ShloMosaic.TcCoe Idealize.SL.Sem
open Cert.InDwIdeal Cert.InDwIdeal.Gen
open Cert.Columns

variable (m : (ℓ : Loc nD τ sig) → Buf (Elt Ideal) ℓ)

/-- The block each operand and the result is staged at, point by point. -/
theorem idx : ∀ t : Fin cfg0.N, win0_0.index t = ![0, 0]
    ∧ win0_1.index t = ![0, t.val]
    ∧ win0_2.index t = ![0, t.val] :=
  (by decide +kernel : ∀ t : Fin grid0.N, _)

/-- The product over all rows, transposed on the left. -/
def prod (x : FVec Ideal S4096x1024 .f32) (d : FVec Ideal S4096x3584 .bf16) : FVec Ideal S1024x3584 .bf16 := fun i =>
  ∑ k : Fin 4096, x (ix2 k (i 0)) * d (ix2 k (i 1))

theorem point (c : Dev nD) (t : Fin cfg0.N) (y : S1024x896.Idx) :
    k0_pay1 (iblk m c 0 t) (iblk m c 1 t) y
      = prod (m ((c : Thread nD τ).loc main_arg0)) (V m c main_v11) (((cfg0.win 2).blk t).view.emb y) := by
  pointwise [k0_pay1, prod]
  refine Finset.sum_congr rfl fun x _ => Ideal.mul_congr ?_ ?_
  · blk_point [iblk, V, idx t]
  · blk_point [iblk, idx t]

theorem final (c : Dev nD) :
    (dats m 0 c).arrAt 2 (cfgs 0).N = prod (m ((c : Thread nD τ).loc main_arg0)) (V m c main_v11) := by
  refine (dats m 0 c).arrAt_eq_of_covers 2 _ (by decide +kernel) fun t _ y => ?_
  blk_simp
  rw [after0_2]; frame_out
  exact point m c t y

/-- The columns put back in the parameter's order. -/
def unpad (a : FVec Ideal S1024x3584 .bf16) : FVec Ideal S1024x3360 .bf16 :=
  concatenate S1024x3360 1
    [⟨S1024x1536, shapeCast S1024x1536 (transpose S1024x3x4x128 [0, 2, 1, 3]
        (shapeCast S1024x4x3x128 (extractStridedSlice S1024x1536 ![0, 0] a slices_S1024x3584_S1024x1536_0_0)
          shapeCasts_S1024x1536_S1024x4x3x128) transposes_S1024x4x3x128_S1024x3x4x128_0_2_1_3)
        shapeCasts_S1024x3x4x128_S1024x1536⟩,
     ⟨S1024x1600, extractStridedSlice S1024x1600 ![0, 1536] a slices_S1024x3584_S1024x1600_0_1536⟩,
     ⟨S1024x64, extractStridedSlice S1024x64 ![0, 3200] a slices_S1024x3584_S1024x64_0_3200⟩,
     ⟨S1024x160, extractStridedSlice S1024x160 ![0, 3328] a slices_S1024x3584_S1024x160_0_3328⟩]
    concatenates_S1024x1536_S1024x1600_S1024x64_S1024x160_S1024x3360_d1

/-- The columns in the order the kernel takes them. -/
def arrange (a : FVec Ideal S4096x3360 .bf16) : FVec Ideal S4096x3584 .bf16 :=
  concatenate S4096x3584 1
    [⟨S4096x1536, shapeCast S4096x1536 (transpose S4096x4x3x128 [0, 2, 1, 3]
        (shapeCast S4096x3x4x128 (extractStridedSlice S4096x1536 ![0, 0] a slices_S4096x3360_S4096x1536_0_0)
          shapeCasts_S4096x1536_S4096x3x4x128) transposes_S4096x3x4x128_S4096x4x3x128_0_2_1_3)
        shapeCasts_S4096x4x3x128_S4096x1536⟩,
     ⟨S4096x1600, extractStridedSlice S4096x1600 ![0, 1536] a slices_S4096x3360_S4096x1600_0_1536⟩,
     ⟨S4096x192, pad S4096x192 ![0, 64] ![0, 64] ![0, 0]
        (extractStridedSlice S4096x64 ![0, 3136] a slices_S4096x3360_S4096x64_0_3136) (constant S_ .bf16 0#16)
        pads_S4096x64_S4096x192_000_64640 h_S_⟩,
     ⟨S4096x256, pad S4096x256 ![0, 0] ![0, 96] ![0, 0]
        (extractStridedSlice S4096x160 ![0, 3200] a slices_S4096x3360_S4096x160_0_3200) (constant S_ .bf16 0#16)
        pads_S4096x160_S4096x256_000_0960 h_S_⟩]
    concatenates_S4096x1536_S4096x1600_S4096x192_S4096x256_S4096x3584_d1

/-- The arranged cotangent is what the kernel is given. -/
theorem arranged (c : Dev nD) :
    (V m c main_v11 : FVec Ideal S4096x3584 .bf16) = arrange (m ((c : Thread nD τ).loc main_arg2)) := by
  unfold V V0
  simp only [hostOps0, List.flatten_cons, List.flatten_nil, List.append_nil, List.cons_append, List.nil_append]
  simp only [StableHlo.after_cons, StableHlo.after_nil]
  after_results_steps
  rfl

theorem unpad_apply (a : FVec Ideal S1024x3584 .bf16) (y : S1024x3360.Idx) :
    unpad a y = a (ix2 (y 0) ⟨col (y 1).val, col_lt (y 1).isLt⟩) := by
  pointwise [unpad]
  exact back_eq (fun q => a (ix2 (y 0) q)) (y 1)

theorem arrange_apply (a : FVec Ideal S4096x3360 .bf16) (q : S4096x3584.Idx) :
    arrange a q = there (fun p => a (ix2 (q 0) p)) (q 1) := by
  pointwise [arrange]
  rfl

/-- Arranging, multiplying and putting back is multiplying. -/
theorem unpad_prod (x : FVec Ideal S4096x1024 .f32) (d : FVec Ideal S4096x3360 .bf16) (y : S1024x3360.Idx) :
    unpad (prod x (arrange d)) y = ∑ k : Fin 4096, x (ix2 k (y 0)) * d (ix2 k (y 1)) := by
  rw [unpad_apply]
  exact Finset.sum_congr rfl fun k _ => Ideal.mul_congr rfl
    ((arrange_apply d _).trans (there_col (fun p => d (ix2 k p)) (y 1)))

/-- The call, and the reference's gradient of the input projection, agree. -/
theorem algebraic : Cert.algebraic_InDwIdeal_InDwRefIdeal := by
  pair_intro
  · run_from Cert.InDwIdeal.Gen.run_main m g
    · exact W_main_arg0 m _ c
    · exact W_main_arg1 m _ c
    · exact W_main_arg2 m _ c
  · run_from Cert.InDwRefIdeal.Value.run m' g'
    unfold Pipeline.afterTail₀
    simp only [hostOps1, List.flatten_cons, List.flatten_nil, List.append_nil, List.cons_append, List.nil_append]
    simp only [StableHlo.after_cons, StableHlo.after_nil]
    after_results_steps
    rw [Pipeline.withArrays_arr _ launch0.win.arr_inj c _ _ 2]
    rw [final, arranged]
    show _ = unpad (prod (m ((c : Thread nD τ).loc main_arg0)) (arrange (m ((c : Thread nD τ).loc main_arg2))))
    funext y
    rw [unpad_prod]
    pointwise
    exact Finset.sum_congr rfl fun _ _ => mul_comm (_ : EReal) _

end Cert.InDwIdeal.Value
end
-- ==== Proof.InDx.lean ====
module

public import proofs.«01_k».proof.Defs
public import proofs.«01_k».proof.Proof.Gen.InDxIdeal.Value
public import proofs.«01_k».proof.Proof.Gen.InDxRefIdeal.Read
public import Idealize.ShloMosaic.Lib.Pipeline.ValueKit
public import Idealize.ShloMosaic.Lib.Pointwise
public import Idealize.ShloMosaic.Lib.Claim
public import proofs.«01_k».proof.Proof.NormBwd
public import proofs.«01_k».proof.Proof.Columns

@[expose] public section

set_option maxRecDepth 16384

noncomputable section

namespace Cert.InDxIdeal.Value
open Idealize.ShloMosaic Idealize.ShloMosaic.TcCoe Idealize.SL.Sem
open Cert.InDxIdeal Cert.InDxIdeal.Gen Cert.Columns
open Cert.InDxRefIdeal.Read

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![0, 0] :=
  (by decide +kernel : ∀ t : Fin grid0.N, _)

/-- The cotangent's columns in the order the kernel takes them. -/
def arrange (a : FVec Ideal S4096x3360 .bf16) : FVec Ideal S4096x3584 .bf16 :=
  concatenate S4096x3584 1
    [⟨S4096x1536, shapeCast S4096x1536 (transpose S4096x4x3x128 [0, 2, 1, 3]
        (shapeCast S4096x3x4x128 (extractStridedSlice S4096x1536 ![0, 0] a slices_S4096x3360_S4096x1536_0_0)
          shapeCasts_S4096x1536_S4096x3x4x128) transposes_S4096x3x4x128_S4096x4x3x128_0_2_1_3)
        shapeCasts_S4096x4x3x128_S4096x1536⟩,
     ⟨S4096x1600, extractStridedSlice S4096x1600 ![0, 1536] a slices_S4096x3360_S4096x1600_0_1536⟩,
     ⟨S4096x192, pad S4096x192 ![0, 64] ![0, 64] ![0, 0]
        (extractStridedSlice S4096x64 ![0, 3136] a slices_S4096x3360_S4096x64_0_3136) (constant S_ .bf16 0#16)
        pads_S4096x64_S4096x192_000_64640 h_S_⟩,
     ⟨S4096x256, pad S4096x256 ![0, 0] ![0, 96] ![0, 0]
        (extractStridedSlice S4096x160 ![0, 3200] a slices_S4096x3360_S4096x160_0_3200) (constant S_ .bf16 0#16)
        pads_S4096x160_S4096x256_000_0960 h_S_⟩]
    concatenates_S4096x1536_S4096x1600_S4096x192_S4096x256_S4096x3584_d1

/-- The weights' columns in the order the kernel takes them. -/
def arrangeW (a : FVec Ideal S1024x3360 .f32) : FVec Ideal S1024x3584 .f32 :=
  concatenate S1024x3584 1
    [⟨S1024x1536, shapeCast S1024x1536 (transpose S1024x4x3x128 [0, 2, 1, 3]
        (shapeCast S1024x3x4x128 (extractStridedSlice S1024x1536 ![0, 0] a slices_S1024x3360_S1024x1536_0_0)
          shapeCasts_S1024x1536_S1024x3x4x128) transposes_S1024x3x4x128_S1024x4x3x128_0_2_1_3)
        shapeCasts_S1024x4x3x128_S1024x1536⟩,
     ⟨S1024x1600, extractStridedSlice S1024x1600 ![0, 1536] a slices_S1024x3360_S1024x1600_0_1536⟩,
     ⟨S1024x192, pad S1024x192 ![0, 64] ![0, 64] ![0, 0]
        (extractStridedSlice S1024x64 ![0, 3136] a slices_S1024x3360_S1024x64_0_3136) (constant S_ .f32 0#32)
        pads_S1024x64_S1024x192_000_64640 h_S_⟩,
     ⟨S1024x256, pad S1024x256 ![0, 0] ![0, 96] ![0, 0]
        (extractStridedSlice S1024x160 ![0, 3200] a slices_S1024x3360_S1024x160_0_3200) (constant S_ .f32 0#32)
        pads_S1024x160_S1024x256_000_0960 h_S_⟩]
    concatenates_S1024x1536_S1024x1600_S1024x192_S1024x256_S1024x3584_d1

/-- The arranged arrays are what the kernel is given. -/
theorem arranged (c : Dev nD) :
    (V m c main_v10 : FVec Ideal S4096x3584 .bf16) = arrange (m ((c : Thread nD τ).loc main_arg3)) := by
  unfold V
  simp only [hostOps0, List.flatten_cons, List.flatten_nil, List.append_nil, List.cons_append, List.nil_append]
  simp only [StableHlo.after_cons, StableHlo.after_nil]
  after_results_steps
  rfl

set_option maxHeartbeats 1600000 in
theorem arrangedW (c : Dev nD) :
    (V m c main_v20 : FVec Ideal S1024x3584 .f32) = arrangeW (m ((c : Thread nD τ).loc main_arg2)) := by
  unfold V
  simp only [hostOps0, List.flatten_cons, List.flatten_nil, List.append_nil, List.cons_append, List.nil_append]
  simp only [StableHlo.after_cons, StableHlo.after_nil]
  after_results_steps
  rfl

theorem arrange_apply (a : FVec Ideal S4096x3360 .bf16) (q : S4096x3584.Idx) :
    arrange a q = there (fun p => a (ix2 (q 0) p)) (q 1) := by
  pointwise [arrange]
  rfl

theorem arrangeW_apply (a : FVec Ideal S1024x3360 .f32) (q : S1024x3584.Idx) :
    arrangeW a q = there (fun p => a (ix2 (q 0) p)) (q 1) := by
  pointwise [arrangeW]
  rfl

/-- One entry of the product with the weights transposed, over the arranged columns and over the columns. -/
def placed (d : FVec Ideal S512x3584 .bf16) (w : FVec Ideal S1024x3584 .f32) (r : Fin 512) (k : Fin 1024) : EReal :=
  ∑ q : Fin 3584, (d (ix2 r q) : EReal) * w (ix2 k q)

def plain (d : FVec Ideal S4096x3360 .f32) (w : FVec Ideal S1024x3360 .f32) (r : Fin 4096) (k : Fin 1024) : EReal :=
  ∑ p : Fin 3360, (d (ix2 r p) : EReal) * w (ix2 k p)

/-- The block's entry over the arranged columns is the array's entry over the columns. -/
theorem columns (c : Dev nD) (t : Fin cfg0.N) (r : Fin 512) (r' : Fin 4096) (hr : r'.val = t.val * 512 + r.val) (k : Fin 1024) :
    placed (iblk m c 0 t) (iblk m c 1 t) r k
      = plain (m ((c : Thread nD τ).loc main_arg3)) (m ((c : Thread nD τ).loc main_arg2)) r' k := by
  obtain ⟨r', h⟩ := r'
  subst hr
  refine (Finset.sum_congr rfl fun q _ => Ideal.mul_congr ?_ ?_).trans (sum_there _ _)
  · refine Eq.trans ?_ ((congrFun (arranged m c) (ix2 ⟨_, h⟩ q)).trans (arrange_apply _ _))
    blk_point [iblk, idx t]
  · refine Eq.trans ?_ ((congrFun (arrangedW m c) (ix2 k q)).trans (arrangeW_apply _ _))
    blk_point [iblk, idx t]

/-- A stored entry is the norm's gradient of the row. -/
theorem pay6 (x2 : Vec Ideal S512x3584 .bf16) (x4 : Vec Ideal S1024x3584 .f32) (x7 x8 : Vec Ideal S512x1024 .f32)
    (x9 : Vec Ideal S1x1024 .f32) (y : S512x1024.Idx) :
    k0_pay6 x2 x4 x7 x8 x9 y = NormBwd.kernel (fun k => x7 (ix2 (y 0) k))
      (fun k => placed x2 x4 (y 0) k * x9 (ix2 0 k)) (y 1) (x8 y) := by
  obtain ⟨i, j, rfl⟩ : ∃ i j, y = ix2 i j := ⟨_, _, eq_ix2 y⟩
  pointwise [k0_pay6, k0_pay4, k0_pay3, k0_pay2]
  rfl

theorem pay5 (x2 : Vec Ideal S512x3584 .bf16) (x4 : Vec Ideal S1024x3584 .f32) (x7 : Vec Ideal S512x1024 .f32) (y : S1x1024.Idx) :
    k0_pay5 x2 x4 x7 y = ∑ x : Fin 512, placed x2 x4 x (y 1)
      * (x7 (ix2 x (y 1)) * NormBwd.scale (fun k => x7 (ix2 x k))) := by
  obtain ⟨i, j, rfl⟩ : ∃ i j, y = ix2 i j := ⟨_, _, eq_ix2 y⟩
  pointwise [k0_pay5, k0_pay4, k0_pay3, k0_pay2]
  rfl

theorem ref40 (x0 : FVec Ideal S4096x1024 .f32) (x1 : FVec Ideal S1024 .f32) (x2 : FVec Ideal S1024x3360 .f32)
    (x3 : FVec Ideal S4096x3360 .f32) (x4 : FVec Ideal S4096x1024 .f32) (y : S4096x1024.Idx) :
    val_main_v40 (F := Ideal) x0 x1 x2 x3 x4 y = NormBwd.derivative (fun k => x0 (ix2 (y 0) k))
      (fun k => plain x3 x2 (y 0) k * x1 (ix1 k)) (y 1) (x4 y) := by
  obtain ⟨i, j, rfl⟩ : ∃ i j, y = ix2 i j := ⟨_, _, eq_ix2 y⟩
  pointwise [val_main_v40, val_main_v39, val_main_v38, val_main_v37, val_main_v36, val_main_v35, val_main_cst_7, val_main_v34, val_main_v33, val_main_cst_6, val_main_v32, val_main_v31, val_main_v30, val_main_v29, val_main_v28, val_main_v27, val_main_cst_5, val_main_v26, val_main_v25, val_main_cst_4, val_main_v24, val_main_v23, val_main_v22, val_main_v21, val_main_cst_3, val_main_v20, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [Fin.sum_univ_one]
  rfl

theorem ref42 (x0 : FVec Ideal S4096x1024 .f32) (x2 : FVec Ideal S1024x3360 .f32)
    (x3 : FVec Ideal S4096x3360 .f32) (y : S1x1024.Idx) :
    val_main_v42 (F := Ideal) x0 x2 x3 y = ∑ x : Fin 4096, x0 (ix2 x (y 1)) * NormBwd.scale (fun k => x0 (ix2 x k))
      * plain x3 x2 x (y 1) := by
  obtain ⟨i, j, rfl⟩ : ∃ i j, y = ix2 i j := ⟨_, _, eq_ix2 y⟩
  pointwise [val_main_v42, val_main_v41, val_main_v40, val_main_v39, val_main_v38, val_main_v37, val_main_v36, val_main_v35, val_main_cst_7, val_main_v34, val_main_v33, val_main_cst_6, val_main_v32, val_main_v31, val_main_v30, val_main_v29, val_main_v28, val_main_v27, val_main_cst_5, val_main_v26, val_main_v25, val_main_cst_4, val_main_v24, val_main_v23, val_main_v22, val_main_v21, val_main_cst_3, val_main_v20, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [Fin.sum_univ_one]
  rfl

/-- One entry of a stored block of the norm's gradient. -/
theorem point (c : Dev nD) (t : Fin cfg0.N) (y : S512x1024.Idx) :
    k0_pay6 (iblk m c 0 t) (iblk m c 1 t) (iblk m c 2 t) (iblk m c 3 t) (iblk m c 4 t) y
      = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [pay6, ref40]
  refine NormBwd.rows (fun k => ?_) (fun k => Ideal.mul_congr (columns m c t _ _ ?_ _) ?_)
    ?_ ?_
  · blk_point [iblk, V, idx t]
  · exact (Pipeline.Window.rect_emb_val win0_5 t y 0).trans (by simp [idx t])
  · blk_point [iblk, V, idx t]
  · exact Fin.ext (Pipeline.Window.rect_emb_val_of_index_zero win0_5 t 1 (by simp [idx t]) y).symm
  · blk_point [iblk, V, idx t]

/-- The gradient's array. -/
theorem final5 (c : Dev nD) : (dats m 0 c).arrAt 5 (cfgs 0).N
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h0 : t.val % 8 = 0
  · rw [outsAt0_A m c t h0 (by have := lt_of_lt_of_eq t.isLt (show cfg0.N = 8 from N_0); omega)]
    frame_out
    exact point m c t y
  · rw [outsAt0_B m c t h0 (by omega)]
    frame_out
    exact point m c t y

/-- The gradient of the norm's weights: the blocks' sums added up, one grid point after another. -/
theorem final6 (c : Dev nD) : (dats m 0 c).arrAt 6 (cfgs 0).N
    = val_main_v42 (F := Ideal) (m ((c : Thread nD τ).loc main_arg0)) (m ((c : Thread nD τ).loc main_arg2)) (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2) 8
    (fun _ => (0 : EReal)) (fun t j => k0_pay5 (iblk m c 0 t) (iblk m c 1 t) (iblk m c 2 t) j)
    (fun t h j => by
      rw [outsAt0_A m c t h (by have := lt_of_lt_of_eq t.isLt (show cfg0.N = 8 from N_0); omega)]
      frame_out
      exact (zero_add _).symm)
    (fun t h j => by
      rw [outsAt0_B m c t h (by omega)]
      frame_out
      pointwise [k0_pay1]) (le_of_eq N_0) t0_7 rfl j, zero_add, ref42]
  simp only [pay5]
  refine Fin.sum_mul_add_congr fun t x hl => (mul_comm (_ : EReal) _).trans (Ideal.mul_congr (Ideal.mul_congr ?_
    (congrArg NormBwd.scale (funext fun k => ?_))) (columns m c t x _ rfl _))
  · blk_point [iblk, V, idx t]
  · blk_point [iblk, V, idx t]

/-- The call and the derivative agree. -/
theorem algebraic : Cert.algebraic_InDxIdeal_InDxRefIdeal := by
  pair_intro
  · run_from Cert.InDxIdeal.Gen.run_main m g
  · run_from Cert.InDxRefIdeal.Value.run m' g'
    · obtain ⟨e0, e1, e2, e3, e4⟩ := hagree c
      rw [val_main_v40_eq, e0, e1, e2, e3, e4]
      exact (final5 m c).symm
    · exact (final6 m c).symm

end Cert.InDxIdeal.Value
end
-- ==== Proof.HeadRow.lean ====
module

public import proofs.«01_k».proof.Proof.NormBwd

@[expose] public section

set_option maxRecDepth 16384

noncomputable section

/-!
The loss head on one row: the sigmoid through the hyperbolic tangent, the normed row's error against the target, and the
loss's cotangent, as the kernel and as the reference write them.
-/
namespace Cert.HeadRow
open Idealize.ShloMosaic

theorem half : Ideal.ofBits .f32 1056964608#32 = ((1 / 2 : ℝ) : EReal) := by
  simp [Ideal.ofBits, Ideal.ieee, -EReal.coe_mul]; norm_num

theorem one : Ideal.ofBits .f32 1065353216#32 = (1 : EReal) := by
  rw [← EReal.coe_one]
  simp [Ideal.ofBits, Ideal.ieee, -EReal.coe_mul, -EReal.coe_one]; norm_num

theorem two : Ideal.ofBits .f32 1073741824#32 = ((2 : ℝ) : EReal) := by
  simp [Ideal.ofBits, Ideal.ieee, -EReal.coe_mul]; norm_num

theorem share : Ideal.ofBits .f32 981467136#32 = ((1 / 1024 : ℝ) : EReal) := by
  simp [Ideal.ofBits, Ideal.ieee, -EReal.coe_mul]; norm_num

theorem halfShare : Ideal.ofBits .f32 973078528#32 = ((1 / 2048 : ℝ) : EReal) := by
  simp [Ideal.ofBits, Ideal.ieee, -EReal.coe_mul]; norm_num

/-- The kernel's sigmoid. -/
def gate (z : EReal) : EReal :=
  Ideal.ofBits .f32 1056964608#32 + Ideal.ofBits .f32 1056964608#32 * Ideal.tanh (Ideal.ofBits .f32 1056964608#32 * z)

/-- The reference's sigmoid. -/
def sigmoid (z : EReal) : EReal :=
  Ideal.div 1 (1 + Ideal.exp (-z))

theorem sigmoid_coe (r : ℝ) : sigmoid r = (((1 + Real.exp (-r))⁻¹ : ℝ) : EReal) := by
  have h : 1 + Real.exp (-r) ≠ 0 := by positivity
  unfold sigmoid
  rw [← EReal.coe_neg, Ideal.exp_coe, ← EReal.coe_one, ← EReal.coe_add, Ideal.div_coe h, ← EReal.coe_mul, one_mul, one_div]

theorem gate_coe (r : ℝ) : gate r = sigmoid r := by
  rw [sigmoid_coe]
  unfold gate
  rw [half, ← EReal.coe_mul, Ideal.tanh_coe, ← EReal.coe_mul, ← EReal.coe_add]
  refine congrArg _ ?_
  rw [Real.tanh_eq_sinh_div_cosh, Real.sinh_eq, Real.cosh_eq]
  have e : Real.exp (-r) = Real.exp (-(1 / 2 * r)) * Real.exp (-(1 / 2 * r)) := by rw [← Real.exp_add]; ring_nf
  have p : Real.exp (1 / 2 * r) * Real.exp (-(1 / 2 * r)) = 1 := by rw [← Real.exp_add]; simp
  have h1 := Real.exp_pos (1 / 2 * r)
  have h2 := Real.exp_pos (-(1 / 2 * r))
  rw [e]
  generalize Real.exp (1 / 2 * r) = a at *
  generalize Real.exp (-(1 / 2 * r)) = b at *
  have : 0 < 1 + b * b := by positivity
  field_simp
  linear_combination (2 * b) * p

/-- The kernel's sigmoid is the reference's, at the infinities too. -/
theorem gate_eq (z : EReal) : gate z = sigmoid z := by
  induction z with
  | bot =>
    unfold gate sigmoid
    rw [half, EReal.coe_mul_bot_of_pos (by norm_num), Ideal.tanh_bot, EReal.neg_bot, Ideal.exp_top,
      EReal.add_top_of_ne_bot (by decide), ← EReal.coe_one, ← EReal.coe_neg, ← EReal.coe_mul, ← EReal.coe_add]
    simp [Ideal.div]
  | top =>
    unfold gate sigmoid
    rw [half, EReal.coe_mul_top_of_pos (by norm_num), Ideal.tanh_top, EReal.neg_top, Ideal.exp_bot, add_zero, ← EReal.coe_one,
      Ideal.div_coe one_ne_zero, ← EReal.coe_mul, ← EReal.coe_mul, ← EReal.coe_add]
    exact congrArg _ (by norm_num)
  | coe r => exact gate_coe r

/-- The normed row less the target. -/
def error (h g t : Fin 1024 → EReal) (k : Fin 1024) : EReal := h k * NormBwd.scale h * g k - t k

/-- The normed row's cotangent as the kernel writes it, the error over the width. -/
def cotangent (h g t : Fin 1024 → EReal) (k : Fin 1024) : EReal := error h g t k * Ideal.ofBits .f32 981467136#32

/-- The derivative of half the mean of the squared error. -/
def derivative (h g t : Fin 1024 → EReal) (k : Fin 1024) : EReal :=
  Ideal.div (Ideal.ofBits .f32 1056964608#32) (Ideal.ofBits .f32 1149239296#32)
    * (Ideal.ofBits .f32 1073741824#32 * error h g t k)

theorem cotangent_eq (h g t : Fin 1024 → EReal) (k : Fin 1024) : cotangent h g t k = derivative h g t k := by
  unfold cotangent derivative
  rw [half, two, share, NormBwd.width, Ideal.div_coe (by norm_num), ← mul_assoc, ← EReal.coe_mul, ← EReal.coe_mul, mul_comm]
  exact congrArg (fun r : ℝ => (r : EReal) * error h g t k) (by norm_num)

/-- A block's squared errors summed and then weighted, or weighted one by one. -/
theorem weighted {n : ℕ} (f : Fin n → EReal) :
    (∑ k, f k) * Ideal.ofBits .f32 973078528#32 = ∑ k, f k * Ideal.ofBits .f32 973078528#32 := by
  rw [halfShare, mul_comm, NormBwd.mul_sum (by norm_num)]
  exact Finset.sum_congr rfl fun k _ => mul_comm _ _

/-- Half the sum of the means. -/
theorem means {n : ℕ} (f : Fin n → EReal) :
    ∑ k, f k * Ideal.ofBits .f32 973078528#32
      = Ideal.ofBits .f32 1056964608#32 * ∑ k, Ideal.div (f k) (Ideal.ofBits .f32 1149239296#32) := by
  rw [halfShare, half, NormBwd.width, NormBwd.mul_sum (by norm_num)]
  refine Finset.sum_congr rfl fun k _ => ?_
  rw [Ideal.div_coe (by norm_num), mul_left_comm, ← EReal.coe_mul]
  exact congrArg (fun r : ℝ => f k * (r : EReal)) (by norm_num)

end Cert.HeadRow

end
-- ==== Proof.Head.lean ====
module

public import proofs.«01_k».proof.Defs
public import proofs.«01_k».proof.Proof.Gen.HeadIdeal.Value
public import proofs.«01_k».proof.Proof.Gen.HeadRefIdeal.Read
public import Idealize.ShloMosaic.Lib.Pipeline.ValueKit
public import Idealize.ShloMosaic.Lib.Pointwise
public import Idealize.ShloMosaic.Lib.Claim
public import proofs.«01_k».proof.Proof.NormBwd
public import proofs.«01_k».proof.Proof.HeadRow

@[expose] public section

set_option maxRecDepth 16384

noncomputable section

/-!
The loss head: the gated residual, the final norm, the loss, and the gradients of the residual, of the gate's and of the
embedding's products, and of the norm's weights.
-/
namespace Cert.HeadIdeal.Value
open Idealize.ShloMosaic Idealize.ShloMosaic.TcCoe Idealize.SL.Sem
open Cert.HeadIdeal Cert.HeadIdeal.Gen
open Cert.HeadRefIdeal.Read

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-- Row `i` of the gated residual in a block, as the kernel computes it. -/
abbrev stream (x0 x1 x2 : Vec Ideal S512x1024 .f32) (i : Fin 512) (k : Fin 1024) : EReal :=
  x0 (ix2 i k) + HeadRow.gate (x1 (ix2 i k)) * x2 (ix2 i k)

/-- Row `i` of the gated residual, as the reference computes it. -/
abbrev stream' (x0 x1 x2 : FVec Ideal S4096x1024 .f32) (i : Fin 4096) (k : Fin 1024) : EReal :=
  x0 (ix2 i k) + HeadRow.sigmoid (x1 (ix2 i k)) * x2 (ix2 i k)

/-- The block of the residual's gradient, from the blocks read. -/
abbrev grad (x0 x1 x2 x3 : Vec Ideal S512x1024 .f32) (x4 : Vec Ideal S1x1024 .f32) : FVec Ideal S512x1024 .f32 :=
  k0_pay11 (k0_pay3 x4) (k0_pay5 x0 x1 x2) (k0_pay7 x0 x1 x2 x3 x4) (k0_pay8 x0 x1 x2) (k0_pay9 x0 x1 x2)

theorem pay11 (x0 x1 x2 x3 : Vec Ideal S512x1024 .f32) (x4 : Vec Ideal S1x1024 .f32) (y : S512x1024.Idx) :
    grad x0 x1 x2 x3 x4 y = NormBwd.kernel (stream x0 x1 x2 (y 0))
      (fun k => HeadRow.cotangent (stream x0 x1 x2 (y 0)) (fun k => x4 (ix2 0 k)) (fun k => x3 (ix2 (y 0) k)) k * x4 (ix2 0 k)) (y 1) 0 := by
  obtain ⟨i, j, rfl⟩ : ∃ i j, y = ix2 i j := ⟨_, _, eq_ix2 y⟩
  refine Eq.trans ?_ (add_zero _).symm
  pointwise [grad, k0_pay11, k0_pay10, k0_pay9, k0_pay8, k0_pay7, k0_pay6, k0_pay5, k0_pay4, k0_pay3]
  rfl

theorem pay14 (x0 x1 x2 x3 : Vec Ideal S512x1024 .f32) (x4 : Vec Ideal S1x1024 .f32) (y : S512x1024.Idx) :
    k0_pay14 x2 (k0_pay3 x4) (k0_pay4 x1) (k0_pay5 x0 x1 x2) (k0_pay7 x0 x1 x2 x3 x4) (k0_pay8 x0 x1 x2) (k0_pay9 x0 x1 x2) y
      = grad x0 x1 x2 x3 x4 y * x2 y * HeadRow.gate (x1 y) * (Ideal.ofBits .f32 1065353216#32 - HeadRow.gate (x1 y)) := rfl

theorem pay15 (x0 x1 x2 x3 : Vec Ideal S512x1024 .f32) (x4 : Vec Ideal S1x1024 .f32) (y : S512x1024.Idx) :
    k0_pay15 (k0_pay3 x4) (k0_pay4 x1) (k0_pay5 x0 x1 x2) (k0_pay7 x0 x1 x2 x3 x4) (k0_pay8 x0 x1 x2) (k0_pay9 x0 x1 x2) y
      = grad x0 x1 x2 x3 x4 y * HeadRow.gate (x1 y) := rfl

theorem pay12 (x0 x1 x2 x3 : Vec Ideal S512x1024 .f32) (x4 : Vec Ideal S1x1024 .f32) (y : S1x1024.Idx) :
    k0_pay12 (k0_pay5 x0 x1 x2) (k0_pay7 x0 x1 x2 x3 x4) (k0_pay9 x0 x1 x2) y
      = ∑ i : Fin 512, HeadRow.cotangent (stream x0 x1 x2 i) (fun k => x4 (ix2 0 k)) (fun k => x3 (ix2 i k)) (y 1)
        * (stream x0 x1 x2 i (y 1) * NormBwd.scale (stream x0 x1 x2 i)) := by
  obtain ⟨i, j, rfl⟩ : ∃ i j, y = ix2 i j := ⟨_, _, eq_ix2 y⟩
  pointwise [k0_pay12, k0_pay10, k0_pay9, k0_pay8, k0_pay7, k0_pay6, k0_pay5, k0_pay4, k0_pay3]
  rfl

theorem pay13 (x0 x1 x2 x3 : Vec Ideal S512x1024 .f32) (x4 : Vec Ideal S1x1024 .f32) (y : S1x1.Idx) :
    k0_pay13 (k0_pay6 x0 x1 x2 x3 x4) y
      = (∑ i : Fin 512, ∑ k : Fin 1024, HeadRow.error (stream x0 x1 x2 i) (fun k => x4 (ix2 0 k)) (fun k => x3 (ix2 i k)) k
        * HeadRow.error (stream x0 x1 x2 i) (fun k => x4 (ix2 0 k)) (fun k => x3 (ix2 i k)) k) * Ideal.ofBits .f32 973078528#32 := by
  obtain ⟨i, j, rfl⟩ : ∃ i j, y = ix2 i j := ⟨_, _, eq_ix2 y⟩
  pointwise [k0_pay13, k0_pay6, k0_pay5, k0_pay4, k0_pay3]
  rfl

theorem ref61 (x0 x1 x2 x3 : FVec Ideal S4096x1024 .f32) (x4 : FVec Ideal S1024 .f32) (y : S4096x1024.Idx) :
    val_main_v61 (F := Ideal) x0 x1 x2 x3 x4 y = NormBwd.derivative (stream' x0 x1 x2 (y 0))
      (fun k => HeadRow.derivative (stream' x0 x1 x2 (y 0)) (fun k => x4 (ix1 k)) (fun k => x3 (ix2 (y 0) k)) k * x4 (ix1 k)) (y 1) 0 := by
  obtain ⟨i, j, rfl⟩ : ∃ i j, y = ix2 i j := ⟨_, _, eq_ix2 y⟩
  unfold NormBwd.derivative
  rw [zero_add]
  pointwise [val_main_v61, val_main_v60, val_main_v59, val_main_v58, val_main_v57, val_main_v56, val_main_cst_18, val_main_v55, val_main_v54, val_main_cst_17, val_main_v53, val_main_v52, val_main_v51, val_main_v50, val_main_v49, val_main_cst_16, val_main_v48, val_main_v47, val_main_cst_15, val_main_v46, val_main_v45, val_main_v44, val_main_v43, val_main_cst_14, val_main_v42, val_main_v41, val_main_v40, val_main_v39, val_main_v38, val_main_cst_13, val_main_v37, val_main_v36, val_main_cst_12, val_main_cst_11, val_main_v35, val_main_cst_10, val_main_v34, val_main_cst_9, val_main_v33, val_main_v32, val_main_cst_8, val_main_v31, val_main_cst_7, val_main_v30, val_main_v29, val_main_cst_6, val_main_v28, val_main_v27, val_main_v26, val_main_v25, val_main_v24, val_main_v23, val_main_v22, val_main_v21, val_main_v20, val_main_cst_5, val_main_v19, val_main_v18, val_main_v17, val_main_v16, val_main_cst_4, val_main_v15, val_main_v14, val_main_cst_3, val_main_v13, val_main_v12, val_main_cst_2, val_main_v11, val_main_v10, val_main_v9, val_main_v8, val_main_v7, val_main_v6, val_main_cst_1, val_main_v5, val_main_v4, val_main_cst_0, val_main_v3, val_main_v2, val_main_cst, val_main_v1, val_main_v0]
  simp only [Fin.sum_univ_one]
  rfl

theorem ref65 (x0 x1 x2 x3 : FVec Ideal S4096x1024 .f32) (x4 : FVec Ideal S1024 .f32) (y : S4096x1024.Idx) :
    val_main_v65 (F := Ideal) x0 x1 x2 x3 x4 y = val_main_v61 (F := Ideal) x0 x1 x2 x3 x4 y * x2 y
      * (HeadRow.sigmoid (x1 y) * (1 - HeadRow.sigmoid (x1 y))) := by
  obtain ⟨i, j, rfl⟩ : ∃ i j, y = ix2 i j := ⟨_, _, eq_ix2 y⟩
  pointwise [val_main_v65, val_main_v64, val_main_v63, val_main_v8, val_main_v7, val_main_v6, val_main_cst_1, val_main_v5, val_main_v4, val_main_cst_0, val_main_v3, val_main_v2, val_main_cst, val_main_v1, val_main_v0]
  rfl

theorem ref66 (x0 x1 x2 x3 : FVec Ideal S4096x1024 .f32) (x4 : FVec Ideal S1024 .f32) (y : S4096x1024.Idx) :
    val_main_v66 (F := Ideal) x0 x1 x2 x3 x4 y = HeadRow.sigmoid (x1 y) * val_main_v61 (F := Ideal) x0 x1 x2 x3 x4 y := by
  obtain ⟨i, j, rfl⟩ : ∃ i j, y = ix2 i j := ⟨_, _, eq_ix2 y⟩
  pointwise [val_main_v66, val_main_v62, val_main_v5, val_main_v4, val_main_cst_0, val_main_v3, val_main_v2, val_main_cst, val_main_v1, val_main_v0]
  rfl

theorem ref67 (x0 x1 x2 x3 : FVec Ideal S4096x1024 .f32) (x4 : FVec Ideal S1024 .f32) (y : S1x1024.Idx) :
    val_main_v67 (F := Ideal) x0 x1 x2 x3 x4 y = ∑ i : Fin 4096, stream' x0 x1 x2 i (y 1) * NormBwd.scale (stream' x0 x1 x2 i)
      * HeadRow.derivative (stream' x0 x1 x2 i) (fun k => x4 (ix1 k)) (fun k => x3 (ix2 i k)) (y 1) := by
  obtain ⟨i, j, rfl⟩ : ∃ i j, y = ix2 i j := ⟨_, _, eq_ix2 y⟩
  pointwise [val_main_v67, val_main_v47, val_main_cst_15, val_main_v44, val_main_v43, val_main_cst_14, val_main_v42, val_main_v41, val_main_v40, val_main_v39, val_main_v38, val_main_cst_13, val_main_v37, val_main_v36, val_main_cst_12, val_main_cst_11, val_main_v35, val_main_cst_10, val_main_v34, val_main_cst_9, val_main_v33, val_main_v32, val_main_cst_8, val_main_v31, val_main_cst_7, val_main_v30, val_main_v29, val_main_cst_6, val_main_v28, val_main_v27, val_main_v26, val_main_v25, val_main_v24, val_main_v23, val_main_v22, val_main_v21, val_main_v20, val_main_cst_5, val_main_v19, val_main_v18, val_main_v17, val_main_v16, val_main_cst_4, val_main_v15, val_main_v14, val_main_cst_3, val_main_v13, val_main_v12, val_main_cst_2, val_main_v11, val_main_v10, val_main_v9, val_main_v8, val_main_v7, val_main_v6, val_main_cst_1, val_main_v5, val_main_v4, val_main_cst_0, val_main_v3, val_main_v2, val_main_cst, val_main_v1, val_main_v0]
  simp only [Fin.sum_univ_one]
  rfl

theorem ref68 (x0 x1 x2 x3 : FVec Ideal S4096x1024 .f32) (x4 : FVec Ideal S1024 .f32) (y : S1x1.Idx) :
    val_main_v68 (F := Ideal) x0 x1 x2 x3 x4 y = Ideal.ofBits .f32 1056964608#32 * ∑ i : Fin 4096, Ideal.div
      (∑ k : Fin 1024, HeadRow.error (stream' x0 x1 x2 i) (fun k => x4 (ix1 k)) (fun k => x3 (ix2 i k)) k
        * HeadRow.error (stream' x0 x1 x2 i) (fun k => x4 (ix1 k)) (fun k => x3 (ix2 i k)) k) (Ideal.ofBits .f32 1149239296#32) := by
  obtain ⟨i, j, rfl⟩ : ∃ i j, y = ix2 i j := ⟨_, _, eq_ix2 y⟩
  pointwise [val_main_v68, val_main_v35, val_main_cst_10, val_main_v34, val_main_cst_9, val_main_v33, val_main_v32, val_main_cst_8, val_main_v31, val_main_cst_7, val_main_v30, val_main_v29, val_main_cst_6, val_main_v28, val_main_v27, val_main_v26, val_main_v25, val_main_v24, val_main_v23, val_main_v22, val_main_v21, val_main_v20, val_main_cst_5, val_main_v19, val_main_v18, val_main_v17, val_main_v16, val_main_cst_4, val_main_v15, val_main_v14, val_main_cst_3, val_main_v13, val_main_v12, val_main_cst_2, val_main_v11, val_main_v10, val_main_v9, val_main_v8, val_main_v7, val_main_v6, val_main_cst_1, val_main_v5, val_main_v4, val_main_cst_0, val_main_v3, val_main_v2, val_main_cst, val_main_v1, val_main_v0]
  rfl

abbrev arg0 (c : Dev nD) : FVec Ideal S4096x1024 .f32 := m ((c : Thread nD τ).loc main_arg0)
abbrev arg1 (c : Dev nD) : FVec Ideal S4096x1024 .f32 := m ((c : Thread nD τ).loc main_arg1)
abbrev arg2 (c : Dev nD) : FVec Ideal S4096x1024 .f32 := m ((c : Thread nD τ).loc main_arg2)
abbrev arg3 (c : Dev nD) : FVec Ideal S4096x1024 .f32 := m ((c : Thread nD τ).loc main_arg3)
abbrev arg4 (c : Dev nD) : FVec Ideal S1024 .f32 := m ((c : Thread nD τ).loc main_arg4)

/-- The row of the whole array that row `i` of block `t` is. -/
abbrev row (t : Fin cfg0.N) (i : Fin 512) : Fin 4096 :=
  ⟨t.val * 512 + i.val, by have := lt_of_lt_of_eq t.isLt (show cfg0.N = 8 from N_0); omega⟩

section
variable (c : Dev nD) (t : Fin cfg0.N) (i : Fin 512) (k : Fin 1024)

theorem blk0 : (iblk m c 0 t : FVec Ideal S512x1024 .f32) (ix2 i k) = arg0 m c (ix2 (row t i) k) := by
  blk_point [iblk, V, idx t]

theorem blk1 : (iblk m c 1 t : FVec Ideal S512x1024 .f32) (ix2 i k) = arg1 m c (ix2 (row t i) k) := by
  blk_point [iblk, V, idx t]

theorem blk2 : (iblk m c 2 t : FVec Ideal S512x1024 .f32) (ix2 i k) = arg2 m c (ix2 (row t i) k) := by
  blk_point [iblk, V, idx t]

theorem blk3 : (iblk m c 3 t : FVec Ideal S512x1024 .f32) (ix2 i k) = arg3 m c (ix2 (row t i) k) := by
  blk_point [iblk, V, idx t]

theorem blk4 : (iblk m c 4 t : FVec Ideal S1x1024 .f32) (ix2 0 k) = arg4 m c (ix1 k) := by
  blk_point [iblk, V, idx t]

end

theorem place5 (t : Fin cfg0.N) (i : Fin 512) (j : Fin 1024) : ((cfg0.win 5).blk t).view.emb (ix2 i j) = ix2 (row t i) j := by
  funext a; apply Fin.ext
  match a with
  | ⟨0, _⟩ => blk_simp [idx t]
  | ⟨1, _⟩ => blk_simp [idx t]

theorem place6 (t : Fin cfg0.N) (i : Fin 512) (j : Fin 1024) : ((cfg0.win 6).blk t).view.emb (ix2 i j) = ix2 (row t i) j := by
  funext a; apply Fin.ext
  match a with
  | ⟨0, _⟩ => blk_simp [idx t]
  | ⟨1, _⟩ => blk_simp [idx t]

theorem place7 (t : Fin cfg0.N) (i : Fin 512) (j : Fin 1024) : ((cfg0.win 7).blk t).view.emb (ix2 i j) = ix2 (row t i) j := by
  funext a; apply Fin.ext
  match a with
  | ⟨0, _⟩ => blk_simp [idx t]
  | ⟨1, _⟩ => blk_simp [idx t]

/-- The kernel's row of the gated residual is the reference's. -/
theorem stream_eq (c : Dev nD) (t : Fin cfg0.N) (i : Fin 512) :
    stream (iblk m c 0 t) (iblk m c 1 t) (iblk m c 2 t) i = stream' (arg0 m c) (arg1 m c) (arg2 m c) (row t i) := by
  funext k
  exact congrArg₂ (fun a b : EReal => a + b) (blk0 m c t i k) (Ideal.mul_congr
    ((congrArg HeadRow.gate (blk1 m c t i k)).trans (HeadRow.gate_eq _)) (blk2 m c t i k))

theorem gains (c : Dev nD) (t : Fin cfg0.N) :
    (fun k : Fin 1024 => (iblk m c 4 t : FVec Ideal S1x1024 .f32) (ix2 0 k)) = fun k => arg4 m c (ix1 k) :=
  funext fun k => blk4 m c t k

theorem targets (c : Dev nD) (t : Fin cfg0.N) (i : Fin 512) :
    (fun k : Fin 1024 => (iblk m c 3 t : FVec Ideal S512x1024 .f32) (ix2 i k)) = fun k => arg3 m c (ix2 (row t i) k) :=
  funext fun k => blk3 m c t i k

/-- One entry of the residual's gradient. -/
theorem point (c : Dev nD) (t : Fin cfg0.N) (i : Fin 512) (j : Fin 1024) :
    grad (iblk m c 0 t) (iblk m c 1 t) (iblk m c 2 t) (iblk m c 3 t) (iblk m c 4 t) (ix2 i j) = val_main_v61 (F := Ideal) (arg0 m c) (arg1 m c) (arg2 m c) (arg3 m c) (arg4 m c) (ix2 (row t i) j) := by
  rw [pay11, ref61]
  refine NormBwd.rows (fun k => congrFun (stream_eq m c t i) k) (fun k => Ideal.mul_congr ?_ (blk4 m c t k)) rfl rfl
  refine Eq.trans ?_ (HeadRow.cotangent_eq _ _ _ _)
  show HeadRow.cotangent _ _ _ k = _
  exact congrFun (congr (congr (congrArg HeadRow.cotangent (stream_eq m c t i)) (gains m c t)) (targets m c t i)) k

theorem point5 (c : Dev nD) (t : Fin cfg0.N) (y : S512x1024.Idx) :
    grad (iblk m c 0 t) (iblk m c 1 t) (iblk m c 2 t) (iblk m c 3 t) (iblk m c 4 t) y
      = val_main_v61 (F := Ideal) (arg0 m c) (arg1 m c) (arg2 m c) (arg3 m c) (arg4 m c) (((cfg0.win 5).blk t).view.emb y) := by
  obtain ⟨i, j, rfl⟩ : ∃ i j, y = ix2 i j := ⟨_, _, eq_ix2 y⟩
  rw [place5]
  exact point m c t i j

theorem final5 (c : Dev nD) : (dats m 0 c).arrAt 5 (cfgs 0).N = val_main_v61 (F := Ideal) (arg0 m c) (arg1 m c) (arg2 m c) (arg3 m c) (arg4 m c) := by
  refine (dats m 0 c).arrAt_eq_of_covers 5 _ (by decide +kernel) fun t _ y => ?_
  blk_simp
  rw [after0_5]
  by_cases h0 : t.val % 8 = 0
  · rw [outsAt0_A m c t h0 (by have := lt_of_lt_of_eq t.isLt (show cfg0.N = 8 from N_0); omega)]
    frame_out
    exact point5 m c t y
  · rw [outsAt0_B m c t h0 (by omega)]
    frame_out
    exact point5 m c t y

theorem point6 (c : Dev nD) (t : Fin cfg0.N) (y : S512x1024.Idx) :
    k0_pay14 (iblk m c 2 t) (k0_pay3 (iblk m c 4 t)) (k0_pay4 (iblk m c 1 t)) (k0_pay5 (iblk m c 0 t) (iblk m c 1 t) (iblk m c 2 t)) (k0_pay7 (iblk m c 0 t) (iblk m c 1 t) (iblk m c 2 t) (iblk m c 3 t) (iblk m c 4 t)) (k0_pay8 (iblk m c 0 t) (iblk m c 1 t) (iblk m c 2 t)) (k0_pay9 (iblk m c 0 t) (iblk m c 1 t) (iblk m c 2 t)) y
      = val_main_v65 (F := Ideal) (arg0 m c) (arg1 m c) (arg2 m c) (arg3 m c) (arg4 m c) (((cfg0.win 6).blk t).view.emb y) := by
  obtain ⟨i, j, rfl⟩ : ∃ i j, y = ix2 i j := ⟨_, _, eq_ix2 y⟩
  rw [place6, pay14, ref65, point m c t i j, blk1, blk2, HeadRow.gate_eq, HeadRow.one]
  exact mul_assoc _ _ _

theorem final6 (c : Dev nD) : (dats m 0 c).arrAt 6 (cfgs 0).N = val_main_v65 (F := Ideal) (arg0 m c) (arg1 m c) (arg2 m c) (arg3 m c) (arg4 m c) := by
  refine (dats m 0 c).arrAt_eq_of_covers 6 _ (by decide +kernel) fun t _ y => ?_
  blk_simp
  rw [after0_6]
  by_cases h0 : t.val % 8 = 0
  · rw [outsAt0_A m c t h0 (by have := lt_of_lt_of_eq t.isLt (show cfg0.N = 8 from N_0); omega)]
    frame_out
    exact point6 m c t y
  · rw [outsAt0_B m c t h0 (by omega)]
    frame_out
    exact point6 m c t y

theorem point7 (c : Dev nD) (t : Fin cfg0.N) (y : S512x1024.Idx) :
    k0_pay15 (k0_pay3 (iblk m c 4 t)) (k0_pay4 (iblk m c 1 t)) (k0_pay5 (iblk m c 0 t) (iblk m c 1 t) (iblk m c 2 t)) (k0_pay7 (iblk m c 0 t) (iblk m c 1 t) (iblk m c 2 t) (iblk m c 3 t) (iblk m c 4 t)) (k0_pay8 (iblk m c 0 t) (iblk m c 1 t) (iblk m c 2 t)) (k0_pay9 (iblk m c 0 t) (iblk m c 1 t) (iblk m c 2 t)) y
      = val_main_v66 (F := Ideal) (arg0 m c) (arg1 m c) (arg2 m c) (arg3 m c) (arg4 m c) (((cfg0.win 7).blk t).view.emb y) := by
  obtain ⟨i, j, rfl⟩ : ∃ i j, y = ix2 i j := ⟨_, _, eq_ix2 y⟩
  rw [place7, pay15, ref66, point m c t i j, blk1, HeadRow.gate_eq]
  exact mul_comm _ _

theorem final7 (c : Dev nD) : (dats m 0 c).arrAt 7 (cfgs 0).N = val_main_v66 (F := Ideal) (arg0 m c) (arg1 m c) (arg2 m c) (arg3 m c) (arg4 m c) := by
  refine (dats m 0 c).arrAt_eq_of_covers 7 _ (by decide +kernel) fun t _ y => ?_
  blk_simp
  rw [after0_7]
  by_cases h0 : t.val % 8 = 0
  · rw [outsAt0_A m c t h0 (by have := lt_of_lt_of_eq t.isLt (show cfg0.N = 8 from N_0); omega)]
    frame_out
    exact point7 m c t y
  · rw [outsAt0_B m c t h0 (by omega)]
    frame_out
    exact point7 m c t y

/-- The gradient of the norm's weights: the blocks' sums added up, one grid point after another. -/
theorem final8 (c : Dev nD) : (dats m 0 c).arrAt 8 (cfgs 0).N = val_main_v67 (F := Ideal) (arg0 m c) (arg1 m c) (arg2 m c) (arg3 m c) (arg4 m c) := by
  refine (dats m 0 c).arrAt_eq_of_after_last 8 t0_7 (by decide +kernel) _ fun j => ?_
  blk_simp
  rw [after0_8, Pipeline.eq_sum_fin_of_reset_step_apply_last (fun n h => (outsAt0 m c n h).2.2.2.1) 8
    (fun _ => (0 : EReal)) (fun t j => k0_pay12 (k0_pay5 (iblk m c 0 t) (iblk m c 1 t) (iblk m c 2 t)) (k0_pay7 (iblk m c 0 t) (iblk m c 1 t) (iblk m c 2 t) (iblk m c 3 t) (iblk m c 4 t)) (k0_pay9 (iblk m c 0 t) (iblk m c 1 t) (iblk m c 2 t)) j)
    (fun t h j => by
      rw [outsAt0_A m c t h (by have := lt_of_lt_of_eq t.isLt (show cfg0.N = 8 from N_0); omega)]
      frame_out
      exact (zero_add _).symm)
    (fun t h j => by
      rw [outsAt0_B m c t h (by omega)]
      frame_out
      pointwise [k0_pay1]) (le_of_eq N_0) t0_7 rfl j, zero_add]
  rw [ref67]
  simp only [pay12]
  refine Fin.sum_mul_add_congr fun t x hl => ?_
  rw [stream_eq m c t x, gains m c t, targets m c t x]
  exact (Ideal.mul_congr (HeadRow.cotangent_eq _ _ _ _) rfl).trans (mul_comm _ _)

/-- The loss: the blocks' sums added up, one grid point after another. -/
theorem final9 (c : Dev nD) : (dats m 0 c).arrAt 9 (cfgs 0).N = val_main_v68 (F := Ideal) (arg0 m c) (arg1 m c) (arg2 m c) (arg3 m c) (arg4 m c) := by
  refine (dats m 0 c).arrAt_eq_of_after_last 9 t0_7 (by decide +kernel) _ fun j => ?_
  blk_simp
  rw [after0_9, Pipeline.eq_sum_fin_of_reset_step_apply_last (fun n h => (outsAt0 m c n h).2.2.2.2) 8
    (fun _ => (0 : EReal)) (fun t j => k0_pay13 (k0_pay6 (iblk m c 0 t) (iblk m c 1 t) (iblk m c 2 t) (iblk m c 3 t) (iblk m c 4 t)) j)
    (fun t h j => by
      rw [outsAt0_A m c t h (by have := lt_of_lt_of_eq t.isLt (show cfg0.N = 8 from N_0); omega)]
      frame_out
      exact (zero_add _).symm)
    (fun t h j => by
      rw [outsAt0_B m c t h (by omega)]
      frame_out
      pointwise [k0_pay2]) (le_of_eq N_0) t0_7 rfl j, zero_add]
  rw [ref68, ← HeadRow.means]
  simp only [pay13]
  show @Eq EReal _ _
  refine Eq.trans (Finset.sum_congr rfl fun t _ => HeadRow.weighted _) (Fin.sum_mul_add_congr fun t x hl => ?_)
  rw [stream_eq m c t x, gains m c t, targets m c t x]

/-- The call and the loss with its derivatives agree. -/
theorem algebraic : Cert.algebraic_HeadIdeal_HeadRefIdeal := by
  pair_intro
  · run_from Cert.HeadIdeal.Gen.run_main m g
  · run_from Cert.HeadRefIdeal.Value.run m' g'
    · obtain ⟨e0, e1, e2, e3, e4⟩ := hagree c
      rw [val_main_v61_eq, e0, e1, e2, e3, e4]
      exact (final5 m c).symm
    · obtain ⟨e0, e1, e2, e3, e4⟩ := hagree c
      rw [val_main_v65_eq, e0, e1, e2, e3, e4]
      exact (final6 m c).symm
    · obtain ⟨e0, e1, e2, e3, e4⟩ := hagree c
      rw [val_main_v66_eq, e0, e1, e2, e3, e4]
      exact (final7 m c).symm
    · exact (final8 m c).symm
    · exact (final9 m c).symm

end Cert.HeadIdeal.Value
end
-- ==== Proof.AdamW.lean ====
module

public import Idealize.ShloMosaic.Lib.Pipeline.ValueKit
public import Idealize.ShloMosaic.Lib.Pointwise
public import Idealize.ShloMosaic.Lib.Claim

/-! One step of AdamW on a weight whose gradient eight devices hold in parts: the arithmetic at one entry, whatever the
weight's shape, and the facts about the device's number that the calls' blocks need. -/

@[expose] public section

noncomputable section

namespace Cert.AdamW
open Idealize.ShloMosaic

/-- A word which is at least 0 and below 8 as a signed number names one of eight blocks. -/
theorem below_eight (x : BitVec 32)
    (h : IntOp.andi (IntOp.cmpi .sge x 0#32) (IntOp.cmpi .slt x 8#32) = 1#1) : x.toNat < 8 := by
  have h' : ((0#32).sle x && x.slt 8#32) = true := by
    cases h0 : (0#32).sle x <;> cases h8 : x.slt 8#32 <;> simp [IntOp.andi, IntOp.cmpi, h0, h8] at h ⊢
  simp only [Bool.and_eq_true, BitVec.sle_eq_decide, BitVec.slt_eq_decide, decide_eq_true_eq] at h'
  have e0 : (0#32).toInt = 0 := by decide
  have e8 : (8#32).toInt = 8 := by decide
  rw [e0, e8] at h'
  have := BitVec.toInt_eq_toNat_cond x
  split at this <;> omega

/-- The block such a word names, at one of the `K` rows of blocks, lies inside the array of eight parts. -/
theorem inside (x : BitVec 32) (hx : x.toNat < 8) {K : ℕ} (k : Fin K) (hK : K ≤ 2 ^ 32) (r n : ℕ) (a : Fin 3) :
    ((![x.toNat, (BitVec.ofNat 32 k.val).toNat, 0] : Fin 3 → ℕ) a + 1) * (![1, r, n] : Fin 3 → ℕ) a
      ≤ (![8, K * r, n] : Fin 3 → ℕ) a := by
  have hk := k.isLt
  fin_cases a
  · exact (Nat.mul_one _).trans_le hx
  · show ((BitVec.ofNat 32 k.val).toNat + 1) * r ≤ K * r
    rw [BitVec.toNat_ofNat, Nat.mod_eq_of_lt (by omega)]
    exact Nat.mul_le_mul_right r hk
  · exact (Nat.one_mul n).le

/-- Two words are compared either way round. -/
theorem same_comm (x y : BitVec 32) : IntOp.cmpi .eq x y = Scalar.cmpi .eq y x := by
  unfold Scalar.cmpi IntOp.cmpi
  rw [show (x == y) = (y == x) from Bool.beq_comm]

/-- The gradient: eight parts added up, the part numbered `d` read from `own`, the others from `parts`. -/
def gather (d : BitVec 32) (own parts : Fin 8 → EReal) : EReal :=
  ∑ s : Fin 8, Scalar.select (IntOp.cmpi .eq (BitVec.ofNat 32 s.val) d) (own s) (parts s)

/-- Of `own` only the part numbered `d` is read. -/
theorem gather_congr {d : BitVec 32} {own own' parts parts' : Fin 8 → EReal}
    (ho : ∀ s : Fin 8, s.val = d.toNat → own s = own' s) (hp : ∀ s, parts s = parts' s) :
    gather d own parts = gather d own' parts' := by
  refine Finset.sum_congr rfl fun s _ => ?_
  rw [hp s]
  by_cases h : s.val = d.toNat
  · rw [ho s h]
  · have e : IntOp.cmpi .eq (BitVec.ofNat 32 s.val) d = 0#1 := by
      have : BitVec.ofNat 32 s.val ≠ d := fun e => h (by rw [← e, BitVec.toNat_ofNat]; omega)
      show BitVec.ofBool (BitVec.ofNat 32 s.val == d) = 0#1
      rw [beq_false_of_ne this]
      rfl
    rw [e]
    rfl

/-- The average of the gradients a step on. -/
def average (g m : EReal) : EReal :=
  Ideal.ofBits .f32 0x3F666666#32 * m + Ideal.ofBits .f32 0x3DCCCCCD#32 * g

/-- The average of their squares a step on. -/
def spread (g v : EReal) : EReal :=
  Ideal.ofBits .f32 0x3F7FBE77#32 * v + Ideal.ofBits .f32 0x3A83126F#32 * (g * g)

/-- What the step adds to a weight's entry `w`. -/
def change (g w m v : EReal) : EReal :=
  Ideal.ofBits .f32 0xBA83126F#32 *
    (Ideal.div (Ideal.div (average g m) (Ideal.ofBits .f32 0x3F26BD02#32))
        (Ideal.sqrt (Ideal.div (spread g v) (Ideal.ofBits .f32 0x3C231ACC#32)) + Ideal.ofBits .f32 0x322BCC77#32)
      + Ideal.ofBits .f32 0x3C23D70A#32 * w)

theorem average_congr {g g' m m' : EReal} (hg : g = g') (hm : m = m') : average g m = average g' m' := by
  rw [hg, hm]

theorem spread_congr {g g' v v' : EReal} (hg : g = g') (hv : v = v') : spread g v = spread g' v' := by
  rw [hg, hv]

theorem change_congr {g g' w w' m m' v v' : EReal} (hg : g = g') (hw : w = w') (hm : m = m') (hv : v = v') :
    change g w m v = change g' w' m' v' := by
  rw [hg, hw, hm, hv]

end Cert.AdamW
end
-- ==== Proof.AdamUp.lean ====
module

public import proofs.«01_k».proof.Defs
public import proofs.«01_k».proof.Proof.Gen.AdamUp.Frame
public import proofs.«01_k».proof.Proof.Gen.AdamUpIdeal.Frame
public import proofs.«01_k».proof.Proof.Gen.AdamUpRefIdeal.Run
public import proofs.«01_k».proof.Proof.Gen.AdamUpRefIdeal.Read
public import proofs.«01_k».proof.Proof.AdamW

/-! The update of the channel mixer's first weight: one block of 256 rows per grid point. -/

@[expose] public section

set_option maxRecDepth 16384

noncomputable section

namespace Cert.AdamUp
open Idealize.ShloMosaic Idealize.ShloMosaic.TcCoe Idealize.SL.Sem

/-- The shape facts the precondition states. -/
theorem deviceFacts : Cert.Pre_device.Facts := ⟨by decide⟩

/-- The block of the device's own part exists. -/
theorem ok_of_pre (m : (ℓ : Loc nD τ sig) → Buf (Elt Bits) ℓ) (h : @Pre_AdamUp deviceFacts m) : Gen.Ok m := fun i =>
  ⟨AdamW.inside (m ((0 : Dev nD).tc.loc main_arg2) _) (AdamW.below_eight _ (congrFun (h 0) _)) (K := 4) (i 0) (by decide) 256 512,
    .inr (Affine.block_words_dvd (of_decide_eq_true rfl) (by decide))⟩

end Cert.AdamUp

namespace Cert.AdamUpIdeal.Value
open Idealize.ShloMosaic Idealize.ShloMosaic.TcCoe Idealize.SL.Sem
open Cert.AdamUpIdeal Cert.AdamUpIdeal.Gen
open Cert.AdamUpRefIdeal.Read

variable (m : (ℓ : Loc nD τ sig) → Buf (Elt Ideal) ℓ)

theorem ok_of_pre (h : @Pre_AdamUpIdeal AdamUp.deviceFacts m) : Ok m := fun i =>
  ⟨AdamW.inside (m ((0 : Dev nD).tc.loc main_arg2) _) (AdamW.below_eight _ (congrFun (h 0) _)) (K := 4) (i 0) (by decide) 256 512,
    .inr (Affine.block_words_dvd (of_decide_eq_true rfl) (by decide))⟩

/-! ## What a block's body stores -/

/-- The eight devices' parts of the gradient at one entry, the device's own in place of its block, added up. -/
def total (parts : Vec Ideal S8x256x512 .bf16) (own : Vec Ideal S1x256x512 .bf16) (d : BitVec 32) : FVec Ideal S256x512 .f32 :=
  k0_pay12 (k0_pay6 own)
    (k0_pay7 own d (View.ld parts (Rect.unit ![0, 0, 0] ![1, 256, 512] inb_S8x256x512_S1x256x512_0_0_0)))
    (k0_pay8 own d (View.ld parts (Rect.unit ![1, 0, 0] ![1, 256, 512] inb_S8x256x512_S1x256x512_1_0_0)))
    (k0_pay9 own d (View.ld parts (Rect.unit ![2, 0, 0] ![1, 256, 512] inb_S8x256x512_S1x256x512_2_0_0)))
    (k0_pay10 own d (View.ld parts (Rect.unit ![3, 0, 0] ![1, 256, 512] inb_S8x256x512_S1x256x512_3_0_0)))
    (k0_pay11 own d (View.ld parts (Rect.unit ![4, 0, 0] ![1, 256, 512] inb_S8x256x512_S1x256x512_4_0_0)))
    (Scalar.cmpi .eq d 5#32)
    (View.ld parts (Rect.unit ![5, 0, 0] ![1, 256, 512] inb_S8x256x512_S1x256x512_5_0_0)) d
    (View.ld parts (Rect.unit ![6, 0, 0] ![1, 256, 512] inb_S8x256x512_S1x256x512_6_0_0)) d
    (View.ld parts (Rect.unit ![7, 0, 0] ![1, 256, 512] inb_S8x256x512_S1x256x512_7_0_0))

theorem total_apply (parts : Vec Ideal S8x256x512 .bf16) (own : Vec Ideal S1x256x512 .bf16) (d : BitVec 32) (i : Fin 256) (j : Fin 512) :
    total parts own d (ix2 i j) = AdamW.gather d (fun _ => own (ix3 0 i j)) (fun s => parts (ix3 s i j)) := by
  unfold total AdamW.gather
  pointwise [k0_pay12, k0_pay11, k0_pay10, k0_pay9, k0_pay8, k0_pay7, k0_pay6]
  rw [Fin.sum_univ_eight]
  simp only [AdamW.same_comm _ d]
  rfl

/-- The average of the gradients a step on. -/
def first (g : FVec Ideal S256x512 .f32) (x : Vec Ideal S1x256x512 .f32) : FVec Ideal S256x512 .f32 :=
  addf (mulf (broadcast S256x512 (Scalar.ofBits .f32 0x3F666666#32)) (shapeCast S256x512 x shapeCasts_S1x256x512_S256x512))
    (mulf (broadcast S256x512 (Scalar.ofBits .f32 0x3DCCCCCD#32)) g)

section
variable (c : Dev nD) (i : grid0.Coords)
  (a2 : Memref sig .tc .vmem S8x256x512 .bf16) (h2 : a2.IsWhole) (a3 : Memref sig .tc .vmem S1x256x512 .bf16) (h3 : a3.IsWhole)
  (a4 : Memref sig .tc .vmem S1x256x512 .f32) (h4 : a4.IsWhole) (a5 : Memref sig .tc .vmem S1x256x512 .f32) (h5 : a5.IsWhole)
  (a6 : Memref sig .tc .vmem S1x256x512 .f32) (h6 : a6.IsWhole) (a7 : Memref sig .tc .vmem S1x256x512 .f32) (h7 : a7.IsWhole)
  (a8 : Memref sig .tc .vmem S1x256x512 .f32) (h8 : a8.IsWhole) (a9 : Memref sig .tc .vmem S1x256x512 .f32) (h9 : a9.IsWhole)
  (a10 : Memref sig .tc .vmem S1x256x512 .f32) (h10 : a10.IsWhole)
  (x0 : Vec Ideal S8x256x512 .bf16) (x1 : Vec Ideal S1x256x512 .bf16) (x2 x3 x4 : Vec Ideal S1x256x512 .f32)
  (d : TbBuf0 (F := Ideal) c tbM0_0)

/-- The device's number is one word. -/
theorem only (y : S1.Idx) : y = ix1 0 := (eq_ix1 y).trans (congrArg ix1 (Subsingleton.elim _ _))

/-- The word a load of the device's number reads. -/
theorem load (h : 0 < S1.numel) : (View.whole main_arg2).read (Elt Ideal) d (Shape.Idx.first h) = d (ix1 0) :=
  congrArg d (only _)

theorem out5 : out0_A_5 c i a2 h2 a3 h3 a4 h4 a5 h5 a6 h6 a7 h7 a8 h8 a9 h9 a10 h10 x0 x1 x2 x3 x4 d
    = k0_pay2 (total x0 x1 (d (ix1 0))) := by
  frame_out
  simp only [load]
  rfl

theorem out6 : out0_A_6 c i a2 h2 a3 h3 a4 h4 a5 h5 a6 h6 a7 h7 a8 h8 a9 h9 a10 h10 x0 x1 x2 x3 x4 d
    = k0_pay3 (total x0 x1 (d (ix1 0))) (first (total x0 x1 (d (ix1 0))) x3) (k0_pay14 x4) k0_pay15 x2 := by
  frame_out
  simp only [load]
  rfl

theorem out7 : out0_A_7 c i a2 h2 a3 h3 a4 h4 a5 h5 a6 h6 a7 h7 a8 h8 a9 h9 a10 h10 x0 x1 x2 x3 x4 d
    = k0_pay4 (first (total x0 x1 (d (ix1 0))) x3) := by
  frame_out
  simp only [load]
  rfl

theorem out8 : out0_A_8 c i a2 h2 a3 h3 a4 h4 a5 h5 a6 h6 a7 h7 a8 h8 a9 h9 a10 h10 x0 x1 x2 x3 x4 d
    = k0_pay5 (total x0 x1 (d (ix1 0))) (k0_pay14 x4) k0_pay15 := by
  frame_out
  simp only [load]
  rfl

theorem pay2 (g : FVec Ideal S256x512 .f32) (y : S1x256x512.Idx) : k0_pay2 g y = g (ix2 (y 1) (y 2)) := by
  obtain ⟨h, i, j, rfl⟩ : ∃ h i j, y = ix3 h i j := ⟨_, _, _, eq_ix3 y⟩
  pointwise [k0_pay2]

theorem pay3 (g : FVec Ideal S256x512 .f32) (w v x : Vec Ideal S1x256x512 .f32) (y : S1x256x512.Idx) :
    k0_pay3 g (first g x) (k0_pay14 v) k0_pay15 w y = AdamW.change (g (ix2 (y 1) (y 2))) (w y) (x y) (v y) := by
  obtain ⟨h, i, j, rfl⟩ : ∃ h i j, y = ix3 h i j := ⟨_, _, _, eq_ix3 y⟩
  obtain rfl : h = 0 := Subsingleton.elim _ _
  unfold AdamW.change AdamW.average AdamW.spread
  pointwise [k0_pay3, k0_pay1, k0_pay14, k0_pay15, first]

theorem pay4 (g : FVec Ideal S256x512 .f32) (x : Vec Ideal S1x256x512 .f32) (y : S1x256x512.Idx) :
    k0_pay4 (first g x) y = AdamW.average (g (ix2 (y 1) (y 2))) (x y) := by
  obtain ⟨h, i, j, rfl⟩ : ∃ h i j, y = ix3 h i j := ⟨_, _, _, eq_ix3 y⟩
  obtain rfl : h = 0 := Subsingleton.elim _ _
  unfold AdamW.average
  pointwise [k0_pay4, first]

theorem pay5 (g : FVec Ideal S256x512 .f32) (v : Vec Ideal S1x256x512 .f32) (y : S1x256x512.Idx) :
    k0_pay5 g (k0_pay14 v) k0_pay15 y = AdamW.spread (g (ix2 (y 1) (y 2))) (v y) := by
  obtain ⟨h, i, j, rfl⟩ : ∃ h i j, y = ix3 h i j := ⟨_, _, _, eq_ix3 y⟩
  obtain rfl : h = 0 := Subsingleton.elim _ _
  unfold AdamW.spread
  pointwise [k0_pay5, k0_pay1, k0_pay14, k0_pay15]
end

/-! ## What the reference computes at an entry -/

section
variable (x0 x1 : FVec Ideal S8x1024x512 .bf16) (x2 : IVec S1 32) (x3 x4 x5 : FVec Ideal S1x1024x512 .f32)
  (y : S1x1024x512.Idx)

theorem ref8 : val_main_v8 (F := Ideal) x0 x1 x2 y
    = AdamW.gather (x2 (ix1 0)) (fun s => x1 (ix3 s (y 1) (y 2))) (fun s => x0 (ix3 s (y 1) (y 2))) := by
  obtain ⟨h, i, j, rfl⟩ : ∃ h i j, y = ix3 h i j := ⟨_, _, _, eq_ix3 y⟩
  unfold AdamW.gather
  pointwise [val_main_v8, val_main_v7, val_main_cst, val_main_v6, val_main_v5, val_main_call0_v0, val_main_v4, val_main_v3, val_main_v2, val_main_v1, val_main_v0]

theorem ref13 : val_main_v13 (F := Ideal) x0 x1 x2 x4 y = AdamW.average (val_main_v8 (F := Ideal) x0 x1 x2 y) (x4 y) := by
  unfold AdamW.average
  pointwise [val_main_v13, val_main_v12, val_main_v11, val_main_cst_1, val_main_v10, val_main_v9, val_main_cst_0]

theorem ref19 : val_main_v19 (F := Ideal) x0 x1 x2 x5 y = AdamW.spread (val_main_v8 (F := Ideal) x0 x1 x2 y) (x5 y) := by
  unfold AdamW.spread
  pointwise [val_main_v19, val_main_v18, val_main_v17, val_main_cst_3, val_main_v16, val_main_v15, val_main_v14, val_main_cst_2]

theorem ref32 : val_main_v32 (F := Ideal) x0 x1 x2 x3 x4 x5 y
    = AdamW.change (val_main_v8 (F := Ideal) x0 x1 x2 y) (x3 y) (x4 y) (x5 y) := by
  unfold AdamW.change AdamW.average AdamW.spread
  pointwise [val_main_v32, val_main_v31, val_main_cst_8, val_main_v30, val_main_v29, val_main_v28, val_main_cst_7, val_main_v27, val_main_v26, val_main_v25, val_main_cst_6, val_main_v24, val_main_v23, val_main_v22, val_main_cst_5, val_main_v21, val_main_v20, val_main_cst_4, val_main_v19, val_main_v18, val_main_v17, val_main_cst_3, val_main_v16, val_main_v15, val_main_v14, val_main_cst_2, val_main_v13, val_main_v12, val_main_v11, val_main_cst_1, val_main_v10, val_main_v9, val_main_cst_0]
end

/-! ## The blocks put together -/

variable (hO : Ok m)

theorem rows : ∀ t : Fin grid0.N, cc0_transform_2 (grid0.coords t) = ![0, t.val, 0] := by decide +kernel

theorem idx (t : Fin (cfgM m hO).N) : ((cfgM m hO).win 0).index t = ![0, t.val, 0]
    ∧ ((cfgM m hO).win 1).index t = ![(m ((0 : Dev nD).tc.loc main_arg2) (ix1 0) : BitVec 32).toNat, t.val, 0]
    ∧ ((cfgM m hO).win 2).index t = ![0, t.val, 0]
    ∧ ((cfgM m hO).win 3).index t = ![0, t.val, 0]
    ∧ ((cfgM m hO).win 4).index t = ![0, t.val, 0]
    ∧ ((cfgM m hO).win 5).index t = ![0, t.val, 0]
    ∧ ((cfgM m hO).win 6).index t = ![0, t.val, 0]
    ∧ ((cfgM m hO).win 7).index t = ![0, t.val, 0]
    ∧ ((cfgM m hO).win 8).index t = ![0, t.val, 0] := by
  refine ⟨rows t, ?_, rows t, rows t, rows t, rows t, rows t, rows t, rows t⟩
  funext a
  fin_cases a
  · show (m ((0 : Dev nD).tc.loc main_arg2) _ : BitVec 32).toNat = _
    exact congrArg (fun z => (m ((0 : Dev nD).tc.loc main_arg2) z : BitVec 32).toNat) (only _)
  · exact congrFun (rows t) 1
  · rfl

/-- The gradient's blocks, added up, are a block of the sum. -/
theorem sum (c : Dev nD) (t : Fin (cfgM m hO).N) (y : S1x256x512.Idx) :
    total (iblk m hO c 0 t) (iblk m hO c 1 t) (tbl m 0 (ix1 0)) (ix2 (y 1) (y 2))
      = val_main_v8 (F := Ideal) (m ((c : Thread nD τ).loc main_arg0)) (m ((c : Thread nD τ).loc main_arg1)) (m ((c : Thread nD τ).loc main_arg2))
        ((((cfgM m hO).win 5).blk t).view.emb y) := by
  obtain rfl : c = 0 := Subsingleton.elim _ _
  refine (total_apply _ _ _ _ _).trans ((AdamW.gather_congr (fun s hs => ?_) fun s => ?_).trans (ref8 _ _ _ _).symm)
  · blk_point [iblk, V, idx m hO t]
    exact hs.symm
  · blk_point [iblk, V, idx m hO t]

/-! What each grid point leaves, and the arrays at the end. -/

section
variable (c : Dev nD) (t : Fin (cfgM m hO).N)

theorem left5 : (outsAt0 m hO c t).1 = k0_pay2 (total (iblk m hO c 0 t) (iblk m hO c 1 t) (tbl m 0 (ix1 0))) := by
  dsimp only [outsAt0]
  exact out5 ..

theorem left6 : (outsAt0 m hO c t).2.1 = k0_pay3 (total (iblk m hO c 0 t) (iblk m hO c 1 t) (tbl m 0 (ix1 0))) (first (total (iblk m hO c 0 t) (iblk m hO c 1 t) (tbl m 0 (ix1 0))) (iblk m hO c 3 t)) (k0_pay14 (iblk m hO c 4 t)) k0_pay15 (iblk m hO c 2 t) := by
  dsimp only [outsAt0]
  exact out6 ..

theorem left7 : (outsAt0 m hO c t).2.2.1 = k0_pay4 (first (total (iblk m hO c 0 t) (iblk m hO c 1 t) (tbl m 0 (ix1 0))) (iblk m hO c 3 t)) := by
  dsimp only [outsAt0]
  exact out7 ..

theorem left8 : (outsAt0 m hO c t).2.2.2 = k0_pay5 (total (iblk m hO c 0 t) (iblk m hO c 1 t) (tbl m 0 (ix1 0))) (k0_pay14 (iblk m hO c 4 t)) k0_pay15 := by
  dsimp only [outsAt0]
  exact out8 ..

end

/-- The gradient's array. -/
theorem final5 (c : Dev nD) : (dats m hO 0 c).arrAt 5 (cfgM m hO).N
    = val_main_v8 (F := Ideal) (m ((c : Thread nD τ).loc main_arg0)) (m ((c : Thread nD τ).loc main_arg1)) (m ((c : Thread nD τ).loc main_arg2)) := by
  refine (dats m hO 0 c).arrAt_eq_of_covers 5 _ (of_decide_eq_true (by sl_kernel_rfl)) fun t _ y => ?_
  blk_simp
  rw [after0_5]
  refine (congrFun (left5 m hO c t) y).trans ((pay2 _ y).trans ?_)
  exact sum m hO c t y

/-- The array of what the step adds to the weight. -/
theorem final6 (c : Dev nD) : (dats m hO 0 c).arrAt 6 (cfgM m hO).N
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (of_decide_eq_true (by sl_kernel_rfl)) fun t _ y => ?_
  blk_simp
  rw [after0_6]
  refine (congrFun (left6 m hO c t) y).trans ((pay3 _ _ _ _ y).trans ?_)
  refine Eq.trans (AdamW.change_congr (sum m hO c t y) ?_ ?_ ?_) (ref32 ..).symm
  · blk_point [iblk, V, idx m hO t]
  · blk_point [iblk, V, idx m hO t]
  · blk_point [iblk, V, idx m hO t]

/-- The new averages' array. -/
theorem final7 (c : Dev nD) : (dats m hO 0 c).arrAt 7 (cfgM m hO).N
    = val_main_v13 (F := Ideal) (m ((c : Thread nD τ).loc main_arg0)) (m ((c : Thread nD τ).loc main_arg1)) (m ((c : Thread nD τ).loc main_arg2)) (m ((c : Thread nD τ).loc main_arg4)) := by
  refine (dats m hO 0 c).arrAt_eq_of_covers 7 _ (of_decide_eq_true (by sl_kernel_rfl)) fun t _ y => ?_
  blk_simp
  rw [after0_7]
  refine (congrFun (left7 m hO c t) y).trans ((pay4 _ _ y).trans ?_)
  refine Eq.trans (AdamW.average_congr (sum m hO c t y) ?_) (ref13 ..).symm
  · blk_point [iblk, V, idx m hO t]

/-- The new squares' array. -/
theorem final8 (c : Dev nD) : (dats m hO 0 c).arrAt 8 (cfgM m hO).N
    = val_main_v19 (F := Ideal) (m ((c : Thread nD τ).loc main_arg0)) (m ((c : Thread nD τ).loc main_arg1)) (m ((c : Thread nD τ).loc main_arg2)) (m ((c : Thread nD τ).loc main_arg5)) := by
  refine (dats m hO 0 c).arrAt_eq_of_covers 8 _ (of_decide_eq_true (by sl_kernel_rfl)) fun t _ y => ?_
  blk_simp
  rw [after0_8]
  refine (congrFun (left8 m hO c t) y).trans ((pay5 _ _ y).trans ?_)
  refine Eq.trans (AdamW.spread_congr (sum m hO c t y) ?_) (ref19 ..).symm
  · blk_point [iblk, V, idx m hO t]

/-- The call and the reference's update agree. -/
theorem algebraic : @Cert.algebraic_AdamUpIdeal_AdamUpRefIdeal Gen.facts AdamUpRefIdeal.Gen.facts AdamUp.deviceFacts := by
  intro m g m' g' hpre hagree
  have hO := ok_of_pre m hpre
  refine ⟨fun c => val_main_v8 (F := Ideal) (m ((c : Thread nD τ).loc main_arg0)) (m ((c : Thread nD τ).loc main_arg1)) (m ((c : Thread nD τ).loc main_arg2)),
    fun c => val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => val_main_v13 (F := Ideal) (m ((c : Thread nD τ).loc main_arg0)) (m ((c : Thread nD τ).loc main_arg1)) (m ((c : Thread nD τ).loc main_arg2)) (m ((c : Thread nD τ).loc main_arg4)),
    fun c => val_main_v19 (F := Ideal) (m ((c : Thread nD τ).loc main_arg0)) (m ((c : Thread nD τ).loc main_arg1)) (m ((c : Thread nD τ).loc main_arg2)) (m ((c : Thread nD τ).loc main_arg5)), ?_, ?_⟩
  · exact (θ_run _ _ _).mono (fun r h c => ⟨((h.1 c).1 5).trans (final5 m hO c), ((h.1 c).1 6).trans (final6 m hO c),
      ((h.1 c).1 7).trans (final7 m hO c), ((h.1 c).1 8).trans (final8 m hO c), h.2 c⟩) (θ_run_and (run_main m g hO) (unchanged m g hO))
  · refine (θ_run _ _ _).mono (fun r h c => ?_) (Cert.AdamUpRefIdeal.Value.run m' g')
    obtain ⟨r0, r1, r2, r3, k⟩ := h c
    obtain ⟨e0, e1, e2, e3, e4, e5⟩ := hagree c
    refine ⟨r0.trans ((val_main_v8_eq _ _ _).trans ?_), r1.trans ((val_main_v32_eq _ _ _ _ _ _).trans ?_),
      r2.trans ((val_main_v13_eq _ _ _ _).trans ?_), r3.trans ((val_main_v19_eq _ _ _ _).trans ?_), k⟩
    · rw [e0, e1, e2]
    · rw [e0, e1, e2, e3, e4, e5]
    · rw [e0, e1, e2, e4]
    · rw [e0, e1, e2, e5]

end Cert.AdamUpIdeal.Value
end
-- ==== Proof.InProj.lean ====
module

public import proofs.«01_k».proof.Defs
public import proofs.«01_k».proof.Proof.Gen.InProjIdeal.Frame
public import proofs.«01_k».proof.Proof.Gen.InProjRefIdeal.Read
public import proofs.«01_k».proof.Proof.Columns
public import Idealize.ShloMosaic.Lib.Pipeline.ValueKit
public import Idealize.ShloMosaic.Lib.Pointwise
public import Idealize.ShloMosaic.Lib.Claim

@[expose] public section

set_option maxRecDepth 16384

noncomputable section

namespace Cert.InProjIdeal.Value
open Idealize.ShloMosaic Idealize.ShloMosaic.TcCoe Idealize.SL.Sem
open Cert.InProjIdeal Cert.InProjIdeal.Gen
open Cert.Columns

variable (m : (ℓ : Loc nD τ sig) → Buf (Elt Ideal) ℓ)

/-- The block each operand and the result is staged at, point by point. -/
theorem idx : ∀ t : Fin cfg0.N, win0_0.index t = ![t.val / 7, 0]
    ∧ win0_1.index t = ![0, t.val % 7]
    ∧ win0_2.index t = ![t.val / 7, t.val % 7] :=
  (by decide +kernel : ∀ t : Fin grid0.N, _)

/-- The product of the rows with the columns. -/
def prod (x : FVec Ideal S4096x1024 .f32) (w : FVec Ideal S1024x3584 .f32) : FVec Ideal S4096x3584 .f32 := fun i =>
  ∑ k : Fin 1024, x (ix2 (i 0) k) * w (ix2 k (i 1))

theorem point (c : Dev nD) (t : Fin cfg0.N) (y : S2048x512.Idx) :
    k0_pay1 (iblk m c 0 t) (iblk m c 1 t) y
      = prod (m ((c : Thread nD τ).loc main_arg0)) (V m c main_v10) (((cfg0.win 2).blk t).view.emb y) := by
  pointwise [k0_pay1, prod]
  refine Finset.sum_congr rfl fun x _ => Ideal.mul_congr ?_ ?_
  · blk_point [iblk, V, idx t]
  · blk_point [iblk, idx t]

theorem final (c : Dev nD) :
    (dats m 0 c).arrAt 2 (cfgs 0).N = prod (m ((c : Thread nD τ).loc main_arg0)) (V m c main_v10) := by
  refine (dats m 0 c).arrAt_eq_of_covers 2 _ (by decide +kernel) fun t _ y => ?_
  blk_simp
  rw [after0_2]; frame_out
  exact point m c t y

/-- The columns put back in the parameter's order. -/
def unpad (a : FVec Ideal S4096x3584 .f32) : FVec Ideal S4096x3360 .f32 :=
  concatenate S4096x3360 1
    [⟨S4096x1536, shapeCast S4096x1536 (transpose S4096x3x4x128 [0, 2, 1, 3]
        (shapeCast S4096x4x3x128 (extractStridedSlice S4096x1536 ![0, 0] a slices_S4096x3584_S4096x1536_0_0)
          shapeCasts_S4096x1536_S4096x4x3x128) transposes_S4096x4x3x128_S4096x3x4x128_0_2_1_3)
        shapeCasts_S4096x3x4x128_S4096x1536⟩,
     ⟨S4096x1600, extractStridedSlice S4096x1600 ![0, 1536] a slices_S4096x3584_S4096x1600_0_1536⟩,
     ⟨S4096x64, extractStridedSlice S4096x64 ![0, 3200] a slices_S4096x3584_S4096x64_0_3200⟩,
     ⟨S4096x160, extractStridedSlice S4096x160 ![0, 3328] a slices_S4096x3584_S4096x160_0_3328⟩]
    concatenates_S4096x1536_S4096x1600_S4096x64_S4096x160_S4096x3360_d1

/-- The columns in the order the kernel takes them. -/
def arrange (a : FVec Ideal S1024x3360 .f32) : FVec Ideal S1024x3584 .f32 :=
  concatenate S1024x3584 1
    [⟨S1024x1536, shapeCast S1024x1536 (transpose S1024x4x3x128 [0, 2, 1, 3]
        (shapeCast S1024x3x4x128 (extractStridedSlice S1024x1536 ![0, 0] a slices_S1024x3360_S1024x1536_0_0)
          shapeCasts_S1024x1536_S1024x3x4x128) transposes_S1024x3x4x128_S1024x4x3x128_0_2_1_3)
        shapeCasts_S1024x4x3x128_S1024x1536⟩,
     ⟨S1024x1600, extractStridedSlice S1024x1600 ![0, 1536] a slices_S1024x3360_S1024x1600_0_1536⟩,
     ⟨S1024x192, pad S1024x192 ![0, 64] ![0, 64] ![0, 0]
        (extractStridedSlice S1024x64 ![0, 3136] a slices_S1024x3360_S1024x64_0_3136) (constant S_ .f32 0#32)
        pads_S1024x64_S1024x192_000_64640 h_S_⟩,
     ⟨S1024x256, pad S1024x256 ![0, 0] ![0, 96] ![0, 0]
        (extractStridedSlice S1024x160 ![0, 3200] a slices_S1024x3360_S1024x160_0_3200) (constant S_ .f32 0#32)
        pads_S1024x160_S1024x256_000_0960 h_S_⟩]
    concatenates_S1024x1536_S1024x1600_S1024x192_S1024x256_S1024x3584_d1

/-- The arranged matrix is what the kernel is given. -/
theorem arranged (c : Dev nD) :
    (V m c main_v10 : FVec Ideal S1024x3584 .f32) = arrange (m ((c : Thread nD τ).loc main_arg1)) := by
  unfold V V0
  simp only [hostOps0, List.flatten_cons, List.flatten_nil, List.append_nil, List.cons_append, List.nil_append]
  simp only [StableHlo.after_cons, StableHlo.after_nil]
  after_results_steps
  rfl

theorem unpad_apply (a : FVec Ideal S4096x3584 .f32) (y : S4096x3360.Idx) :
    unpad a y = a (ix2 (y 0) ⟨col (y 1).val, col_lt (y 1).isLt⟩) := by
  pointwise [unpad]
  exact back_eq (fun q => a (ix2 (y 0) q)) (y 1)

theorem arrange_apply (a : FVec Ideal S1024x3360 .f32) (q : S1024x3584.Idx) :
    arrange a q = there (fun p => a (ix2 (q 0) p)) (q 1) := by
  pointwise [arrange]
  rfl

/-- Arranging, multiplying and putting back is multiplying. -/
theorem unpad_prod (x : FVec Ideal S4096x1024 .f32) (w : FVec Ideal S1024x3360 .f32) (y : S4096x3360.Idx) :
    unpad (prod x (arrange w)) y = ∑ k : Fin 1024, x (ix2 (y 0) k) * w (ix2 k (y 1)) := by
  rw [unpad_apply]
  exact Finset.sum_congr rfl fun k _ => Ideal.mul_congr rfl
    ((arrange_apply w _).trans (there_col (fun p => w (ix2 k p)) (y 1)))

/-- The call, and the reference's input projection, agree. -/
theorem algebraic : Cert.algebraic_InProjIdeal_InProjRefIdeal := by
  pair_intro
  · run_from Cert.InProjIdeal.Gen.run_main m g
    · exact W_main_arg0 m _ c
    · exact W_main_arg1 m _ c
  · run_from Cert.InProjRefIdeal.Value.run m' g'
    unfold Pipeline.afterTail₀
    simp only [hostOps1, List.flatten_cons, List.flatten_nil, List.append_nil, List.cons_append, List.nil_append]
    simp only [StableHlo.after_cons, StableHlo.after_nil]
    after_results_steps
    rw [Pipeline.withArrays_arr _ launch0.win.arr_inj c _ _ 2]
    rw [final, arranged]
    show _ = unpad (prod (m ((c : Thread nD τ).loc main_arg0)) (arrange (m ((c : Thread nD τ).loc main_arg1))))
    funext y
    rw [unpad_prod]
    pointwise

end Cert.InProjIdeal.Value
end
-- ==== Proof.OutProj.lean ====
module

public import proofs.«01_k».proof.Defs
public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutProjIdeal.Value
open Idealize.ShloMosaic Idealize.ShloMosaic.TcCoe Idealize.SL.Sem
open Cert.OutProjIdeal Cert.OutProjIdeal.Gen
open Cert.OutProjRefIdeal.Read

variable (m : (ℓ : Loc nD τ sig) → Buf (Elt Ideal) ℓ)
/-- The block each operand and each result is staged at, point by point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- One entry of the residual sum. -/
theorem point_4 (c : Dev nD) (t : Fin cfg0.N) (y : S1024x1024.Idx) :
    k0_pay1 (iblk m c 0 t) (iblk m c 1 t) (iblk m c 2 t) y
      = val_main_v1 (F := Ideal) (m ((c : Thread nD τ).loc main_arg0)) (m ((c : Thread nD τ).loc main_arg1)) (m ((c : Thread nD τ).loc main_arg2)) (((cfg0.win 4).blk t).view.emb y) := by
  pointwise [k0_pay1, val_main_v1, val_main_v0]
  refine (add_comm (_ : EReal) _).trans (Ideal.add_congr ?_ (Finset.sum_congr rfl fun x _ => Ideal.mul_congr ?_ ?_))
  · blk_point [iblk, V, idx t]
  · blk_point [iblk, V, idx t]
  · blk_point [iblk, V, idx t]

/-- The residual sum the call leaves. -/
theorem final_4 (c : Dev nD) : (dats m 0 c).arrAt 4 (cfgs 0).N
    = val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point_4 m c t y

/-- One entry of the normed residual sum. -/
theorem point_5 (c : Dev nD) (t : Fin cfg0.N) (y : S1024x1024.Idx) :
    k0_pay2 (iblk m c 0 t) (iblk m c 1 t) (iblk m c 2 t) (iblk m c 3 t) y
      = val_main_v15 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, val_main_v15, val_main_v14, val_main_v13, val_main_v12, val_main_v11, val_main_v10, val_main_v9, val_main_v8, val_main_v7, val_main_v6, val_main_v5, val_main_v4, val_main_v3, val_main_v2, val_main_cst, val_main_cst_0, val_main_cst_1]
  refine Ideal.mul_congr (Ideal.mul_congr ((point_4 m c t y).trans ?_) (congrArg Ideal.rsqrt (congrArg (· + _)
    (congrArg (Ideal.div · _) (Finset.sum_congr rfl fun x _ => Ideal.mul_congr ?_ ?_))))) ?_
  · blk_point [idx t]
  · refine (point_4 m c t _).trans ?_
    blk_point [idx t]
  · refine (point_4 m c t _).trans ?_
    blk_point [idx t]
  · blk_simp [iblk]
    entry_read
    pointwise
    blk_point [idx t]

/-- The normed residual sum the call leaves. -/
theorem final_5 (c : Dev nD) : (dats m 0 c).arrAt 5 (cfgs 0).N
    = val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_5 m c t y

/-- The call, and the reference's residual product and norm, agree. -/
theorem algebraic : Cert.algebraic_OutProjIdeal_OutProjRefIdeal := by
  pair_intro
  · run_from Cert.OutProjIdeal.Gen.run_main m g
  · run_from Cert.OutProjRefIdeal.Value.run m' g'
    · exact (final_4 m c).symm
    · exact (final_5 m c).symm

end Cert.OutProjIdeal.Value
end
-- ==== Proof.MlpUp.lean ====
module

public import proofs.«01_k».proof.Defs
public import proofs.«01_k».proof.Proof.Gen.MlpUpIdeal.Value
public import proofs.«01_k».proof.Proof.Gen.MlpUpRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MlpUpIdeal.Value
open Idealize.ShloMosaic Idealize.ShloMosaic.TcCoe Idealize.SL.Sem
open Cert.MlpUpIdeal Cert.MlpUpIdeal.Gen
open Cert.MlpUpRefIdeal.Read

variable (m : (ℓ : Loc nD τ sig) → Buf (Elt Ideal) ℓ)
/-- The block each operand and each result is staged at, point by point. -/
theorem idx : ∀ t : Fin cfg0.N, win0_0.index t = ![t.val / 4, 0]
    ∧ win0_1.index t = ![0, t.val % 4]
    ∧ win0_2.index t = ![t.val / 4, t.val % 4] :=
  (by decide +kernel : ∀ t : Fin grid0.N, _)

/-- One entry of a stored block: a sum over the inner axis. -/
theorem point (c : Dev nD) (t : Fin cfg0.N) (y : S2048x1024.Idx) :
    k0_pay1 (iblk m c 0 t) (iblk m c 1 t) y
      = val_main_v2 (F := Ideal) (m ((c : Thread nD τ).loc main_arg0)) (m ((c : Thread nD τ).loc main_arg1)) (((cfg0.win 2).blk t).view.emb y) := by
  pointwise [k0_pay1, val_main_v2, val_main_v1, val_main_v0, val_main_call0_v0, val_main_call0_cst]
  refine congrArg (max · 0) (Finset.sum_congr rfl fun x _ => Ideal.mul_congr ?_ ?_)
  · blk_point [iblk, V, idx t]
  · blk_point [iblk, V, idx t]

/-- The array the call leaves: the product. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The call and the rectified product agree. -/
theorem algebraic : Cert.algebraic_MlpUpIdeal_MlpUpRefIdeal := by
  pair_intro
  · run_from Cert.MlpUpIdeal.Gen.run_main m g
  · run_from Cert.MlpUpRefIdeal.Value.run m' g'
    exact (final m c).symm

end Cert.MlpUpIdeal.Value
end
-- ==== Proof.MlpDown.lean ====
module

public import proofs.«01_k».proof.Defs
public import proofs.«01_k».proof.Proof.Gen.MlpDownIdeal.Value
public import proofs.«01_k».proof.Proof.Gen.MlpDownRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MlpDownIdeal.Value
open Idealize.ShloMosaic Idealize.ShloMosaic.TcCoe Idealize.SL.Sem
open Cert.MlpDownIdeal Cert.MlpDownIdeal.Gen
open Cert.MlpDownRefIdeal.Read

variable (m : (ℓ : Loc nD τ sig) → Buf (Elt Ideal) ℓ)
/-- The block each operand and each result is staged at, point by point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- One entry of the residual sum. -/
theorem point_4 (c : Dev nD) (t : Fin cfg0.N) (y : S512x1024.Idx) :
    k0_pay1 (iblk m c 0 t) (iblk m c 1 t) (iblk m c 2 t) y
      = val_main_v2 (F := Ideal) (m ((c : Thread nD τ).loc main_arg0)) (m ((c : Thread nD τ).loc main_arg1)) (m ((c : Thread nD τ).loc main_arg2)) (((cfg0.win 4).blk t).view.emb y) := by
  pointwise [k0_pay1, val_main_v2, val_main_v1, val_main_v0]
  refine (add_comm (_ : EReal) _).trans (Ideal.add_congr ?_
    (Finset.sum_congr rfl fun x _ => Ideal.mul_congr (Ideal.mul_congr ?_ ?_) ?_))
  · blk_point [iblk, V, idx t]
  · blk_point [iblk, V, idx t]
  · blk_point [iblk, V, idx t]
  · blk_point [iblk, V, idx t]

/-- The residual sum the call leaves. -/
theorem final_4 (c : Dev nD) : (dats m 0 c).arrAt 4 (cfgs 0).N
    = val_main_v2 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point_4 m c t y

/-- One entry of the normed residual sum. -/
theorem point_5 (c : Dev nD) (t : Fin cfg0.N) (y : S512x1024.Idx) :
    k0_pay2 (iblk m c 0 t) (iblk m c 1 t) (iblk m c 2 t) (iblk m c 3 t) y
      = val_main_v16 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  refine Ideal.mul_congr (Ideal.mul_congr ((point_4 m c t y).trans ?_) (congrArg Ideal.rsqrt (congrArg (· + _)
    (congrArg (Ideal.div · _) (Finset.sum_congr rfl fun x _ => Ideal.mul_congr ?_ ?_))))) ?_
  · blk_point [idx t]
  · refine (point_4 m c t _).trans ?_
    blk_point [idx t]
  · refine (point_4 m c t _).trans ?_
    blk_point [idx t]
  · blk_simp [iblk]
    entry_read
    pointwise
    blk_point [idx t]

/-- The normed residual sum the call leaves. -/
theorem final_5 (c : Dev nD) : (dats m 0 c).arrAt 5 (cfgs 0).N
    = val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_5 m c t y

/-- The call, and the reference's residual product and norm, agree. -/
theorem algebraic : Cert.algebraic_MlpDownIdeal_MlpDownRefIdeal := by
  pair_intro
  · run_from Cert.MlpDownIdeal.Gen.run_main m g
  · run_from Cert.MlpDownRefIdeal.Value.run m' g'
    · exact (final_4 m c).symm
    · exact (final_5 m c).symm

end Cert.MlpDownIdeal.Value
end
-- ==== Proof.PleGate.lean ====
module

public import proofs.«01_k».proof.Defs
public import proofs.«01_k».proof.Proof.Gen.PleGateIdeal.Value
public import proofs.«01_k».proof.Proof.Gen.PleGateRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.PleGateIdeal.Value
open Idealize.ShloMosaic Idealize.ShloMosaic.TcCoe Idealize.SL.Sem
open Cert.PleGateIdeal Cert.PleGateIdeal.Gen
open Cert.PleGateRefIdeal.Read

variable (m : (ℓ : Loc nD τ sig) → Buf (Elt Ideal) ℓ)
/-- The block each operand and each result is staged at, point by point. -/
theorem idx : ∀ t : Fin cfg0.N, win0_0.index t = ![t.val, 0]
    ∧ win0_1.index t = ![0, 0]
    ∧ win0_2.index t = ![t.val, 0] :=
  (by decide +kernel : ∀ t : Fin grid0.N, _)

/-- One entry of a stored block: a sum over the inner axis. -/
theorem point (c : Dev nD) (t : Fin cfg0.N) (y : S1024x1024.Idx) :
    k0_pay1 (iblk m c 0 t) (iblk m c 1 t) y
      = val_main_v0 (F := Ideal) (m ((c : Thread nD τ).loc main_arg0)) (m ((c : Thread nD τ).loc main_arg1)) (((cfg0.win 2).blk t).view.emb y) := by
  pointwise [k0_pay1, val_main_v0]
  refine Finset.sum_congr rfl fun x _ => Ideal.mul_congr ?_ ?_
  · blk_point [iblk, V, idx t]
  · blk_point [iblk, V, idx t]

/-- The array the call leaves: the product. -/
theorem final (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The call and the product agree. -/
theorem algebraic : Cert.algebraic_PleGateIdeal_PleGateRefIdeal := by
  pair_intro
  · run_from Cert.PleGateIdeal.Gen.run_main m g
  · run_from Cert.PleGateRefIdeal.Value.run m' g'
    exact (final m c).symm

end Cert.PleGateIdeal.Value
end
-- ==== Proof.PleProj.lean ====
module

public import proofs.«01_k».proof.Defs
public import proofs.«01_k».proof.Proof.Gen.PleProjIdeal.Value
public import proofs.«01_k».proof.Proof.Gen.PleProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.PleProjIdeal.Value
open Idealize.ShloMosaic Idealize.ShloMosaic.TcCoe Idealize.SL.Sem
open Cert.PleProjIdeal Cert.PleProjIdeal.Gen
open Cert.PleProjRefIdeal.Read

variable (m : (ℓ : Loc nD τ sig) → Buf (Elt Ideal) ℓ)
/-- The block each operand and each result is staged at, point by point. -/
theorem idx : ∀ t : Fin cfg0.N, win0_0.index t = ![t.val, 0]
    ∧ win0_1.index t = ![0, 0]
    ∧ win0_2.index t = ![t.val, 0] :=
  (by decide +kernel : ∀ t : Fin grid0.N, _)

/-- One entry of a stored block: a sum over the inner axis. -/
theorem point (c : Dev nD) (t : Fin cfg0.N) (y : S1024x1024.Idx) :
    k0_pay1 (iblk m c 0 t) (iblk m c 1 t) y
      = val_main_v0 (F := Ideal) (m ((c : Thread nD τ).loc main_arg0)) (m ((c : Thread nD τ).loc main_arg1)) (((cfg0.win 2).blk t).view.emb y) := by
  pointwise [k0_pay1, val_main_v0]
  refine Finset.sum_congr rfl fun x _ => Ideal.mul_congr ?_ ?_
  · blk_point [iblk, V, idx t]
  · blk_point [iblk, V, idx t]

/-- The array the call leaves: the product. -/
theorem final (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The call and the product agree. -/
theorem algebraic : Cert.algebraic_PleProjIdeal_PleProjRefIdeal := by
  pair_intro
  · run_from Cert.PleProjIdeal.Gen.run_main m g
  · run_from Cert.PleProjRefIdeal.Value.run m' g'
    exact (final m c).symm

end Cert.PleProjIdeal.Value
end
-- ==== Proof.lean ====
module

public import proofs.«01_k».proof.Defs
public import Idealize.ShloMosaic.Adequacy
public import Idealize.ShloMosaic.Init
public import Idealize.ShloMosaic.Lib.Claim
public import proofs.«01_k».proof.Proof.Gen.ConvBwd.Frame
public import proofs.«01_k».proof.Proof.Gen.ConvBwdIdeal.Frame
public import proofs.«01_k».proof.Proof.Gen.ConvBwdRefIdeal.Run
public import proofs.«01_k».proof.Proof.ConvBwd
public import proofs.«01_k».proof.Proof.Gen.ConvFwd.Frame
public import proofs.«01_k».proof.Proof.Gen.ConvFwdIdeal.Frame
public import proofs.«01_k».proof.Proof.Gen.ConvFwdRefIdeal.Run
public import proofs.«01_k».proof.Proof.ConvFwd
public import proofs.«01_k».proof.Proof.Gen.RwkvPost.Frame
public import proofs.«01_k».proof.Proof.Gen.RwkvPostIdeal.Frame
public import proofs.«01_k».proof.Proof.Gen.RwkvPostRefIdeal.Run
public import proofs.«01_k».proof.Proof.RwkvPost
public import proofs.«01_k».proof.Proof.Gen.RwkvPostBwd.Frame
public import proofs.«01_k».proof.Proof.Gen.RwkvPostBwdIdeal.Frame
public import proofs.«01_k».proof.Proof.Gen.RwkvPostBwdRefIdeal.Run
public import proofs.«01_k».proof.Proof.RwkvPostBwd
public import proofs.«01_k».proof.Proof.Gen.MlpDownDw.Frame
public import proofs.«01_k».proof.Proof.Gen.MlpDownDwIdeal.Frame
public import proofs.«01_k».proof.Proof.Gen.MlpDownDwRefIdeal.Run
public import proofs.«01_k».proof.Proof.DownDw
public import proofs.«01_k».proof.Proof.Gen.MlpDownDx.Frame
public import proofs.«01_k».proof.Proof.Gen.MlpDownDxIdeal.Frame
public import proofs.«01_k».proof.Proof.Gen.MlpDownDxRefIdeal.Run
public import proofs.«01_k».proof.Proof.DownDx
public import proofs.«01_k».proof.Proof.Gen.MlpUpDw.Frame
public import proofs.«01_k».proof.Proof.Gen.MlpUpDwIdeal.Frame
public import proofs.«01_k».proof.Proof.Gen.MlpUpDwRefIdeal.Run
public import proofs.«01_k».proof.Proof.UpDw
public import proofs.«01_k».proof.Proof.Gen.MlpUpDx.Frame
public import proofs.«01_k».proof.Proof.Gen.MlpUpDxIdeal.Frame
public import proofs.«01_k».proof.Proof.Gen.MlpUpDxRefIdeal.Run
public import proofs.«01_k».proof.Proof.MlpUpDx
public import proofs.«01_k».proof.Proof.Gen.PleGateDx.Frame
public import proofs.«01_k».proof.Proof.Gen.PleGateDxIdeal.Frame
public import proofs.«01_k».proof.Proof.Gen.PleGateDxRefIdeal.Run
public import proofs.«01_k».proof.Proof.PleGateDx
public import proofs.«01_k».proof.Proof.Gen.OutDw.Frame
public import proofs.«01_k».proof.Proof.Gen.OutDwIdeal.Frame
public import proofs.«01_k».proof.Proof.Gen.OutDwRefIdeal.Run
public import proofs.«01_k».proof.Proof.OutDw
public import proofs.«01_k».proof.Proof.Gen.OutDx.Frame
public import proofs.«01_k».proof.Proof.Gen.OutDxIdeal.Frame
public import proofs.«01_k».proof.Proof.Gen.OutDxRefIdeal.Run
public import proofs.«01_k».proof.Proof.OutDx
public import proofs.«01_k».proof.Proof.Gen.PleGateDw.Frame
public import proofs.«01_k».proof.Proof.Gen.PleGateDwIdeal.Frame
public import proofs.«01_k».proof.Proof.Gen.PleGateDwRefIdeal.Run
public import proofs.«01_k».proof.Proof.PleGateDw
public import proofs.«01_k».proof.Proof.Gen.PleProjDw.Frame
public import proofs.«01_k».proof.Proof.Gen.PleProjDwIdeal.Frame
public import proofs.«01_k».proof.Proof.Gen.PleProjDwRefIdeal.Run
public import proofs.«01_k».proof.Proof.PleProjDw
public import proofs.«01_k».proof.Proof.Gen.InDw.Frame
public import proofs.«01_k».proof.Proof.Gen.InDwIdeal.Frame
public import proofs.«01_k».proof.Proof.Gen.InDwRefIdeal.Run
public import proofs.«01_k».proof.Proof.InDw
public import proofs.«01_k».proof.Proof.Gen.InDx.Frame
public import proofs.«01_k».proof.Proof.Gen.InDxIdeal.Frame
public import proofs.«01_k».proof.Proof.Gen.InDxRefIdeal.Run
public import proofs.«01_k».proof.Proof.InDx
public import proofs.«01_k».proof.Proof.Gen.Head.Frame
public import proofs.«01_k».proof.Proof.Gen.HeadIdeal.Frame
public import proofs.«01_k».proof.Proof.Gen.HeadRefIdeal.Run
public import proofs.«01_k».proof.Proof.Head
public import proofs.«01_k».proof.Proof.Gen.AdamUp.Frame
public import proofs.«01_k».proof.Proof.Gen.AdamUpIdeal.Frame
public import proofs.«01_k».proof.Proof.Gen.AdamUpRefIdeal.Run
public import proofs.«01_k».proof.Proof.AdamUp
public import proofs.«01_k».proof.Proof.Gen.InProj.Frame
public import proofs.«01_k».proof.Proof.Gen.InProjIdeal.Frame
public import proofs.«01_k».proof.Proof.Gen.InProjRefIdeal.Run
public import proofs.«01_k».proof.Proof.InProj
public import proofs.«01_k».proof.Proof.Gen.OutProj.Frame
public import proofs.«01_k».proof.Proof.Gen.OutProjIdeal.Frame
public import proofs.«01_k».proof.Proof.Gen.OutProjRefIdeal.Run
public import proofs.«01_k».proof.Proof.OutProj
public import proofs.«01_k».proof.Proof.Gen.MlpUp.Frame
public import proofs.«01_k».proof.Proof.Gen.MlpUpIdeal.Frame
public import proofs.«01_k».proof.Proof.Gen.MlpUpRefIdeal.Run
public import proofs.«01_k».proof.Proof.MlpUp
public import proofs.«01_k».proof.Proof.Gen.MlpDown.Frame
public import proofs.«01_k».proof.Proof.Gen.MlpDownIdeal.Frame
public import proofs.«01_k».proof.Proof.Gen.MlpDownRefIdeal.Run
public import proofs.«01_k».proof.Proof.MlpDown
public import proofs.«01_k».proof.Proof.Gen.PleGate.Frame
public import proofs.«01_k».proof.Proof.Gen.PleGateIdeal.Frame
public import proofs.«01_k».proof.Proof.Gen.PleGateRefIdeal.Run
public import proofs.«01_k».proof.Proof.PleGate
public import proofs.«01_k».proof.Proof.Gen.PleProj.Frame
public import proofs.«01_k».proof.Proof.Gen.PleProjIdeal.Frame
public import proofs.«01_k».proof.Proof.Gen.PleProjRefIdeal.Run
public import proofs.«01_k».proof.Proof.PleProj

@[expose] public section

noncomputable section

namespace Cert.Proof

open Idealize.ShloMosaic Idealize.SL.Sem

/-- The reference of `ConvBwd` runs and leaves its arguments unchanged. -/
theorem frame_ref_ConvBwd : Cert.quiescent_ConvBwdRefIdeal := fun m ρ _ =>
  (θ_run _ _ _).mono (fun r h => ⟨fun c => (h c).2.2, sem_eq_zero_of_no_sems (by decide) r.2⟩) (Cert.ConvBwdRefIdeal.Value.run m ρ)

/-- The reference of `ConvFwd` runs and leaves its arguments unchanged. -/
theorem frame_ref_ConvFwd : Cert.quiescent_ConvFwdRefIdeal := fun m ρ _ =>
  (θ_run _ _ _).mono (fun r h => ⟨fun c => (h c).2, sem_eq_zero_of_no_sems (by decide) r.2⟩) (Cert.ConvFwdRefIdeal.Value.run m ρ)

/-- The reference of `RwkvPost` runs and leaves its arguments unchanged. -/
theorem frame_ref_RwkvPost : Cert.quiescent_RwkvPostRefIdeal := fun m ρ _ =>
  (θ_run _ _ _).mono (fun r h => ⟨fun c => (h c).2, sem_eq_zero_of_no_sems (by decide) r.2⟩) (Cert.RwkvPostRefIdeal.Value.run m ρ)

/-- The reference of `RwkvPostBwd` runs and leaves its arguments unchanged. -/
theorem frame_ref_RwkvPostBwd : Cert.quiescent_RwkvPostBwdRefIdeal := fun m ρ _ =>
  (θ_run _ _ _).mono (fun r h => ⟨fun c => (h c).2.2.2.2.2.2.2.2, sem_eq_zero_of_no_sems (by decide) r.2⟩) (Cert.RwkvPostBwdRefIdeal.Value.run m ρ)

/-- The reference of `MlpDownDw` runs and leaves its arguments unchanged. -/
theorem frame_ref_MlpDownDw : Cert.quiescent_MlpDownDwRefIdeal := fun m ρ _ =>
  (θ_run _ _ _).mono (fun r h => ⟨fun c => (h c).2, sem_eq_zero_of_no_sems (by decide) r.2⟩) (Cert.MlpDownDwRefIdeal.Value.run m ρ)

/-- The reference of `MlpDownDx` runs and leaves its arguments unchanged. -/
theorem frame_ref_MlpDownDx : Cert.quiescent_MlpDownDxRefIdeal := fun m ρ _ =>
  (θ_run _ _ _).mono (fun r h => ⟨fun c => (h c).2, sem_eq_zero_of_no_sems (by decide) r.2⟩) (Cert.MlpDownDxRefIdeal.Value.run m ρ)

/-- The reference of `MlpUpDw` runs and leaves its arguments unchanged. -/
theorem frame_ref_MlpUpDw : Cert.quiescent_MlpUpDwRefIdeal := fun m ρ _ =>
  (θ_run _ _ _).mono (fun r h => ⟨fun c => (h c).2, sem_eq_zero_of_no_sems (by decide) r.2⟩) (Cert.MlpUpDwRefIdeal.Value.run m ρ)

/-- The reference of `MlpUpDx` runs and leaves its arguments unchanged. -/
theorem frame_ref_MlpUpDx : Cert.quiescent_MlpUpDxRefIdeal := fun m ρ _ =>
  (θ_run _ _ _).mono (fun r h => ⟨fun c => (h c).2.2.2, sem_eq_zero_of_no_sems (by decide) r.2⟩) (Cert.MlpUpDxRefIdeal.Value.run m ρ)

/-- The reference of `PleGateDx` runs and leaves its arguments unchanged. -/
theorem frame_ref_PleGateDx : Cert.quiescent_PleGateDxRefIdeal := fun m ρ _ =>
  (θ_run _ _ _).mono (fun r h => ⟨fun c => (h c).2.2.2, sem_eq_zero_of_no_sems (by decide) r.2⟩) (Cert.PleGateDxRefIdeal.Value.run m ρ)

/-- The reference of `OutDw` runs and leaves its arguments unchanged. -/
theorem frame_ref_OutDw : Cert.quiescent_OutDwRefIdeal := fun m ρ _ =>
  (θ_run _ _ _).mono (fun r h => ⟨fun c => (h c).2, sem_eq_zero_of_no_sems (by decide) r.2⟩) (Cert.OutDwRefIdeal.Value.run m ρ)

/-- The reference of `OutDx` runs and leaves its arguments unchanged. -/
theorem frame_ref_OutDx : Cert.quiescent_OutDxRefIdeal := fun m ρ _ =>
  (θ_run _ _ _).mono (fun r h => ⟨fun c => (h c).2, sem_eq_zero_of_no_sems (by decide) r.2⟩) (Cert.OutDxRefIdeal.Value.run m ρ)

/-- The reference of `PleGateDw` runs and leaves its arguments unchanged. -/
theorem frame_ref_PleGateDw : Cert.quiescent_PleGateDwRefIdeal := fun m ρ _ =>
  (θ_run _ _ _).mono (fun r h => ⟨fun c => (h c).2, sem_eq_zero_of_no_sems (by decide) r.2⟩) (Cert.PleGateDwRefIdeal.Value.run m ρ)

/-- The reference of `PleProjDw` runs and leaves its arguments unchanged. -/
theorem frame_ref_PleProjDw : Cert.quiescent_PleProjDwRefIdeal := fun m ρ _ =>
  (θ_run _ _ _).mono (fun r h => ⟨fun c => (h c).2, sem_eq_zero_of_no_sems (by decide) r.2⟩) (Cert.PleProjDwRefIdeal.Value.run m ρ)

/-- The reference of `InDw` runs and leaves its arguments unchanged. -/
theorem frame_ref_InDw : Cert.quiescent_InDwRefIdeal := fun m ρ _ =>
  (θ_run _ _ _).mono (fun r h => ⟨fun c => (h c).2, sem_eq_zero_of_no_sems (by decide) r.2⟩) (Cert.InDwRefIdeal.Value.run m ρ)

/-- The reference of `InDx` runs and leaves its arguments unchanged. -/
theorem frame_ref_InDx : Cert.quiescent_InDxRefIdeal := fun m ρ _ =>
  (θ_run _ _ _).mono (fun r h => ⟨fun c => (h c).2.2, sem_eq_zero_of_no_sems (by decide) r.2⟩) (Cert.InDxRefIdeal.Value.run m ρ)

/-- The reference of `Head` runs and leaves its arguments unchanged. -/
theorem frame_ref_Head : Cert.quiescent_HeadRefIdeal := fun m ρ _ =>
  (θ_run _ _ _).mono (fun r h => ⟨fun c => (h c).2.2.2.2.2, sem_eq_zero_of_no_sems (by decide) r.2⟩) (Cert.HeadRefIdeal.Value.run m ρ)

/-- The reference of `AdamUp` runs and leaves its arguments unchanged. -/
theorem frame_ref_AdamUp : Cert.quiescent_AdamUpRefIdeal := fun m ρ _ =>
  (θ_run _ _ _).mono (fun r h => ⟨fun c => (h c).2.2.2.2, sem_eq_zero_of_no_sems (by decide) r.2⟩) (Cert.AdamUpRefIdeal.Value.run m ρ)

/-- The reference of `InProj` runs and leaves its arguments unchanged. -/
theorem frame_ref_InProj : Cert.quiescent_InProjRefIdeal := fun m ρ _ =>
  (θ_run _ _ _).mono (fun r h => ⟨fun c => (h c).2, sem_eq_zero_of_no_sems (by decide) r.2⟩) (Cert.InProjRefIdeal.Value.run m ρ)

/-- The reference of `OutProj` runs and leaves its arguments unchanged. -/
theorem frame_ref_OutProj : Cert.quiescent_OutProjRefIdeal := fun m ρ _ =>
  (θ_run _ _ _).mono (fun r h => ⟨fun c => (h c).2.2, sem_eq_zero_of_no_sems (by decide) r.2⟩) (Cert.OutProjRefIdeal.Value.run m ρ)

/-- The reference of `MlpUp` runs and leaves its arguments unchanged. -/
theorem frame_ref_MlpUp : Cert.quiescent_MlpUpRefIdeal := fun m ρ _ =>
  (θ_run _ _ _).mono (fun r h => ⟨fun c => (h c).2, sem_eq_zero_of_no_sems (by decide) r.2⟩) (Cert.MlpUpRefIdeal.Value.run m ρ)

/-- The reference of `MlpDown` runs and leaves its arguments unchanged. -/
theorem frame_ref_MlpDown : Cert.quiescent_MlpDownRefIdeal := fun m ρ _ =>
  (θ_run _ _ _).mono (fun r h => ⟨fun c => (h c).2.2, sem_eq_zero_of_no_sems (by decide) r.2⟩) (Cert.MlpDownRefIdeal.Value.run m ρ)

/-- The reference of `PleGate` runs and leaves its arguments unchanged. -/
theorem frame_ref_PleGate : Cert.quiescent_PleGateRefIdeal := fun m ρ _ =>
  (θ_run _ _ _).mono (fun r h => ⟨fun c => (h c).2, sem_eq_zero_of_no_sems (by decide) r.2⟩) (Cert.PleGateRefIdeal.Value.run m ρ)

/-- The reference of `PleProj` runs and leaves its arguments unchanged. -/
theorem frame_ref_PleProj : Cert.quiescent_PleProjRefIdeal := fun m ρ _ =>
  (θ_run _ _ _).mono (fun r h => ⟨fun c => (h c).2, sem_eq_zero_of_no_sems (by decide) r.2⟩) (Cert.PleProjRefIdeal.Value.run m ρ)

/-- Every claim: the facts of the programs, their frames, and the values of each call against its reference. -/
theorem claim : Cert.Claim :=
  ⟨Cert.ConvBwd.Gen.facts, Cert.ConvBwdIdeal.Gen.facts, Cert.ConvBwdRefIdeal.Gen.facts, Cert.ConvFwd.Gen.facts,
    Cert.ConvFwdIdeal.Gen.facts, Cert.ConvFwdRefIdeal.Gen.facts, Cert.RwkvPost.Gen.facts, Cert.RwkvPostIdeal.Gen.facts,
    Cert.RwkvPostRefIdeal.Gen.facts, Cert.RwkvPostBwd.Gen.facts, Cert.RwkvPostBwdIdeal.Gen.facts,
    Cert.RwkvPostBwdRefIdeal.Gen.facts, Cert.MlpDownDw.Gen.facts, Cert.MlpDownDwIdeal.Gen.facts,
    Cert.MlpDownDwRefIdeal.Gen.facts, Cert.MlpDownDx.Gen.facts, Cert.MlpDownDxIdeal.Gen.facts,
    Cert.MlpDownDxRefIdeal.Gen.facts, Cert.MlpUpDw.Gen.facts, Cert.MlpUpDwIdeal.Gen.facts, Cert.MlpUpDwRefIdeal.Gen.facts,
    Cert.MlpUpDx.Gen.facts, Cert.MlpUpDxIdeal.Gen.facts, Cert.MlpUpDxRefIdeal.Gen.facts, Cert.PleGateDx.Gen.facts,
    Cert.PleGateDxIdeal.Gen.facts, Cert.PleGateDxRefIdeal.Gen.facts, Cert.OutDw.Gen.facts, Cert.OutDwIdeal.Gen.facts,
    Cert.OutDwRefIdeal.Gen.facts, Cert.OutDx.Gen.facts, Cert.OutDxIdeal.Gen.facts, Cert.OutDxRefIdeal.Gen.facts,
    Cert.PleGateDw.Gen.facts, Cert.PleGateDwIdeal.Gen.facts, Cert.PleGateDwRefIdeal.Gen.facts, Cert.PleProjDw.Gen.facts,
    Cert.PleProjDwIdeal.Gen.facts, Cert.PleProjDwRefIdeal.Gen.facts, Cert.InDw.Gen.facts, Cert.InDwIdeal.Gen.facts,
    Cert.InDwRefIdeal.Gen.facts, Cert.InDx.Gen.facts, Cert.InDxIdeal.Gen.facts, Cert.InDxRefIdeal.Gen.facts,
    Cert.Head.Gen.facts, Cert.HeadIdeal.Gen.facts, Cert.HeadRefIdeal.Gen.facts, Cert.AdamUp.Gen.facts,
    Cert.AdamUpIdeal.Gen.facts, Cert.AdamUpRefIdeal.Gen.facts, Cert.InProj.Gen.facts, Cert.InProjIdeal.Gen.facts,
    Cert.InProjRefIdeal.Gen.facts, Cert.OutProj.Gen.facts, Cert.OutProjIdeal.Gen.facts, Cert.OutProjRefIdeal.Gen.facts,
    Cert.MlpUp.Gen.facts, Cert.MlpUpIdeal.Gen.facts, Cert.MlpUpRefIdeal.Gen.facts, Cert.MlpDown.Gen.facts,
    Cert.MlpDownIdeal.Gen.facts, Cert.MlpDownRefIdeal.Gen.facts, Cert.PleGate.Gen.facts, Cert.PleGateIdeal.Gen.facts,
    Cert.PleGateRefIdeal.Gen.facts, Cert.PleProj.Gen.facts, Cert.PleProjIdeal.Gen.facts, Cert.PleProjRefIdeal.Gen.facts,
    Cert.RwkvPostIdeal.Value.numbersFacts, Cert.RwkvPostBwdIdeal.Value.numbersFacts, Cert.AdamUp.deviceFacts,
    fun m ρ _ => Cert.ConvBwd.Gen.frame m ρ, fun m ρ _ => Cert.ConvBwdIdeal.Gen.frame m ρ, frame_ref_ConvBwd,
    fun m ρ _ => Cert.ConvFwd.Gen.frame m ρ, fun m ρ _ => Cert.ConvFwdIdeal.Gen.frame m ρ, frame_ref_ConvFwd,
    fun m ρ _ => Cert.RwkvPost.Gen.frame m ρ, fun m ρ _ => Cert.RwkvPostIdeal.Gen.frame m ρ,
    fun m ρ _ => Cert.RwkvPostIdeal.Gen.frame m ρ, frame_ref_RwkvPost, fun m ρ _ => frame_ref_RwkvPost m ρ trivial,
    fun m ρ _ => Cert.RwkvPostBwd.Gen.frame m ρ, fun m ρ _ => Cert.RwkvPostBwdIdeal.Gen.frame m ρ,
    fun m ρ _ => Cert.RwkvPostBwdIdeal.Gen.frame m ρ, frame_ref_RwkvPostBwd,
    fun m ρ _ => frame_ref_RwkvPostBwd m ρ trivial, fun m ρ _ => Cert.MlpDownDw.Gen.frame m ρ,
    fun m ρ _ => Cert.MlpDownDwIdeal.Gen.frame m ρ, frame_ref_MlpDownDw, fun m ρ _ => Cert.MlpDownDx.Gen.frame m ρ,
    fun m ρ _ => Cert.MlpDownDxIdeal.Gen.frame m ρ, frame_ref_MlpDownDx, fun m ρ _ => Cert.MlpUpDw.Gen.frame m ρ,
    fun m ρ _ => Cert.MlpUpDwIdeal.Gen.frame m ρ, frame_ref_MlpUpDw, fun m ρ _ => Cert.MlpUpDx.Gen.frame m ρ,
    fun m ρ _ => Cert.MlpUpDxIdeal.Gen.frame m ρ, frame_ref_MlpUpDx, fun m ρ _ => Cert.PleGateDx.Gen.frame m ρ,
    fun m ρ _ => Cert.PleGateDxIdeal.Gen.frame m ρ, frame_ref_PleGateDx, fun m ρ _ => Cert.OutDw.Gen.frame m ρ,
    fun m ρ _ => Cert.OutDwIdeal.Gen.frame m ρ, frame_ref_OutDw, fun m ρ _ => Cert.OutDx.Gen.frame m ρ,
    fun m ρ _ => Cert.OutDxIdeal.Gen.frame m ρ, frame_ref_OutDx, fun m ρ _ => Cert.PleGateDw.Gen.frame m ρ,
    fun m ρ _ => Cert.PleGateDwIdeal.Gen.frame m ρ, frame_ref_PleGateDw, fun m ρ _ => Cert.PleProjDw.Gen.frame m ρ,
    fun m ρ _ => Cert.PleProjDwIdeal.Gen.frame m ρ, frame_ref_PleProjDw, fun m ρ _ => Cert.InDw.Gen.frame m ρ,
    fun m ρ _ => Cert.InDwIdeal.Gen.frame m ρ, frame_ref_InDw, fun m ρ _ => Cert.InDx.Gen.frame m ρ,
    fun m ρ _ => Cert.InDxIdeal.Gen.frame m ρ, frame_ref_InDx, fun m ρ _ => Cert.Head.Gen.frame m ρ,
    fun m ρ _ => Cert.HeadIdeal.Gen.frame m ρ, frame_ref_Head,
    fun m ρ h => Cert.AdamUp.Gen.frame m ρ (Cert.AdamUp.ok_of_pre m h),
    fun m ρ h => Cert.AdamUpIdeal.Gen.frame m ρ (Cert.AdamUpIdeal.Value.ok_of_pre m h), frame_ref_AdamUp,
    fun m ρ _ => frame_ref_AdamUp m ρ trivial, fun m ρ _ => Cert.InProj.Gen.frame m ρ,
    fun m ρ _ => Cert.InProjIdeal.Gen.frame m ρ, frame_ref_InProj, fun m ρ _ => Cert.OutProj.Gen.frame m ρ,
    fun m ρ _ => Cert.OutProjIdeal.Gen.frame m ρ, frame_ref_OutProj, fun m ρ _ => Cert.MlpUp.Gen.frame m ρ,
    fun m ρ _ => Cert.MlpUpIdeal.Gen.frame m ρ, frame_ref_MlpUp, fun m ρ _ => Cert.MlpDown.Gen.frame m ρ,
    fun m ρ _ => Cert.MlpDownIdeal.Gen.frame m ρ, frame_ref_MlpDown, fun m ρ _ => Cert.PleGate.Gen.frame m ρ,
    fun m ρ _ => Cert.PleGateIdeal.Gen.frame m ρ, frame_ref_PleGate, fun m ρ _ => Cert.PleProj.Gen.frame m ρ,
    fun m ρ _ => Cert.PleProjIdeal.Gen.frame m ρ, frame_ref_PleProj, trivial, Cert.ConvBwdIdeal.Value.algebraic, trivial,
    Cert.ConvFwdIdeal.Value.algebraic, trivial, Cert.RwkvPostIdeal.Value.algebraic, trivial,
    Cert.RwkvPostBwdIdeal.Value.algebraic, trivial, Cert.MlpDownDwIdeal.Value.algebraic, trivial,
    Cert.MlpDownDxIdeal.Value.algebraic, trivial, Cert.MlpUpDwIdeal.Value.algebraic, trivial,
    Cert.MlpUpDxIdeal.Value.algebraic, trivial, Cert.PleGateDxIdeal.Value.algebraic, trivial,
    Cert.OutDwIdeal.Value.algebraic, trivial, Cert.OutDxIdeal.Value.algebraic, trivial,
    Cert.PleGateDwIdeal.Value.algebraic, trivial, Cert.PleProjDwIdeal.Value.algebraic, trivial,
    Cert.InDwIdeal.Value.algebraic, trivial, Cert.InDxIdeal.Value.algebraic, trivial, Cert.HeadIdeal.Value.algebraic,
    trivial, Cert.AdamUpIdeal.Value.algebraic, trivial, Cert.InProjIdeal.Value.algebraic, trivial,
    Cert.OutProjIdeal.Value.algebraic, trivial, Cert.MlpUpIdeal.Value.algebraic, trivial,
    Cert.MlpDownIdeal.Value.algebraic, trivial, Cert.PleGateIdeal.Value.algebraic, trivial,
    Cert.PleProjIdeal.Value.algebraic⟩

end Cert.Proof

end
